-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_v41) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v44) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v35) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4x4096x2048 : Shape := ⟨3, ![4, 4096, 2048]⟩
abbrev S4x4096x16 : Shape := ⟨3, ![4, 4096, 16]⟩
abbrev S2x4x4x512x512 : Shape := ⟨5, ![2, 4, 4, 512, 512]⟩
abbrev S2x4x4x512 : Shape := ⟨4, ![2, 4, 4, 512]⟩
abbrev S2x4x4 : Shape := ⟨3, ![2, 4, 4]⟩
abbrev S_ : Shape := ⟨0, ![]⟩

class Facts : Prop where
  bitsLt_bf16_f32 : FTy.bits .bf16 < FTy.bits .f32
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x4096x16 : S_.BroadcastsInDim S4x4096x16 (![] : Fin 0 → Fin S4x4096x16.rank)
  reducesTo_S4x4096x16_S_d0_1_2 : S4x4096x16.ReducesTo [0, 1, 2] S_
  bcast_S_S2x4x4x512x512 : S_.BroadcastsInDim S2x4x4x512x512 (![] : Fin 0 → Fin S2x4x4x512x512.rank)
  reducesTo_S2x4x4x512x512_S_d0_1_2_3_4 : S2x4x4x512x512.ReducesTo [0, 1, 2, 3, 4] S_
  bcast_S_S2x4x4x512 : S_.BroadcastsInDim S2x4x4x512 (![] : Fin 0 → Fin S2x4x4x512.rank)
  reducesTo_S2x4x4x512_S_d0_1_2_3 : S2x4x4x512.ReducesTo [0, 1, 2, 3] S_
  bcast_S_S2x4x4 : S_.BroadcastsInDim S2x4x4 (![] : Fin 0 → Fin S2x4x4.rank)
  reducesTo_S2x4x4_S_d0_1_2 : S2x4x4.ReducesTo [0, 1, 2] S_

variable [Facts]

def fn_part2 {F : FTy → Type} [FloatOps F] (main_v31 : IVec S_ 1) (main_v34 : IVec S2x4x4 1) : IVec S_ 1 :=
  let main_c_11 : IVec S_ 1 := constantI S_ 1 1#1
  let main_v35 : IVec S_ 1 := (fun x v => Host.reduce IntOp.andi x v reducesTo_S2x4x4_S_d0_1_2 h_S_) main_v34 main_c_11
  let main_v36 : IVec S_ 1 := andi main_v31 main_v35
  main_v36

def fn_part1 {F : FTy → Type} [FloatOps F] (main_arg4 : FVec F S2x4x4x512x512 .f32) (main_arg5 : FVec F S2x4x4x512 .f32) (main_arg6 : FVec F S2x4x4 .f32) (main_v16 : IVec S_ 1) (main_v17 : FVec F S4x4096x16 .f32) : IVec S_ 1 :=
  let main_cst_4 : FVec F S_ .f32 := constant S_ .f32 0x7F800000#32
  let main_v18 : FVec F S4x4096x16 .f32 := broadcastInDim S4x4096x16 ![] bcast_S_S4x4096x16 main_cst_4
  let main_v19 : IVec S4x4096x16 1 := cmpf .olt main_v17 main_v18
  let main_c_5 : IVec S_ 1 := constantI S_ 1 1#1
  let main_v20 : IVec S_ 1 := (fun x v => Host.reduce IntOp.andi x v reducesTo_S4x4096x16_S_d0_1_2 h_S_) main_v19 main_c_5
  let main_v21 : IVec S_ 1 := andi main_v16 main_v20
  let main_v22 : FVec F S2x4x4x512x512 .f32 := Host.absf main_arg4
  let main_cst_6 : FVec F S_ .f32 := constant S_ .f32 0x7F800000#32
  let main_v23 : FVec F S2x4x4x512x512 .f32 := broadcastInDim S2x4x4x512x512 ![] bcast_S_S2x4x4x512x512 main_cst_6
  let main_v24 : IVec S2x4x4x512x512 1 := cmpf .olt main_v22 main_v23
  let main_c_7 : IVec S_ 1 := constantI S_ 1 1#1
  let main_v25 : IVec S_ 1 := (fun x v => Host.reduce IntOp.andi x v reducesTo_S2x4x4x512x512_S_d0_1_2_3_4 h_S_) main_v24 main_c_7
  let main_v26 : IVec S_ 1 := andi main_v21 main_v25
  let main_v27 : FVec F S2x4x4x512 .f32 := Host.absf main_arg5
  let main_cst_8 : FVec F S_ .f32 := constant S_ .f32 0x7F800000#32
  let main_v28 : FVec F S2x4x4x512 .f32 := broadcastInDim S2x4x4x512 ![] bcast_S_S2x4x4x512 main_cst_8
  let main_v29 : IVec S2x4x4x512 1 := cmpf .olt main_v27 main_v28
  let main_c_9 : IVec S_ 1 := constantI S_ 1 1#1
  let main_v30 : IVec S_ 1 := (fun x v => Host.reduce IntOp.andi x v reducesTo_S2x4x4x512_S_d0_1_2_3 h_S_) main_v29 main_c_9
  let main_v31 : IVec S_ 1 := andi main_v26 main_v30
  let main_v32 : FVec F S2x4x4 .f32 := Host.absf main_arg6
  let main_cst_10 : FVec F S_ .f32 := constant S_ .f32 0x7F800000#32
  let main_v33 : FVec F S2x4x4 .f32 := broadcastInDim S2x4x4 ![] bcast_S_S2x4x4 main_cst_10
  let main_v34 : IVec S2x4x4 1 := cmpf .olt main_v32 main_v33
  fn_part2 (F := F) main_v31 main_v34

def fn {F : FTy → Type} [FloatOps F] (main_arg0 : FVec F S4x4096x2048 .bf16) (main_arg1 : FVec F S4x4096x2048 .bf16) (main_arg2 : FVec F S4x4096x2048 .bf16) (main_arg3 : FVec F S4x4096x16 .f32) (main_arg4 : FVec F S2x4x4x512x512 .f32) (main_arg5 : FVec F S2x4x4x512 .f32) (main_arg6 : FVec F S2x4x4 .f32) : IVec S_ 1 :=
  let main_v0 : FVec F S4x4096x2048 .f32 := (extf .f32 · bitsLt_bf16_f32) main_arg0
  let main_v1 : FVec F S4x4096x2048 .f32 := Host.absf main_v0
  let main_cst : FVec F S_ .f32 := constant S_ .f32 0x7F800000#32
  let main_v2 : FVec F S4x4096x2048 .f32 := broadcastInDim S4x4096x2048 ![] bcast_S_S4x4096x2048 main_cst
  let main_v3 : IVec S4x4096x2048 1 := cmpf .olt main_v1 main_v2
  let main_c : IVec S_ 1 := constantI S_ 1 1#1
  let main_v4 : IVec S_ 1 := (fun x v => Host.reduce IntOp.andi x v reducesTo_S4x4096x2048_S_d0_1_2 h_S_) main_v3 main_c
  let main_v5 : FVec F S4x4096x2048 .f32 := (extf .f32 · bitsLt_bf16_f32) main_arg1
  let main_v6 : FVec F S4x4096x2048 .f32 := Host.absf main_v5
  let main_cst_0 : FVec F S_ .f32 := constant S_ .f32 0x7F800000#32
  let main_v7 : FVec F S4x4096x2048 .f32 := broadcastInDim S4x4096x2048 ![] bcast_S_S4x4096x2048 main_cst_0
  let main_v8 : IVec S4x4096x2048 1 := cmpf .olt main_v6 main_v7
  let main_c_1 : IVec S_ 1 := constantI S_ 1 1#1
  let main_v9 : IVec S_ 1 := (fun x v => Host.reduce IntOp.andi x v reducesTo_S4x4096x2048_S_d0_1_2 h_S_) main_v8 main_c_1
  let main_v10 : IVec S_ 1 := andi main_v4 main_v9
  let main_v11 : FVec F S4x4096x2048 .f32 := (extf .f32 · bitsLt_bf16_f32) main_arg2
  let main_v12 : FVec F S4x4096x2048 .f32 := Host.absf main_v11
  let main_cst_2 : FVec F S_ .f32 := constant S_ .f32 0x7F800000#32
  let main_v13 : FVec F S4x4096x2048 .f32 := broadcastInDim S4x4096x2048 ![] bcast_S_S4x4096x2048 main_cst_2
  let main_v14 : IVec S4x4096x2048 1 := cmpf .olt main_v12 main_v13
  let main_c_3 : IVec S_ 1 := constantI S_ 1 1#1
  let main_v15 : IVec S_ 1 := (fun x v => Host.reduce IntOp.andi x v reducesTo_S4x4096x2048_S_d0_1_2 h_S_) main_v14 main_c_3
  let main_v16 : IVec S_ 1 := andi main_v10 main_v15
  let main_v17 : FVec F S4x4096x16 .f32 := Host.absf main_arg3
  fn_part1 (F := F) main_arg4 main_arg5 main_arg6 main_v16 main_v17
-- ==== Kernel.lean ====
abbrev S4x4096x2048 : Shape := ⟨3, ![4, 4096, 2048]⟩
abbrev S4x4096x16 : Shape := ⟨3, ![4, 4096, 16]⟩
abbrev S2x4x4x512x512 : Shape := ⟨5, ![2, 4, 4, 512, 512]⟩
abbrev S2x4x4x512 : Shape := ⟨4, ![2, 4, 4, 512]⟩
abbrev S2x4x4 : Shape := ⟨3, ![2, 4, 4]⟩
abbrev S4x2048x4096 : Shape := ⟨3, ![4, 2048, 4096]⟩
abbrev S4x16x4096 : Shape := ⟨3, ![4, 16, 4096]⟩
abbrev S2x4x4x512x1 : Shape := ⟨5, ![2, 4, 4, 512, 1]⟩
abbrev S2x4x4x512x128 : Shape := ⟨5, ![2, 4, 4, 512, 128]⟩
abbrev S2x4x4x1x1 : Shape := ⟨5, ![2, 4, 4, 1, 1]⟩
abbrev S2x4x4x8x128 : Shape := ⟨5, ![2, 4, 4, 8, 128]⟩
abbrev S1x256x512 : Shape := ⟨3, ![1, 256, 512]⟩
abbrev S1x512x256 : Shape := ⟨3, ![1, 512, 256]⟩
abbrev S1x256x16 : Shape := ⟨3, ![1, 256, 16]⟩
abbrev S1x16x256 : Shape := ⟨3, ![1, 16, 256]⟩
abbrev S2x1x1x512x512 : Shape := ⟨5, ![2, 1, 1, 512, 512]⟩
abbrev S2x1x1x512x128 : Shape := ⟨5, ![2, 1, 1, 512, 128]⟩
abbrev S2x1x1x8x128 : Shape := ⟨5, ![2, 1, 1, 8, 128]⟩
abbrev S512x512 : Shape := ⟨2, ![512, 512]⟩
abbrev S512x128 : Shape := ⟨2, ![512, 128]⟩
abbrev S8x128 : Shape := ⟨2, ![8, 128]⟩
abbrev S1x1x1x512x512 : Shape := ⟨5, ![1, 1, 1, 512, 512]⟩
abbrev S1x1x1x512x128 : Shape := ⟨5, ![1, 1, 1, 512, 128]⟩
abbrev S1x1x1x8x128 : Shape := ⟨5, ![1, 1, 1, 8, 128]⟩
abbrev S256x512 : Shape := ⟨2, ![256, 512]⟩
abbrev S512x256 : Shape := ⟨2, ![512, 256]⟩
abbrev S256x16 : Shape := ⟨2, ![256, 16]⟩
abbrev S16x256 : Shape := ⟨2, ![16, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1 : Shape := ⟨1, ![1]⟩
abbrev S1x1 : Shape := ⟨2, ![1, 1]⟩
abbrev S256x128 : Shape := ⟨2, ![256, 128]⟩
abbrev S512 : Shape := ⟨1, ![512]⟩
abbrev S512x1 : Shape := ⟨2, ![512, 1]⟩

abbrev nBuf : Space → Nat
  | .hbm => 15
  | .vmem => 40
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S4x4096x2048, .bf16⟩
  | .hbm, ⟨3, _⟩ => ⟨S4x4096x16, .f32⟩
  | .hbm, ⟨4, _⟩ => ⟨S2x4x4x512x512, .f32⟩
  | .hbm, ⟨5, _⟩ => ⟨S2x4x4x512, .f32⟩
  | .hbm, ⟨6, _⟩ => ⟨S2x4x4, .f32⟩
  | .hbm, ⟨7, _⟩ => ⟨S4x2048x4096, .bf16⟩
  | .hbm, ⟨8, _⟩ => ⟨S4x16x4096, .f32⟩
  | .hbm, ⟨9, _⟩ => ⟨S2x4x4x512x1, .f32⟩
  | .hbm, ⟨10, _⟩ => ⟨S2x4x4x512x128, .f32⟩
  | .hbm, ⟨11, _⟩ => ⟨S2x4x4x1x1, .f32⟩
  | .hbm, ⟨12, _⟩ => ⟨S2x4x4x8x128, .f32⟩
  | .hbm, ⟨13, _⟩ => ⟨S4x4096x2048, .bf16⟩
  | .hbm, ⟨14, _⟩ => ⟨S4x4096x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x512x256, .bf16⟩
  | .local _ .vmem, ⟨3, _⟩ => ⟨S1x512x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x16, .f32⟩
  | .local _ .vmem, ⟨7, _⟩ => ⟨S1x256x16, .f32⟩
  | .local _ .vmem, ⟨8, _⟩ => ⟨S1x16x256, .f32⟩
  | .local _ .vmem, ⟨9, _⟩ => ⟨S1x16x256, .f32⟩
  | .local _ .vmem, ⟨10, _⟩ => ⟨S1x256x512, .bf16⟩
  | .local _ .vmem, ⟨11, _⟩ => ⟨S1x256x512, .bf16⟩
  | .local _ .vmem, ⟨12, _⟩ => ⟨S1x512x256, .bf16⟩
  | .local _ .vmem, ⟨13, _⟩ => ⟨S1x512x256, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x16, .f32⟩
  | .local _ .vmem, ⟨17, _⟩ => ⟨S1x256x16, .f32⟩
  | .local _ .vmem, ⟨18, _⟩ => ⟨S1x16x256, .f32⟩
  | .local _ .vmem, ⟨19, _⟩ => ⟨S1x16x256, .f32⟩
  | .local _ .vmem, ⟨20, _⟩ => ⟨S2x1x1x512x512, .f32⟩
  | .local _ .vmem, ⟨21, _⟩ => ⟨S2x1x1x512x512, .f32⟩
  | .local _ .vmem, ⟨22, _⟩ => ⟨S2x1x1x512x128, .f32⟩
  | .local _ .vmem, ⟨23, _⟩ => ⟨S2x1x1x512x128, .f32⟩
  | .local _ .vmem, ⟨24, _⟩ => ⟨S2x1x1x8x128, .f32⟩
  | .local _ .vmem, ⟨25, _⟩ => ⟨S2x1x1x8x128, .f32⟩
  | .local _ .vmem, ⟨26, _⟩ => ⟨S1x256x512, .bf16⟩
  | .local _ .vmem, ⟨27, _⟩ => ⟨S1x256x512, .bf16⟩
  | .local _ .vmem, ⟨28, _⟩ => ⟨S1x256x512, .bf16⟩
  | .local _ .vmem, ⟨29, _⟩ => ⟨S1x256x512, .bf16⟩
  | .local _ .vmem, ⟨30, _⟩ => ⟨S512x512, .f32⟩
  | .local _ .vmem, ⟨31, _⟩ => ⟨S512x512, .bf16⟩
  | .local _ .vmem, ⟨32, _⟩ => ⟨S512x128, .f32⟩
  | .local _ .vmem, ⟨33, _⟩ => ⟨S512x128, .bf16⟩
  | .local _ .vmem, ⟨34, _⟩ => ⟨S8x128, .f32⟩
  | .local _ .vmem, ⟨35, _⟩ => ⟨S512x512, .f32⟩
  | .local _ .vmem, ⟨36, _⟩ => ⟨S512x512, .bf16⟩
  | .local _ .vmem, ⟨37, _⟩ => ⟨S512x128, .f32⟩
  | .local _ .vmem, ⟨38, _⟩ => ⟨S512x128, .bf16⟩
  | .local _ .vmem, ⟨39, _⟩ => ⟨S8x128, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_scratch8 : Ref sig .tc := ⟨.vmem, 38, rfl⟩
abbrev cc0_scratch9 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, arg1.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  let c0_i32_0 : BitVec 32 := 0#32
  ![arg0.toNat, c0_i32.toNat, v0.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  ![arg0.toNat, v0.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1x16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S2x1x1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S2x1x1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S2x1x1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x2048 : Shape := ⟨3, ![4, 4096, 2048]⟩
abbrev S4x4096x16 : Shape := ⟨3, ![4, 4096, 16]⟩
abbrev S2x4x4x512x512 : Shape := ⟨5, ![2, 4, 4, 512, 512]⟩
abbrev S2x4x4x512 : Shape := ⟨4, ![2, 4, 4, 512]⟩
abbrev S2x4x4 : Shape := ⟨3, ![2, 4, 4]⟩
abbrev S4x16x4096 : Shape := ⟨3, ![4, 16, 4096]⟩
abbrev S4x4x4096 : Shape := ⟨3, ![4, 4, 4096]⟩
abbrev S4x4096x4x512 : Shape := ⟨4, ![4, 4096, 4, 512]⟩
abbrev S4x4x4096x512 : Shape := ⟨4, ![4, 4, 4096, 512]⟩
abbrev S8x4x512x512 : Shape := ⟨4, ![8, 4, 512, 512]⟩
abbrev S8x4x512 : Shape := ⟨3, ![8, 4, 512]⟩
abbrev S8x4 : Shape := ⟨2, ![8, 4]⟩
abbrev S8x4x4096x512 : Shape := ⟨4, ![8, 4, 4096, 512]⟩
abbrev S8x4x4096 : Shape := ⟨3, ![8, 4, 4096]⟩
abbrev S_ : Shape := ⟨0, ![]⟩
abbrev S8x4x32x128x512 : Shape := ⟨5, ![8, 4, 32, 128, 512]⟩
abbrev S32x8x4x128x512 : Shape := ⟨5, ![32, 8, 4, 128, 512]⟩
abbrev S8x4x32x128 : Shape := ⟨4, ![8, 4, 32, 128]⟩
abbrev S32x8x4x128 : Shape := ⟨4, ![32, 8, 4, 128]⟩
abbrev S1x8x4x128x512 : Shape := ⟨5, ![1, 8, 4, 128, 512]⟩
abbrev S8x4x128x512 : Shape := ⟨4, ![8, 4, 128, 512]⟩
abbrev S1x8x4x128 : Shape := ⟨4, ![1, 8, 4, 128]⟩
abbrev S8x4x128 : Shape := ⟨3, ![8, 4, 128]⟩
abbrev S128x128 : Shape := ⟨2, ![128, 128]⟩
abbrev S8x4x128x1 : Shape := ⟨4, ![8, 4, 128, 1]⟩
abbrev S8x4x1x128 : Shape := ⟨4, ![8, 4, 1, 128]⟩
abbrev S8x4x128x128 : Shape := ⟨4, ![8, 4, 128, 128]⟩
abbrev S8x4x1 : Shape := ⟨3, ![8, 4, 1]⟩
abbrev S8x4x1x1 : Shape := ⟨4, ![8, 4, 1, 1]⟩

abbrev nBuf : Space → Nat
  | .hbm => 216
  | .vmem => 0
  | .smem => 0
  | _ => 0

abbrev hbmTy0_0 (i : Nat) : BufTy := match i % 128 with
  | 0 => ⟨S4x4096x2048, .bf16⟩
  | 1 => ⟨S4x4096x2048, .bf16⟩
  | 2 => ⟨S4x4096x2048, .bf16⟩
  | 3 => ⟨S4x4096x16, .f32⟩
  | 4 => ⟨S2x4x4x512x512, .f32⟩
  | 5 => ⟨S2x4x4x512, .f32⟩
  | 6 => ⟨S2x4x4, .f32⟩
  | 7 => ⟨S4x16x4096, .f32⟩
  | 8 => ⟨S4x4x4096, .f32⟩
  | 9 => ⟨S4x4x4096, .f32⟩
  | 10 => ⟨S4x4x4096, .f32⟩
  | 11 => ⟨S4x4x4096, .f32⟩
  | 12 => ⟨S4x4096x4x512, .bf16⟩
  | 13 => ⟨S4x4x4096x512, .bf16⟩
  | 14 => ⟨S4x4x4096x512, .f32⟩
  | 15 => ⟨S4x4096x4x512, .bf16⟩
  | 16 => ⟨S4x4x4096x512, .bf16⟩
  | 17 => ⟨S4x4x4096x512, .f32⟩
  | 18 => ⟨S4x4096x4x512, .bf16⟩
  | 19 => ⟨S4x4x4096x512, .bf16⟩
  | 20 => ⟨S4x4x4096x512, .f32⟩
  | 21 => ⟨S8x4x512x512, .f32⟩
  | 22 => ⟨S8x4x512, .f32⟩
  | 23 => ⟨S8x4, .f32⟩
  | 24 => ⟨S4x4x4096x512, .f32⟩
  | 25 => ⟨S8x4x4096x512, .f32⟩
  | 26 => ⟨S4x4x4096x512, .f32⟩
  | 27 => ⟨S8x4x4096x512, .f32⟩
  | 28 => ⟨S4x4x4096x512, .f32⟩
  | 29 => ⟨S8x4x4096x512, .f32⟩
  | 30 => ⟨S4x4x4096, .f32⟩
  | 31 => ⟨S8x4x4096, .f32⟩
  | 32 => ⟨S4x4x4096, .f32⟩
  | 33 => ⟨S_, .f32⟩
  | 34 => ⟨S4x4x4096, .f32⟩
  | 35 => ⟨S4x4x4096, .f32⟩
  | 36 => ⟨S4x4x4096, .f32⟩
  | 37 => ⟨S4x4x4096, .f32⟩
  | 38 => ⟨S4x4x4096, .f32⟩
  | 39 => ⟨S4x4x4096, .f32⟩
  | 40 => ⟨S4x4x4096, .f32⟩
  | 41 => ⟨S4x4x4096, .f32⟩
  | 42 => ⟨S4x4x4096, .f32⟩
  | 43 => ⟨S_, .f32⟩
  | 44 => ⟨S4x4x4096, .f32⟩
  | 45 => ⟨S4x4x4096, .f32⟩
  | 46 => ⟨S4x4x4096, .f32⟩
  | 47 => ⟨S4x4x4096, .f32⟩
  | 48 => ⟨S4x4x4096, .f32⟩
  | 49 => ⟨S4x4x4096, .f32⟩
  | 50 => ⟨S4x4x4096, .f32⟩
  | 51 => ⟨S4x4x4096, .f32⟩
  | 52 => ⟨S4x4x4096, .f32⟩
  | 53 => ⟨S8x4x4096, .f32⟩
  | 54 => ⟨S8x4x32x128x512, .f32⟩
  | 55 => ⟨S32x8x4x128x512, .f32⟩
  | 56 => ⟨S8x4x32x128x512, .f32⟩
  | 57 => ⟨S32x8x4x128x512, .f32⟩
  | 58 => ⟨S8x4x32x128x512, .f32⟩
  | 59 => ⟨S32x8x4x128x512, .f32⟩
  | 60 => ⟨S8x4x32x128, .f32⟩
  | 61 => ⟨S32x8x4x128, .f32⟩
  | 62 => ⟨S8x4x32x128, .f32⟩
  | 63 => ⟨S32x8x4x128, .f32⟩
  | 64 => ⟨S_, .f32⟩
  | 65 => ⟨S32x8x4x128x512, .f32⟩
  | 66 => ⟨S_, .i32⟩
  | 67 => ⟨S32x8x4x128x512, .f32⟩
  | 68 => ⟨S32x8x4x128x512, .f32⟩
  | 69 => ⟨S32x8x4x128x512, .f32⟩
  | 70 => ⟨S32x8x4x128, .f32⟩
  | 71 => ⟨S32x8x4x128, .f32⟩
  | 72 => ⟨S_, .i32⟩
  | 73 => ⟨S8x4x512x512, .f32⟩
  | 74 => ⟨S8x4x512, .f32⟩
  | 75 => ⟨S8x4, .f32⟩
  | 76 => ⟨S32x8x4x128x512, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1x8x4x128x512, .f32⟩
  | 84 => ⟨S8x4x128x512, .f32⟩
  | 85 => ⟨S_, .i32⟩
  | 86 => ⟨S_, .i32⟩
  | 87 => ⟨S_, .i32⟩
  | 88 => ⟨S_, .i32⟩
  | 89 => ⟨S1x8x4x128x512, .f32⟩
  | 90 => ⟨S8x4x128x512, .f32⟩
  | 91 => ⟨S_, .i32⟩
  | 92 => ⟨S_, .i32⟩
  | 93 => ⟨S_, .i32⟩
  | 94 => ⟨S_, .i32⟩
  | 95 => ⟨S1x8x4x128x512, .f32⟩
  | 96 => ⟨S8x4x128x512, .f32⟩
  | 97 => ⟨S_, .i32⟩
  | 98 => ⟨S_, .i32⟩
  | 99 => ⟨S_, .i32⟩
  | 100 => ⟨S1x8x4x128, .f32⟩
  | 101 => ⟨S8x4x128, .f32⟩
  | 102 => ⟨S_, .i32⟩
  | 103 => ⟨S_, .i32⟩
  | 104 => ⟨S_, .i32⟩
  | 105 => ⟨S1x8x4x128, .f32⟩
  | 106 => ⟨S8x4x128, .f32⟩
  | 107 => ⟨S_, .f32⟩
  | 108 => ⟨S_, .f32⟩
  | 109 => ⟨S8x4x128, .f32⟩
  | 110 => ⟨S_, .i1⟩
  | 111 => ⟨S128x128, .i1⟩
  | 112 => ⟨S128x128, .i32⟩
  | 113 => ⟨S_, .i32⟩
  | 114 => ⟨S128x128, .i32⟩
  | 115 => ⟨S128x128, .i32⟩
  | 116 => ⟨S128x128, .i32⟩
  | 117 => ⟨S128x128, .i1⟩
  | 118 => ⟨S_, .i1⟩
  | 119 => ⟨S128x128, .i1⟩
  | 120 => ⟨S128x128, .i1⟩
  | 121 => ⟨S8x4x128x1, .f32⟩
  | 122 => ⟨S8x4x1x128, .f32⟩
  | 123 => ⟨S8x4x128x128, .f32⟩
  | 124 => ⟨S8x4x128x128, .f32⟩
  | 125 => ⟨S8x4x128x128, .f32⟩
  | 126 => ⟨S8x4x1x128, .f32⟩
  | 127 => ⟨S8x4x128x128, .f32⟩
  | _ => ⟨S4x4096x2048, .bf16⟩

abbrev hbmTy0_1 (i : Nat) : BufTy := match i % 128 with
  | 0 => ⟨S8x4x128x128, .f32⟩
  | 1 => ⟨S_, .f32⟩
  | 2 => ⟨S_, .f32⟩
  | 3 => ⟨S8x4x128x128, .i1⟩
  | 4 => ⟨S8x4x128x128, .f32⟩
  | 5 => ⟨S8x4x128x128, .f32⟩
  | 6 => ⟨S8x4x1, .f32⟩
  | 7 => ⟨S8x4x128, .f32⟩
  | 8 => ⟨S8x4x128, .f32⟩
  | 9 => ⟨S_, .f32⟩
  | 10 => ⟨S8x4x128, .f32⟩
  | 11 => ⟨S8x4x128, .f32⟩
  | 12 => ⟨S8x4x128x1, .f32⟩
  | 13 => ⟨S8x4x128x128, .f32⟩
  | 14 => ⟨S8x4x128x128, .f32⟩
  | 15 => ⟨S8x4x128x128, .f32⟩
  | 16 => ⟨S8x4x128, .f32⟩
  | 17 => ⟨S8x4x128, .f32⟩
  | 18 => ⟨S8x4x128x128, .f32⟩
  | 19 => ⟨S8x4x128x128, .f32⟩
  | 20 => ⟨S8x4x128x512, .f32⟩
  | 21 => ⟨S8x4x128x1, .f32⟩
  | 22 => ⟨S8x4x128x512, .f32⟩
  | 23 => ⟨S8x4x128x512, .f32⟩
  | 24 => ⟨S8x4x128x512, .f32⟩
  | 25 => ⟨S8x4x128x512, .f32⟩
  | 26 => ⟨S_, .f32⟩
  | 27 => ⟨S8x4x128, .f32⟩
  | 28 => ⟨S8x4x128, .f32⟩
  | 29 => ⟨S8x4x128, .f32⟩
  | 30 => ⟨S8x4x128, .f32⟩
  | 31 => ⟨S8x4x128, .f32⟩
  | 32 => ⟨S8x4x128, .f32⟩
  | 33 => ⟨S8x4x128, .f32⟩
  | 34 => ⟨S8x4x128, .f32⟩
  | 35 => ⟨S8x4x128x1, .f32⟩
  | 36 => ⟨S8x4x128x512, .f32⟩
  | 37 => ⟨S8x4x128x512, .f32⟩
  | 38 => ⟨S8x4x1, .f32⟩
  | 39 => ⟨S8x4, .f32⟩
  | 40 => ⟨S8x4x1, .f32⟩
  | 41 => ⟨S8x4x128, .f32⟩
  | 42 => ⟨S8x4x128, .f32⟩
  | 43 => ⟨S8x4x128, .f32⟩
  | 44 => ⟨S8x4, .f32⟩
  | 45 => ⟨S_, .f32⟩
  | 46 => ⟨S8x4, .f32⟩
  | 47 => ⟨S8x4, .f32⟩
  | 48 => ⟨S8x4, .f32⟩
  | 49 => ⟨S8x4, .f32⟩
  | 50 => ⟨S8x4, .f32⟩
  | 51 => ⟨S8x4x1, .f32⟩
  | 52 => ⟨S8x4x128, .f32⟩
  | 53 => ⟨S8x4x128, .f32⟩
  | 54 => ⟨S8x4x128, .f32⟩
  | 55 => ⟨S8x4x128x1, .f32⟩
  | 56 => ⟨S8x4x128x512, .f32⟩
  | 57 => ⟨S8x4x128x512, .f32⟩
  | 58 => ⟨S8x4x1x1, .f32⟩
  | 59 => ⟨S8x4x512x512, .f32⟩
  | 60 => ⟨S8x4x512x512, .f32⟩
  | 61 => ⟨S8x4x512x512, .f32⟩
  | 62 => ⟨S8x4x512x512, .f32⟩
  | 63 => ⟨S8x4x1, .f32⟩
  | 64 => ⟨S8x4x512, .f32⟩
  | 65 => ⟨S8x4x512, .f32⟩
  | 66 => ⟨S_, .f32⟩
  | 67 => ⟨S8x4x512, .f32⟩
  | 68 => ⟨S8x4x512, .f32⟩
  | 69 => ⟨S1x8x4x128x512, .f32⟩
  | 70 => ⟨S_, .i32⟩
  | 71 => ⟨S_, .i32⟩
  | 72 => ⟨S_, .i32⟩
  | 73 => ⟨S_, .i32⟩
  | 74 => ⟨S32x8x4x128x512, .f32⟩
  | 75 => ⟨S_, .i32⟩
  | 76 => ⟨S_, .i32⟩
  | 77 => ⟨S8x4x32x128x512, .f32⟩
  | 78 => ⟨S8x4x4096x512, .f32⟩
  | 79 => ⟨S4x4x4096x512, .f32⟩
  | 80 => ⟨S4x4096x4x512, .f32⟩
  | 81 => ⟨S4x4096x2048, .f32⟩
  | 82 => ⟨S4x4096x2048, .bf16⟩
  | 83 => ⟨S4x4x4096x512, .f32⟩
  | 84 => ⟨S4x4x4096x512, .f32⟩
  | 85 => ⟨S4x4096x4x512, .f32⟩
  | 86 => ⟨S4x4096x2048, .f32⟩
  | 87 => ⟨S4x4096x2048, .bf16⟩
  | _ => ⟨S4x4096x2048, .bf16⟩

abbrev hbmTy (i : Nat) : BufTy := match i / 128 with
  | 0 => hbmTy0_0 i
  | 1 => hbmTy0_1 i
  | _ => ⟨S4x4096x2048, .bf16⟩

abbrev bufTy : (tb : Table) → Fin (tcTables nBuf tb) → BufTy
  | .hbm, ⟨i, _⟩ => hbmTy i
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_1 : Ref sig .tc := ⟨.hbm, 64, rfl⟩
abbrev main_v55 : Ref sig .tc := ⟨.hbm, 65, rfl⟩
abbrev main_c : Ref sig .tc := ⟨.hbm, 66, rfl⟩
abbrev main_v56_0 : Ref sig .tc := ⟨.hbm, 67, rfl⟩
abbrev main_v56_1 : Ref sig .tc := ⟨.hbm, 68, rfl⟩
abbrev main_v56_2 : Ref sig .tc := ⟨.hbm, 69, rfl⟩
abbrev main_v56_3 : Ref sig .tc := ⟨.hbm, 70, rfl⟩
abbrev main_v56_4 : Ref sig .tc := ⟨.hbm, 71, rfl⟩
abbrev main_v56_5 : Ref sig .tc := ⟨.hbm, 72, rfl⟩
abbrev main_v56_6 : Ref sig .tc := ⟨.hbm, 73, rfl⟩
abbrev main_v56_7 : Ref sig .tc := ⟨.hbm, 74, rfl⟩
abbrev main_v56_8 : Ref sig .tc := ⟨.hbm, 75, rfl⟩
abbrev main_v56_9 : Ref sig .tc := ⟨.hbm, 76, rfl⟩
abbrev main_while0c_c_11 : Ref sig .tc := ⟨.hbm, 77, rfl⟩
abbrev main_while0c_v68 : Ref sig .tc := ⟨.hbm, 78, rfl⟩
abbrev main_while0b_call5_c : Ref sig .tc := ⟨.hbm, 79, rfl⟩
abbrev main_while0b_call5_c_0 : Ref sig .tc := ⟨.hbm, 80, rfl⟩
abbrev main_while0b_call5_c_1 : Ref sig .tc := ⟨.hbm, 81, rfl⟩
abbrev main_while0b_call5_c_2 : Ref sig .tc := ⟨.hbm, 82, rfl⟩
abbrev main_while0b_call5_v0 : Ref sig .tc := ⟨.hbm, 83, rfl⟩
abbrev main_while0b_v68 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_call6_c_1 : Ref sig .tc := ⟨.hbm, 87, rfl⟩
abbrev main_while0b_call6_c_2 : Ref sig .tc := ⟨.hbm, 88, rfl⟩
abbrev main_while0b_call6_v0 : Ref sig .tc := ⟨.hbm, 89, rfl⟩
abbrev main_while0b_v69 : Ref sig .tc := ⟨.hbm, 90, rfl⟩
abbrev main_while0b_call7_c : Ref sig .tc := ⟨.hbm, 91, rfl⟩
abbrev main_while0b_call7_c_0 : Ref sig .tc := ⟨.hbm, 92, rfl⟩
abbrev main_while0b_call7_c_1 : Ref sig .tc := ⟨.hbm, 93, rfl⟩
abbrev main_while0b_call7_c_2 : Ref sig .tc := ⟨.hbm, 94, rfl⟩
abbrev main_while0b_call7_v0 : Ref sig .tc := ⟨.hbm, 95, rfl⟩
abbrev main_while0b_v70 : Ref sig .tc := ⟨.hbm, 96, rfl⟩
abbrev main_while0b_call8_c : Ref sig .tc := ⟨.hbm, 97, rfl⟩
abbrev main_while0b_call8_c_0 : Ref sig .tc := ⟨.hbm, 98, rfl⟩
abbrev main_while0b_call8_c_1 : Ref sig .tc := ⟨.hbm, 99, rfl⟩
abbrev main_while0b_call8_v0 : Ref sig .tc := ⟨.hbm, 100, rfl⟩
abbrev main_while0b_v71 : Ref sig .tc := ⟨.hbm, 101, rfl⟩
abbrev main_while0b_call9_c : Ref sig .tc := ⟨.hbm, 102, rfl⟩
abbrev main_while0b_call9_c_0 : Ref sig .tc := ⟨.hbm, 103, rfl⟩
abbrev main_while0b_call9_c_1 : Ref sig .tc := ⟨.hbm, 104, rfl⟩
abbrev main_while0b_call9_v0 : Ref sig .tc := ⟨.hbm, 105, rfl⟩
abbrev main_while0b_v72 : Ref sig .tc := ⟨.hbm, 106, rfl⟩
abbrev main_while0b_call10_call0_cst : Ref sig .tc := ⟨.hbm, 107, rfl⟩
abbrev main_while0b_call10_call0_v0 : Ref sig .tc := ⟨.hbm, 108, rfl⟩
abbrev main_while0b_v73 : Ref sig .tc := ⟨.hbm, 109, rfl⟩
abbrev main_while0b_c_11 : Ref sig .tc := ⟨.hbm, 110, rfl⟩
abbrev main_while0b_v74 : Ref sig .tc := ⟨.hbm, 111, rfl⟩
abbrev main_while0b_call11_v0 : Ref sig .tc := ⟨.hbm, 112, rfl⟩
abbrev main_while0b_call11_c : Ref sig .tc := ⟨.hbm, 113, rfl⟩
abbrev main_while0b_call11_v1 : Ref sig .tc := ⟨.hbm, 114, rfl⟩
abbrev main_while0b_call11_v2 : Ref sig .tc := ⟨.hbm, 115, rfl⟩
abbrev main_while0b_call11_v3 : Ref sig .tc := ⟨.hbm, 116, rfl⟩
abbrev main_while0b_call11_v4 : Ref sig .tc := ⟨.hbm, 117, rfl⟩
abbrev main_while0b_call11_c_0 : Ref sig .tc := ⟨.hbm, 118, rfl⟩
abbrev main_while0b_call11_v5 : Ref sig .tc := ⟨.hbm, 119, rfl⟩
abbrev main_while0b_v75 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_v79 : Ref sig .tc := ⟨.hbm, 124, rfl⟩
abbrev main_while0b_v80 : Ref sig .tc := ⟨.hbm, 125, rfl⟩
abbrev main_while0b_v81 : Ref sig .tc := ⟨.hbm, 126, rfl⟩
abbrev main_while0b_v82 : Ref sig .tc := ⟨.hbm, 127, rfl⟩
abbrev main_while0b_v83 : Ref sig .tc := ⟨.hbm, 128, rfl⟩
abbrev main_while0b_cst_12 : Ref sig .tc := ⟨.hbm, 129, rfl⟩
abbrev main_while0b_call12_v0 : Ref sig .tc := ⟨.hbm, 130, rfl⟩
abbrev main_while0b_call12_v1 : Ref sig .tc := ⟨.hbm, 131, rfl⟩
abbrev main_while0b_call12_v2 : Ref sig .tc := ⟨.hbm, 132, rfl⟩
abbrev main_while0b_v84 : Ref sig .tc := ⟨.hbm, 133, rfl⟩
abbrev main_while0b_v85 : Ref sig .tc := ⟨.hbm, 134, rfl⟩
abbrev main_while0b_v86 : Ref sig .tc := ⟨.hbm, 135, rfl⟩
abbrev main_while0b_v87 : Ref sig .tc := ⟨.hbm, 136, rfl⟩
abbrev main_while0b_cst_13 : Ref sig .tc := ⟨.hbm, 137, rfl⟩
abbrev main_while0b_v88 : Ref sig .tc := ⟨.hbm, 138, rfl⟩
abbrev main_while0b_v89 : Ref sig .tc := ⟨.hbm, 139, rfl⟩
abbrev main_while0b_v90 : Ref sig .tc := ⟨.hbm, 140, rfl⟩
abbrev main_while0b_v91 : Ref sig .tc := ⟨.hbm, 141, rfl⟩
abbrev main_while0b_v92 : Ref sig .tc := ⟨.hbm, 142, rfl⟩
abbrev main_while0b_v93 : Ref sig .tc := ⟨.hbm, 143, rfl⟩
abbrev main_while0b_v94 : Ref sig .tc := ⟨.hbm, 144, rfl⟩
abbrev main_while0b_v95 : Ref sig .tc := ⟨.hbm, 145, rfl⟩
abbrev main_while0b_v96 : Ref sig .tc := ⟨.hbm, 146, rfl⟩
abbrev main_while0b_v97 : Ref sig .tc := ⟨.hbm, 147, rfl⟩
abbrev main_while0b_v98 : Ref sig .tc := ⟨.hbm, 148, rfl⟩
abbrev main_while0b_v99 : Ref sig .tc := ⟨.hbm, 149, rfl⟩
abbrev main_while0b_v100 : Ref sig .tc := ⟨.hbm, 150, rfl⟩
abbrev main_while0b_v101 : Ref sig .tc := ⟨.hbm, 151, rfl⟩
abbrev main_while0b_v102 : Ref sig .tc := ⟨.hbm, 152, rfl⟩
abbrev main_while0b_v103 : Ref sig .tc := ⟨.hbm, 153, rfl⟩
abbrev main_while0b_cst_14 : Ref sig .tc := ⟨.hbm, 154, rfl⟩
abbrev main_while0b_v104 : Ref sig .tc := ⟨.hbm, 155, rfl⟩
abbrev main_while0b_v105 : Ref sig .tc := ⟨.hbm, 156, rfl⟩
abbrev main_while0b_v106 : Ref sig .tc := ⟨.hbm, 157, rfl⟩
abbrev main_while0b_v107 : Ref sig .tc := ⟨.hbm, 158, rfl⟩
abbrev main_while0b_v108 : Ref sig .tc := ⟨.hbm, 159, rfl⟩
abbrev main_while0b_v109 : Ref sig .tc := ⟨.hbm, 160, rfl⟩
abbrev main_while0b_v110 : Ref sig .tc := ⟨.hbm, 161, rfl⟩
abbrev main_while0b_v111 : Ref sig .tc := ⟨.hbm, 162, rfl⟩
abbrev main_while0b_v112 : Ref sig .tc := ⟨.hbm, 163, rfl⟩
abbrev main_while0b_v113 : Ref sig .tc := ⟨.hbm, 164, rfl⟩
abbrev main_while0b_v114 : Ref sig .tc := ⟨.hbm, 165, rfl⟩
abbrev main_while0b_v115 : Ref sig .tc := ⟨.hbm, 166, rfl⟩
abbrev main_while0b_v116 : Ref sig .tc := ⟨.hbm, 167, rfl⟩
abbrev main_while0b_v117 : Ref sig .tc := ⟨.hbm, 168, rfl⟩
abbrev main_while0b_v118 : Ref sig .tc := ⟨.hbm, 169, rfl⟩
abbrev main_while0b_v119 : Ref sig .tc := ⟨.hbm, 170, rfl⟩
abbrev main_while0b_v120 : Ref sig .tc := ⟨.hbm, 171, rfl⟩
abbrev main_while0b_v121 : Ref sig .tc := ⟨.hbm, 172, rfl⟩
abbrev main_while0b_cst_15 : Ref sig .tc := ⟨.hbm, 173, rfl⟩
abbrev main_while0b_v122 : Ref sig .tc := ⟨.hbm, 174, rfl⟩
abbrev main_while0b_v123 : Ref sig .tc := ⟨.hbm, 175, rfl⟩
abbrev main_while0b_v124 : Ref sig .tc := ⟨.hbm, 176, rfl⟩
abbrev main_while0b_v125 : Ref sig .tc := ⟨.hbm, 177, rfl⟩
abbrev main_while0b_v126 : Ref sig .tc := ⟨.hbm, 178, rfl⟩
abbrev main_while0b_v127 : Ref sig .tc := ⟨.hbm, 179, rfl⟩
abbrev main_while0b_v128 : Ref sig .tc := ⟨.hbm, 180, rfl⟩
abbrev main_while0b_v129 : Ref sig .tc := ⟨.hbm, 181, rfl⟩
abbrev main_while0b_v130 : Ref sig .tc := ⟨.hbm, 182, rfl⟩
abbrev main_while0b_v131 : Ref sig .tc := ⟨.hbm, 183, rfl⟩
abbrev main_while0b_v132 : Ref sig .tc := ⟨.hbm, 184, rfl⟩
abbrev main_while0b_v133 : Ref sig .tc := ⟨.hbm, 185, rfl⟩
abbrev main_while0b_v134 : Ref sig .tc := ⟨.hbm, 186, rfl⟩
abbrev main_while0b_v135 : Ref sig .tc := ⟨.hbm, 187, rfl⟩
abbrev main_while0b_v136 : Ref sig .tc := ⟨.hbm, 188, rfl⟩
abbrev main_while0b_v137 : Ref sig .tc := ⟨.hbm, 189, rfl⟩
abbrev main_while0b_v138 : Ref sig .tc := ⟨.hbm, 190, rfl⟩
abbrev main_while0b_v139 : Ref sig .tc := ⟨.hbm, 191, rfl⟩
abbrev main_while0b_v140 : Ref sig .tc := ⟨.hbm, 192, rfl⟩
abbrev main_while0b_v141 : Ref sig .tc := ⟨.hbm, 193, rfl⟩
abbrev main_while0b_cst_16 : Ref sig .tc := ⟨.hbm, 194, rfl⟩
abbrev main_while0b_v142 : Ref sig .tc := ⟨.hbm, 195, rfl⟩
abbrev main_while0b_v143 : Ref sig .tc := ⟨.hbm, 196, rfl⟩
abbrev main_while0b_call13_v0 : Ref sig .tc := ⟨.hbm, 197, rfl⟩
abbrev main_while0b_call13_c : Ref sig .tc := ⟨.hbm, 198, rfl⟩
abbrev main_while0b_call13_c_0 : Ref sig .tc := ⟨.hbm, 199, rfl⟩
abbrev main_while0b_call13_c_1 : Ref sig .tc := ⟨.hbm, 200, rfl⟩
abbrev main_while0b_call13_c_2 : Ref sig .tc := ⟨.hbm, 201, rfl⟩
abbrev main_while0b_v144 : Ref sig .tc := ⟨.hbm, 202, rfl⟩
abbrev main_while0b_c_17 : Ref sig .tc := ⟨.hbm, 203, rfl⟩
abbrev main_while0b_v145 : Ref sig .tc := ⟨.hbm, 204, rfl⟩
abbrev main_v57 : Ref sig .tc := ⟨.hbm, 205, rfl⟩
abbrev main_v58 : Ref sig .tc := ⟨.hbm, 206, rfl⟩
abbrev main_v59 : Ref sig .tc := ⟨.hbm, 207, rfl⟩
abbrev main_v60 : Ref sig .tc := ⟨.hbm, 208, rfl⟩
abbrev main_v61 : Ref sig .tc := ⟨.hbm, 209, rfl⟩
abbrev main_v62 : Ref sig .tc := ⟨.hbm, 210, rfl⟩
abbrev main_v63 : Ref sig .tc := ⟨.hbm, 211, rfl⟩
abbrev main_v64 : Ref sig .tc := ⟨.hbm, 212, rfl⟩
abbrev main_v65 : Ref sig .tc := ⟨.hbm, 213, rfl⟩
abbrev main_v66 : Ref sig .tc := ⟨.hbm, 214, rfl⟩
abbrev main_v67 : Ref sig .tc := ⟨.hbm, 215, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x4096x1024 : Shape := ⟨3, ![4, 4096, 1024]⟩
abbrev S8x9216 : Shape := ⟨2, ![8, 9216]⟩
abbrev S3x1024 : Shape := ⟨2, ![3, 1024]⟩
abbrev S1024x5632 : Shape := ⟨2, ![1024, 5632]⟩
abbrev S2816x1024 : Shape := ⟨2, ![2816, 1024]⟩
abbrev S1024 : Shape := ⟨1, ![1024]⟩
abbrev S8x9x1024 : Shape := ⟨3, ![8, 9, 1024]⟩
abbrev S1x1024 : Shape := ⟨2, ![1, 1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S8x9216, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8x9x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4x4096x1024 : Shape := ⟨3, ![4, 4096, 1024]⟩
abbrev S8x9216 : Shape := ⟨2, ![8, 9216]⟩
abbrev S3x1024 : Shape := ⟨2, ![3, 1024]⟩
abbrev S1024x5632 : Shape := ⟨2, ![1024, 5632]⟩
abbrev S2816x1024 : Shape := ⟨2, ![2816, 1024]⟩
abbrev S1024 : Shape := ⟨1, ![1024]⟩
abbrev S4x9216 : Shape := ⟨2, ![4, 9216]⟩
abbrev S4x1024 : Shape := ⟨2, ![4, 1024]⟩
abbrev S4x1x1024 : Shape := ⟨3, ![4, 1, 1024]⟩
abbrev S_ : Shape := ⟨0, ![]⟩
abbrev S1x1024 : Shape := ⟨2, ![1, 1024]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x9216, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x9216, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S4x1x1024, .f32⟩
  | .hbm, ⟨17, _⟩ => ⟨S_, .f32⟩
  | .hbm, ⟨18, _⟩ => ⟨S4x1x1024, .f32⟩
  | .hbm, ⟨19, _⟩ => ⟨S4x1x1024, .f32⟩
  | .hbm, ⟨20, _⟩ => ⟨S1x1024, .f32⟩
  | .hbm, ⟨21, _⟩ => ⟨S1024, .f32⟩
  | .hbm, ⟨22, _⟩ => ⟨S4x4096x1024, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | .hbm, ⟨38, _⟩ => ⟨S4x1x1024, .f32⟩
  | .hbm, ⟨39, _⟩ => ⟨S_, .f32⟩
  | .hbm, ⟨40, _⟩ => ⟨S4x1x1024, .f32⟩
  | .hbm, ⟨41, _⟩ => ⟨S4x1x1024, .f32⟩
  | .hbm, ⟨42, _⟩ => ⟨S4x4096x1024, .f32⟩
  | .hbm, ⟨43, _⟩ => ⟨S4x4096x1024, .f32⟩
  | .hbm, ⟨44, _⟩ => ⟨S4x1x1024, .f32⟩
  | .hbm, ⟨45, _⟩ => ⟨S4x4096x1024, .f32⟩
  | .hbm, ⟨46, _⟩ => ⟨S4x4096x1024, .f32⟩
  | .hbm, ⟨47, _⟩ => ⟨S4x4096x5632, .f32⟩
  | .hbm, ⟨48, _⟩ => ⟨S4x4096x2816, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S_, .f32⟩
  | .hbm, ⟨53, _⟩ => ⟨S4x4096x2816, .f32⟩
  | .hbm, ⟨54, _⟩ => ⟨S4x4096x2816, .f32⟩
  | .hbm, ⟨55, _⟩ => ⟨S_, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S1x1x1024, .f32⟩
  | .hbm, ⟨78, _⟩ => ⟨S4x4096x1024, .f32⟩
  | .hbm, ⟨79, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel3.lean ====
abbrev S4x4096x1024 : Shape := ⟨3, ![4, 4096, 1024]⟩
abbrev S4096x1024 : Shape := ⟨2, ![4096, 1024]⟩
abbrev S8x9216 : Shape := ⟨2, ![8, 9216]⟩
abbrev S3x1024 : Shape := ⟨2, ![3, 1024]⟩
abbrev S1024x5632 : Shape := ⟨2, ![1024, 5632]⟩
abbrev S2816x1024 : Shape := ⟨2, ![2816, 1024]⟩
abbrev S8x9x1024 : Shape := ⟨3, ![8, 9, 1024]⟩
abbrev S1x512x1024 : Shape := ⟨3, ![1, 512, 1024]⟩
abbrev S512x1024 : Shape := ⟨2, ![512, 1024]⟩
abbrev S1x9x1024 : Shape := ⟨3, ![1, 9, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S8x9216, .f32⟩
  | .hbm, ⟨3, _⟩ => ⟨S3x1024, .f32⟩
  | .hbm, ⟨4, _⟩ => ⟨S1024x5632, .f32⟩
  | .hbm, ⟨5, _⟩ => ⟨S2816x1024, .f32⟩
  | .hbm, ⟨6, _⟩ => ⟨S8x9x1024, .f32⟩
  | .hbm, ⟨7, _⟩ => ⟨S1024x5632, .bf16⟩
  | .hbm, ⟨8, _⟩ => ⟨S2816x1024, .bf16⟩
  | .hbm, ⟨9, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x9x1024, .f32⟩
  | .local _ .vmem, ⟨5, _⟩ => ⟨S1x9x1024, .f32⟩
  | .local _ .vmem, ⟨6, _⟩ => ⟨S3x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x512x1024, .f32⟩
  | .local _ .vmem, ⟨10, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x4096x1024 : Shape := ⟨3, ![4, 4096, 1024]⟩
abbrev S4096x1024 : Shape := ⟨2, ![4096, 1024]⟩
abbrev S8x9216 : Shape := ⟨2, ![8, 9216]⟩
abbrev S3x1024 : Shape := ⟨2, ![3, 1024]⟩
abbrev S1024x5632 : Shape := ⟨2, ![1024, 5632]⟩
abbrev S2816x1024 : Shape := ⟨2, ![2816, 1024]⟩
abbrev S4x9216 : Shape := ⟨2, ![4, 9216]⟩
abbrev S4x1024 : Shape := ⟨2, ![4, 1024]⟩
abbrev S1x4096x1024 : Shape := ⟨3, ![1, 4096, 1024]⟩
abbrev S4x1x1024 : Shape := ⟨3, ![4, 1, 1024]⟩
abbrev S_ : Shape := ⟨0, ![]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4096x2816 : Shape := ⟨3, ![4, 4096, 2816]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S8x9216, .f32⟩
  | .hbm, ⟨3, _⟩ => ⟨S3x1024, .f32⟩
  | .hbm, ⟨4, _⟩ => ⟨S1024x5632, .f32⟩
  | .hbm, ⟨5, _⟩ => ⟨S2816x1024, .f32⟩
  | .hbm, ⟨6, _⟩ => ⟨S4x9216, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S1x4096x1024, .f32⟩
  | .hbm, ⟨17, _⟩ => ⟨S4x4096x1024, .f32⟩
  | .hbm, ⟨18, _⟩ => ⟨S4x4096x1024, .f32⟩
  | .hbm, ⟨19, _⟩ => ⟨S4x1x1024, .f32⟩
  | .hbm, ⟨20, _⟩ => ⟨S_, .f32⟩
  | .hbm, ⟨21, _⟩ => ⟨S4x1x1024, .f32⟩
  | .hbm, ⟨22, _⟩ => ⟨S4x1x1024, .f32⟩
  | .hbm, ⟨23, _⟩ => ⟨S1x1024, .f32⟩
  | .hbm, ⟨24, _⟩ => ⟨S1024, .f32⟩
  | .hbm, ⟨25, _⟩ => ⟨S4x4096x1024, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x1, .f32⟩
  | .hbm, ⟨36, _⟩ => ⟨S4x4096x1024, .f32⟩
  | .hbm, ⟨37, _⟩ => ⟨S4x4096x1024, .f32⟩
  | .hbm, ⟨38, _⟩ => ⟨S1x1x1024, .f32⟩
  | .hbm, ⟨39, _⟩ => ⟨S4x4096x1024, .f32⟩
  | .hbm, ⟨40, _⟩ => ⟨S4x4096x1024, .f32⟩
  | .hbm, ⟨41, _⟩ => ⟨S4x1x1024, .f32⟩
  | .hbm, ⟨42, _⟩ => ⟨S_, .f32⟩
  | .hbm, ⟨43, _⟩ => ⟨S4x1x1024, .f32⟩
  | .hbm, ⟨44, _⟩ => ⟨S4x1x1024, .f32⟩
  | .hbm, ⟨45, _⟩ => ⟨S4x4096x1024, .f32⟩
  | .hbm, ⟨46, _⟩ => ⟨S4x4096x1024, .f32⟩
  | .hbm, ⟨47, _⟩ => ⟨S4x1x1024, .f32⟩
  | .hbm, ⟨48, _⟩ => ⟨S4x4096x1024, .f32⟩
  | .hbm, ⟨49, _⟩ => ⟨S4x4096x1024, .f32⟩
  | .hbm, ⟨50, _⟩ => ⟨S4x4096x5632, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S4x4096x2816, .f32⟩
  | .hbm, ⟨55, _⟩ => ⟨S_, .f32⟩
  | .hbm, ⟨56, _⟩ => ⟨S4x4096x2816, .f32⟩
  | .hbm, ⟨57, _⟩ => ⟨S4x4096x2816, .f32⟩
  | .hbm, ⟨58, _⟩ => ⟨S_, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel4.lean ====
abbrev S4x4096x1024 : Shape := ⟨3, ![4, 4096, 1024]⟩
abbrev S8x9216 : Shape := ⟨2, ![8, 9216]⟩
abbrev S3x1024 : Shape := ⟨2, ![3, 1024]⟩
abbrev S1024x9216 : Shape := ⟨2, ![1024, 9216]⟩
abbrev S8x9x1024 : Shape := ⟨3, ![8, 9, 1024]⟩
abbrev S4x4096x2048 : Shape := ⟨3, ![4, 4096, 2048]⟩
abbrev S4x4096x3072 : Shape := ⟨3, ![4, 4096, 3072]⟩
abbrev S1x256x1024 : Shape := ⟨3, ![1, 256, 1024]⟩
abbrev S1x9x1024 : Shape := ⟨3, ![1, 9, 1024]⟩
abbrev S1x256x2048 : Shape := ⟨3, ![1, 256, 2048]⟩
abbrev S1x256x3072 : Shape := ⟨3, ![1, 256, 3072]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S1024x3072 : Shape := ⟨2, ![1024, 3072]⟩
abbrev S256x3072 : Shape := ⟨2, ![256, 3072]⟩

abbrev nBuf : Space → Nat
  | .hbm => 10
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S8x9216, .f32⟩
  | .hbm, ⟨2, _⟩ => ⟨S3x1024, .f32⟩
  | .hbm, ⟨3, _⟩ => ⟨S1024x9216, .f32⟩
  | .hbm, ⟨4, _⟩ => ⟨S8x9x1024, .f32⟩
  | .hbm, ⟨5, _⟩ => ⟨S1024x9216, .bf16⟩
  | .hbm, ⟨6, _⟩ => ⟨S4x4096x2048, .bf16⟩
  | .hbm, ⟨7, _⟩ => ⟨S4x4096x2048, .bf16⟩
  | .hbm, ⟨8, _⟩ => ⟨S4x4096x3072, .bf16⟩
  | .hbm, ⟨9, _⟩ => ⟨S4x4096x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1024x9216, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S1x256x3072, .bf16⟩
  | .local _ .vmem, ⟨11, _⟩ => ⟨S1x256x3072, .bf16⟩
  | .local _ .vmem, ⟨12, _⟩ => ⟨S1x256x2048, .bf16⟩
  | .local _ .vmem, ⟨13, _⟩ => ⟨S1x256x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x9216 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S4x4096x1024 : Shape := ⟨3, ![4, 4096, 1024]⟩
abbrev S8x9216 : Shape := ⟨2, ![8, 9216]⟩
abbrev S3x1024 : Shape := ⟨2, ![3, 1024]⟩
abbrev S1024x9216 : Shape := ⟨2, ![1024, 9216]⟩
abbrev S4x9216 : Shape := ⟨2, ![4, 9216]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x9216 : Shape := ⟨3, ![4, 4096, 9216]⟩
abbrev S4x4096x2048 : Shape := ⟨3, ![4, 4096, 2048]⟩
abbrev S4x4096x3072 : Shape := ⟨3, ![4, 4096, 3072]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8x9216, .f32⟩
  | .hbm, ⟨2, _⟩ => ⟨S3x1024, .f32⟩
  | .hbm, ⟨3, _⟩ => ⟨S1024x9216, .f32⟩
  | .hbm, ⟨4, _⟩ => ⟨S4x9216, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S1x1024, .f32⟩
  | .hbm, ⟨15, _⟩ => ⟨S1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S4x1x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x4096x1024, .f32⟩
  | .hbm, ⟨37, _⟩ => ⟨S4x4096x1024, .f32⟩
  | .hbm, ⟨38, _⟩ => ⟨S4x1x1024, .f32⟩
  | .hbm, ⟨39, _⟩ => ⟨S4x4096x1024, .f32⟩
  | .hbm, ⟨40, _⟩ => ⟨S4x4096x1024, .f32⟩
  | .hbm, ⟨41, _⟩ => ⟨S4x4096x9216, .f32⟩
  | .hbm, ⟨42, _⟩ => ⟨S4x4096x2048, .f32⟩
  | .hbm, ⟨43, _⟩ => ⟨S4x4096x2048, .f32⟩
  | .hbm, ⟨44, _⟩ => ⟨S4x4096x3072, .f32⟩
  | .hbm, ⟨45, _⟩ => ⟨S4x4096x2048, .f32⟩
  | .hbm, ⟨46, _⟩ => ⟨S4x4096x2048, .bf16⟩
  | .hbm, ⟨47, _⟩ => ⟨S4x4096x2048, .bf16⟩
  | .hbm, ⟨48, _⟩ => ⟨S4x4096x3072, .bf16⟩
  | .hbm, ⟨49, _⟩ => ⟨S4x4096x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Kernel5.lean ====
abbrev S4x4096x2048 : Shape := ⟨3, ![4, 4096, 2048]⟩
abbrev S4x4096x1024 : Shape := ⟨3, ![4, 4096, 1024]⟩
abbrev S8x9216 : Shape := ⟨2, ![8, 9216]⟩
abbrev S2048 : Shape := ⟨1, ![2048]⟩
abbrev S2048x1024 : Shape := ⟨2, ![2048, 1024]⟩
abbrev S1024x1024 : Shape := ⟨2, ![1024, 1024]⟩
abbrev S8x9x1024 : Shape := ⟨3, ![8, 9, 1024]⟩
abbrev S1x2048 : Shape := ⟨2, ![1, 2048]⟩
abbrev S1x512x2048 : Shape := ⟨3, ![1, 512, 2048]⟩
abbrev S1x512x1024 : Shape := ⟨3, ![1, 512, 1024]⟩
abbrev S1x9x1024 : Shape := ⟨3, ![1, 9, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 20
  | .vmem => 23
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S4x4096x2048, .bf16⟩
  | .hbm, ⟨3, _⟩ => ⟨S4x4096x2048, .bf16⟩
  | .hbm, ⟨4, _⟩ => ⟨S4x4096x1024, .bf16⟩
  | .hbm, ⟨5, _⟩ => ⟨S4x4096x2048, .bf16⟩
  | .hbm, ⟨6, _⟩ => ⟨S4x4096x1024, .f32⟩
  | .hbm, ⟨7, _⟩ => ⟨S8x9216, .f32⟩
  | .hbm, ⟨8, _⟩ => ⟨S2048, .f32⟩
  | .hbm, ⟨9, _⟩ => ⟨S2048, .f32⟩
  | .hbm, ⟨10, _⟩ => ⟨S2048x1024, .f32⟩
  | .hbm, ⟨11, _⟩ => ⟨S1024x1024, .f32⟩
  | .hbm, ⟨12, _⟩ => ⟨S1024x1024, .f32⟩
  | .hbm, ⟨13, _⟩ => ⟨S8x9x1024, .f32⟩
  | .hbm, ⟨14, _⟩ => ⟨S2048x1024, .bf16⟩
  | .hbm, ⟨15, _⟩ => ⟨S1024x1024, .bf16⟩
  | .hbm, ⟨16, _⟩ => ⟨S1024x1024, .bf16⟩
  | .hbm, ⟨17, _⟩ => ⟨S1x2048, .f32⟩
  | .hbm, ⟨18, _⟩ => ⟨S1x2048, .f32⟩
  | .hbm, ⟨19, _⟩ => ⟨S4x4096x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x512x1024, .f32⟩
  | .local _ .vmem, ⟨13, _⟩ => ⟨S1x512x1024, .f32⟩
  | .local _ .vmem, ⟨14, _⟩ => ⟨S1x9x1024, .f32⟩
  | .local _ .vmem, ⟨15, _⟩ => ⟨S1x9x1024, .f32⟩
  | .local _ .vmem, ⟨16, _⟩ => ⟨S1x2048, .f32⟩
  | .local _ .vmem, ⟨17, _⟩ => ⟨S1x2048, .f32⟩
  | .local _ .vmem, ⟨18, _⟩ => ⟨S2048x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1x512x1024, .f32⟩
  | .local _ .vmem, ⟨22, _⟩ => ⟨S1x512x1024, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S4x4096x2048 : Shape := ⟨3, ![4, 4096, 2048]⟩
abbrev S4x4096x1024 : Shape := ⟨3, ![4, 4096, 1024]⟩
abbrev S8x9216 : Shape := ⟨2, ![8, 9216]⟩
abbrev S2048 : Shape := ⟨1, ![2048]⟩
abbrev S2048x1024 : Shape := ⟨2, ![2048, 1024]⟩
abbrev S1024x1024 : Shape := ⟨2, ![1024, 1024]⟩
abbrev S4x9216 : Shape := ⟨2, ![4, 9216]⟩
abbrev S4x1024 : Shape := ⟨2, ![4, 1024]⟩
abbrev S4x4096x4x512 : Shape := ⟨4, ![4, 4096, 4, 512]⟩
abbrev S_ : Shape := ⟨0, ![]⟩
abbrev S4x4096x4 : Shape := ⟨3, ![4, 4096, 4]⟩
abbrev S4x4096x4x1 : Shape := ⟨4, ![4, 4096, 4, 1]⟩
abbrev S1x1x2048 : Shape := ⟨3, ![1, 1, 2048]⟩
abbrev S4x1x1024 : Shape := ⟨3, ![4, 1, 1024]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S4x4096x2048, .bf16⟩
  | .hbm, ⟨2, _⟩ => ⟨S4x4096x2048, .bf16⟩
  | .hbm, ⟨3, _⟩ => ⟨S4x4096x2048, .bf16⟩
  | .hbm, ⟨4, _⟩ => ⟨S4x4096x1024, .bf16⟩
  | .hbm, ⟨5, _⟩ => ⟨S4x4096x2048, .bf16⟩
  | .hbm, ⟨6, _⟩ => ⟨S4x4096x1024, .f32⟩
  | .hbm, ⟨7, _⟩ => ⟨S8x9216, .f32⟩
  | .hbm, ⟨8, _⟩ => ⟨S2048, .f32⟩
  | .hbm, ⟨9, _⟩ => ⟨S2048, .f32⟩
  | .hbm, ⟨10, _⟩ => ⟨S2048x1024, .f32⟩
  | .hbm, ⟨11, _⟩ => ⟨S1024x1024, .f32⟩
  | .hbm, ⟨12, _⟩ => ⟨S1024x1024, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x1024, .f32⟩
  | .hbm, ⟨18, _⟩ => ⟨S4x4096x2048, .f32⟩
  | .hbm, ⟨19, _⟩ => ⟨S4x9216, .f32⟩
  | .hbm, ⟨20, _⟩ => ⟨S4x1024, .f32⟩
  | .hbm, ⟨21, _⟩ => ⟨S4x1024, .f32⟩
  | .hbm, ⟨22, _⟩ => ⟨S4x1024, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S4x1024, .f32⟩
  | .hbm, ⟨29, _⟩ => ⟨S4x4096x2048, .f32⟩
  | .hbm, ⟨30, _⟩ => ⟨S4x4096x4x512, .f32⟩
  | .hbm, ⟨31, _⟩ => ⟨S4x4096x4x512, .f32⟩
  | .hbm, ⟨32, _⟩ => ⟨S_, .f32⟩
  | .hbm, ⟨33, _⟩ => ⟨S4x4096x4, .f32⟩
  | .hbm, ⟨34, _⟩ => ⟨S4x4096x4x1, .f32⟩
  | .hbm, ⟨35, _⟩ => ⟨S_, .f32⟩
  | .hbm, ⟨36, _⟩ => ⟨S4x4096x4x1, .f32⟩
  | .hbm, ⟨37, _⟩ => ⟨S4x4096x4x1, .f32⟩
  | .hbm, ⟨38, _⟩ => ⟨S_, .f32⟩
  | .hbm, ⟨39, _⟩ => ⟨S4x4096x4x1, .f32⟩
  | .hbm, ⟨40, _⟩ => ⟨S4x4096x4x1, .f32⟩
  | .hbm, ⟨41, _⟩ => ⟨S4x4096x4x1, .f32⟩
  | .hbm, ⟨42, _⟩ => ⟨S4x4096x4x512, .f32⟩
  | .hbm, ⟨43, _⟩ => ⟨S4x4096x4x512, .f32⟩
  | .hbm, ⟨44, _⟩ => ⟨S4x4096x2048, .f32⟩
  | .hbm, ⟨45, _⟩ => ⟨S4x4096x2048, .f32⟩
  | .hbm, ⟨46, _⟩ => ⟨S_, .f32⟩
  | .hbm, ⟨47, _⟩ => ⟨S4x4096x2048, .f32⟩
  | .hbm, ⟨48, _⟩ => ⟨S4x4096x2048, .f32⟩
  | .hbm, ⟨49, _⟩ => ⟨S_, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S1x1x2048, .f32⟩
  | .hbm, ⟨54, _⟩ => ⟨S4x4096x2048, .f32⟩
  | .hbm, ⟨55, _⟩ => ⟨S4x4096x2048, .f32⟩
  | .hbm, ⟨56, _⟩ => ⟨S1x1x2048, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S4x4096x2048, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x4096x1024, .f32⟩
  | .hbm, ⟨67, _⟩ => ⟨S4x4096x1024, .f32⟩
  | .hbm, ⟨68, _⟩ => ⟨S_, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S_, .f32⟩
  | .hbm, ⟨76, _⟩ => ⟨S4x4096x1024, .f32⟩
  | .hbm, ⟨77, _⟩ => ⟨S4x4096x1024, .f32⟩
  | .hbm, ⟨78, _⟩ => ⟨S_, .f32⟩
  | .hbm, ⟨79, _⟩ => ⟨S4x4096x1024, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S4x4096x1024, .f32⟩
  | .hbm, ⟨84, _⟩ => ⟨S4x1x1024, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S4x4096x1024, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_cst_7 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Kernel6.lean ====
abbrev S4x4096x3072 : Shape := ⟨3, ![4, 4096, 3072]⟩
abbrev S3x3072 : Shape := ⟨2, ![3, 3072]⟩
abbrev S3072 : Shape := ⟨1, ![3072]⟩
abbrev S1x3072 : Shape := ⟨2, ![1, 3072]⟩
abbrev S4x4096x1024 : Shape := ⟨3, ![4, 4096, 1024]⟩
abbrev S1x16x3072 : Shape := ⟨3, ![1, 16, 3072]⟩
abbrev S1x512x3072 : Shape := ⟨3, ![1, 512, 3072]⟩
abbrev S1x512x1024 : Shape := ⟨3, ![1, 512, 1024]⟩
abbrev S512x3072 : Shape := ⟨2, ![512, 3072]⟩
abbrev S1x1x3072 : Shape := ⟨3, ![1, 1, 3072]⟩
abbrev S512x1024 : Shape := ⟨2, ![512, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4x4096x3072, .bf16⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S4x4096x1024, .bf16⟩
  | .hbm, ⟨5, _⟩ => ⟨S4x4096x1024, .bf16⟩
  | .local _ .vmem, ⟨0, _⟩ => ⟨S1x16x3072, .bf16⟩
  | .local _ .vmem, ⟨1, _⟩ => ⟨S1x16x3072, .bf16⟩
  | .local _ .vmem, ⟨2, _⟩ => ⟨S1x512x3072, .bf16⟩
  | .local _ .vmem, ⟨3, _⟩ => ⟨S1x512x3072, .bf16⟩
  | .local _ .vmem, ⟨4, _⟩ => ⟨S1x16x3072, .bf16⟩
  | .local _ .vmem, ⟨5, _⟩ => ⟨S1x16x3072, .bf16⟩
  | .local _ .vmem, ⟨6, _⟩ => ⟨S3x3072, .f32⟩
  | .local _ .vmem, ⟨7, _⟩ => ⟨S1x3072, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S4x4096x3072 : Shape := ⟨3, ![4, 4096, 3072]⟩
abbrev S3x3072 : Shape := ⟨2, ![3, 3072]⟩
abbrev S3072 : Shape := ⟨1, ![3072]⟩
abbrev S_ : Shape := ⟨0, ![]⟩
abbrev S4x4098x3072 : Shape := ⟨3, ![4, 4098, 3072]⟩
abbrev S1x3072 : Shape := ⟨2, ![1, 3072]⟩
abbrev S1x1x3072 : Shape := ⟨3, ![1, 1, 3072]⟩
abbrev S4x4096x1024 : Shape := ⟨3, ![4, 4096, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x3072, .bf16⟩
  | .hbm, ⟨1, _⟩ => ⟨S3x3072, .f32⟩
  | .hbm, ⟨2, _⟩ => ⟨S3072, .f32⟩
  | .hbm, ⟨3, _⟩ => ⟨S4x4096x3072, .f32⟩
  | .hbm, ⟨4, _⟩ => ⟨S_, .i32⟩
  | .hbm, ⟨5, _⟩ => ⟨S_, .f32⟩
  | .hbm, ⟨6, _⟩ => ⟨S4x4098x3072, .f32⟩
  | .hbm, ⟨7, _⟩ => ⟨S4x4096x3072, .f32⟩
  | .hbm, ⟨8, _⟩ => ⟨S1x3072, .f32⟩
  | .hbm, ⟨9, _⟩ => ⟨S3072, .f32⟩
  | .hbm, ⟨10, _⟩ => ⟨S1x1x3072, .f32⟩
  | .hbm, ⟨11, _⟩ => ⟨S4x4096x3072, .f32⟩
  | .hbm, ⟨12, _⟩ => ⟨S4x4096x3072, .f32⟩
  | .hbm, ⟨13, _⟩ => ⟨S4x4096x3072, .f32⟩
  | .hbm, ⟨14, _⟩ => ⟨S1x3072, .f32⟩
  | .hbm, ⟨15, _⟩ => ⟨S3072, .f32⟩
  | .hbm, ⟨16, _⟩ => ⟨S1x1x3072, .f32⟩
  | .hbm, ⟨17, _⟩ => ⟨S4x4096x3072, .f32⟩
  | .hbm, ⟨18, _⟩ => ⟨S4x4096x3072, .f32⟩
  | .hbm, ⟨19, _⟩ => ⟨S4x4096x3072, .f32⟩
  | .hbm, ⟨20, _⟩ => ⟨S4x4096x3072, .f32⟩
  | .hbm, ⟨21, _⟩ => ⟨S1x3072, .f32⟩
  | .hbm, ⟨22, _⟩ => ⟨S3072, .f32⟩
  | .hbm, ⟨23, _⟩ => ⟨S1x1x3072, .f32⟩
  | .hbm, ⟨24, _⟩ => ⟨S4x4096x3072, .f32⟩
  | .hbm, ⟨25, _⟩ => ⟨S4x4096x3072, .f32⟩
  | .hbm, ⟨26, _⟩ => ⟨S4x4096x3072, .f32⟩
  | .hbm, ⟨27, _⟩ => ⟨S1x1x3072, .f32⟩
  | .hbm, ⟨28, _⟩ => ⟨S4x4096x3072, .f32⟩
  | .hbm, ⟨29, _⟩ => ⟨S4x4096x3072, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S4x4096x1024, .bf16⟩
  | .hbm, ⟨35, _⟩ => ⟨S4x4096x1024, .bf16⟩
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Kernel7.lean ====
abbrev S4x1024 : Shape := ⟨2, ![4, 1024]⟩
abbrev S1024 : Shape := ⟨1, ![1024]⟩
abbrev S1024x9216 : Shape := ⟨2, ![1024, 9216]⟩
abbrev S9216 : Shape := ⟨1, ![9216]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x9216 : Shape := ⟨2, ![1, 9216]⟩
abbrev S8x9216 : Shape := ⟨2, ![8, 9216]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x9216, .f32⟩
  | .hbm, ⟨3, _⟩ => ⟨S9216, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S1x9216, .f32⟩
  | .hbm, ⟨9, _⟩ => ⟨S8x9216, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x1024 : Shape := ⟨2, ![4, 1024]⟩
abbrev S1024 : Shape := ⟨1, ![1024]⟩
abbrev S1024x9216 : Shape := ⟨2, ![1024, 9216]⟩
abbrev S9216 : Shape := ⟨1, ![9216]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S8x9216 : Shape := ⟨2, ![8, 9216]⟩
abbrev S1x9216 : Shape := ⟨2, ![1, 9216]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S1024x9216, .f32⟩
  | .hbm, ⟨3, _⟩ => ⟨S9216, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x9216, .f32⟩
  | .hbm, ⟨18, _⟩ => ⟨S1x9216, .f32⟩
  | .hbm, ⟨19, _⟩ => ⟨S8x9216, .f32⟩
  | .hbm, ⟨20, _⟩ => ⟨S8x9216, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel8.lean ====
abbrev S4x256x1024 : Shape := ⟨3, ![4, 256, 1024]⟩
abbrev S8x9216 : Shape := ⟨2, ![8, 9216]⟩
abbrev S3x1024 : Shape := ⟨2, ![3, 1024]⟩
abbrev S1024x5632 : Shape := ⟨2, ![1024, 5632]⟩
abbrev S2816x1024 : Shape := ⟨2, ![2816, 1024]⟩
abbrev S8x9x1024 : Shape := ⟨3, ![8, 9, 1024]⟩
abbrev S1x256x1024 : Shape := ⟨3, ![1, 256, 1024]⟩
abbrev S1x9x1024 : Shape := ⟨3, ![1, 9, 1024]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S8x9216, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S8x9x1024, .f32⟩
  | .hbm, ⟨6, _⟩ => ⟨S1024x5632, .bf16⟩
  | .hbm, ⟨7, _⟩ => ⟨S2816x1024, .bf16⟩
  | .hbm, ⟨8, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S3x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x256x1024, .f32⟩
  | .local _ .vmem, ⟨7, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S4x256x1024 : Shape := ⟨3, ![4, 256, 1024]⟩
abbrev S8x9216 : Shape := ⟨2, ![8, 9216]⟩
abbrev S3x1024 : Shape := ⟨2, ![3, 1024]⟩
abbrev S1024x5632 : Shape := ⟨2, ![1024, 5632]⟩
abbrev S2816x1024 : Shape := ⟨2, ![2816, 1024]⟩
abbrev S1x9216 : Shape := ⟨2, ![1, 9216]⟩
abbrev S1x1024 : Shape := ⟨2, ![1, 1024]⟩
abbrev S1x1x1024 : Shape := ⟨3, ![1, 1, 1024]⟩
abbrev S_ : Shape := ⟨0, ![]⟩
abbrev S1024 : Shape := ⟨1, ![1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩

abbrev nBuf : Space → Nat
  | .hbm => 63
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S8x9216, .f32⟩
  | .hbm, ⟨2, _⟩ => ⟨S3x1024, .f32⟩
  | .hbm, ⟨3, _⟩ => ⟨S1024x5632, .f32⟩
  | .hbm, ⟨4, _⟩ => ⟨S2816x1024, .f32⟩
  | .hbm, ⟨5, _⟩ => ⟨S1x9216, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1x1024, .f32⟩
  | .hbm, ⟨16, _⟩ => ⟨S_, .f32⟩
  | .hbm, ⟨17, _⟩ => ⟨S1x1x1024, .f32⟩
  | .hbm, ⟨18, _⟩ => ⟨S1x1x1024, .f32⟩
  | .hbm, ⟨19, _⟩ => ⟨S1x1024, .f32⟩
  | .hbm, ⟨20, _⟩ => ⟨S1024, .f32⟩
  | .hbm, ⟨21, _⟩ => ⟨S4x256x1024, .f32⟩
  | .hbm, ⟨22, _⟩ => ⟨S_, .f32⟩
  | .hbm, ⟨23, _⟩ => ⟨S4x256, .f32⟩
  | .hbm, ⟨24, _⟩ => ⟨S4x256x1, .f32⟩
  | .hbm, ⟨25, _⟩ => ⟨S_, .f32⟩
  | .hbm, ⟨26, _⟩ => ⟨S4x256x1, .f32⟩
  | .hbm, ⟨27, _⟩ => ⟨S4x256x1, .f32⟩
  | .hbm, ⟨28, _⟩ => ⟨S_, .f32⟩
  | .hbm, ⟨29, _⟩ => ⟨S4x256x1, .f32⟩
  | .hbm, ⟨30, _⟩ => ⟨S4x256x1, .f32⟩
  | .hbm, ⟨31, _⟩ => ⟨S4x256x1, .f32⟩
  | .hbm, ⟨32, _⟩ => ⟨S4x256x1024, .f32⟩
  | .hbm, ⟨33, _⟩ => ⟨S4x256x1024, .f32⟩
  | .hbm, ⟨34, _⟩ => ⟨S1x1x1024, .f32⟩
  | .hbm, ⟨35, _⟩ => ⟨S4x256x1024, .f32⟩
  | .hbm, ⟨36, _⟩ => ⟨S4x256x1024, .f32⟩
  | .hbm, ⟨37, _⟩ => ⟨S1x1x1024, .f32⟩
  | .hbm, ⟨38, _⟩ => ⟨S_, .f32⟩
  | .hbm, ⟨39, _⟩ => ⟨S1x1x1024, .f32⟩
  | .hbm, ⟨40, _⟩ => ⟨S1x1x1024, .f32⟩
  | .hbm, ⟨41, _⟩ => ⟨S4x256x1024, .f32⟩
  | .hbm, ⟨42, _⟩ => ⟨S4x256x1024, .f32⟩
  | .hbm, ⟨43, _⟩ => ⟨S1x1x1024, .f32⟩
  | .hbm, ⟨44, _⟩ => ⟨S4x256x1024, .f32⟩
  | .hbm, ⟨45, _⟩ => ⟨S4x256x1024, .f32⟩
  | .hbm, ⟨46, _⟩ => ⟨S4x256x5632, .f32⟩
  | .hbm, ⟨47, _⟩ => ⟨S4x256x2816, .f32⟩
  | .hbm, ⟨48, _⟩ => ⟨S4x256x2816, .f32⟩
  | .hbm, ⟨49, _⟩ => ⟨S4x256x2816, .f32⟩
  | .hbm, ⟨50, _⟩ => ⟨S4x256x2816, .f32⟩
  | .hbm, ⟨51, _⟩ => ⟨S_, .f32⟩
  | .hbm, ⟨52, _⟩ => ⟨S4x256x2816, .f32⟩
  | .hbm, ⟨53, _⟩ => ⟨S4x256x2816, .f32⟩
  | .hbm, ⟨54, _⟩ => ⟨S_, .f32⟩
  | .hbm, ⟨55, _⟩ => ⟨S4x256x2816, .f32⟩
  | .hbm, ⟨56, _⟩ => ⟨S4x256x2816, .f32⟩
  | .hbm, ⟨57, _⟩ => ⟨S4x256x2816, .f32⟩
  | .hbm, ⟨58, _⟩ => ⟨S4x256x2816, .f32⟩
  | .hbm, ⟨59, _⟩ => ⟨S4x256x1024, .f32⟩
  | .hbm, ⟨60, _⟩ => ⟨S4x256x1024, .f32⟩
  | .hbm, ⟨61, _⟩ => ⟨S4x256x1024, .f32⟩
  | .hbm, ⟨62, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel9.lean ====
abbrev S4x256x1024 : Shape := ⟨3, ![4, 256, 1024]⟩
abbrev S8x9216 : Shape := ⟨2, ![8, 9216]⟩
abbrev S3x1024 : Shape := ⟨2, ![3, 1024]⟩
abbrev S1024x9216 : Shape := ⟨2, ![1024, 9216]⟩
abbrev S8x9x1024 : Shape := ⟨3, ![8, 9, 1024]⟩
abbrev S1024x2048 : Shape := ⟨2, ![1024, 2048]⟩
abbrev S4x256x2048 : Shape := ⟨3, ![4, 256, 2048]⟩
abbrev S1x256x1024 : Shape := ⟨3, ![1, 256, 1024]⟩
abbrev S1x9x1024 : Shape := ⟨3, ![1, 9, 1024]⟩
abbrev S1x256x2048 : Shape := ⟨3, ![1, 256, 2048]⟩
abbrev S256x1024 : Shape := ⟨2, ![256, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S256x2048 : Shape := ⟨2, ![256, 2048]⟩

abbrev nBuf : Space → Nat
  | .hbm => 8
  | .vmem => 7
  | .smem => 0
  | _ => 0

abbrev bufTy : (tb : Table) → Fin (tcTables nBuf tb) → BufTy
  | .hbm, ⟨0, _⟩ => ⟨S4x256x1024, .f32⟩
  | .hbm, ⟨1, _⟩ => ⟨S8x9216, .f32⟩
  | .hbm, ⟨2, _⟩ => ⟨S3x1024, .f32⟩
  | .hbm, ⟨3, _⟩ => ⟨S1024x9216, .f32⟩
  | .hbm, ⟨4, _⟩ => ⟨S8x9x1024, .f32⟩
  | .hbm, ⟨5, _⟩ => ⟨S1024x2048, .f32⟩
  | .hbm, ⟨6, _⟩ => ⟨S1024x2048, .bf16⟩
  | .hbm, ⟨7, _⟩ => ⟨S4x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x9x1024, .f32⟩
  | .local _ .vmem, ⟨3, _⟩ => ⟨S3x1024, .f32⟩
  | .local _ .vmem, ⟨4, _⟩ => ⟨S1024x2048, .bf16⟩
  | .local _ .vmem, ⟨5, _⟩ => ⟨S1x256x2048, .bf16⟩
  | .local _ .vmem, ⟨6, _⟩ => ⟨S1x256x2048, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S4x256x1024 : Shape := ⟨3, ![4, 256, 1024]⟩
abbrev S8x9216 : Shape := ⟨2, ![8, 9216]⟩
abbrev S3x1024 : Shape := ⟨2, ![3, 1024]⟩
abbrev S1024x9216 : Shape := ⟨2, ![1024, 9216]⟩
abbrev S1x9216 : Shape := ⟨2, ![1, 9216]⟩
abbrev S1x1024 : Shape := ⟨2, ![1, 1024]⟩
abbrev S1024 : Shape := ⟨1, ![1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x2048 : Shape := ⟨2, ![1024, 2048]⟩
abbrev S4x256x2048 : Shape := ⟨3, ![4, 256, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S8x9216, .f32⟩
  | .hbm, ⟨2, _⟩ => ⟨S3x1024, .f32⟩
  | .hbm, ⟨3, _⟩ => ⟨S1024x9216, .f32⟩
  | .hbm, ⟨4, _⟩ => ⟨S1x9216, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S4x256x1024, .f32⟩
  | .hbm, ⟨17, _⟩ => ⟨S_, .f32⟩
  | .hbm, ⟨18, _⟩ => ⟨S4x256, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S_, .f32⟩
  | .hbm, ⟨24, _⟩ => ⟨S4x256x1, .f32⟩
  | .hbm, ⟨25, _⟩ => ⟨S4x256x1, .f32⟩
  | .hbm, ⟨26, _⟩ => ⟨S4x256x1, .f32⟩
  | .hbm, ⟨27, _⟩ => ⟨S4x256x1024, .f32⟩
  | .hbm, ⟨28, _⟩ => ⟨S4x256x1024, .f32⟩
  | .hbm, ⟨29, _⟩ => ⟨S1x1x1024, .f32⟩
  | .hbm, ⟨30, _⟩ => ⟨S4x256x1024, .f32⟩
  | .hbm, ⟨31, _⟩ => ⟨S4x256x1024, .f32⟩
  | .hbm, ⟨32, _⟩ => ⟨S1x1x1024, .f32⟩
  | .hbm, ⟨33, _⟩ => ⟨S_, .f32⟩
  | .hbm, ⟨34, _⟩ => ⟨S1x1x1024, .f32⟩
  | .hbm, ⟨35, _⟩ => ⟨S1x1x1024, .f32⟩
  | .hbm, ⟨36, _⟩ => ⟨S4x256x1024, .f32⟩
  | .hbm, ⟨37, _⟩ => ⟨S4x256x1024, .f32⟩
  | .hbm, ⟨38, _⟩ => ⟨S1x1x1024, .f32⟩
  | .hbm, ⟨39, _⟩ => ⟨S4x256x1024, .f32⟩
  | .hbm, ⟨40, _⟩ => ⟨S4x256x1024, .f32⟩
  | .hbm, ⟨41, _⟩ => ⟨S1024x2048, .f32⟩
  | .hbm, ⟨42, _⟩ => ⟨S4x256x2048, .f32⟩
  | .hbm, ⟨43, _⟩ => ⟨S4x256x2048, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Proof.RefRun.lean ====
/- The reference's loop, stated over its step: a valuation that holds a state at trip `j` holds `step j` of it after one trip. -/
module

public import proofs.«01_k».proof.Proof.Gen.ReferenceIdeal.Run
public import proofs.«01_k».proof.Proof.Gen.ReferenceIdeal.Step

@[expose] public section

set_option maxRecDepth 16384

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The carried buffers of `V0` are the fields of `s`, and its counter is at `j`. -/
structure Holds (V0 : Valuation τ sig (Elt F)) (s : State F) (j : ℕ) : Prop where
  f_6 : V0 (Proc.devRef .tc main_v56_6) = s.main_v56_6
  f_7 : V0 (Proc.devRef .tc main_v56_7) = s.main_v56_7
  f_8 : V0 (Proc.devRef .tc main_v56_8) = s.main_v56_8
  f_9 : V0 (Proc.devRef .tc main_v56_9) = s.main_v56_9
  f_0 : V0 (Proc.devRef .tc main_v56_0) = s.main_v56_0
  f_1 : V0 (Proc.devRef .tc main_v56_1) = s.main_v56_1
  f_2 : V0 (Proc.devRef .tc main_v56_2) = s.main_v56_2
  f_3 : V0 (Proc.devRef .tc main_v56_3) = s.main_v56_3
  f_4 : V0 (Proc.devRef .tc main_v56_4) = s.main_v56_4
  n_5 : V0 (Proc.devRef .tc main_v56_5) = constantI S_ 32 (BitVec.ofNat 32 j)

variable {V0 : Valuation τ sig (Elt F)} {s : State F} {j : ℕ}

/-! The values a trip names, each the step's own. -/

theorem v68 (h : Holds V0 s j) : res_main_while0b_v68 V0 = Step.b5 j s := by
  unfold res_main_while0b_v68; rw [h.f_0, h.n_5]; rfl

theorem v69 (h : Holds V0 s j) : res_main_while0b_v69 V0 = Step.b11 j s := by
  unfold res_main_while0b_v69; rw [h.f_1, h.n_5]; rfl

theorem v70 (h : Holds V0 s j) : res_main_while0b_v70 V0 = Step.b17 j s := by
  unfold res_main_while0b_v70; rw [h.f_2, h.n_5]; rfl

theorem v71 (h : Holds V0 s j) : res_main_while0b_v71 V0 = Step.b22 j s := by
  unfold res_main_while0b_v71; rw [h.f_3, h.n_5]; rfl

theorem v73 (h : Holds V0 s j) : res_main_while0b_v73 V0 = Step.b30 j s := by
  unfold res_main_while0b_v73; rw [h.f_4, h.n_5]; rfl

theorem v84 (h : Holds V0 s j) : res_main_while0b_v84 V0 = Step.b54 j s := by
  unfold res_main_while0b_v84; rw [v73 h, v71 h]; rfl

theorem v87 (h : Holds V0 s j) : res_main_while0b_v87 V0 = Step.b57 j s := by
  unfold res_main_while0b_v87; rw [v73 h, h.f_8]; rfl

theorem v89 (h : Holds V0 s j) : res_main_while0b_v89 V0 = Step.b60 j s := by
  unfold res_main_while0b_v89; rw [v87 h, v84 h]; rfl

theorem v95 (h : Holds V0 s j) : res_main_while0b_v95 V0 = Step.b66 j s := by
  unfold res_main_while0b_v95; rw [v87 h, v89 h]; rfl

theorem v97 (h : Holds V0 s j) : res_main_while0b_v97 V0 = Step.b68 j s := by
  unfold res_main_while0b_v97; rw [v68 h, v69 h, v84 h, v89 h]; rfl

theorem v116 (h : Holds V0 s j) : res_main_while0b_v116 V0 = Step.b88 j s := by
  unfold res_main_while0b_v116; rw [v73 h]; rfl

theorem v120 (h : Holds V0 s j) : res_main_while0b_v120 V0 = Step.b92 j s := by
  unfold res_main_while0b_v120; rw [v116 h, v73 h, v71 h]; rfl

theorem v123 (h : Holds V0 s j) : res_main_while0b_v123 V0 = Step.b96 j s := by
  unfold res_main_while0b_v123; rw [v116 h, h.f_8, v120 h]; rfl

theorem v126 (h : Holds V0 s j) : res_main_while0b_v126 V0 = Step.b99 j s := by
  unfold res_main_while0b_v126; rw [v116 h, h.f_8, v123 h]; rfl

theorem v133 (h : Holds V0 s j) : res_main_while0b_v133 V0 = Step.b106 j s := by
  unfold res_main_while0b_v133; rw [v69 h, v120 h, v123 h]; rfl

theorem step_6 (h : Holds V0 s j) : step_main_v56_6 V0 = Step.b111 j s := by
  unfold step_main_v56_6; rw [v126 h, h.f_6, v133 h, v70 h]; rfl

theorem step_7 (h : Holds V0 s j) : step_main_v56_7 V0 = Step.b117 j s := by
  unfold step_main_v56_7; rw [v126 h, h.f_7, v133 h]; rfl

theorem step_8 (h : Holds V0 s j) : step_main_v56_8 V0 = Step.b96 j s := by
  unfold step_main_v56_8; rw [v123 h]; rfl

theorem step_9 (h : Holds V0 s j) : step_main_v56_9 V0 = Step.b123 j s := by
  unfold step_main_v56_9; rw [h.f_9, h.n_5, v97 h, v70 h, v95 h, v68 h, h.f_6, h.f_7, v89 h]; rfl

theorem step_5 (h : Holds V0 s j) : step_main_v56_5 V0 = constantI S_ 32 (BitVec.ofNat 32 (j + 1)) := by
  unfold step_main_v56_5
  rw [h.n_5]
  funext i
  show BitVec.ofNat 32 j + 1#32 = BitVec.ofNat 32 (j + 1)
  simp only [BitVec.ofNat_add]

/-- One trip. -/
theorem next (h : Holds V0 s j) : Holds (STEP V0) (step j s) (j + 1) where
  f_6 := (STEP_main_v56_6 V0).trans (step_6 h)
  f_7 := (STEP_main_v56_7 V0).trans (step_7 h)
  f_8 := (STEP_main_v56_8 V0).trans (step_8 h)
  f_9 := (STEP_main_v56_9 V0).trans (step_9 h)
  n_5 := (STEP_main_v56_5 V0).trans (step_5 h)
  f_0 := (STEP_main_v56_0 V0).trans h.f_0
  f_1 := (STEP_main_v56_1 V0).trans h.f_1
  f_2 := (STEP_main_v56_2 V0).trans h.f_2
  f_3 := (STEP_main_v56_3 V0).trans h.f_3
  f_4 := (STEP_main_v56_4 V0).trans h.f_4

theorem res_62 (h : Holds V0 s j) : out_main_v62 V0 = Step.R_main_v62 s := by
  unfold out_main_v62; rw [h.f_9]; rfl

theorem res_67 (h : Holds V0 s j) : out_main_v67 V0 = Step.R_main_v67 s := by
  unfold out_main_v67; rw [h.f_9]; rfl

variable (m : (ℓ : Loc nD τ sig) → Buf (Elt F) ℓ) (c : Dev nD)

/-- The state before the first trip. -/
def start : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The state before trip `k`. -/
def iter : ℕ → State F
  | 0 => start m c
  | k + 1 => step k (iter k)

set_option maxHeartbeats 600000 in
theorem entry : Holds (entryContents preI m c) (start m c) 0 := by
  constructor <;> (simp only [entryContents, afterL_cons, afterL_nil]; after_reads_simp) <;> rfl

theorem holds_iter : ∀ k, Holds (STEP^[k] (entryContents preI m c)) (iter m c k) k
  | 0 => entry m c
  | k + 1 => by
    rw [Function.iterate_succ_apply']
    exact next (holds_iter k)

/-- The reference ends, its two results read off the state after the last of the 32 trips, its arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v62) = Step.R_main_v62 (iter m c 32)
      ∧ r.2.mem ((c.tc : Thread nD τ).loc main_v67) = Step.R_main_v67 (iter m c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c 32
    ⟨(h c).1.trans (res_62 hk), (h c).2.1.trans (res_67 hk), (h c).2.2⟩) (Value.run m ρ)

end Cert.RefRun

end
-- ==== Proof.ConvMath.lean ====
/-
  A channel of the short convolution, over the extended reals.
-/
module

public import Idealize.ShloMosaic.Lib.Pointwise

@[expose] public section

noncomputable section

open Idealize.ShloMosaic

namespace Cert.Conv

/-- The channel one position earlier, zero before the first. -/
def before (x : Fin 4096 → EReal) (l : Fin 4096) : EReal := if l.val = 0 then 0 else x ⟨l.val - 1, by omega⟩

/-- The channel one position later, zero after the last. -/
def after (x : Fin 4096 → EReal) (l : Fin 4096) : EReal := if h : l.val = 4095 then 0 else x ⟨l.val + 1, by omega⟩

/-- The channel convolved with three weights, and the bias. -/
def conv (x : Fin 4096 → EReal) (w0 w1 w2 b : EReal) (l : Fin 4096) : EReal := before x l * w0 + x l * w1 + after x l * w2 + b

end Cert.Conv

end
-- ==== Proof.ConvKernel.lean ====
/-
  The short convolution and the first gate as the kernel computes them: a grid point's blocks as functions of the blocks it
  loads, these blocks in terms of the arguments, and the arrays the grid leaves.
-/
module

public import proofs.«01_k».proof.Proof.ConvMath
public import proofs.«01_k».proof.Proof.Gen.Kernel6Ideal.Value
public import Idealize.ShloMosaic.Lib.Pipeline.ValueKit
public import Idealize.ShloMosaic.Lib.Pipeline.ReadBack
public import Idealize.ShloMosaic.Lib.Claim

@[expose] public section

set_option maxRecDepth 16384

noncomputable section

namespace Cert.Kernel6Ideal.Hyena

open Cert.Conv
open Cert.Kernel6Ideal Cert.Kernel6Ideal.Gen Idealize.ShloMosaic Idealize.ShloMosaic.TcCoe
open Idealize.ShloMosaic.Pointwise

/-! ## What a point computes -/

/-- A choice by a comparison of two small numbers. -/
theorem sel (n k : Nat) (hn : n < 2 ^ 32) (hk : k < 2 ^ 32) (x y : EReal) :
    Scalar.select (IntOp.cmpi CmpIPredicate.eq (BitVec.ofNat 32 n) (BitVec.ofNat 32 k)) x y = if n = k then x else y := by
  have e : (BitVec.ofNat 32 n == BitVec.ofNat 32 k) = decide (n = k) := by
    rw [Bool.eq_iff_iff, beq_iff_eq, decide_eq_true_iff]
    constructor
    · intro h
      have h := congrArg BitVec.toNat h
      rw [BitVec.toNat_ofNat, BitVec.toNat_ofNat, Nat.mod_eq_of_lt hn, Nat.mod_eq_of_lt hk] at h
      exact h
    · rintro rfl
      rfl
  by_cases h : n = k <;> simp [Scalar.select, IntOp.cmpi, e, h]

theorem pay5_at (i : grid0.Coords) (v0 : Vec Ideal S1x512x3072 .bf16) (v6 : Vec Ideal S1x1x3072 .bf16) (r : Fin 512) (j : Fin 3072) (k : Nat) (hk : (i 1).val = k) (k8 : k < 8) :
    k0_pay5 (F := Ideal) i v0 v6 (ix2 r j) = if h : r.val = 511 then (if k = 7 then 0 else v6 (ix3 0 0 j)) else v0 (ix3 0 ⟨r.val + 1, by omega⟩ j) := by
  pointwise [k0_pay5, k0_pay4]
  refine (sel r.val 511 (by omega) (by decide) _ _).trans ?_
  by_cases h : r.val = 511
  · rw [if_pos h, dif_pos h, hk]
    exact sel k 7 (by omega) (by decide) _ _
  · rw [if_neg h, dif_neg h]
    exact congrArg (fun r => v0 (ix3 0 r j)) (Fin.ext (by show (r.val + 512 - 511) % 512 = r.val + 1; omega))

theorem pay6_at (i : grid0.Coords) (v0 : Vec Ideal S1x512x3072 .bf16) (v3 : Vec Ideal S1x1x3072 .bf16) (v28 v31 : Vec Ideal S1x3072 .f32) (r : Fin 512) (j : Fin 3072)
    (k : Nat) (hk : (i 1).val = k) (k8 : k < 8) :
    k0_pay6 (F := Ideal) i v0 v3 v28 v31 (ix2 r j)
      = (if r.val = 0 then (if k = 0 then 0 else v3 (ix3 0 0 j)) else v0 (ix3 0 ⟨r.val - 1, by omega⟩ j)) * v28 (ix2 0 j) + v0 (ix3 0 r j) * v31 (ix2 0 j) := by
  pointwise [k0_pay6, k0_pay4]
  refine congrArg (fun z => z * v28 (ix2 0 j) + v0 (ix3 0 r j) * v31 (ix2 0 j)) ?_
  refine (sel r.val 0 (by omega) (by decide) _ _).trans ?_
  by_cases h : r.val = 0
  · rw [if_pos h, if_pos h, hk]
    exact sel k 0 (by omega) (by decide) _ _
  · rw [if_neg h, if_neg h]
    exact congrArg (fun r => v0 (ix3 0 r j)) (Fin.ext (by show (r.val + 512 - 1) % 512 = r.val - 1; omega))

theorem pay1_at (v27 v34 : FVec Ideal S512x3072 .f32) (v35 v39 : Vec Ideal S1x3072 .f32) (r : Fin 512) (j : Fin 3072) :
    k0_pay1 (F := Ideal) v27 v34 v35 v39 (ix2 r j) = v34 (ix2 r j) + v27 (ix2 r j) * v35 (ix2 0 j) + v39 (ix2 0 j) := by
  pointwise [k0_pay1]

theorem pay2_at (v27 v34 : FVec Ideal S512x3072 .f32) (v35 v39 : Vec Ideal S1x3072 .f32) (r : Fin 512) (j : Fin 1024) :
    k0_pay2 (F := Ideal) v27 v34 v35 v39 (ix3 0 r j) = k0_pay1 (F := Ideal) v27 v34 v35 v39 (ix2 r ⟨j.val, by omega⟩) := by
  pointwise [k0_pay2]

theorem pay3_at (v27 v34 : FVec Ideal S512x3072 .f32) (v35 v39 : Vec Ideal S1x3072 .f32) (r : Fin 512) (j : Fin 1024) :
    k0_pay3 (F := Ideal) v27 v34 v35 v39 (ix3 0 r j)
      = k0_pay1 (F := Ideal) v27 v34 v35 v39 (ix2 r ⟨1024 + j.val, by omega⟩) * k0_pay1 (F := Ideal) v27 v34 v35 v39 (ix2 r ⟨2048 + j.val, by omega⟩) := by
  pointwise [k0_pay3]

/-- A point's convolution at an index, of the values it loads. -/
theorem conv_at (i : grid0.Coords) (k : Nat) (hk : (i 1).val = k) (k8 : k < 8) (A : Vec Ideal S1x512x3072 .bf16) (B C : Vec Ideal S1x1x3072 .bf16) (W0 W1 W2 D : Vec Ideal S1x3072 .f32)
    (r : Fin 512) (j : Fin 3072) (x : Fin 4096 → EReal) (w0 w1 w2 d : EReal)
    (hA : ∀ r : Fin 512, A (ix3 0 r j) = x ⟨512 * k + r.val, by omega⟩) (hB : 0 < k → B (ix3 0 0 j) = x ⟨512 * k - 1, by omega⟩)
    (hC : ∀ h : k < 7, C (ix3 0 0 j) = x ⟨512 * k + 512, by omega⟩)
    (h0 : W0 (ix2 0 j) = w0) (h1 : W1 (ix2 0 j) = w1) (h2 : W2 (ix2 0 j) = w2) (hd : D (ix2 0 j) = d) :
    k0_pay1 (F := Ideal) (k0_pay5 i A C) (k0_pay6 i A B W0 W1) W2 D (ix2 r j) = conv x w0 w1 w2 d ⟨512 * k + r.val, by omega⟩ := by
  rw [pay1_at, pay5_at i A C r j k hk k8, pay6_at i A B W0 W1 r j k hk k8, h0, h1, h2, hd, hA r, conv]
  have eB : (if r.val = 0 then (if k = 0 then 0 else B (ix3 0 0 j)) else A (ix3 0 ⟨r.val - 1, by omega⟩ j)) = before x ⟨512 * k + r.val, by omega⟩ := by
    rw [before]
    by_cases h : r.val = 0
    · rw [if_pos h]
      by_cases h' : k = 0
      · rw [if_pos h', if_pos (by show 512 * k + r.val = 0; omega)]
      · rw [if_neg h', if_neg (by show ¬(512 * k + r.val = 0); omega), hB (by omega)]
        exact congrArg x (Fin.ext (by show 512 * k - 1 = 512 * k + r.val - 1; omega))
    · rw [if_neg h, if_neg (by show ¬(512 * k + r.val = 0); omega), hA]
      exact congrArg x (Fin.ext (by show 512 * k + (r.val - 1) = 512 * k + r.val - 1; omega))
  have eC : (if h : r.val = 511 then (if k = 7 then 0 else C (ix3 0 0 j)) else A (ix3 0 ⟨r.val + 1, by omega⟩ j)) = after x ⟨512 * k + r.val, by omega⟩ := by
    rw [after]
    by_cases h : r.val = 511
    · rw [dif_pos h]
      by_cases h' : k = 7
      · rw [if_pos h', dif_pos (by show 512 * k + r.val = 4095; omega)]
      · rw [if_neg h', dif_neg (by show ¬(512 * k + r.val = 4095); omega), hC (by omega)]
        exact congrArg x (Fin.ext (by show 512 * k + 512 = 512 * k + r.val + 1; omega))
    · rw [dif_neg h, dif_neg (by show ¬(512 * k + r.val = 4095); omega), hA]
      exact congrArg x (Fin.ext (by show 512 * k + (r.val + 1) = 512 * k + r.val + 1; omega))
  rw [eB, eC]

/-! ## The loads of parts of a block -/

theorem ld0 (x : Vec Ideal S1x512x3072 .bf16) (r : Fin 512) (j : Fin 3072) : View.ld (Val := Elt Ideal) (e' := .bf16) x r0_0 (ix3 0 r j) = x (ix3 0 r j) := by
  refine congrArg x (funext fun a => Fin.ext ?_)
  fin_cases a
  · rfl
  · show 0 + 1 * r.val = r.val
    omega
  · show 0 + 1 * j.val = j.val
    omega

theorem ld1 (x : Vec Ideal S1x16x3072 .bf16) (j : Fin 3072) : View.ld (Val := Elt Ideal) (e' := .bf16) x r0_1 (ix3 0 0 j) = x (ix3 0 15 j) := by
  refine congrArg x (funext fun a => Fin.ext ?_)
  fin_cases a
  · rfl
  · rfl
  · show 0 + 1 * j.val = j.val
    omega

theorem ld2 (x : Vec Ideal S1x16x3072 .bf16) (j : Fin 3072) : View.ld (Val := Elt Ideal) (e' := .bf16) x r0_2 (ix3 0 0 j) = x (ix3 0 0 j) := by
  refine congrArg x (funext fun a => Fin.ext ?_)
  fin_cases a
  · rfl
  · rfl
  · show 0 + 1 * j.val = j.val
    omega

theorem ld3 (x : Vec Ideal S3x3072 .f32) (j : Fin 3072) : View.ld (Val := Elt Ideal) (e' := .f32) x r0_3 (ix2 0 j) = x (ix2 0 j) := by
  refine congrArg x (funext fun a => Fin.ext ?_)
  fin_cases a
  · rfl
  · show 0 + 1 * j.val = j.val
    omega

theorem ld4 (x : Vec Ideal S3x3072 .f32) (j : Fin 3072) : View.ld (Val := Elt Ideal) (e' := .f32) x r0_4 (ix2 0 j) = x (ix2 1 j) := by
  refine congrArg x (funext fun a => Fin.ext ?_)
  fin_cases a
  · rfl
  · show 0 + 1 * j.val = j.val
    omega

theorem ld5 (x : Vec Ideal S3x3072 .f32) (j : Fin 3072) : View.ld (Val := Elt Ideal) (e' := .f32) x r0_5 (ix2 0 j) = x (ix2 2 j) := by
  refine congrArg x (funext fun a => Fin.ext ?_)
  fin_cases a
  · rfl
  · show 0 + 1 * j.val = j.val
    omega

/-- A point's block of the gate at an index, of the blocks it loads. -/
theorem outG_at (i : grid0.Coords) (k : Nat) (hk : (i 1).val = k) (k8 : k < 8) (x0 : Vec Ideal S1x16x3072 .bf16) (x1 : Vec Ideal S1x512x3072 .bf16) (x2 : Vec Ideal S1x16x3072 .bf16)
    (x3 : Vec Ideal S3x3072 .f32) (x4 : Vec Ideal S1x3072 .f32) (x : Fin 4096 → Fin 3072 → EReal) (w : Fin 3 → Fin 3072 → EReal) (d : Fin 3072 → EReal)
    (h1 : ∀ (r : Fin 512) j, x1 (ix3 0 r j) = x ⟨512 * k + r.val, by omega⟩ j) (h0 : 0 < k → ∀ j, x0 (ix3 0 15 j) = x ⟨512 * k - 1, by omega⟩ j)
    (h2 : ∀ h : k < 7, ∀ j, x2 (ix3 0 0 j) = x ⟨512 * k + 512, by omega⟩ j) (h3 : ∀ n j, x3 (ix2 n j) = w n j) (h4 : ∀ j, x4 (ix2 0 j) = d j) (r : Fin 512) (j : Fin 1024) :
    out0_6 (F := Ideal) i x0 x1 x2 x3 x4 (ix3 0 r j) = conv (fun l => x l ⟨j.val, by omega⟩) (w 0 ⟨j.val, by omega⟩) (w 1 ⟨j.val, by omega⟩) (w 2 ⟨j.val, by omega⟩) (d ⟨j.val, by omega⟩) ⟨512 * k + r.val, by omega⟩ := by
  frame_out
  unfold k0_pay7 k0_pay8
  refine (pay2_at _ _ _ _ r j).trans ?_
  exact conv_at i k hk k8 (View.ld (Val := Elt Ideal) (e' := .bf16) x1 r0_0) (View.ld (Val := Elt Ideal) (e' := .bf16) x0 r0_1) (View.ld (Val := Elt Ideal) (e' := .bf16) x2 r0_2) (View.ld (Val := Elt Ideal) (e' := .f32) x3 r0_3)
    (View.ld (Val := Elt Ideal) (e' := .f32) x3 r0_4) (View.ld (Val := Elt Ideal) (e' := .f32) x3 r0_5) x4 r ⟨j.val, by omega⟩ (fun l => x l ⟨j.val, by omega⟩) (w 0 ⟨j.val, by omega⟩) (w 1 ⟨j.val, by omega⟩) (w 2 ⟨j.val, by omega⟩) (d ⟨j.val, by omega⟩)
    (fun r => (ld0 x1 r _).trans (h1 r _)) (fun h => (ld1 x0 _).trans (h0 h _)) (fun h => (ld2 x2 _).trans (h2 h _)) ((ld3 x3 _).trans (h3 0 _)) ((ld4 x3 _).trans (h3 1 _)) ((ld5 x3 _).trans (h3 2 _)) (h4 _)

/-- A point's block of the gated product at an index, of the blocks it loads. -/
theorem outU_at (i : grid0.Coords) (k : Nat) (hk : (i 1).val = k) (k8 : k < 8) (x0 : Vec Ideal S1x16x3072 .bf16) (x1 : Vec Ideal S1x512x3072 .bf16) (x2 : Vec Ideal S1x16x3072 .bf16)
    (x3 : Vec Ideal S3x3072 .f32) (x4 : Vec Ideal S1x3072 .f32) (x : Fin 4096 → Fin 3072 → EReal) (w : Fin 3 → Fin 3072 → EReal) (d : Fin 3072 → EReal)
    (h1 : ∀ (r : Fin 512) j, x1 (ix3 0 r j) = x ⟨512 * k + r.val, by omega⟩ j) (h0 : 0 < k → ∀ j, x0 (ix3 0 15 j) = x ⟨512 * k - 1, by omega⟩ j)
    (h2 : ∀ h : k < 7, ∀ j, x2 (ix3 0 0 j) = x ⟨512 * k + 512, by omega⟩ j) (h3 : ∀ n j, x3 (ix2 n j) = w n j) (h4 : ∀ j, x4 (ix2 0 j) = d j) (r : Fin 512) (j : Fin 1024) :
    out0_5 (F := Ideal) i x0 x1 x2 x3 x4 (ix3 0 r j) = conv (fun l => x l ⟨1024 + j.val, by omega⟩) (w 0 ⟨1024 + j.val, by omega⟩) (w 1 ⟨1024 + j.val, by omega⟩) (w 2 ⟨1024 + j.val, by omega⟩) (d ⟨1024 + j.val, by omega⟩) ⟨512 * k + r.val, by omega⟩
      * conv (fun l => x l ⟨2048 + j.val, by omega⟩) (w 0 ⟨2048 + j.val, by omega⟩) (w 1 ⟨2048 + j.val, by omega⟩) (w 2 ⟨2048 + j.val, by omega⟩) (d ⟨2048 + j.val, by omega⟩) ⟨512 * k + r.val, by omega⟩ := by
  frame_out
  unfold k0_pay7 k0_pay8
  refine (pay3_at _ _ _ _ r j).trans ?_
  exact congrArg₂ (· * ·) (conv_at i k hk k8 (View.ld (Val := Elt Ideal) (e' := .bf16) x1 r0_0) (View.ld (Val := Elt Ideal) (e' := .bf16) x0 r0_1) (View.ld (Val := Elt Ideal) (e' := .bf16) x2 r0_2) (View.ld (Val := Elt Ideal) (e' := .f32) x3 r0_3)
    (View.ld (Val := Elt Ideal) (e' := .f32) x3 r0_4) (View.ld (Val := Elt Ideal) (e' := .f32) x3 r0_5) x4 r ⟨1024 + j.val, by omega⟩ (fun l => x l ⟨1024 + j.val, by omega⟩) (w 0 ⟨1024 + j.val, by omega⟩) (w 1 ⟨1024 + j.val, by omega⟩) (w 2 ⟨1024 + j.val, by omega⟩) (d ⟨1024 + j.val, by omega⟩)
    (fun r => (ld0 x1 r _).trans (h1 r _)) (fun h => (ld1 x0 _).trans (h0 h _)) (fun h => (ld2 x2 _).trans (h2 h _)) ((ld3 x3 _).trans (h3 0 _)) ((ld4 x3 _).trans (h3 1 _)) ((ld5 x3 _).trans (h3 2 _)) (h4 _))
    (conv_at i k hk k8 (View.ld (Val := Elt Ideal) (e' := .bf16) x1 r0_0) (View.ld (Val := Elt Ideal) (e' := .bf16) x0 r0_1) (View.ld (Val := Elt Ideal) (e' := .bf16) x2 r0_2) (View.ld (Val := Elt Ideal) (e' := .f32) x3 r0_3)
    (View.ld (Val := Elt Ideal) (e' := .f32) x3 r0_4) (View.ld (Val := Elt Ideal) (e' := .f32) x3 r0_5) x4 r ⟨2048 + j.val, by omega⟩ (fun l => x l ⟨2048 + j.val, by omega⟩) (w 0 ⟨2048 + j.val, by omega⟩) (w 1 ⟨2048 + j.val, by omega⟩) (w 2 ⟨2048 + j.val, by omega⟩) (d ⟨2048 + j.val, by omega⟩)
    (fun r => (ld0 x1 r _).trans (h1 r _)) (fun h => (ld1 x0 _).trans (h0 h _)) (fun h => (ld2 x2 _).trans (h2 h _)) ((ld3 x3 _).trans (h3 0 _)) ((ld4 x3 _).trans (h3 1 _)) ((ld5 x3 _).trans (h3 2 _)) (h4 _))

/-! ## The blocks of a point, in terms of the arguments -/

section blocks

variable (m : (ℓ : Loc nD τ sig) → Buf (Elt Ideal) ℓ) (c : Dev nD) (t : Fin cfg0.N)

theorem lt32 : t.val < 32 := lt_of_lt_of_eq t.isLt N_0

/-- A point's batch. -/
def bOf : Fin 4 := ⟨t.val / 8, by have := lt32 t; omega⟩
/-- A point's row `r` of the arrays. -/
def rowOf (r : Fin 512) : Fin 4096 := ⟨512 * (t.val % 8) + r.val, by omega⟩
/-- A point's row `r` of the halo before it. -/
def prevOf (r : Fin 16) : Fin 4096 := ⟨16 * (32 * (t.val % 8) - 1) + r.val, by omega⟩
/-- A point's row `r` of the halo after it. -/
def nextOf (r : Fin 16) : Fin 4096 := ⟨16 * min (32 * (t.val % 8) + 32) 255 + r.val, by omega⟩

theorem coord1 : ∀ t : Fin cfg0.N, ((grid0.coords t) 1).val = t.val % 8 := by decide +kernel
theorem idx0 : ∀ t : Fin cfg0.N, (cfg0.win 0).index t = ![t.val / 8, 32 * (t.val % 8) - 1, 0] := by decide +kernel
theorem idx1 : ∀ t : Fin cfg0.N, (cfg0.win 1).index t = ![t.val / 8, t.val % 8, 0] := by decide +kernel
theorem idx2 : ∀ t : Fin cfg0.N, (cfg0.win 2).index t = ![t.val / 8, min (32 * (t.val % 8) + 32) 255, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![t.val / 8, t.val % 8, 0] := by decide +kernel
theorem idx6 : ∀ t : Fin cfg0.N, (cfg0.win 6).index t = ![t.val / 8, t.val % 8, 0] := by decide +kernel

theorem emb0 (r : Fin 16) (j : Fin 3072) : ((cfg0.win 0).blk t).view.emb (ix3 0 r j) = ix3 (bOf t) (prevOf t r) j := by
  funext a
  apply Fin.ext
  fin_cases a
  · blk_simp [idx0]
    exact congrFun (idx0 t) 0
  · blk_simp [idx0]
    show (cfg0.win 0).index t 1 * 16 + r.val = 16 * (32 * (t.val % 8) - 1) + r.val
    rw [congrFun (idx0 t) 1]
    show (32 * (t.val % 8) - 1) * 16 + r.val = 16 * (32 * (t.val % 8) - 1) + r.val
    omega
  · blk_simp [idx0]
    show (cfg0.win 0).index t 2 * 3072 + j.val = j.val
    rw [congrFun (idx0 t) 2]
    show 0 * 3072 + j.val = j.val
    omega

theorem emb1 (r : Fin 512) (j : Fin 3072) : ((cfg0.win 1).blk t).view.emb (ix3 0 r j) = ix3 (bOf t) (rowOf t r) j := by
  funext a
  apply Fin.ext
  fin_cases a
  · blk_simp [idx1]
    exact congrFun (idx1 t) 0
  · blk_simp [idx1]
    show (cfg0.win 1).index t 1 * 512 + r.val = 512 * (t.val % 8) + r.val
    rw [congrFun (idx1 t) 1]
    show (t.val % 8) * 512 + r.val = 512 * (t.val % 8) + r.val
    omega
  · blk_simp [idx1]
    show (cfg0.win 1).index t 2 * 3072 + j.val = j.val
    rw [congrFun (idx1 t) 2]
    show 0 * 3072 + j.val = j.val
    omega

theorem emb2 (r : Fin 16) (j : Fin 3072) : ((cfg0.win 2).blk t).view.emb (ix3 0 r j) = ix3 (bOf t) (nextOf t r) j := by
  funext a
  apply Fin.ext
  fin_cases a
  · blk_simp [idx2]
    exact congrFun (idx2 t) 0
  · blk_simp [idx2]
    show (cfg0.win 2).index t 1 * 16 + r.val = 16 * min (32 * (t.val % 8) + 32) 255 + r.val
    rw [congrFun (idx2 t) 1]
    show min (32 * (t.val % 8) + 32) 255 * 16 + r.val = 16 * min (32 * (t.val % 8) + 32) 255 + r.val
    omega
  · blk_simp [idx2]
    show (cfg0.win 2).index t 2 * 3072 + j.val = j.val
    rw [congrFun (idx2 t) 2]
    show 0 * 3072 + j.val = j.val
    omega

theorem emb5 (r : Fin 512) (j : Fin 1024) : ((cfg0.win 5).blk t).view.emb (ix3 0 r j) = ix3 (bOf t) (rowOf t r) j := by
  funext a
  apply Fin.ext
  fin_cases a
  · blk_simp [idx5]
    exact congrFun (idx5 t) 0
  · blk_simp [idx5]
    show (cfg0.win 5).index t 1 * 512 + r.val = 512 * (t.val % 8) + r.val
    rw [congrFun (idx5 t) 1]
    show (t.val % 8) * 512 + r.val = 512 * (t.val % 8) + r.val
    omega
  · blk_simp [idx5]
    show (cfg0.win 5).index t 2 * 1024 + j.val = j.val
    rw [congrFun (idx5 t) 2]
    show 0 * 1024 + j.val = j.val
    omega

theorem emb6 (r : Fin 512) (j : Fin 1024) : ((cfg0.win 6).blk t).view.emb (ix3 0 r j) = ix3 (bOf t) (rowOf t r) j := by
  funext a
  apply Fin.ext
  fin_cases a
  · blk_simp [idx6]
    exact congrFun (idx6 t) 0
  · blk_simp [idx6]
    show (cfg0.win 6).index t 1 * 512 + r.val = 512 * (t.val % 8) + r.val
    rw [congrFun (idx6 t) 1]
    show (t.val % 8) * 512 + r.val = 512 * (t.val % 8) + r.val
    omega
  · blk_simp [idx6]
    show (cfg0.win 6).index t 2 * 1024 + j.val = j.val
    rw [congrFun (idx6 t) 2]
    show 0 * 1024 + j.val = j.val
    omega

theorem emb3 (k : Fin 3) (j : Fin 3072) : ((cfg0.win 3).blk t).view.emb (ix2 k j) = ix2 k j := by
  funext a
  apply Fin.ext
  fin_cases a
  · blk_simp [idx3]
    show (cfg0.win 3).index t 0 * 3 + k.val = k.val
    rw [congrFun (idx3 t) 0]
    show 0 * 3 + k.val = k.val
    omega
  · blk_simp [idx3]
    show (cfg0.win 3).index t 1 * 3072 + j.val = j.val
    rw [congrFun (idx3 t) 1]
    show 0 * 3072 + j.val = j.val
    omega

theorem emb4 (j : Fin 3072) : ((cfg0.win 4).blk t).view.emb (ix2 0 j) = ix2 0 j := by
  funext a
  apply Fin.ext
  fin_cases a
  · blk_simp [idx4]
    exact congrFun (idx4 t) 0
  · blk_simp [idx4]
    show (cfg0.win 4).index t 1 * 3072 + j.val = j.val
    rw [congrFun (idx4 t) 1]
    show 0 * 3072 + j.val = j.val
    omega

/-- The projection. -/
def argX : FVec Ideal S4x4096x3072 .bf16 := m ((c.tc : Thread nD τ).loc main_arg0)
/-- The weights. -/
def argW : FVec Ideal S3x3072 .f32 := m ((c.tc : Thread nD τ).loc main_arg1)
/-- The bias. -/
def argB : FVec Ideal S3072 .f32 := m ((c.tc : Thread nD τ).loc main_arg2)

theorem blk0 (r : Fin 16) (j : Fin 3072) : iblk m c 0 t (ix3 0 r j) = argX m c (ix3 (bOf t) (prevOf t r) j) := by
  show V m c main_arg0 (((cfg0.win 0).blk t).view.emb (ix3 0 r j)) = _
  rw [emb0, V_main_arg0]
  rfl

theorem blk1 (r : Fin 512) (j : Fin 3072) : iblk m c 1 t (ix3 0 r j) = argX m c (ix3 (bOf t) (rowOf t r) j) := by
  show V m c main_arg0 (((cfg0.win 1).blk t).view.emb (ix3 0 r j)) = _
  rw [emb1, V_main_arg0]
  rfl

theorem blk2 (r : Fin 16) (j : Fin 3072) : iblk m c 2 t (ix3 0 r j) = argX m c (ix3 (bOf t) (nextOf t r) j) := by
  show V m c main_arg0 (((cfg0.win 2).blk t).view.emb (ix3 0 r j)) = _
  rw [emb2, V_main_arg0]
  rfl

theorem blk3 (k : Fin 3) (j : Fin 3072) : iblk m c 3 t (ix2 k j) = argW m c (ix2 k j) := by
  show V m c main_arg1 (((cfg0.win 3).blk t).view.emb (ix2 k j)) = _
  rw [emb3, V_main_arg1]
  rfl

theorem blk4 (j : Fin 3072) : iblk m c 4 t (ix2 0 j) = argB m c (ix1 j) := by
  show V m c main_v0 (((cfg0.win 4).blk t).view.emb (ix2 0 j)) = _
  rw [emb4]
  entry_read
  pointwise []
  rfl

theorem prev_eq (h : 0 < t.val % 8) : prevOf t 15 = ⟨512 * (t.val % 8) - 1, by omega⟩ :=
  Fin.ext (by show 16 * (32 * (t.val % 8) - 1) + 15 = 512 * (t.val % 8) - 1; omega)

theorem next_eq (h : t.val % 8 < 7) : nextOf t 0 = ⟨512 * (t.val % 8) + 512, by omega⟩ :=
  Fin.ext (by show 16 * min (32 * (t.val % 8) + 32) 255 + 0 = 512 * (t.val % 8) + 512; omega)

/-- The convolution's channel `j`. -/
def yOf (b : Fin 4) (l : Fin 4096) (j : Fin 3072) : EReal :=
  conv (fun l => argX m c (ix3 b l j)) (argW m c (ix2 0 j)) (argW m c (ix2 1 j)) (argW m c (ix2 2 j)) (argB m c (ix1 j)) l

/-- The gated product, as an array. -/
def resU : FVec Ideal S4x4096x1024 .bf16 := fun i =>
  yOf m c (i 0) (i 1) ⟨1024 + (i 2).val, by have h : (i 2).val < 1024 := (i 2).isLt; omega⟩ * yOf m c (i 0) (i 1) ⟨2048 + (i 2).val, by have h : (i 2).val < 1024 := (i 2).isLt; omega⟩

/-- The gate, as an array. -/
def resG : FVec Ideal S4x4096x1024 .bf16 := fun i => yOf m c (i 0) (i 1) ⟨(i 2).val, by have h : (i 2).val < 1024 := (i 2).isLt; omega⟩

theorem blockU (y : S1x512x1024.Idx) :
    out0_5 (F := Ideal) (grid0.coords t) (iblk m c 0 t) (iblk m c 1 t) (iblk m c 2 t) (iblk m c 3 t) (iblk m c 4 t) y = resU m c (((cfg0.win 5).blk t).view.emb y) := by
  have key (r : Fin 512) (j : Fin 1024) :
      out0_5 (F := Ideal) (grid0.coords t) (iblk m c 0 t) (iblk m c 1 t) (iblk m c 2 t) (iblk m c 3 t) (iblk m c 4 t) (ix3 0 r j)
        = resU m c (((cfg0.win 5).blk t).view.emb (ix3 0 r j)) := by
    rw [emb5]
    exact outU_at (grid0.coords t) (t.val % 8) (coord1 t) (by omega) _ _ _ _ _ (fun l j => argX m c (ix3 (bOf t) l j)) (fun k j => argW m c (ix2 k j)) (fun j => argB m c (ix1 j))
      (fun r j => blk1 m c t r j) (fun h j => (blk0 m c t 15 j).trans (by rw [prev_eq t h])) (fun h j => (blk2 m c t 0 j).trans (by rw [next_eq t h]))
      (fun k j => blk3 m c t k j) (fun j => blk4 m c t j) r j
  have h0 : y 0 = (0 : Fin 1) := Fin.ext (by have h : (y 0).val < 1 := (y 0).isLt; show (y 0).val = 0; omega)
  rw [eq_ix3 y, h0]
  exact key (y 1) (y 2)

theorem blockG (y : S1x512x1024.Idx) :
    out0_6 (F := Ideal) (grid0.coords t) (iblk m c 0 t) (iblk m c 1 t) (iblk m c 2 t) (iblk m c 3 t) (iblk m c 4 t) y = resG m c (((cfg0.win 6).blk t).view.emb y) := by
  have key (r : Fin 512) (j : Fin 1024) :
      out0_6 (F := Ideal) (grid0.coords t) (iblk m c 0 t) (iblk m c 1 t) (iblk m c 2 t) (iblk m c 3 t) (iblk m c 4 t) (ix3 0 r j)
        = resG m c (((cfg0.win 6).blk t).view.emb (ix3 0 r j)) := by
    rw [emb6]
    exact outG_at (grid0.coords t) (t.val % 8) (coord1 t) (by omega) _ _ _ _ _ (fun l j => argX m c (ix3 (bOf t) l j)) (fun k j => argW m c (ix2 k j)) (fun j => argB m c (ix1 j))
      (fun r j => blk1 m c t r j) (fun h j => (blk0 m c t 15 j).trans (by rw [prev_eq t h])) (fun h j => (blk2 m c t 0 j).trans (by rw [next_eq t h]))
      (fun k j => blk3 m c t k j) (fun j => blk4 m c t j) r j
  have h0 : y 0 = (0 : Fin 1) := Fin.ext (by have h : (y 0).val < 1 := (y 0).isLt; show (y 0).val = 0; omega)
  rw [eq_ix3 y, h0]
  exact key (y 1) (y 2)

/-- The point that writes row `l` of batch `b`. -/
def ptOf (b : Fin 4) (l : Fin 4096) : Fin cfg0.N := ⟨8 * b.val + l.val / 512, by
  show _ < grid0.N
  rw [N_0]
  omega⟩

theorem bOf_ptOf (b : Fin 4) (l : Fin 4096) : bOf (ptOf b l) = b := Fin.ext (by show (8 * b.val + l.val / 512) / 8 = b.val; omega)

theorem rowOf_ptOf (b : Fin 4) (l : Fin 4096) : rowOf (ptOf b l) ⟨l.val % 512, Nat.mod_lt _ (by decide)⟩ = l :=
  Fin.ext (by show 512 * ((8 * b.val + l.val / 512) % 8) + l.val % 512 = l.val; omega)

theorem coveredU (i : S4x4096x1024.Idx) : ∃ t : Fin cfg0.N, (cfg0.win 5).flush t = true ∧ i ∈ ((cfg0.win 5).blk t).view.set := by
  refine ⟨ptOf (i 0) (i 1), flush0_5 _, ?_⟩
  have key (b : Fin 4) (l : Fin 4096) (j : Fin 1024) :
      ((cfg0.win 5).blk (ptOf b l)).view.emb (ix3 0 (⟨l.val % 512, Nat.mod_lt _ (by decide)⟩ : Fin 512) j) = ix3 b l j := by
    rw [emb5, bOf_ptOf, rowOf_ptOf]
  have h := ((cfg0.win 5).blk (ptOf (i 0) (i 1))).view.emb_mem_set (ix3 0 (⟨(i 1).val % 512, Nat.mod_lt _ (by decide)⟩ : Fin 512) (i 2))
  rw [key (i 0) (i 1) (i 2), ← eq_ix3 i] at h
  exact h

theorem cutU_at (X : FVec Ideal S1x512x1024 .bf16) (y : S1x512x1024.Idx) : (cfg0.win 5).cut (grid0.coords t) X y = X y := rfl

theorem flushedU_at (y : S1x512x1024.Idx) : (dats m 0 c).flushed 5 t y = resU m c (((cfg0.win 5).blk t).view.emb y) := by
  rw [Value.flushed5]
  exact (cutU_at t _ y).trans (blockU m c t y)

theorem finalU : (dats m 0 c).arrAt 5 cfg0.N = resU m c := by
  funext i
  exact (dats m 0 c).arrAt_forall_of_cover 5 (fun i v => v = resU m c i) (fun t _ y => flushedU_at m c t y) coveredU i

theorem coveredG (i : S4x4096x1024.Idx) : ∃ t : Fin cfg0.N, (cfg0.win 6).flush t = true ∧ i ∈ ((cfg0.win 6).blk t).view.set := by
  refine ⟨ptOf (i 0) (i 1), flush0_6 _, ?_⟩
  have key (b : Fin 4) (l : Fin 4096) (j : Fin 1024) :
      ((cfg0.win 6).blk (ptOf b l)).view.emb (ix3 0 (⟨l.val % 512, Nat.mod_lt _ (by decide)⟩ : Fin 512) j) = ix3 b l j := by
    rw [emb6, bOf_ptOf, rowOf_ptOf]
  have h := ((cfg0.win 6).blk (ptOf (i 0) (i 1))).view.emb_mem_set (ix3 0 (⟨(i 1).val % 512, Nat.mod_lt _ (by decide)⟩ : Fin 512) (i 2))
  rw [key (i 0) (i 1) (i 2), ← eq_ix3 i] at h
  exact h

theorem cutG_at (X : FVec Ideal S1x512x1024 .bf16) (y : S1x512x1024.Idx) : (cfg0.win 6).cut (grid0.coords t) X y = X y := rfl

theorem flushedG_at (y : S1x512x1024.Idx) : (dats m 0 c).flushed 6 t y = resG m c (((cfg0.win 6).blk t).view.emb y) := by
  rw [Value.flushed6]
  exact (cutG_at t _ y).trans (blockG m c t y)

theorem finalG : (dats m 0 c).arrAt 6 cfg0.N = resG m c := by
  funext i
  exact (dats m 0 c).arrAt_forall_of_cover 6 (fun i v => v = resG m c i) (fun t _ y => flushedG_at m c t y) coveredG i

end blocks

end Cert.Kernel6Ideal.Hyena

end
-- ==== Proof.ConvRef.lean ====
/-
  The short convolution and the first gate as the reference computes them, read at an index.
-/
module

public import proofs.«01_k».proof.Proof.ConvMath
public import proofs.«01_k».proof.Proof.Gen.Reference6Ideal.Run

@[expose] public section

noncomputable section

namespace Cert.Reference6Ideal.Hyena

open Cert.Conv
open Cert.Reference6Ideal Cert.Reference6Ideal.Gen Cert.Reference6Ideal.Value Idealize.ShloMosaic Idealize.ShloMosaic.TcCoe

/-- The input with a row of zeros on each side. -/
def padded (a0 : FVec Ideal S4x4096x3072 .bf16) : FVec Ideal S4x4098x3072 .f32 :=
  pad S4x4098x3072 ![0, 1, 0] ![0, 1, 0] ![0, 0, 0] (extf .f32 a0 bitsLt_bf16_f32) (sitofp .f32 (constantI S_ 32 0#32)) pads_S4x4096x3072_S4x4098x3072_000_110_000 h_S_

/-- The convolution. -/
def y (a0 : FVec Ideal S4x4096x3072 .bf16) (a1 : FVec Ideal S3x3072 .f32) (a2 : FVec Ideal S3072 .f32) : FVec Ideal S4x4096x3072 .f32 :=
  addf (addf (addf
      (mulf (extractStridedSlice S4x4096x3072 ![0, 0, 0] (padded a0) slices_S4x4098x3072_S4x4096x3072_0_0_0)
        (broadcastInDim S4x4096x3072 ![0, 1, 2] bcast_S1x1x3072_S4x4096x3072_0_1_2 (broadcastInDim S1x1x3072 ![2] bcast_S3072_S1x1x3072_2 (shapeCast _ (extractStridedSlice S1x3072 ![0, 0] a1 slices_S3x3072_S1x3072_0_0) shapeCasts_S1x3072_S3072))))
      (mulf (extractStridedSlice S4x4096x3072 ![0, 1, 0] (padded a0) slices_S4x4098x3072_S4x4096x3072_0_1_0)
        (broadcastInDim S4x4096x3072 ![0, 1, 2] bcast_S1x1x3072_S4x4096x3072_0_1_2 (broadcastInDim S1x1x3072 ![2] bcast_S3072_S1x1x3072_2 (shapeCast _ (extractStridedSlice S1x3072 ![1, 0] a1 slices_S3x3072_S1x3072_1_0) shapeCasts_S1x3072_S3072)))))
      (mulf (extractStridedSlice S4x4096x3072 ![0, 2, 0] (padded a0) slices_S4x4098x3072_S4x4096x3072_0_2_0)
        (broadcastInDim S4x4096x3072 ![0, 1, 2] bcast_S1x1x3072_S4x4096x3072_0_1_2 (broadcastInDim S1x1x3072 ![2] bcast_S3072_S1x1x3072_2 (shapeCast _ (extractStridedSlice S1x3072 ![2, 0] a1 slices_S3x3072_S1x3072_2_0) shapeCasts_S1x3072_S3072)))))
    (broadcastInDim S4x4096x3072 ![0, 1, 2] bcast_S1x1x3072_S4x4096x3072_0_1_2 (broadcastInDim S1x1x3072 ![2] bcast_S3072_S1x1x3072_2 a2))

/-- The gated product the long convolution takes. -/
def gated (y : FVec Ideal S4x4096x3072 .f32) : FVec Ideal S4x4096x1024 .bf16 :=
  truncf .bf16 (mulf (extractStridedSlice S4x4096x1024 ![0, 0, 1024] y slices_S4x4096x3072_S4x4096x1024_0_0_1024) (extractStridedSlice S4x4096x1024 ![0, 0, 2048] y slices_S4x4096x3072_S4x4096x1024_0_0_2048)) bitsLt_bf16_f32

/-- The gate after it. -/
def gate (y : FVec Ideal S4x4096x3072 .f32) : FVec Ideal S4x4096x1024 .bf16 :=
  truncf .bf16 (extractStridedSlice S4x4096x1024 ![0, 0, 0] y slices_S4x4096x3072_S4x4096x1024_0_0_0) bitsLt_bf16_f32

theorem padded_at (a0 : FVec Ideal S4x4096x3072 .bf16) (b : Fin 4) (l : Fin 4098) (j : Fin 3072) :
    padded a0 (ix3 b l j) = if h : 0 < l.val ∧ l.val < 4097 then a0 (ix3 b ⟨l.val - 1, by omega⟩ j) else 0 := by
  pointwise [padded]
  have z : (FloatOps.sitofp FTy.f32 0#32 : Ideal FTy.f32) = (0 : EReal) := by
    show (((0#32 : BitVec 32).toInt : ℝ) : EReal) = 0
    simp
  rw [z]
  by_cases h : 0 < l.val ∧ l.val < 4097
  · rw [dif_pos h, dif_pos (by omega)]
  · rw [dif_neg h, dif_neg (by omega)]

theorem earlier (a0 : FVec Ideal S4x4096x3072 .bf16) (b : Fin 4) (l : Fin 4096) (j : Fin 3072) (h : l.val < 4098) :
    padded a0 (ix3 b ⟨l.val, h⟩ j) = before (fun l => a0 (ix3 b l j)) l := by
  rw [padded_at, before]
  by_cases e : l.val = 0
  · rw [dif_neg (by show ¬(0 < l.val ∧ l.val < 4097); omega), if_pos e]
  · rw [dif_pos (by show 0 < l.val ∧ l.val < 4097; omega), if_neg e]

theorem middle (a0 : FVec Ideal S4x4096x3072 .bf16) (b : Fin 4) (l : Fin 4096) (j : Fin 3072) (h : 1 + l.val < 4098) :
    padded a0 (ix3 b ⟨1 + l.val, h⟩ j) = a0 (ix3 b l j) := by
  rw [padded_at, dif_pos (by show 0 < 1 + l.val ∧ 1 + l.val < 4097; omega)]
  exact congrArg (fun k => a0 (ix3 b k j)) (Fin.ext (by show 1 + l.val - 1 = l.val; omega))

theorem later (a0 : FVec Ideal S4x4096x3072 .bf16) (b : Fin 4) (l : Fin 4096) (j : Fin 3072) (h : 2 + l.val < 4098) :
    padded a0 (ix3 b ⟨2 + l.val, h⟩ j) = after (fun l => a0 (ix3 b l j)) l := by
  rw [padded_at, after]
  by_cases e : l.val = 4095
  · rw [dif_neg (by show ¬(0 < 2 + l.val ∧ 2 + l.val < 4097); omega), dif_pos e]
  · rw [dif_pos (by show 0 < 2 + l.val ∧ 2 + l.val < 4097; omega), dif_neg e]
    exact congrArg (fun k => a0 (ix3 b k j)) (Fin.ext (by show 2 + l.val - 1 = l.val + 1; omega))

theorem y_at (a0 : FVec Ideal S4x4096x3072 .bf16) (a1 : FVec Ideal S3x3072 .f32) (a2 : FVec Ideal S3072 .f32) (b : Fin 4) (l : Fin 4096) (j : Fin 3072) :
    y a0 a1 a2 (ix3 b l j) = conv (fun l => a0 (ix3 b l j)) (a1 (ix2 0 j)) (a1 (ix2 1 j)) (a1 (ix2 2 j)) (a2 (ix1 j)) l := by
  pointwise [y]
  rw [earlier, middle, later]
  rfl

theorem gated_at (y : FVec Ideal S4x4096x3072 .f32) (b : Fin 4) (l : Fin 4096) (j : Fin 1024) :
    gated y (ix3 b l j) = y (ix3 b l ⟨1024 + j.val, by omega⟩) * y (ix3 b l ⟨2048 + j.val, by omega⟩) := by
  pointwise [gated]
  try rfl

theorem gate_at (y : FVec Ideal S4x4096x3072 .f32) (b : Fin 4) (l : Fin 4096) (j : Fin 1024) :
    gate y (ix3 b l j) = y (ix3 b l ⟨j.val, by omega⟩) := by
  pointwise [gate]
  try rfl

section result

variable (m : (ℓ : Loc nD τ sig) → Buf (Elt Ideal) ℓ) (c : Dev nD)

/-- The projection. -/
def argX : FVec Ideal S4x4096x3072 .bf16 := m ((c.tc : Thread nD τ).loc main_arg0)
/-- The weights. -/
def argW : FVec Ideal S3x3072 .f32 := m ((c.tc : Thread nD τ).loc main_arg1)
/-- The bias. -/
def argB : FVec Ideal S3072 .f32 := m ((c.tc : Thread nD τ).loc main_arg2)

/-- The reference ends with the gated product and the gate, and its arguments unchanged. -/
theorem run_at (ρ : Dev nD → PrngReg) :
    θ_run defs (onTc (τ := τ) (main (F := Ideal))) ⟨m, fun _ => 0, ρ⟩ fun r => ∀ c : Dev nD,
      r.2.mem ((c.tc : Thread nD τ).loc main_v29) = gated (y (argX m c) (argW m c) (argB m c))
      ∧ r.2.mem ((c.tc : Thread nD τ).loc main_v30) = gate (y (argX m c) (argW m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run (F := Ideal) m ρ

end result

end Cert.Reference6Ideal.Hyena

end
-- ==== Proof.ModsMath.lean ====
/-
  A row of the modulations, over the extended reals.
-/
module

public import Idealize.ShloMosaic.Lib.Pointwise

@[expose] public section

noncomputable section

open scoped BigOperators
open Idealize.ShloMosaic

namespace Cert.Mods

/-- Entry `j` of a conditioning row's modulations: the row times its logistic function, times the weight, and the bias. -/
def mods (x : Fin 1024 → EReal) (w : Fin 1024 → EReal) (b : EReal) : EReal := ∑ d, x d * Ideal.logistic (x d) * w d + b

end Cert.Mods

end
-- ==== Proof.ModsKernel.lean ====
/-
  The modulations as the kernel computes them: a grid point's block as a function of the blocks it loads, these blocks in
  terms of the arguments, and the array the grid leaves.
-/
module

public import proofs.«01_k».proof.Proof.ModsMath
public import proofs.«01_k».proof.Proof.Gen.Kernel7Ideal.Value
public import Idealize.ShloMosaic.Lib.Pipeline.ValueKit
public import Idealize.ShloMosaic.Lib.Pipeline.ReadBack
public import Idealize.ShloMosaic.Lib.Claim

@[expose] public section

set_option maxRecDepth 16384

noncomputable section

open scoped BigOperators

namespace Cert.Kernel7Ideal.Cond

open Cert.Mods
open Cert.Kernel7Ideal Cert.Kernel7Ideal.Gen Idealize.ShloMosaic Idealize.ShloMosaic.TcCoe
open Idealize.ShloMosaic.Pointwise

theorem pay1_at (v0 : FVec Ideal S8x1024 .f32) (v4 : FVec Ideal S1024x1024 .f32) (v6 : FVec Ideal S1x1024 .f32) (i : Fin 8) (j : Fin 1024) :
    k0_pay1 (F := Ideal) v0 v4 v6 (ix2 i j) = mods (fun d => v0 (ix2 i d)) (fun d => v4 (ix2 d j)) (v6 (ix2 0 j)) := by
  pointwise [k0_pay1]
  rfl

theorem out_at (x0 : FVec Ideal S8x1024 .f32) (x1 : FVec Ideal S1024x1024 .f32) (x2 : FVec Ideal S1x1024 .f32) (i : Fin 8) (j : Fin 1024) :
    out0_3 (F := Ideal) x0 x1 x2 (ix2 i j) = mods (fun d => x0 (ix2 i d)) (fun d => x1 (ix2 d j)) (x2 (ix2 0 j)) := by
  frame_out
  exact pay1_at x0 x1 x2 i j

section blocks

variable (m : (ℓ : Loc nD τ sig) → Buf (Elt Ideal) ℓ) (c : Dev nD) (t : Fin cfg0.N)

theorem lt9 : t.val < 9 := lt_of_lt_of_eq t.isLt N_0

/-- A point's column `j` of the arrays. -/
def colOf (j : Fin 1024) : Fin 9216 := ⟨1024 * t.val + j.val, by have := lt9 t; omega⟩

theorem idx0 : ∀ t : Fin cfg0.N, (cfg0.win 0).index t = ![0, 0] := by decide +kernel
theorem idx1 : ∀ t : Fin cfg0.N, (cfg0.win 1).index t = ![0, t.val] := by decide +kernel
theorem idx2 : ∀ t : Fin cfg0.N, (cfg0.win 2).index t = ![0, t.val] := by decide +kernel
theorem idx3 : ∀ t : Fin cfg0.N, (cfg0.win 3).index t = ![0, t.val] := by decide +kernel

theorem emb0 (i : Fin 8) (d : Fin 1024) : ((cfg0.win 0).blk t).view.emb (ix2 i d) = ix2 i d := by
  funext a
  apply Fin.ext
  fin_cases a
  · blk_simp [idx0]
    show (cfg0.win 0).index t 0 * 8 + i.val = i.val
    rw [congrFun (idx0 t) 0]
    show 0 * 8 + i.val = i.val
    omega
  · blk_simp [idx0]
    show (cfg0.win 0).index t 1 * 1024 + d.val = d.val
    rw [congrFun (idx0 t) 1]
    show 0 * 1024 + d.val = d.val
    omega

theorem emb1 (k j : Fin 1024) : ((cfg0.win 1).blk t).view.emb (ix2 k j) = ix2 k (colOf t j) := by
  funext a
  apply Fin.ext
  fin_cases a
  · blk_simp [idx1]
    show (cfg0.win 1).index t 0 * 1024 + k.val = k.val
    rw [congrFun (idx1 t) 0]
    show 0 * 1024 + k.val = k.val
    omega
  · blk_simp [idx1]
    show (cfg0.win 1).index t 1 * 1024 + j.val = 1024 * t.val + j.val
    rw [congrFun (idx1 t) 1]
    show t.val * 1024 + j.val = 1024 * t.val + j.val
    omega

theorem emb2 (j : Fin 1024) : ((cfg0.win 2).blk t).view.emb (ix2 0 j) = ix2 0 (colOf t j) := by
  funext a
  apply Fin.ext
  fin_cases a
  · blk_simp [idx2]
    exact congrFun (idx2 t) 0
  · blk_simp [idx2]
    show (cfg0.win 2).index t 1 * 1024 + j.val = 1024 * t.val + j.val
    rw [congrFun (idx2 t) 1]
    show t.val * 1024 + j.val = 1024 * t.val + j.val
    omega

theorem emb3 (i : Fin 8) (j : Fin 1024) : ((cfg0.win 3).blk t).view.emb (ix2 i j) = ix2 i (colOf t j) := by
  funext a
  apply Fin.ext
  fin_cases a
  · blk_simp [idx3]
    show (cfg0.win 3).index t 0 * 8 + i.val = i.val
    rw [congrFun (idx3 t) 0]
    show 0 * 8 + i.val = i.val
    omega
  · blk_simp [idx3]
    show (cfg0.win 3).index t 1 * 1024 + j.val = 1024 * t.val + j.val
    rw [congrFun (idx3 t) 1]
    show t.val * 1024 + j.val = 1024 * t.val + j.val
    omega

/-- The batches' conditioning. -/
def argC : FVec Ideal S4x1024 .f32 := m ((c.tc : Thread nD τ).loc main_arg0)
/-- The context's. -/
def argX : FVec Ideal S1024 .f32 := m ((c.tc : Thread nD τ).loc main_arg1)
/-- The weight. -/
def argW : FVec Ideal S1024x9216 .f32 := m ((c.tc : Thread nD τ).loc main_arg2)
/-- The bias. -/
def argB : FVec Ideal S9216 .f32 := m ((c.tc : Thread nD τ).loc main_arg3)

/-- The conditioning rows: the batches', the context's and three of zeros. -/
def rows (a0 : FVec Ideal S4x1024 .f32) (a1 : FVec Ideal S1024 .f32) : FVec Ideal S8x1024 .f32 :=
  concatenate S8x1024 0 [⟨S4x1024, a0⟩, ⟨S1x1024, broadcastInDim S1x1024 ![1] bcast_S1024_S1x1024_1 a1⟩, ⟨S3x1024, broadcastInDim S3x1024 ![] bcast_S_S3x1024 (constant S_ .f32 0x00000000#32)⟩] concatenates_S4x1024_S1x1024_S3x1024_S8x1024_d0

theorem host_rows : V m c main_v2 = rows (argC m c) (argX m c) := by
  simp only [V, hostOps0]
  after_results <;> rfl

theorem blk0 (i : Fin 8) (d : Fin 1024) : iblk m c 0 t (ix2 i d) = rows (argC m c) (argX m c) (ix2 i d) := by
  show V m c main_v2 (((cfg0.win 0).blk t).view.emb (ix2 i d)) = _
  rw [emb0, host_rows]

theorem blk1 (k j : Fin 1024) : iblk m c 1 t (ix2 k j) = argW m c (ix2 k (colOf t j)) := by
  show V m c main_arg2 (((cfg0.win 1).blk t).view.emb (ix2 k j)) = _
  rw [emb1, V_main_arg2]
  rfl

theorem blk2 (j : Fin 1024) : iblk m c 2 t (ix2 0 j) = argB m c (ix1 (colOf t j)) := by
  show V m c main_v3 (((cfg0.win 2).blk t).view.emb (ix2 0 j)) = _
  rw [emb2]
  entry_read
  pointwise []
  rfl

/-- The modulations, as an array. -/
def res : FVec Ideal S8x9216 .f32 := fun i => mods (fun d => rows (argC m c) (argX m c) (ix2 (i 0) d)) (fun d => argW m c (ix2 d (i 1))) (argB m c (ix1 (i 1)))

theorem block (y : S8x1024.Idx) :
    out0_3 (F := Ideal) (iblk m c 0 t) (iblk m c 1 t) (iblk m c 2 t) y = res m c (((cfg0.win 3).blk t).view.emb y) := by
  have key (i : Fin 8) (j : Fin 1024) :
      out0_3 (F := Ideal) (iblk m c 0 t) (iblk m c 1 t) (iblk m c 2 t) (ix2 i j) = res m c (((cfg0.win 3).blk t).view.emb (ix2 i j)) := by
    rw [out_at, emb3]
    simp only [blk0, blk1, blk2]
    rfl
  rw [eq_ix2 y]
  exact key (y 0) (y 1)

/-- The point that writes column `j`. -/
def ptOf (j : Fin 9216) : Fin cfg0.N := ⟨j.val / 1024, by
  show _ < grid0.N
  rw [N_0]
  omega⟩

theorem colOf_ptOf (j : Fin 9216) : colOf (ptOf j) ⟨j.val % 1024, Nat.mod_lt _ (by decide)⟩ = j :=
  Fin.ext (by show 1024 * (j.val / 1024) + j.val % 1024 = j.val; omega)

theorem covered (i : S8x9216.Idx) : ∃ t : Fin cfg0.N, (cfg0.win 3).flush t = true ∧ i ∈ ((cfg0.win 3).blk t).view.set := by
  refine ⟨ptOf (i 1), flush0_3 _, ?_⟩
  have key (k : Fin 8) (j : Fin 9216) :
      ((cfg0.win 3).blk (ptOf j)).view.emb (ix2 k (⟨j.val % 1024, Nat.mod_lt _ (by decide)⟩ : Fin 1024)) = ix2 k j := by
    rw [emb3, colOf_ptOf]
  have h := ((cfg0.win 3).blk (ptOf (i 1))).view.emb_mem_set (ix2 (i 0) (⟨(i 1).val % 1024, Nat.mod_lt _ (by decide)⟩ : Fin 1024))
  rw [key (i 0) (i 1), ← eq_ix2 i] at h
  exact h

theorem cut_at (X : FVec Ideal S8x1024 .f32) (y : S8x1024.Idx) : (cfg0.win 3).cut (grid0.coords t) X y = X y := rfl

theorem flushed_at (y : S8x1024.Idx) : (dats m 0 c).flushed 3 t y = res m c (((cfg0.win 3).blk t).view.emb y) := by
  rw [Value.flushed3]
  exact (cut_at t _ y).trans (block m c t y)

/-- The array the grid leaves is the modulations. -/
theorem final : (dats m 0 c).arrAt 3 cfg0.N = res m c := by
  funext i
  exact (dats m 0 c).arrAt_forall_of_cover 3 (fun i v => v = res m c i) (fun t _ y => flushed_at m c t y) covered i

end blocks

end Cert.Kernel7Ideal.Cond

end
-- ==== Proof.ModsRef.lean ====
/-
  The modulations as the reference computes them, read at an index.
-/
module

public import proofs.«01_k».proof.Proof.ModsMath
public import proofs.«01_k».proof.Proof.Gen.Reference7Ideal.Run

@[expose] public section

noncomputable section

open scoped BigOperators

namespace Cert.Reference7Ideal.Cond

open Cert.Mods
open Cert.Reference7Ideal Cert.Reference7Ideal.Gen Cert.Reference7Ideal.Value Idealize.ShloMosaic Idealize.ShloMosaic.TcCoe

/-- The conditioning rows: the batches', the context's and three of zeros. -/
def rows (a0 : FVec Ideal S4x1024 .f32) (a1 : FVec Ideal S1024 .f32) : FVec Ideal S8x1024 .f32 :=
  concatenate S8x1024 0 [⟨S4x1024, a0⟩, ⟨S1x1024, broadcastInDim S1x1024 ![1] bcast_S1024_S1x1024_1 a1⟩, ⟨S3x1024, broadcastInDim S3x1024 ![] bcast_S_S3x1024 (constant S_ .f32 0x00000000#32)⟩] concatenates_S4x1024_S1x1024_S3x1024_S8x1024_d0

/-- The rows' modulations. -/
def all (x : FVec Ideal S8x1024 .f32) (a2 : FVec Ideal S1024x9216 .f32) (a3 : FVec Ideal S9216 .f32) : FVec Ideal S8x9216 .f32 :=
  addf (Host.dotGeneral (F := Ideal) dot_S8x1024_S1024x9216_S8x9216_1_0_0_1_n_n none (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))) a2) (broadcastInDim S8x9216 ![0, 1] bcast_S1x9216_S8x9216_0_1 (broadcastInDim S1x9216 ![1] bcast_S9216_S1x9216_1 a3))

theorem all_at (x : FVec Ideal S8x1024 .f32) (a2 : FVec Ideal S1024x9216 .f32) (a3 : FVec Ideal S9216 .f32) (i : Fin 8) (j : Fin 9216) :
    all x a2 a3 (ix2 i j) = mods (fun d => x (ix2 i d)) (fun d => a2 (ix2 d j)) (a3 (ix1 j)) := by
  pointwise [all]
  rfl

section result

variable (m : (ℓ : Loc nD τ sig) → Buf (Elt Ideal) ℓ) (c : Dev nD)

/-- The batches' conditioning. -/
def argC : FVec Ideal S4x1024 .f32 := m ((c.tc : Thread nD τ).loc main_arg0)
/-- The context's. -/
def argX : FVec Ideal S1024 .f32 := m ((c.tc : Thread nD τ).loc main_arg1)
/-- The weight. -/
def argW : FVec Ideal S1024x9216 .f32 := m ((c.tc : Thread nD τ).loc main_arg2)
/-- The bias. -/
def argB : FVec Ideal S9216 .f32 := m ((c.tc : Thread nD τ).loc main_arg3)

/-- The reference ends with the modulations and its arguments unchanged. -/
theorem run_at (ρ : Dev nD → PrngReg) :
    θ_run defs (onTc (τ := τ) (main (F := Ideal))) ⟨m, fun _ => 0, ρ⟩ fun r => ∀ c : Dev nD,
      r.2.mem ((c.tc : Thread nD τ).loc main_v7) = all (rows (argC m c) (argX m c)) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end result

end Cert.Reference7Ideal.Cond

end
-- ==== Proof.ScanMath.lean ====
/-
  The mathematics of the stabilised chunkwise scan, over the reals. A state of the scan is a decayed sum
  `z (p + 1) = exp (lf p) * z p + exp (ig p) * x p`; a chunk of `T` positions computes its rows and its end from the state
  before it, with every exponent shifted by a stabiliser. The lemmas here say that the stabilisers cancel: whatever the chunk
  length and whatever the stabilisers, a row of the chunk is the row the recurrence defines. The rows of a chunk may be stored
  in any order: `e r` is the position within the chunk of the row stored at `r`.
-/
module

public import Idealize.ShloMosaic.Lib.Pointwise

@[expose] public section

noncomputable section

open scoped BigOperators

namespace Cert.Scan

/-- The decayed sum: position `p`'s state decays by `exp (lf p)` and takes `exp (ig p) * x p` in. -/
def acc (lf ig x : ℕ → ℝ) (z0 : ℝ) : ℕ → ℝ
  | 0 => z0
  | p + 1 => Real.exp (lf p) * acc lf ig x z0 p + Real.exp (ig p) * x p

/-- The running sum of `lf` over the first `n` positions from `p` on. -/
def run (lf : ℕ → ℝ) (p n : ℕ) : ℝ := ∑ i ∈ Finset.range n, lf (p + i)

theorem run_succ (lf : ℕ → ℝ) (p n : ℕ) : run lf p (n + 1) = run lf p n + lf (p + n) := by
  unfold run; rw [Finset.sum_range_succ]

/-- `n` positions of the recurrence at once. -/
theorem acc_add (lf ig x : ℕ → ℝ) (z0 : ℝ) (p n : ℕ) :
    acc lf ig x z0 (p + n) = Real.exp (run lf p n) * acc lf ig x z0 p
      + ∑ s ∈ Finset.range n, Real.exp (run lf p n - run lf p (s + 1) + ig (p + s)) * x (p + s) := by
  induction n with
  | zero => simp [run]
  | succ n ih =>
    show Real.exp (lf (p + n)) * acc lf ig x z0 (p + n) + Real.exp (ig (p + n)) * x (p + n) = _
    rw [ih, Finset.sum_range_succ, run_succ, mul_add, Finset.mul_sum]
    have h1 : ∀ s, Real.exp (run lf p n + lf (p + n) - run lf p (s + 1) + ig (p + s)) * x (p + s)
        = Real.exp (lf (p + n)) * (Real.exp (run lf p n - run lf p (s + 1) + ig (p + s)) * x (p + s)) := by
      intro s
      rw [← mul_assoc, ← Real.exp_add]; congr 2; ring
    simp only [h1]
    rw [sub_self, zero_add, Real.exp_add]
    ring

section chunk

variable {T : ℕ} (e : Fin T ≃ Fin T)

/-- A sum over the rows of a chunk is a sum over its positions. -/
theorem sum_rows {M : Type*} [AddCommMonoid M] (f : ℕ → M) : ∑ c : Fin T, f (e c).val = ∑ i ∈ Finset.range T, f i := by
  rw [Equiv.sum_comp e (fun c => f c.val), Fin.sum_univ_eq_sum_range]

/-- A sum over the rows that come no later than row `r` is a sum over the positions up to it. -/
theorem sum_rows_le {M : Type*} [AddCommMonoid M] (f : ℕ → M) (r : Fin T) :
    ∑ c : Fin T, (if (e c).val ≤ (e r).val then f (e c).val else 0) = ∑ i ∈ Finset.range ((e r).val + 1), f i := by
  rw [sum_rows e (fun i => if i ≤ (e r).val then f i else 0), ← Finset.sum_filter]
  congr 1
  ext i
  have := (e r).isLt
  simp only [Finset.mem_filter, Finset.mem_range]
  omega

/-- The state after row `r` of the chunk that starts at `p`. -/
theorem acc_row (lf ig x : ℕ → ℝ) (z0 : ℝ) (p : ℕ) (r : Fin T) :
    acc lf ig x z0 (p + (e r).val + 1) = Real.exp (run lf p ((e r).val + 1)) * acc lf ig x z0 p
      + ∑ c : Fin T, (if (e c).val ≤ (e r).val then
          Real.exp (run lf p ((e r).val + 1) - run lf p ((e c).val + 1) + ig (p + (e c).val)) * x (p + (e c).val) else 0) := by
  rw [sum_rows_le e (fun i => Real.exp (run lf p ((e r).val + 1) - run lf p (i + 1) + ig (p + i)) * x (p + i)),
    Nat.add_assoc, acc_add]

/-- The state after the whole chunk that starts at `p`. -/
theorem acc_chunk (lf ig x : ℕ → ℝ) (z0 : ℝ) (p : ℕ) :
    acc lf ig x z0 (p + T) = Real.exp (run lf p T) * acc lf ig x z0 p
      + ∑ c : Fin T, Real.exp (run lf p T - run lf p ((e c).val + 1) + ig (p + (e c).val)) * x (p + (e c).val) := by
  rw [sum_rows e (fun i => Real.exp (run lf p T - run lf p (i + 1) + ig (p + i)) * x (p + i)), acc_add]

/-- A row of a chunk, shifted by any stabiliser `M`, from a state shifted by any stabiliser `m`: what the chunk's masked
    products of queries and keys and the state before it add up to is the recurrence's row, shifted by `M`. -/
theorem row_eq {D : Type*} [Fintype D] (lf ig : ℕ → ℝ) (k : ℕ → D → ℝ) (v : ℕ → ℝ) (z0 q : D → ℝ) (m M : ℝ) (p : ℕ) (r : Fin T) :
    (∑ c : Fin T, (∑ d, q d * k (p + (e c).val) d)
        * (if (e c).val ≤ (e r).val then
            Real.exp (run lf p ((e r).val + 1) - run lf p ((e c).val + 1) + ig (p + (e c).val) - M) else 0)
        * v (p + (e c).val))
      + Real.exp (run lf p ((e r).val + 1) + m - M)
        * ∑ d, q d * (Real.exp (-m) * acc lf ig (fun i => k i d * v i) (z0 d) p)
      = Real.exp (-M) * ∑ d, q d * acc lf ig (fun i => k i d * v i) (z0 d) (p + (e r).val + 1) := by
  simp only [acc_row e, mul_add, Finset.sum_add_distrib, Finset.mul_sum]
  rw [add_comm, Finset.sum_comm (s := (Finset.univ : Finset D))]
  congr 1
  · refine Finset.sum_congr rfl fun d _ => ?_
    have h : Real.exp (run lf p ((e r).val + 1) + m - M)
        = Real.exp (-M) * Real.exp (run lf p ((e r).val + 1)) * Real.exp m := by
      rw [← Real.exp_add, ← Real.exp_add]; congr 1; ring
    have h2 : Real.exp m * Real.exp (-m) = 1 := by rw [← Real.exp_add]; simp
    rw [h]
    linear_combination (Real.exp (-M) * Real.exp (run lf p ((e r).val + 1)) * q d
      * acc lf ig (fun i => k i d * v i) (z0 d) p) * h2
  · refine Finset.sum_congr rfl fun c _ => ?_
    rw [Finset.sum_mul, Finset.sum_mul]
    refine Finset.sum_congr rfl fun d _ => ?_
    split
    · rw [sub_eq_add_neg _ M, Real.exp_add]; ring
    · ring

/-- The state at a chunk's end, shifted by any stabiliser `M`, from the state before it shifted by any stabiliser `m`. -/
theorem end_eq (lf ig k v : ℕ → ℝ) (z0 m M : ℝ) (p : ℕ) :
    Real.exp (run lf p T + m - M) * (Real.exp (-m) * acc lf ig (fun i => k i * v i) z0 p)
      + ∑ c : Fin T, k (p + (e c).val)
          * Real.exp (run lf p T - run lf p ((e c).val + 1) + ig (p + (e c).val) - M) * v (p + (e c).val)
      = Real.exp (-M) * acc lf ig (fun i => k i * v i) z0 (p + T) := by
  rw [acc_chunk e, mul_add, Finset.mul_sum]
  congr 1
  · have h : Real.exp (run lf p T + m - M) = Real.exp (-M) * Real.exp (run lf p T) * Real.exp m := by
      rw [← Real.exp_add, ← Real.exp_add]; congr 1; ring
    have h2 : Real.exp m * Real.exp (-m) = 1 := by rw [← Real.exp_add]; simp
    rw [h]
    linear_combination (Real.exp (-M) * Real.exp (run lf p T) * acc lf ig (fun i => k i * v i) z0 p) * h2
  · refine Finset.sum_congr rfl fun c _ => ?_
    rw [sub_eq_add_neg _ M, Real.exp_add]; ring

/-- The quotient of a row: numerator, normaliser and its floor carry the same shift, which cancels. -/
theorem quot_eq (N D M : ℝ) :
    Real.exp (-M) * N / max |Real.exp (-M) * D| (Real.exp (-M)) = N / max |D| 1 := by
  have h := Real.exp_pos (-M)
  have : max |Real.exp (-M) * D| (Real.exp (-M)) = Real.exp (-M) * max |D| 1 := by
    rw [abs_mul, abs_of_pos h, mul_max_of_nonneg _ _ h.le, mul_one]
  rw [this, mul_div_mul_left _ _ h.ne']

end chunk

/-! ## The extended reals: an operation on reals is the real operation -/

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem exp_coe (x : ℝ) : Ideal.exp (x : EReal) = ((Real.exp x : ℝ) : EReal) := rfl

theorem coe_max (x y : ℝ) : ((max x y : ℝ) : EReal) = max (x : EReal) (y : EReal) :=
  (Monotone.map_max (f := ((↑) : ℝ → EReal)) EReal.coe_strictMono.monotone)

theorem coe_abs (x : ℝ) : max (x : EReal) (-(x : EReal)) = ((|x| : ℝ) : EReal) := by
  rw [← EReal.coe_neg, ← coe_max]; rfl

/-- A masked exponential: an exponent of `⊥` contributes nothing. -/
theorem exp_mask (c : Prop) [Decidable c] (x M : ℝ) :
    Ideal.exp ((if c then (x : EReal) else ⊥) - (M : EReal)) = (((if c then Real.exp (x - M) else 0) : ℝ) : EReal) := by
  split
  · rw [← EReal.coe_sub]; rfl
  · rw [EReal.bot_sub]; rfl

theorem div_coe (x y : ℝ) (hy : 0 < y) : Ideal.div (x : EReal) (y : EReal) = ((x / y : ℝ) : EReal) := by
  unfold Ideal.div
  rw [if_neg (by exact_mod_cast hy.ne'), ← EReal.coe_inv, ← EReal.coe_mul, div_eq_mul_inv]

theorem log1p_coe (x : ℝ) (hx : 0 < 1 + x) : Ideal.log1p (x : EReal) = ((Real.log (1 + x) : ℝ) : EReal) := by
  unfold Ideal.log1p
  have : (1 : EReal) + (x : EReal) = ((1 + x : ℝ) : EReal) := by rw [EReal.coe_add]; rfl
  rw [this]
  unfold Ideal.log
  show (if (1 + x) ≤ 0 then (⊥ : EReal) else _) = _
  rw [if_neg (not_le.mpr hx)]

/-- The logarithm of the logistic function, as both programs compute it. -/
def lsig (x : ℝ) : ℝ := -(max (-x) 0 + Real.log (1 + Real.exp (-|x|)))

/-- The fold of `max` from `⊥` over values none of which is `⊤` is not `⊤`. -/
theorem fold_max_ne_top {ι : Type*} (s : Finset ι) (f : ι → EReal) (hf : ∀ i ∈ s, f i ≠ ⊤) :
    s.fold max ⊥ f ≠ ⊤ := by
  classical
  induction s using Finset.induction_on with
  | empty => simp
  | insert a s h ih =>
    rw [Finset.fold_insert h]
    have h1 := hf a (Finset.mem_insert_self a s)
    have h2 := ih fun i hi => hf i (Finset.mem_insert_of_mem hi)
    rcases max_choice (f a) (s.fold max ⊥ f) with h' | h' <;> rw [h'] <;> assumption

/-- The greater of a real and a value that is not `⊤` is a real. -/
theorem max_real (x : ℝ) (y : EReal) (hy : y ≠ ⊤) : ∃ M : ℝ, max (x : EReal) y = (M : EReal) := by
  induction y using EReal.rec with
  | bot => exact ⟨x, max_eq_left bot_le⟩
  | coe y => exact ⟨max x y, (coe_max x y).symm⟩
  | top => exact absurd rfl hy

end Cert.Scan

end
-- ==== Proof.ScanSeq.lean ====
/-
  One head's sequence in one direction, in the order its scan goes through it, and what the scan makes of it: the
  accumulated outer products, the accumulated keys and the normalised rows. A chunk of any length, in any order of its
  rows, in the two forms it comes as (the kernel's and the reference's), computes these.
-/
module

public import proofs.«01_k».proof.Proof.ScanMath

@[expose] public section

noncomputable section

open scoped BigOperators

namespace Cert.Scan

open Idealize.ShloMosaic

/-- Queries, keys, values and the two gates by position, and what the accumulators start from. -/
structure Seq where
  q : ℕ → Fin 512 → ℝ
  k : ℕ → Fin 512 → ℝ
  v : ℕ → Fin 512 → ℝ
  ig : ℕ → ℝ
  fg : ℕ → ℝ
  c0 : Fin 512 → Fin 512 → ℝ
  n0 : Fin 512 → ℝ

namespace Seq

variable (S : Seq)

def lf (i : ℕ) : ℝ := lsig (S.fg i)

/-- The gated sum of the outer products of the first `p` keys and values. -/
def C (d j : Fin 512) (p : ℕ) : ℝ := acc S.lf S.ig (fun i => S.k i d * S.v i j) (S.c0 d j) p

/-- The gated sum of the first `p` keys. -/
def N (d : Fin 512) (p : ℕ) : ℝ := acc S.lf S.ig (fun i => S.k i d * 1) (S.n0 d) p

/-- Row `i` of the result. -/
def H (i : ℕ) (j : Fin 512) : ℝ := (∑ d, S.q i d * S.C d j (i + 1)) / max |∑ d, S.q i d * S.N d (i + 1)| 1

/-- The exponent row `r` of the chunk from `p` on gives to the key of row `c`. -/
def wt {T : ℕ} (e : Fin T ≃ Fin T) (p : ℕ) (r c : Fin T) : ℝ :=
  run S.lf p ((e r).val + 1) - run S.lf p ((e c).val + 1) + S.ig (p + (e c).val)

variable {T : ℕ} (e : Fin T ≃ Fin T) (p : ℕ) (r : Fin T)

/-- A row of a chunk. -/
theorem row (m : ℝ) (ld : Fin T → EReal) (mi M : EReal) (q : Fin 512 → EReal) (k : Fin T → Fin 512 → EReal)
    (v : Fin T → EReal) (C N : Fin 512 → EReal) (j : Fin 512)
    (hld : ∀ c, ld c = if (e c).val ≤ (e r).val then ((S.wt e p r c : ℝ) : EReal) else ⊥)
    (hmi : mi = ((run S.lf p ((e r).val + 1) + m : ℝ) : EReal))
    (hM : M = max mi (Finset.univ.fold max ⊥ ld))
    (hq : ∀ d, q d = (S.q (p + (e r).val) d : EReal))
    (hk : ∀ c d, k c d = (S.k (p + (e c).val) d : EReal))
    (hv : ∀ c, v c = (S.v (p + (e c).val) j : EReal))
    (hC : ∀ d, C d = ((Real.exp (-m) * S.C d j p : ℝ) : EReal))
    (hN : ∀ d, N d = ((Real.exp (-m) * S.N d p : ℝ) : EReal)) :
    Ideal.div (∑ c, (∑ d, q d * k c d) * Ideal.exp (ld c - M) * v c + Ideal.exp (mi - M) * ∑ d, q d * C d)
        (max (max (∑ c, (∑ d, q d * k c d) * Ideal.exp (ld c - M) + Ideal.exp (mi - M) * ∑ d, q d * N d)
            (-(∑ c, (∑ d, q d * k c d) * Ideal.exp (ld c - M) + Ideal.exp (mi - M) * ∑ d, q d * N d)))
          (Ideal.exp (-M)))
      = ((S.H (p + (e r).val) j : ℝ) : EReal) := by
  obtain ⟨M', hM'⟩ := max_real (run S.lf p ((e r).val + 1) + m) (Finset.univ.fold max ⊥ ld)
    (fold_max_ne_top _ _ fun c _ => by rw [hld]; split <;> simp)
  rw [← hmi, ← hM] at hM'
  subst hM'
  have h1 := row_eq e S.lf S.ig S.k (fun i => S.v i j) (fun d => S.c0 d j) (S.q (p + (e r).val)) m M' p r
  have h2 := row_eq e S.lf S.ig S.k (fun _ => 1) S.n0 (S.q (p + (e r).val)) m M' p r
  have hw : ∀ c, Ideal.exp (ld c - (M' : EReal)) = (((if (e c).val ≤ (e r).val then Real.exp (S.wt e p r c - M') else 0 : ℝ)) : EReal) := by
    intro c; rw [hld, exp_mask]
  have hi : Ideal.exp (mi - (M' : EReal)) = ((Real.exp (run S.lf p ((e r).val + 1) + m - M') : ℝ) : EReal) := by
    rw [hmi, ← EReal.coe_sub, exp_coe]
  have hz : Ideal.exp (-(M' : EReal)) = ((Real.exp (-M') : ℝ) : EReal) := by rw [← EReal.coe_neg, exp_coe]
  simp only [hw, hi, hz, hq, hk, hv, hC, hN, ← EReal.coe_mul, ← coe_sum, ← EReal.coe_add, coe_abs, ← coe_max]
  rw [div_coe _ _ (lt_max_of_lt_right (Real.exp_pos _))]
  congr 1
  simp only [mul_one] at h2
  unfold wt Seq.C Seq.N
  simp only [mul_one]
  rw [h1, h2, quot_eq]
  unfold H Seq.C Seq.N
  simp only [mul_one, Nat.add_assoc]

/-- The exponent the end of the chunk from `p` on gives to the key of row `c`. -/
def lw (c : Fin T) : ℝ := run S.lf p T - run S.lf p ((e c).val + 1) + S.ig (p + (e c).val)

/-- The stabiliser after a chunk. -/
theorem stab (m : ℝ) (bl M : EReal) (lw : Fin T → EReal)
    (hbl : bl = (run S.lf p T : EReal)) (hlw : ∀ c, lw c = (S.lw e p c : EReal))
    (hM : M = max (bl + (m : EReal)) (Finset.univ.fold max ⊥ lw)) : ∃ M' : ℝ, M = M' := by
  have h := max_real (run S.lf p T + m) (Finset.univ.fold max ⊥ lw) (fold_max_ne_top _ _ fun c _ => by rw [hlw]; simp)
  rw [EReal.coe_add, ← hbl, ← hM] at h
  exact h

/-- An accumulator after a chunk. -/
theorem finish (kk vv : ℕ → ℝ) (z0 : ℝ) (m M : ℝ) (bl : EReal) (lw k v : Fin T → EReal) (z : EReal)
    (hbl : bl = (run S.lf p T : EReal)) (hlw : ∀ c, lw c = (S.lw e p c : EReal))
    (hk : ∀ c, k c = (kk (p + (e c).val) : EReal)) (hv : ∀ c, v c = (vv (p + (e c).val) : EReal))
    (hz : z = ((Real.exp (-m) * acc S.lf S.ig (fun i => kk i * vv i) z0 p : ℝ) : EReal)) :
    Ideal.exp (bl + (m : EReal) - (M : EReal)) * z + ∑ c, k c * Ideal.exp (lw c - (M : EReal)) * v c
      = ((Real.exp (-M) * acc S.lf S.ig (fun i => kk i * vv i) z0 (p + T) : ℝ) : EReal) := by
  simp only [hbl, hlw, hk, hv, hz, ← EReal.coe_add, ← EReal.coe_sub, exp_coe, ← EReal.coe_mul, ← coe_sum]
  congr 1
  exact end_eq e S.lf S.ig kk vv z0 m M p

end Seq

end Cert.Scan
-- ==== Proof.ScanStep.lean ====
/-
  One chunk of one chain of the kernel (a direction and a head), as functions of the blocks it loads and of the state it
  carries: the kernel's body runs these twice per grid point, once for each direction.
-/
module

public import proofs.«01_k».proof.Proof.ScanMath
public import proofs.«01_k».proof.Proof.Gen.KernelIdeal.Skeleton

@[expose] public section

noncomputable section

open scoped BigOperators

namespace Cert.Scan

open Idealize.ShloMosaic Cert.KernelIdeal Cert.KernelIdeal.Gen

/-! ## The functions -/

/-- Row `hd` of the gates, by a masked sum over the sixteen. -/
def gRow (gl : FVec Ideal S1x16x256 .f32) (hd : BitVec 32) : FVec Ideal S1x256 .f32 :=
  shapeCast S1x256 (multiReduction .add [0] S256
    (select (cmpi .eq (iota .tc S16x256 32 [0] iota_S16x256_d0_w32) (broadcast S16x256 hd))
      (shapeCast S16x256 gl shapeCasts_S1x16x256_S16x256) (broadcast S16x256 (Scalar.ofBits .f32 0x00000000#32)))
    0x00000000#32 reduces_S16x256_S256 (.inl rfl) rfl) shapeCasts_S256_S1x256

/-- Column `hd` of the transposed gates. -/
def gCol (gt : FVec Ideal S1x256x16 .f32) (hd : BitVec 32) : FVec Ideal S256x1 .f32 :=
  shapeCast S256x1 (multiReduction .add [1] S256
    (select (cmpi .eq (iota .tc S256x16 32 [1] iota_S256x16_d1_w32) (broadcast S256x16 hd))
      (shapeCast S256x16 gt shapeCasts_S1x256x16_S256x16) (broadcast S256x16 (Scalar.ofBits .f32 0x00000000#32)))
    0x00000000#32 reduces_S256x16_S256 (.inl rfl) rfl) shapeCasts_S256_S256x1

/-- The logarithm of the logistic function, as it prints, at any shape. -/
def ls (S : Shape) (x : FVec Ideal S .f32) : FVec Ideal S .f32 :=
  let z : FVec Ideal S .f32 := broadcast S (Scalar.ofBits .f32 0x00000000#32)
  subf z (select (cmpf .one (subf (subf z x) z) (subf (subf z x) z)) (addf (subf z x) z)
    (addf (maximumf (subf z x) z) (log1p (exp (subf z (absf (subf (subf z x) z)))))))

/-- The positions a row sees: `sg` is 1 forwards and -1 backwards. -/
def msk (sg : BitVec 32) : IVec S256x256 1 :=
  cmpi .sge (muli (broadcast S256x256 sg) (subi (iota .tc S256x256 32 [0] iota_S256x256_d0_w32)
    (iota .tc S256x256 32 [1] iota_S256x256_d1_w32))) (broadcast S256x256 0#32)

/-- The same transposed. -/
def mskT (sg : BitVec 32) : IVec S256x256 1 :=
  cmpi .sge (muli (broadcast S256x256 sg) (subi (iota .tc S256x256 32 [1] iota_S256x256_d1_w32)
    (iota .tc S256x256 32 [0] iota_S256x256_d0_w32))) (broadcast S256x256 0#32)

def bCol (sg : BitVec 32) (lf : FVec Ideal S1x256 .f32) : FVec Ideal S256x1 .f32 :=
  shapeCast S256x1 (multiReduction .add [1] S256
    (select (msk sg) (broadcastTo S256x256 (shapeCast S1x256 lf shapeCasts_S1x256_S1x256) broadcasts_S1x256_S256x256)
      (broadcast S256x256 (Scalar.ofBits .f32 0x00000000#32)))
    0x00000000#32 reduces_S256x256_S256 (.inl rfl) rfl) shapeCasts_S256_S256x1

def bRow (sg : BitVec 32) (lf : FVec Ideal S256x1 .f32) : FVec Ideal S1x256 .f32 :=
  shapeCast S1x256 (multiReduction .add [0] S256
    (select (mskT sg) (broadcastTo S256x256 (shapeCast S256x1 lf shapeCasts_S256x1_S256x1) broadcasts_S256x1_S256x256)
      (broadcast S256x256 (Scalar.ofBits .f32 0x00000000#32)))
    0x00000000#32 reduces_S256x256_S256_2 (.inl rfl) rfl) shapeCasts_S256_S1x256

def bLast (lf : FVec Ideal S1x256 .f32) : FVec Ideal S1x1 .f32 :=
  shapeCast S1x1 (multiReduction .add [1] S1 lf 0x00000000#32 reduces_S1x256_S1 (.inl rfl) rfl) shapeCasts_S1_S1x1

/-- The masked log-weights of a row on a column. -/
def logD (sg : BitVec 32) (ig : FVec Ideal S1x256 .f32) (bc : FVec Ideal S256x1 .f32) (br : FVec Ideal S1x256 .f32) :
    FVec Ideal S256x256 .f32 :=
  select (msk sg)
    (addf (subf (broadcastTo S256x256 bc broadcasts_S256x1_S256x256) (broadcastTo S256x256 br broadcasts_S1x256_S256x256))
      (broadcastTo S256x256 ig broadcasts_S1x256_S256x256))
    (broadcast S256x256 (Named.named (F := Ideal) κ "mask" 0xF149F2CA#32))

def mInter (bc : FVec Ideal S256x1 .f32) (m : FVec Ideal S1x1 .f32) : FVec Ideal S256x1 .f32 :=
  addf bc (broadcastTo S256x1 m broadcasts_S1x1_S256x1)

def mRow (ld : FVec Ideal S256x256 .f32) (mi : FVec Ideal S256x1 .f32) : FVec Ideal S256x1 .f32 :=
  maximumf mi (shapeCast S256x1 (multiReduction .maximumf [1] S256 ld 0xFF800000#32 reduces_S256x256_S256 (.inl rfl) rfl)
    shapeCasts_S256_S256x1)

/-- The weighted products of queries and keys. -/
def sMat (q : FVec Ideal S256x512 .bf16) (kt : FVec Ideal S512x256 .bf16) (ld : FVec Ideal S256x256 .f32)
    (mt : FVec Ideal S256x1 .f32) : FVec Ideal S256x256 .f32 :=
  mulf (matmul dot_S256x512_S512x256_S256x256_1_0_0_1_n_n none q kt (constant S256x256 .f32 0x00000000#32))
    (exp (subf ld (broadcastTo S256x256 mt broadcasts_S256x1_S256x256)))

def num (q : FVec Ideal S256x512 .bf16) (v : FVec Ideal S256x512 .bf16) (s : FVec Ideal S256x256 .f32)
    (it : FVec Ideal S256x1 .f32) (cq : FVec Ideal S512x512 .bf16) : FVec Ideal S256x512 .f32 :=
  addf (matmul dot_S256x256_S256x512_S256x512_1_0_0_1_n_n none (truncf .bf16 s bitsLt_bf16_f32) v
      (constant S256x512 .f32 0x00000000#32))
    (mulf (broadcastTo S256x512 it broadcasts_S256x1_S256x512)
      (matmul dot_S256x512_S512x512_S256x512_1_0_0_1_n_n none q cq (constant S256x512 .f32 0x00000000#32)))

def den (q : FVec Ideal S256x512 .bf16) (s : FVec Ideal S256x256 .f32)
    (it : FVec Ideal S256x1 .f32) (nq : FVec Ideal S512x128 .bf16) : FVec Ideal S256x1 .f32 :=
  addf (shapeCast S256x1 (multiReduction .add [1] S256 s 0x00000000#32 reduces_S256x256_S256 (.inl rfl) rfl)
      shapeCasts_S256_S256x1)
    (mulf it (extractStridedSlice S256x1 ![0, 0]
      (matmul dot_S256x512_S512x128_S256x128_1_0_0_1_n_n none q nq (constant S256x128 .f32 0x00000000#32))
      slices_S256x128_o0_0_S256x1))

def outOf (nm : FVec Ideal S256x512 .f32) (dn mt : FVec Ideal S256x1 .f32) : FVec Ideal S1x256x512 .bf16 :=
  shapeCast S1x256x512 (truncf .bf16 (divf nm (broadcastTo S256x512
    (maximumf (absf dn) (exp (subf (broadcast S256x1 (Scalar.ofBits .f32 0x00000000#32)) mt)))
    broadcasts_S256x1_S256x512)) bitsLt_bf16_f32) shapeCasts_S256x512_S1x256x512

def logW (ig br : FVec Ideal S1x256 .f32) (bl : FVec Ideal S1x1 .f32) : FVec Ideal S1x256 .f32 :=
  addf (subf (broadcastTo S1x256 bl broadcasts_S1x1_S1x256) br) ig

def mNew (bl m : FVec Ideal S1x1 .f32) (lw : FVec Ideal S1x256 .f32) : FVec Ideal S1x1 .f32 :=
  maximumf (addf bl m) (shapeCast S1x1 (multiReduction .maximumf [1] S1 lw 0xFF800000#32 reduces_S1x256_S1 (.inl rfl) rfl)
    shapeCasts_S1_S1x1)

def kw (kt : FVec Ideal S512x256 .bf16) (lw : FVec Ideal S1x256 .f32) (mn : FVec Ideal S1x1 .f32) : FVec Ideal S512x256 .f32 :=
  mulf (extf .f32 kt bitsLt_bf16_f32)
    (broadcastTo S512x256 (exp (subf lw (broadcastTo S1x256 mn broadcasts_S1x1_S1x256))) broadcasts_S1x256_S512x256)

def cNew (dec : FVec Ideal S1x1 .f32) (c : FVec Ideal S512x512 .f32) (w : FVec Ideal S512x256 .f32)
    (v : FVec Ideal S256x512 .bf16) : FVec Ideal S512x512 .f32 :=
  addf (mulf (broadcastTo S512x512 dec broadcasts_S1x1_S512x512) c)
    (matmul dot_S512x256_S256x512_S512x512_1_0_0_1_n_n none (truncf .bf16 w bitsLt_bf16_f32) v
      (constant S512x512 .f32 0x00000000#32))

def nNew (dec : FVec Ideal S1x1 .f32) (n : FVec Ideal S512x128 .f32) (w : FVec Ideal S512x256 .f32) :
    FVec Ideal S512x128 .f32 :=
  addf (mulf (broadcastTo S512x128 dec broadcasts_S1x1_S512x128) n)
    (broadcastTo S512x128 (shapeCast S512x1 (multiReduction .add [1] S512 w 0x00000000#32 reduces_S512x256_S512 (.inl rfl) rfl)
      shapeCasts_S512_S512x1) broadcasts_S512x1_S512x128)

/-- The stabiliser, spread over its tile. -/
def mTile (mn : FVec Ideal S1x1 .f32) : FVec Ideal S8x128 .f32 :=
  shapeCast S8x128 (broadcastTo S8x128 (shapeCast S1x1 mn shapeCasts_S1x1_S1x1) broadcasts_S1x1_S8x128) shapeCasts_S8x128_S8x128

/-! ## A chunk from its loads -/

/-- What a chunk loads: its queries, keys, values and gates (both ways round). -/
structure Loads where
  q : FVec Ideal S1x256x512 .bf16
  kt : FVec Ideal S1x512x256 .bf16
  v : FVec Ideal S1x256x512 .bf16
  gt : FVec Ideal S1x256x16 .f32
  gl : FVec Ideal S1x16x256 .f32

/-- What a chain carries from chunk to chunk. -/
structure St where
  c : FVec Ideal S512x512 .f32
  cq : FVec Ideal S512x512 .bf16
  n : FVec Ideal S512x128 .f32
  nq : FVec Ideal S512x128 .bf16
  m : FVec Ideal S8x128 .f32

variable (sg hd hd4 : BitVec 32)

namespace Loads

variable (L : Loads)

def q2 : FVec Ideal S256x512 .bf16 := shapeCast S256x512 L.q shapeCasts_S1x256x512_S256x512
def kt2 : FVec Ideal S512x256 .bf16 := shapeCast S512x256 L.kt shapeCasts_S1x512x256_S512x256
def v2 : FVec Ideal S256x512 .bf16 := shapeCast S256x512 L.v shapeCasts_S1x256x512_S256x512
def ig : FVec Ideal S1x256 .f32 := gRow L.gl hd
def bc : FVec Ideal S256x1 .f32 := bCol sg (ls S1x256 (gRow L.gl hd4))
def br : FVec Ideal S1x256 .f32 := bRow sg (ls S256x1 (gCol L.gt hd4))
def bl : FVec Ideal S1x1 .f32 := bLast (ls S1x256 (gRow L.gl hd4))
def ld : FVec Ideal S256x256 .f32 := logD sg (L.ig hd) (L.bc sg hd4) (L.br sg hd4)
def mi (m : FVec Ideal S1x1 .f32) : FVec Ideal S256x1 .f32 := mInter (L.bc sg hd4) m
def mt (m : FVec Ideal S1x1 .f32) : FVec Ideal S256x1 .f32 := mRow (L.ld sg hd hd4) (L.mi sg hd4 m)
def it (m : FVec Ideal S1x1 .f32) : FVec Ideal S256x1 .f32 := exp (subf (L.mi sg hd4 m) (L.mt sg hd hd4 m))
def s (m : FVec Ideal S1x1 .f32) : FVec Ideal S256x256 .f32 := sMat L.q2 L.kt2 (L.ld sg hd hd4) (L.mt sg hd hd4 m)
def nm (m : FVec Ideal S1x1 .f32) (cq : FVec Ideal S512x512 .bf16) : FVec Ideal S256x512 .f32 :=
  num L.q2 L.v2 (L.s sg hd hd4 m) (L.it sg hd hd4 m) cq
def dn (m : FVec Ideal S1x1 .f32) (nq : FVec Ideal S512x128 .bf16) : FVec Ideal S256x1 .f32 :=
  den L.q2 (L.s sg hd hd4 m) (L.it sg hd hd4 m) nq
/-- The chunk's rows of the result. -/
def out (m : FVec Ideal S1x1 .f32) (cq : FVec Ideal S512x512 .bf16) (nq : FVec Ideal S512x128 .bf16) :
    FVec Ideal S1x256x512 .bf16 :=
  outOf (L.nm sg hd hd4 m cq) (L.dn sg hd hd4 m nq) (L.mt sg hd hd4 m)
def lw : FVec Ideal S1x256 .f32 := logW (L.ig hd) (L.br sg hd4) (L.bl hd4)
def mn (m : FVec Ideal S1x1 .f32) : FVec Ideal S1x1 .f32 := mNew (L.bl hd4) m (L.lw sg hd hd4)
def dec (m : FVec Ideal S1x1 .f32) : FVec Ideal S1x1 .f32 := exp (subf (addf (L.bl hd4) m) (L.mn sg hd hd4 m))
def w (m : FVec Ideal S1x1 .f32) : FVec Ideal S512x256 .f32 := kw L.kt2 (L.lw sg hd hd4) (L.mn sg hd hd4 m)
def c' (m : FVec Ideal S1x1 .f32) (c : FVec Ideal S512x512 .f32) : FVec Ideal S512x512 .f32 :=
  shapeCast S512x512 (cNew (L.dec sg hd hd4 m) c (L.w sg hd hd4 m) L.v2) shapeCasts_S512x512_S512x512
def cq' (m : FVec Ideal S1x1 .f32) (c : FVec Ideal S512x512 .f32) : FVec Ideal S512x512 .bf16 :=
  shapeCast S512x512 (truncf .bf16 (cNew (L.dec sg hd hd4 m) c (L.w sg hd hd4 m) L.v2) bitsLt_bf16_f32)
    shapeCasts_S512x512_S512x512
def n' (m : FVec Ideal S1x1 .f32) (n : FVec Ideal S512x128 .f32) : FVec Ideal S512x128 .f32 :=
  shapeCast S512x128 (nNew (L.dec sg hd hd4 m) n (L.w sg hd hd4 m)) shapeCasts_S512x128_S512x128
def nq' (m : FVec Ideal S1x1 .f32) (n : FVec Ideal S512x128 .f32) : FVec Ideal S512x128 .bf16 :=
  shapeCast S512x128 (truncf .bf16 (nNew (L.dec sg hd hd4 m) n (L.w sg hd hd4 m)) bitsLt_bf16_f32)
    shapeCasts_S512x128_S512x128
def m' (m : FVec Ideal S1x1 .f32) : FVec Ideal S8x128 .f32 := mTile (L.mn sg hd hd4 m)

end Loads

end Cert.Scan

end
-- ==== Proof.ScanStepValue.lean ====
/-
  A chunk of a chain at the values its blocks hold: its rows are the sequence's, and what it carries on are the accumulators,
  shifted by the new stabiliser.
-/
module

public import proofs.«01_k».proof.Proof.ScanSeq
public import proofs.«01_k».proof.Proof.ScanStep

@[expose] public section

set_option maxRecDepth 16384

noncomputable section

open scoped BigOperators

namespace Cert.Scan

open Idealize.ShloMosaic Cert.KernelIdeal Cert.KernelIdeal.Gen
open Idealize.ShloMosaic.Pointwise

theorem sel_true {α : Type} (P : Prop) [Decidable P] (b : BitVec 1) (h : b = BitVec.ofBool (decide P)) (x y : α) :
    Scalar.select b x y = if P then x else y := by
  subst h
  by_cases hP : P <;> simp [Scalar.select, hP]

theorem sum_pick (n : Fin 16) (f : Fin 16 → EReal) :
    ∑ x : Fin 16, Scalar.select (IntOp.cmpi CmpIPredicate.eq (BitVec.ofNat 32 x.val) (BitVec.ofNat 32 n.val)) (f x) 0 = f n := by
  rw [Finset.sum_eq_single n]
  · rw [sel_true True _ (by simp [IntOp.cmpi]), if_pos trivial]
  · intro x _ hx
    rw [sel_true False, if_neg id]
    revert x n; decide
  · simp

theorem gRow_at (gl : FVec Ideal S1x16x256 .f32) (n : Fin 16) (r : Fin 256) :
    gRow gl (BitVec.ofNat 32 n.val) (ix2 0 r) = gl (ix3 0 n r) := by
  pointwise [gRow]
  exact sum_pick n fun x => gl (ix3 0 x r)

theorem gCol_at (gt : FVec Ideal S1x256x16 .f32) (n : Fin 16) (r : Fin 256) :
    gCol gt (BitVec.ofNat 32 n.val) (ix2 r 0) = gt (ix3 0 r n) := by
  pointwise [gCol]
  exact sum_pick n fun x => gt (ix3 0 r x)

theorem ls_scalar (x : ℝ) :
    (0 - if (0 : EReal) - (x : EReal) ≠ 0 - (x : EReal) then 0 - (x : EReal)
      else max (0 - (x : EReal)) 0 + Ideal.log1p (Ideal.exp (0 - max (0 - (x : EReal)) (-(0 - (x : EReal))))))
      = ((lsig x : ℝ) : EReal) := by
  have h0 : (0 : EReal) = ((0 : ℝ) : EReal) := rfl
  rw [if_neg (by simp), h0, ← EReal.coe_sub, coe_abs, ← EReal.coe_sub, exp_coe, log1p_coe _ (by positivity), ← coe_max,
    ← EReal.coe_add, ← EReal.coe_sub]
  congr 1
  simp [lsig]

theorem ls_row (x : FVec Ideal S1x256 .f32) (r : Fin 256) (a : ℝ) (h : x (ix2 0 r) = (a : EReal)) :
    ls S1x256 x (ix2 0 r) = ((lsig a : ℝ) : EReal) := by
  pointwise [ls]
  rw [h]
  exact ls_scalar a

theorem ls_col (x : FVec Ideal S256x1 .f32) (r : Fin 256) (a : ℝ) (h : x (ix2 r 0) = (a : EReal)) :
    ls S256x1 x (ix2 r 0) = ((lsig a : ℝ) : EReal) := by
  pointwise [ls]
  rw [h]
  exact ls_scalar a

/-- The direction `sg` stores its rows in the order `e`. -/
def Order (sg : BitVec 32) (e : Fin 256 ≃ Fin 256) : Prop :=
  ∀ r c : Fin 256, IntOp.cmpi CmpIPredicate.sge (IntOp.muli sg (IntOp.subi (BitVec.ofNat 32 r.val) (BitVec.ofNat 32 c.val))) 0#32
    = BitVec.ofBool (decide ((e c).val ≤ (e r).val))

theorem msk_at {sg : BitVec 32} {e : Fin 256 ≃ Fin 256} (h : Order sg e) (r c : Fin 256) :
    msk sg (ix2 r c) = BitVec.ofBool (decide ((e c).val ≤ (e r).val)) := by
  pointwise [msk]
  exact h r c

theorem mskT_at {sg : BitVec 32} {e : Fin 256 ≃ Fin 256} (h : Order sg e) (r c : Fin 256) :
    mskT sg (ix2 r c) = BitVec.ofBool (decide ((e r).val ≤ (e c).val)) := by
  pointwise [mskT]
  exact h c r

section order

theorem ofNat_sub_toInt (r c : Fin 256) : (BitVec.ofNat 32 r.val - BitVec.ofNat 32 c.val).toInt = (r.val : ℤ) - c.val := by
  have hr := r.isLt
  have hc := c.isLt
  rw [BitVec.toInt_sub, BitVec.toInt_ofNat', BitVec.toInt_ofNat']
  simp only [Int.bmod_def]
  omega

theorem order_fwd : Order 1#32 (Equiv.refl _) := by
  intro r c
  have h := ofNat_sub_toInt r c
  simp only [IntOp.cmpi, IntOp.muli, IntOp.subi, BitVec.one_mul, BitVec.sle, h, Equiv.refl_apply]
  congr 1
  simp

theorem order_bwd : Order (4294967295#32) Fin.revPerm := by
  intro r c
  have h := ofNat_sub_toInt c r
  have e : 4294967295#32 * (BitVec.ofNat 32 r.val - BitVec.ofNat 32 c.val)
      = BitVec.ofNat 32 c.val - BitVec.ofNat 32 r.val := by
    have : 4294967295#32 = -1#32 := by decide
    rw [this, BitVec.neg_mul, BitVec.one_mul, BitVec.neg_sub, BitVec.add_comm, ← BitVec.sub_eq_add_neg]
  simp only [IntOp.cmpi, IntOp.muli, IntOp.subi, e, BitVec.sle, h, Fin.revPerm_apply, Fin.val_rev]
  congr 1
  have hr := r.isLt
  have hc := c.isLt
  simp
  omega

end order

/-! ## A chunk -/

/-- The blocks a chunk loads hold the positions from `p` on of the sequence `S`, in the order `e`; the input gate is row `hd` and the
    forget gate row `hd4`. -/
structure Reads (S : Seq) (e : Fin 256 ≃ Fin 256) (p : ℕ) (hd hd4 : Fin 16) (L : Loads) : Prop where
  q : ∀ r d, L.q (ix3 0 r d) = (S.q (p + (e r).val) d : EReal)
  kt : ∀ d r, L.kt (ix3 0 d r) = (S.k (p + (e r).val) d : EReal)
  v : ∀ r d, L.v (ix3 0 r d) = (S.v (p + (e r).val) d : EReal)
  ig : ∀ r, L.gl (ix3 0 hd r) = (S.ig (p + (e r).val) : EReal)
  fg : ∀ r, L.gl (ix3 0 hd4 r) = (S.fg (p + (e r).val) : EReal)
  fgt : ∀ r, L.gt (ix3 0 r hd4) = (S.fg (p + (e r).val) : EReal)

/-- A chain carries the accumulators at position `p`, shifted by some stabiliser. -/
structure Carries (S : Seq) (p : ℕ) (s : St) (μ : ℝ) : Prop where
  m : ∀ a b, s.m (ix2 a b) = (μ : EReal)
  c : ∀ d j, s.c (ix2 d j) = ((Real.exp (-μ) * S.C d j p : ℝ) : EReal)
  cq : ∀ d j, s.cq (ix2 d j) = ((Real.exp (-μ) * S.C d j p : ℝ) : EReal)
  n : ∀ d b, s.n (ix2 d b) = ((Real.exp (-μ) * S.N d p : ℝ) : EReal)
  nq : ∀ d b, s.nq (ix2 d b) = ((Real.exp (-μ) * S.N d p : ℝ) : EReal)

section chunk

variable {S : Seq} {e : Fin 256 ≃ Fin 256} {p : ℕ} {hd hd4 : Fin 16} {L : Loads} {sg : BitVec 32}
variable (h : Reads S e p hd hd4 L) (ho : Order sg e)

include h

theorem Reads.lfRow (r : Fin 256) : ls S1x256 (gRow L.gl (BitVec.ofNat 32 hd4.val)) (ix2 0 r) = ((S.lf (p + (e r).val) : ℝ) : EReal) :=
  ls_row _ r _ ((gRow_at _ _ _).trans (h.fg r))

theorem Reads.lfCol (r : Fin 256) : ls S256x1 (gCol L.gt (BitVec.ofNat 32 hd4.val)) (ix2 r 0) = ((S.lf (p + (e r).val) : ℝ) : EReal) :=
  ls_col _ r _ ((gCol_at _ _ _).trans (h.fgt r))

theorem Reads.ig_at (r : Fin 256) : L.ig (BitVec.ofNat 32 hd.val) (ix2 0 r) = ((S.ig (p + (e r).val) : ℝ) : EReal) :=
  (gRow_at _ _ _).trans (h.ig r)

theorem Reads.bl_at : L.bl (BitVec.ofNat 32 hd4.val) (ix2 0 0) = ((run S.lf p 256 : ℝ) : EReal) := by
  have : L.bl (BitVec.ofNat 32 hd4.val) (ix2 0 0) = ∑ c : Fin 256, ls S1x256 (gRow L.gl (BitVec.ofNat 32 hd4.val)) (ix2 0 c) := by
    pointwise [Loads.bl, bLast]
  rw [this]
  simp only [h.lfRow, ← coe_sum]
  rw [sum_rows e (fun i => S.lf (p + i))]
  rfl

include ho

theorem Reads.bc_at (r : Fin 256) : L.bc sg (BitVec.ofNat 32 hd4.val) (ix2 r 0) = ((run S.lf p ((e r).val + 1) : ℝ) : EReal) := by
  have : L.bc sg (BitVec.ofNat 32 hd4.val) (ix2 r 0) = ∑ c : Fin 256, Scalar.select (msk sg (ix2 r c)) (ls S1x256 (gRow L.gl (BitVec.ofNat 32 hd4.val)) (ix2 0 c)) 0 := by
    pointwise [Loads.bc, bCol]
  rw [this]
  have hs : ∀ (c : Fin 256) (x : EReal), Scalar.select (msk sg (ix2 r c)) x 0 = if (e c).val ≤ (e r).val then x else 0 :=
    fun c x => sel_true _ _ (msk_at ho r c) _ _
  simp only [hs, h.lfRow]
  rw [sum_rows_le e (fun i => ((S.lf (p + i) : ℝ) : EReal)), ← coe_sum]
  rfl

theorem Reads.br_at (r : Fin 256) : L.br sg (BitVec.ofNat 32 hd4.val) (ix2 0 r) = ((run S.lf p ((e r).val + 1) : ℝ) : EReal) := by
  have : L.br sg (BitVec.ofNat 32 hd4.val) (ix2 0 r) = ∑ c : Fin 256, Scalar.select (mskT sg (ix2 c r)) (ls S256x1 (gCol L.gt (BitVec.ofNat 32 hd4.val)) (ix2 c 0)) 0 := by
    pointwise [Loads.br, bRow]
  rw [this]
  have hs : ∀ (c : Fin 256) (x : EReal), Scalar.select (mskT sg (ix2 c r)) x 0 = if (e c).val ≤ (e r).val then x else 0 :=
    fun c x => sel_true _ _ (mskT_at ho c r) _ _
  simp only [hs, h.lfCol]
  rw [sum_rows_le e (fun i => ((S.lf (p + i) : ℝ) : EReal)), ← coe_sum]
  rfl

theorem Reads.ld_at (r c : Fin 256) :
    L.ld sg (BitVec.ofNat 32 hd.val) (BitVec.ofNat 32 hd4.val) (ix2 r c) = if (e c).val ≤ (e r).val then ((S.wt e p r c : ℝ) : EReal) else ⊥ := by
  have : L.ld sg (BitVec.ofNat 32 hd.val) (BitVec.ofNat 32 hd4.val) (ix2 r c) = Scalar.select (msk sg (ix2 r c))
      (L.bc sg (BitVec.ofNat 32 hd4.val) (ix2 r 0) - L.br sg (BitVec.ofNat 32 hd4.val) (ix2 0 c) + L.ig (BitVec.ofNat 32 hd.val) (ix2 0 c)) (Named.named (F := Ideal) κ "mask" 0xF149F2CA#32) := by
    pointwise [Loads.ld, logD]
  rw [this, sel_true _ _ (msk_at ho r c), h.bc_at ho, h.br_at ho, h.ig_at, IdealRules.named_const.ideal_named_scalar _ _ _ _ rfl]
  rfl

theorem Reads.lw_at (c : Fin 256) : L.lw sg (BitVec.ofNat 32 hd.val) (BitVec.ofNat 32 hd4.val) (ix2 0 c) = ((S.lw e p c : ℝ) : EReal) := by
  have : L.lw sg (BitVec.ofNat 32 hd.val) (BitVec.ofNat 32 hd4.val) (ix2 0 c) = L.bl (BitVec.ofNat 32 hd4.val) (ix2 0 0) - L.br sg (BitVec.ofNat 32 hd4.val) (ix2 0 c) + L.ig (BitVec.ofNat 32 hd.val) (ix2 0 c) := by
    pointwise [Loads.lw, logW]
  rw [this, h.bl_at, h.br_at ho, h.ig_at]
  rfl

variable {m : FVec Ideal S1x1 .f32} {μ : ℝ} (hm : m (ix2 0 0) = (μ : EReal))
include hm

/-- The rows a chunk stores. -/
theorem Reads.out_at {cq : FVec Ideal S512x512 .bf16} {nq : FVec Ideal S512x128 .bf16}
    (hC : ∀ d j, cq (ix2 d j) = ((Real.exp (-μ) * S.C d j p : ℝ) : EReal))
    (hN : ∀ d b, nq (ix2 d b) = ((Real.exp (-μ) * S.N d p : ℝ) : EReal)) (r : Fin 256) (j : Fin 512) :
    L.out sg (BitVec.ofNat 32 hd.val) (BitVec.ofNat 32 hd4.val) m cq nq (ix3 0 r j) = ((S.H (p + (e r).val) j : ℝ) : EReal) := by
  have hmi : L.mi sg (BitVec.ofNat 32 hd4.val) m (ix2 r 0) = ((run S.lf p ((e r).val + 1) + μ : ℝ) : EReal) := by
    have : L.mi sg (BitVec.ofNat 32 hd4.val) m (ix2 r 0) = L.bc sg (BitVec.ofNat 32 hd4.val) (ix2 r 0) + m (ix2 0 0) := by pointwise [Loads.mi, mInter]
    rw [this, h.bc_at ho, hm]; rfl
  have hmt : L.mt sg (BitVec.ofNat 32 hd.val) (BitVec.ofNat 32 hd4.val) m (ix2 r 0) = max (L.mi sg (BitVec.ofNat 32 hd4.val) m (ix2 r 0)) (Finset.univ.fold max ⊥ fun c => L.ld sg (BitVec.ofNat 32 hd.val) (BitVec.ofNat 32 hd4.val) (ix2 r c)) := by
    have : Ideal.ofBits FTy.f32 0xFF800000#32 = ⊥ := by decide +kernel
    rw [← this]
    pointwise [Loads.mt, mRow]
  have := S.row e p r μ (fun c => L.ld sg (BitVec.ofNat 32 hd.val) (BitVec.ofNat 32 hd4.val) (ix2 r c)) _ _ (fun d => L.q (ix3 0 r d)) (fun c d => L.kt (ix3 0 d c))
    (fun c => L.v (ix3 0 c j)) (fun d => cq (ix2 d j)) (fun d => nq (ix2 d 0)) j (h.ld_at ho r) hmi hmt (h.q r)
    (fun c d => h.kt d c) (fun c => h.v c j) (fun d => hC d j) (fun d => hN d 0)
  rw [← this]
  pointwise [Loads.out, outOf, Loads.nm, num, Loads.dn, den, Loads.s, sMat, Loads.it, Loads.q2, Loads.kt2, Loads.v2]
  rw [zero_sub]
  rfl

/-- What a chunk carries on. -/
theorem Reads.carry {s : St} (hs : Carries S p s μ) :
    ∃ μ' : ℝ, Carries S (p + 256) ⟨L.c' sg (BitVec.ofNat 32 hd.val) (BitVec.ofNat 32 hd4.val) m s.c, L.cq' sg (BitVec.ofNat 32 hd.val) (BitVec.ofNat 32 hd4.val) m s.c, L.n' sg (BitVec.ofNat 32 hd.val) (BitVec.ofNat 32 hd4.val) m s.n, L.nq' sg (BitVec.ofNat 32 hd.val) (BitVec.ofNat 32 hd4.val) m s.n,
      L.m' sg (BitVec.ofNat 32 hd.val) (BitVec.ofNat 32 hd4.val) m⟩ μ' := by
  have hmn : L.mn sg (BitVec.ofNat 32 hd.val) (BitVec.ofNat 32 hd4.val) m (ix2 0 0) = max (L.bl (BitVec.ofNat 32 hd4.val) (ix2 0 0) + (μ : EReal)) (Finset.univ.fold max ⊥ fun c => L.lw sg (BitVec.ofNat 32 hd.val) (BitVec.ofNat 32 hd4.val) (ix2 0 c)) := by
    have : Ideal.ofBits FTy.f32 0xFF800000#32 = ⊥ := by decide +kernel
    rw [← this, ← hm]
    pointwise [Loads.mn, mNew]
  obtain ⟨M, hM⟩ := S.stab e p μ _ _ _ h.bl_at (h.lw_at ho) hmn
  have hc : ∀ d j, cNew (L.dec sg (BitVec.ofNat 32 hd.val) (BitVec.ofNat 32 hd4.val) m) s.c (L.w sg (BitVec.ofNat 32 hd.val) (BitVec.ofNat 32 hd4.val) m) L.v2 (ix2 d j) = ((Real.exp (-M) * S.C d j (p + 256) : ℝ) : EReal) := by
    intro d j
    have := S.finish e p (fun i => S.k i d) (fun i => S.v i j) (S.c0 d j) μ M _ _ (fun c => L.kt (ix3 0 d c))
      (fun c => L.v (ix3 0 c j)) _ h.bl_at (h.lw_at ho) (h.kt d) (fun c => h.v c j) (hs.c d j)
    rw [Seq.C, ← this, ← hM, ← hm]
    pointwise [cNew, Loads.dec, Loads.w, kw, Loads.v2, Loads.kt2]
  have hn : ∀ d b, nNew (L.dec sg (BitVec.ofNat 32 hd.val) (BitVec.ofNat 32 hd4.val) m) s.n (L.w sg (BitVec.ofNat 32 hd.val) (BitVec.ofNat 32 hd4.val) m) (ix2 d b) = ((Real.exp (-M) * S.N d (p + 256) : ℝ) : EReal) := by
    intro d b
    have := S.finish e p (fun i => S.k i d) (fun _ => 1) (S.n0 d) μ M _ _ (fun c => L.kt (ix3 0 d c))
      (fun _ => 1) _ h.bl_at (h.lw_at ho) (h.kt d) (fun _ => rfl) (hs.n d b)
    rw [Seq.N, ← this, ← hM, ← hm]
    simp only [mul_one]
    pointwise [nNew, Loads.dec, Loads.w, kw, Loads.kt2]
  refine ⟨M, ?_, ?_, ?_, ?_, ?_⟩
  · intro b b'
    rw [← hM]
    show L.m' sg (BitVec.ofNat 32 hd.val) (BitVec.ofNat 32 hd4.val) m (ix2 b b') = _
    pointwise [Loads.m', mTile]
  · intro d j
    rw [← hc d j]
    show L.c' sg (BitVec.ofNat 32 hd.val) (BitVec.ofNat 32 hd4.val) m s.c (ix2 d j) = _
    pointwise [Loads.c']
  · intro d j
    rw [← hc d j]
    show L.cq' sg (BitVec.ofNat 32 hd.val) (BitVec.ofNat 32 hd4.val) m s.c (ix2 d j) = _
    pointwise [Loads.cq']
  · intro d j
    rw [← hn d j]
    show L.n' sg (BitVec.ofNat 32 hd.val) (BitVec.ofNat 32 hd4.val) m s.n (ix2 d j) = _
    pointwise [Loads.n']
  · intro d j
    rw [← hn d j]
    show L.nq' sg (BitVec.ofNat 32 hd.val) (BitVec.ofNat 32 hd4.val) m s.n (ix2 d j) = _
    pointwise [Loads.nq']

end chunk

end Cert.Scan
-- ==== Proof.ScanPoint.lean ====
/-
  What one grid point of the kernel leaves: of each of its two chains, the chunk's rows and the state carried on, as functions of the
  blocks it loads and of the state it finds.
-/
module

public import proofs.«01_k».proof.Proof.ScanStepValue
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Scan

open Idealize.ShloMosaic Cert.KernelIdeal Cert.KernelIdeal.Gen
open Idealize.ShloMosaic.TcCoe

/-- The gates' row of the input gate, forwards. -/
def hdF (i : grid0.Coords) : BitVec 32 := Scalar.addi 0#32 (BitVec.ofNat 32 (i 1).val)
/-- The gates' row of the input gate, backwards. -/
def hdB (i : grid0.Coords) : BitVec 32 := Scalar.addi 8#32 (BitVec.ofNat 32 (i 1).val)
/-- The forget gate's row, from the input gate's. -/
def four (a : BitVec 32) : BitVec 32 := Scalar.addi a 4#32

/-- The stabiliser, from its tile. -/
def mAt (x : FVec Ideal S8x128 .f32) : FVec Ideal S1x1 .f32 :=
  View.ld (Val := Elt Ideal) (e' := .f32) x (Rect.unit ![0, 0] ![1, 1] inb_S8x128_S1x1_0_0)

/-- The state after a chunk. -/
def Loads.next (L : Loads) (sg a : BitVec 32) (s : St) : St :=
  ⟨L.c' sg a (four a) (mAt s.m) s.c, L.cq' sg a (four a) (mAt s.m) s.c, L.n' sg a (four a) (mAt s.m) s.n,
    L.nq' sg a (four a) (mAt s.m) s.n, L.m' sg a (four a) (mAt s.m)⟩

/-- The chunk's rows. -/
def Loads.rows (L : Loads) (sg a : BitVec 32) (s : St) : FVec Ideal S1x256x512 .bf16 :=
  L.out sg a (four a) (mAt s.m) s.cq s.nq

variable (m : (ℓ : Loc nD τ sig) → Buf (Elt Ideal) ℓ) (c : Dev nD)

/-- What the forward chain loads at a point. -/
def ldF (t : Fin cfg0.N) : Loads := ⟨iblk m c 0 t, iblk m c 1 t, iblk m c 2 t, iblk m c 3 t, iblk m c 4 t⟩
/-- What the backward chain loads at a point. -/
def ldB (t : Fin cfg0.N) : Loads := ⟨iblk m c 5 t, iblk m c 6 t, iblk m c 7 t, iblk m c 8 t, iblk m c 9 t⟩

/-- The forward chain's state after a point. -/
def stF (n : ℕ) (h : n < cfg0.N) : St :=
  ⟨(outsAt0 m c n h).2.2.1, (outsAt0 m c n h).2.2.2.1, (outsAt0 m c n h).2.2.2.2.1, (outsAt0 m c n h).2.2.2.2.2.1,
    (outsAt0 m c n h).2.2.2.2.2.2.1⟩
/-- The backward chain's state after a point. -/
def stB (n : ℕ) (h : n < cfg0.N) : St :=
  ⟨(outsAt0 m c n h).2.2.2.2.2.2.2.1, (outsAt0 m c n h).2.2.2.2.2.2.2.2.1, (outsAt0 m c n h).2.2.2.2.2.2.2.2.2.1,
    (outsAt0 m c n h).2.2.2.2.2.2.2.2.2.2.1, (outsAt0 m c n h).2.2.2.2.2.2.2.2.2.2.2⟩

/-! ## A point that is not the first of its chunks -/

section later

variable (t : Fin cfg0.N) (h0 : ¬t.val % 16 = 0) (h1 : t.val - 1 < cfg0.N)

include h0

theorem later_rowsF : (outsAt0 m c t.val t.isLt).1 = (ldF m c t).rows 1#32 (hdF (grid0.coords t)) (stF m c (t.val - 1) h1) := by
  rw [outsAt0_B m c t h0]
  frame_out
  simp only [read_unread_whole]
  rfl

theorem later_rowsB : (outsAt0 m c t.val t.isLt).2.1
    = (ldB m c t).rows 4294967295#32 (hdB (grid0.coords t)) (stB m c (t.val - 1) h1) := by
  rw [outsAt0_B m c t h0]
  frame_out
  simp only [read_unread_whole]
  rfl

theorem later_cF : (outsAt0 m c t.val t.isLt).2.2.1
    = ((ldF m c t).next 1#32 (hdF (grid0.coords t)) (stF m c (t.val - 1) h1)).c := by
  rw [outsAt0_B m c t h0]
  frame_out
  simp only [read_unread_whole]
  rfl

theorem later_cqF : (outsAt0 m c t.val t.isLt).2.2.2.1
    = ((ldF m c t).next 1#32 (hdF (grid0.coords t)) (stF m c (t.val - 1) h1)).cq := by
  rw [outsAt0_B m c t h0]
  frame_out
  simp only [read_unread_whole]
  rfl

theorem later_nF : (outsAt0 m c t.val t.isLt).2.2.2.2.1
    = ((ldF m c t).next 1#32 (hdF (grid0.coords t)) (stF m c (t.val - 1) h1)).n := by
  rw [outsAt0_B m c t h0]
  frame_out
  simp only [read_unread_whole]
  rfl

theorem later_nqF : (outsAt0 m c t.val t.isLt).2.2.2.2.2.1
    = ((ldF m c t).next 1#32 (hdF (grid0.coords t)) (stF m c (t.val - 1) h1)).nq := by
  rw [outsAt0_B m c t h0]
  frame_out
  simp only [read_unread_whole]
  rfl

theorem later_mF : (outsAt0 m c t.val t.isLt).2.2.2.2.2.2.1
    = ((ldF m c t).next 1#32 (hdF (grid0.coords t)) (stF m c (t.val - 1) h1)).m := by
  rw [outsAt0_B m c t h0]
  frame_out
  simp only [read_unread_whole]
  rfl

theorem later_stF : stF m c t.val t.isLt = (ldF m c t).next 1#32 (hdF (grid0.coords t)) (stF m c (t.val - 1) h1) := by
  rw [stF, later_cF m c t h0 h1, later_cqF m c t h0 h1, later_nF m c t h0 h1, later_nqF m c t h0 h1, later_mF m c t h0 h1]

theorem later_cB : (outsAt0 m c t.val t.isLt).2.2.2.2.2.2.2.1
    = ((ldB m c t).next 4294967295#32 (hdB (grid0.coords t)) (stB m c (t.val - 1) h1)).c := by
  rw [outsAt0_B m c t h0]
  frame_out
  simp only [read_unread_whole]
  rfl

theorem later_cqB : (outsAt0 m c t.val t.isLt).2.2.2.2.2.2.2.2.1
    = ((ldB m c t).next 4294967295#32 (hdB (grid0.coords t)) (stB m c (t.val - 1) h1)).cq := by
  rw [outsAt0_B m c t h0]
  frame_out
  simp only [read_unread_whole]
  rfl

theorem later_nB : (outsAt0 m c t.val t.isLt).2.2.2.2.2.2.2.2.2.1
    = ((ldB m c t).next 4294967295#32 (hdB (grid0.coords t)) (stB m c (t.val - 1) h1)).n := by
  rw [outsAt0_B m c t h0]
  frame_out
  simp only [read_unread_whole]
  rfl

theorem later_nqB : (outsAt0 m c t.val t.isLt).2.2.2.2.2.2.2.2.2.2.1
    = ((ldB m c t).next 4294967295#32 (hdB (grid0.coords t)) (stB m c (t.val - 1) h1)).nq := by
  rw [outsAt0_B m c t h0]
  frame_out
  simp only [read_unread_whole]
  rfl

theorem later_mB : (outsAt0 m c t.val t.isLt).2.2.2.2.2.2.2.2.2.2.2
    = ((ldB m c t).next 4294967295#32 (hdB (grid0.coords t)) (stB m c (t.val - 1) h1)).m := by
  rw [outsAt0_B m c t h0]
  frame_out
  simp only [read_unread_whole]
  rfl

theorem later_stB : stB m c t.val t.isLt = (ldB m c t).next 4294967295#32 (hdB (grid0.coords t)) (stB m c (t.val - 1) h1) := by
  rw [stB, later_cB m c t h0 h1, later_cqB m c t h0 h1, later_nB m c t h0 h1, later_nqB m c t h0 h1, later_mB m c t h0 h1]

end later

/-! ## The first point of a batch's head -/

section first

/-- The state a chain starts from, from its blocks of the initial states. -/
def initOf (x : FVec Ideal S1x1x1x512x512 .f32) (y : FVec Ideal S1x1x1x512x128 .f32) (z : FVec Ideal S1x1x1x8x128 .f32) : St :=
  ⟨k0_pay3 x, k0_pay4 x, k0_pay6 y, k0_pay7 y, k0_pay8 z⟩

/-- The forward chain's start, from the blocks of both directions. -/
def initF (x : FVec Ideal S2x1x1x512x512 .f32) (y : FVec Ideal S2x1x1x512x128 .f32) (z : FVec Ideal S2x1x1x8x128 .f32) : St :=
  initOf
    (View.ld (Val := Elt Ideal) (e' := .f32) x (Rect.unit ![0, 0, 0, 0, 0] ![1, 1, 1, 512, 512] inb_S2x1x1x512x512_S1x1x1x512x512_0_0_0_0_0))
    (View.ld (Val := Elt Ideal) (e' := .f32) y (Rect.unit ![0, 0, 0, 0, 0] ![1, 1, 1, 512, 128] inb_S2x1x1x512x128_S1x1x1x512x128_0_0_0_0_0))
    (View.ld (Val := Elt Ideal) (e' := .f32) z (Rect.unit ![0, 0, 0, 0, 0] ![1, 1, 1, 8, 128] inb_S2x1x1x8x128_S1x1x1x8x128_0_0_0_0_0))

/-- The backward chain's start. -/
def initB (x : FVec Ideal S2x1x1x512x512 .f32) (y : FVec Ideal S2x1x1x512x128 .f32) (z : FVec Ideal S2x1x1x8x128 .f32) : St :=
  initOf
    (View.ld (Val := Elt Ideal) (e' := .f32) x (Rect.unit ![1, 0, 0, 0, 0] ![1, 1, 1, 512, 512] inb_S2x1x1x512x512_S1x1x1x512x512_1_0_0_0_0))
    (View.ld (Val := Elt Ideal) (e' := .f32) y (Rect.unit ![1, 0, 0, 0, 0] ![1, 1, 1, 512, 128] inb_S2x1x1x512x128_S1x1x1x512x128_1_0_0_0_0))
    (View.ld (Val := Elt Ideal) (e' := .f32) z (Rect.unit ![1, 0, 0, 0, 0] ![1, 1, 1, 8, 128] inb_S2x1x1x8x128_S1x1x1x8x128_1_0_0_0_0))

/-- The state the forward chain starts from at a point. -/
def inF (t : Fin cfg0.N) : St := initF (iblk m c 10 t) (iblk m c 11 t) (iblk m c 12 t)
/-- The state the backward chain starts from at a point. -/
def inB (t : Fin cfg0.N) : St := initB (iblk m c 10 t) (iblk m c 11 t) (iblk m c 12 t)

variable (t : Fin cfg0.N) (h0 : t.val % 16 = 0)

include h0

theorem first_rowsF : (outsAt0 m c t.val t.isLt).1 = (ldF m c t).rows 1#32 (hdF (grid0.coords t)) (inF m c t) := by
  rw [outsAt0_A m c t h0]
  frame_open
  simp (disch := decide) only [↓ View.readCov_skip, ↓ View.readCov_cons_toLoadRect, ↓ View.readCov_fill]
  frame_out
  rfl

theorem first_cF : (outsAt0 m c t.val t.isLt).2.2.1 = ((ldF m c t).next 1#32 (hdF (grid0.coords t)) (inF m c t)).c := by
  rw [outsAt0_A m c t h0]
  frame_open
  simp (disch := decide) only [↓ View.readCov_skip, ↓ View.readCov_cons_toLoadRect, ↓ View.readCov_fill]
  frame_out
  rfl

theorem first_cqF : (outsAt0 m c t.val t.isLt).2.2.2.1 = ((ldF m c t).next 1#32 (hdF (grid0.coords t)) (inF m c t)).cq := by
  rw [outsAt0_A m c t h0]
  frame_open
  simp (disch := decide) only [↓ View.readCov_skip, ↓ View.readCov_cons_toLoadRect, ↓ View.readCov_fill]
  frame_out
  rfl

theorem first_nF : (outsAt0 m c t.val t.isLt).2.2.2.2.1 = ((ldF m c t).next 1#32 (hdF (grid0.coords t)) (inF m c t)).n := by
  rw [outsAt0_A m c t h0]
  frame_open
  simp (disch := decide) only [↓ View.readCov_skip, ↓ View.readCov_cons_toLoadRect, ↓ View.readCov_fill]
  frame_out
  rfl

theorem first_nqF : (outsAt0 m c t.val t.isLt).2.2.2.2.2.1 = ((ldF m c t).next 1#32 (hdF (grid0.coords t)) (inF m c t)).nq := by
  rw [outsAt0_A m c t h0]
  frame_open
  simp (disch := decide) only [↓ View.readCov_skip, ↓ View.readCov_cons_toLoadRect, ↓ View.readCov_fill]
  frame_out
  rfl

theorem first_mF : (outsAt0 m c t.val t.isLt).2.2.2.2.2.2.1 = ((ldF m c t).next 1#32 (hdF (grid0.coords t)) (inF m c t)).m := by
  rw [outsAt0_A m c t h0]
  frame_open
  simp (disch := decide) only [↓ View.readCov_skip, ↓ View.readCov_cons_toLoadRect, ↓ View.readCov_fill]
  frame_out
  rfl

theorem first_stF : stF m c t.val t.isLt = (ldF m c t).next 1#32 (hdF (grid0.coords t)) (inF m c t) := by
  unfold stF
  rw [first_cF m c t h0, first_cqF m c t h0, first_nF m c t h0, first_nqF m c t h0, first_mF m c t h0]

theorem first_rowsB : (outsAt0 m c t.val t.isLt).2.1 = (ldB m c t).rows 4294967295#32 (hdB (grid0.coords t)) (inB m c t) := by
  rw [outsAt0_A m c t h0]
  frame_open
  simp (disch := decide) only [↓ View.readCov_skip, ↓ View.readCov_cons_toLoadRect, ↓ View.readCov_fill]
  frame_out
  rfl

theorem first_cB : (outsAt0 m c t.val t.isLt).2.2.2.2.2.2.2.1 = ((ldB m c t).next 4294967295#32 (hdB (grid0.coords t)) (inB m c t)).c := by
  rw [outsAt0_A m c t h0]
  frame_open
  simp (disch := decide) only [↓ View.readCov_skip, ↓ View.readCov_cons_toLoadRect, ↓ View.readCov_fill]
  frame_out
  rfl

theorem first_cqB : (outsAt0 m c t.val t.isLt).2.2.2.2.2.2.2.2.1 = ((ldB m c t).next 4294967295#32 (hdB (grid0.coords t)) (inB m c t)).cq := by
  rw [outsAt0_A m c t h0]
  frame_open
  simp (disch := decide) only [↓ View.readCov_skip, ↓ View.readCov_cons_toLoadRect, ↓ View.readCov_fill]
  frame_out
  rfl

theorem first_nB : (outsAt0 m c t.val t.isLt).2.2.2.2.2.2.2.2.2.1 = ((ldB m c t).next 4294967295#32 (hdB (grid0.coords t)) (inB m c t)).n := by
  rw [outsAt0_A m c t h0]
  frame_open
  simp (disch := decide) only [↓ View.readCov_skip, ↓ View.readCov_cons_toLoadRect, ↓ View.readCov_fill]
  frame_out
  rfl

theorem first_nqB : (outsAt0 m c t.val t.isLt).2.2.2.2.2.2.2.2.2.2.1 = ((ldB m c t).next 4294967295#32 (hdB (grid0.coords t)) (inB m c t)).nq := by
  rw [outsAt0_A m c t h0]
  frame_open
  simp (disch := decide) only [↓ View.readCov_skip, ↓ View.readCov_cons_toLoadRect, ↓ View.readCov_fill]
  frame_out
  rfl

theorem first_mB : (outsAt0 m c t.val t.isLt).2.2.2.2.2.2.2.2.2.2.2 = ((ldB m c t).next 4294967295#32 (hdB (grid0.coords t)) (inB m c t)).m := by
  rw [outsAt0_A m c t h0]
  frame_open
  simp (disch := decide) only [↓ View.readCov_skip, ↓ View.readCov_cons_toLoadRect, ↓ View.readCov_fill]
  frame_out
  rfl

theorem first_stB : stB m c t.val t.isLt = (ldB m c t).next 4294967295#32 (hdB (grid0.coords t)) (inB m c t) := by
  unfold stB
  rw [first_cB m c t h0, first_cqB m c t h0, first_nB m c t h0, first_nqB m c t h0, first_mB m c t h0]

end first

end Cert.Scan
-- ==== Proof.ScanArgs.lean ====
/-
  The sequences the two scans go through, from the arguments: the queries, keys, values and gates of a batch and a head, in the order of
  a direction, and what the accumulators start from.
-/
module

public import proofs.«01_k».proof.Proof.ScanSeq
public import proofs.«01_k».proof.Proof.Gen.ReferenceIdeal

@[expose] public section

noncomputable section

namespace Cert.Scan

open Idealize.ShloMosaic Cert.ReferenceIdeal
open Idealize.ShloMosaic.Pointwise

/-- The arguments of either program. -/
structure Args where
  q : FVec Ideal S4x4096x2048 .bf16
  k : FVec Ideal S4x4096x2048 .bf16
  v : FVec Ideal S4x4096x2048 .bf16
  g : FVec Ideal S4x4096x16 .f32
  c : FVec Ideal S2x4x4x512x512 .f32
  n : FVec Ideal S2x4x4x512 .f32
  m : FVec Ideal S2x4x4 .f32

/-- Every entry is a real number. -/
structure Args.Real (A : Args) : Prop where
  q : ∀ i, A.q i = ((A.q i).toReal : EReal)
  k : ∀ i, A.k i = ((A.k i).toReal : EReal)
  v : ∀ i, A.v i = ((A.v i).toReal : EReal)
  g : ∀ i, A.g i = ((A.g i).toReal : EReal)
  c : ∀ i, A.c i = ((A.c i).toReal : EReal)
  n : ∀ i, A.n i = ((A.n i).toReal : EReal)
  m : ∀ i, A.m i = ((A.m i).toReal : EReal)

/-- The row a direction comes to at step `i`: forwards from the first, backwards from the last. -/
def pos (d : Fin 2) (i : ℕ) : Fin 4096 :=
  if d = 0 then ⟨i % 4096, Nat.mod_lt _ (by decide)⟩ else Fin.rev ⟨i % 4096, Nat.mod_lt _ (by decide)⟩

theorem pos_fwd (i : ℕ) (h : i < 4096) : pos 0 i = ⟨i, h⟩ := Fin.ext (Nat.mod_eq_of_lt h)

theorem pos_bwd (i : ℕ) (h : i < 4096) : pos 1 i = ⟨4095 - i, by omega⟩ := by
  apply Fin.ext
  show 4096 - (i % 4096 + 1) = 4095 - i
  rw [Nat.mod_eq_of_lt h]
  omega

/-- Column `e` of head `h`. -/
def col (h : Fin 4) (e : Fin 512) : Fin 2048 := ⟨512 * h.val + e.val, by omega⟩

/-- The gates' column of a direction's input gate of head `h`. -/
def colI (d : Fin 2) (h : Fin 4) : Fin 16 := ⟨8 * d.val + h.val, by omega⟩

/-- The gates' column of a direction's forget gate of head `h`. -/
def colF (d : Fin 2) (h : Fin 4) : Fin 16 := ⟨8 * d.val + 4 + h.val, by omega⟩

/-- Batch `b`'s head `h` in direction `d`. -/
def Args.seq (A : Args) (d : Fin 2) (b h : Fin 4) : Seq where
  q i e := (A.q (ix3 b (pos d i) (col h e))).toReal
  k i e := (A.k (ix3 b (pos d i) (col h e))).toReal
  v i e := (A.v (ix3 b (pos d i) (col h e))).toReal
  ig i := (A.g (ix3 b (pos d i) (colI d h))).toReal
  fg i := (A.g (ix3 b (pos d i) (colF d h))).toReal
  c0 e j := Real.exp (A.m (ix3 d b h)).toReal * (A.c (ix5 d b h e j)).toReal
  n0 e := Real.exp (A.m (ix3 d b h)).toReal * (A.n (ix4 d b h e)).toReal

end Cert.Scan
-- ==== Proof.ScanBlocks.lean ====
/-
  The blocks a grid point loads, in terms of the arguments: point `t` works on head `t / 16 % 4` of batch `t / 64`, forwards at the
  256 positions from `256 * (t % 16)` on and backwards at as many from the end.
-/
module

public import proofs.«01_k».proof.Proof.ScanPoint
public import proofs.«01_k».proof.Proof.ScanArgs
public import Idealize.ShloMosaic.Lib.Claim

@[expose] public section

set_option maxRecDepth 16384

noncomputable section

namespace Cert.Scan

open Idealize.ShloMosaic Cert.KernelIdeal Cert.KernelIdeal.Gen
open Idealize.ShloMosaic.TcCoe
open Idealize.ShloMosaic.Pointwise

variable (m : (ℓ : Loc nD τ sig) → Buf (Elt Ideal) ℓ) (c : Dev nD)

/-- The kernel's arguments. -/
def argsOf : Args where
  q := m ((c : Thread nD τ).loc main_arg0)
  k := m ((c : Thread nD τ).loc main_arg1)
  v := m ((c : Thread nD τ).loc main_arg2)
  g := m ((c : Thread nD τ).loc main_arg3)
  c := m ((c : Thread nD τ).loc main_arg4)
  n := m ((c : Thread nD τ).loc main_arg5)
  m := m ((c : Thread nD τ).loc main_arg6)

theorem lt256 (t : Fin cfg0.N) : t.val < 256 := lt_of_lt_of_eq t.isLt N_0

/-- A point's batch. -/
def bOf (t : Fin cfg0.N) : Fin 4 := ⟨t.val / 64, by have := lt256 t; omega⟩
/-- A point's head. -/
def hOf (t : Fin cfg0.N) : Fin 4 := ⟨t.val / 16 % 4, by omega⟩
/-- A point's row `r` of the arrays, forwards. -/
def rowF (t : Fin cfg0.N) (r : Fin 256) : Fin 4096 := ⟨256 * (t.val % 16) + r.val, by omega⟩
/-- A point's row `r` of the arrays, backwards. -/
def rowB (t : Fin cfg0.N) (r : Fin 256) : Fin 4096 := ⟨256 * (15 - t.val % 16) + r.val, by omega⟩

theorem coord1 : ∀ t : Fin cfg0.N, (grid0.coords t 1).val = t.val / 16 % 4 :=
  (by decide +kernel : ∀ t : Fin grid0.N, (grid0.coords t 1).val = t.val / 16 % 4)

theorem idx0 : ∀ t : Fin cfg0.N, (cfg0.win 0).index t = ![t.val / 64, t.val % 16, t.val / 16 % 4] := by decide +kernel
theorem idx1 : ∀ t : Fin cfg0.N, (cfg0.win 1).index t = ![t.val / 64, t.val / 16 % 4, t.val % 16] := by decide +kernel
theorem idx2 : ∀ t : Fin cfg0.N, (cfg0.win 2).index t = ![t.val / 64, t.val % 16, t.val / 16 % 4] := by decide +kernel
theorem idx3 : ∀ t : Fin cfg0.N, (cfg0.win 3).index t = ![t.val / 64, t.val % 16, 0] := by decide +kernel
theorem idx4 : ∀ t : Fin cfg0.N, (cfg0.win 4).index t = ![t.val / 64, 0, t.val % 16] := by decide +kernel
theorem idx5 : ∀ t : Fin cfg0.N, (cfg0.win 5).index t = ![t.val / 64, 15 - t.val % 16, t.val / 16 % 4] := by decide +kernel
theorem idx6 : ∀ t : Fin cfg0.N, (cfg0.win 6).index t = ![t.val / 64, t.val / 16 % 4, 15 - t.val % 16] := by decide +kernel
theorem idx7 : ∀ t : Fin cfg0.N, (cfg0.win 7).index t = ![t.val / 64, 15 - t.val % 16, t.val / 16 % 4] := by decide +kernel
theorem idx8 : ∀ t : Fin cfg0.N, (cfg0.win 8).index t = ![t.val / 64, 15 - t.val % 16, 0] := by decide +kernel
theorem idx9 : ∀ t : Fin cfg0.N, (cfg0.win 9).index t = ![t.val / 64, 0, 15 - t.val % 16] := by decide +kernel
theorem idx10 : ∀ t : Fin cfg0.N, (cfg0.win 10).index t = ![0, t.val / 64, t.val / 16 % 4, 0, 0] := by decide +kernel
theorem idx11 : ∀ t : Fin cfg0.N, (cfg0.win 11).index t = ![0, t.val / 64, t.val / 16 % 4, 0, 0] := by decide +kernel
theorem idx12 : ∀ t : Fin cfg0.N, (cfg0.win 12).index t = ![0, t.val / 64, t.val / 16 % 4, 0, 0] := by decide +kernel
theorem idx13 : ∀ t : Fin cfg0.N, (cfg0.win 13).index t = ![t.val / 64, t.val % 16, t.val / 16 % 4] := by decide +kernel
theorem idx14 : ∀ t : Fin cfg0.N, (cfg0.win 14).index t = ![t.val / 64, 15 - t.val % 16, t.val / 16 % 4] := by decide +kernel

variable (t : Fin cfg0.N)

theorem emb0 (r : Fin 256) (d : Fin 512) :
    ((cfg0.win 0).blk t).view.emb (ix3 0 r d) = ix3 (bOf t) (rowF t r) (col (hOf t) d) := by
  funext a
  apply Fin.ext
  fin_cases a
  · blk_simp [idx0]
    exact congrFun (idx0 t) 0
  · blk_simp [idx0]
    show (cfg0.win 0).index t 1 * 256 + r.val = 256 * (t.val % 16) + r.val
    rw [congrFun (idx0 t) 1]
    show t.val % 16 * 256 + r.val = 256 * (t.val % 16) + r.val
    omega
  · blk_simp [idx0]
    show (cfg0.win 0).index t 2 * 512 + d.val = 512 * (t.val / 16 % 4) + d.val
    rw [congrFun (idx0 t) 2]
    show t.val / 16 % 4 * 512 + d.val = 512 * (t.val / 16 % 4) + d.val
    omega

theorem emb1 (r : Fin 256) (d : Fin 512) :
    ((cfg0.win 1).blk t).view.emb (ix3 0 d r) = ix3 (bOf t) (col (hOf t) d) (rowF t r) := by
  funext a
  apply Fin.ext
  fin_cases a
  · blk_simp [idx1]
    exact congrFun (idx1 t) 0
  · blk_simp [idx1]
    show (cfg0.win 1).index t 1 * 512 + d.val = 512 * (t.val / 16 % 4) + d.val
    rw [congrFun (idx1 t) 1]
    show t.val / 16 % 4 * 512 + d.val = 512 * (t.val / 16 % 4) + d.val
    omega
  · blk_simp [idx1]
    show (cfg0.win 1).index t 2 * 256 + r.val = 256 * (t.val % 16) + r.val
    rw [congrFun (idx1 t) 2]
    show t.val % 16 * 256 + r.val = 256 * (t.val % 16) + r.val
    omega

theorem emb2 (r : Fin 256) (d : Fin 512) :
    ((cfg0.win 2).blk t).view.emb (ix3 0 r d) = ix3 (bOf t) (rowF t r) (col (hOf t) d) := by
  funext a
  apply Fin.ext
  fin_cases a
  · blk_simp [idx2]
    exact congrFun (idx2 t) 0
  · blk_simp [idx2]
    show (cfg0.win 2).index t 1 * 256 + r.val = 256 * (t.val % 16) + r.val
    rw [congrFun (idx2 t) 1]
    show t.val % 16 * 256 + r.val = 256 * (t.val % 16) + r.val
    omega
  · blk_simp [idx2]
    show (cfg0.win 2).index t 2 * 512 + d.val = 512 * (t.val / 16 % 4) + d.val
    rw [congrFun (idx2 t) 2]
    show t.val / 16 % 4 * 512 + d.val = 512 * (t.val / 16 % 4) + d.val
    omega

theorem emb3 (r : Fin 256) (g : Fin 16) :
    ((cfg0.win 3).blk t).view.emb (ix3 0 r g) = ix3 (bOf t) (rowF t r) g := by
  funext a
  apply Fin.ext
  fin_cases a
  · blk_simp [idx3]
    exact congrFun (idx3 t) 0
  · blk_simp [idx3]
    show (cfg0.win 3).index t 1 * 256 + r.val = 256 * (t.val % 16) + r.val
    rw [congrFun (idx3 t) 1]
    show t.val % 16 * 256 + r.val = 256 * (t.val % 16) + r.val
    omega
  · blk_simp [idx3]
    show (cfg0.win 3).index t 2 * 16 + g.val = g.val
    rw [congrFun (idx3 t) 2]
    show 0 * 16 + g.val = g.val
    omega

theorem emb4 (r : Fin 256) (g : Fin 16) :
    ((cfg0.win 4).blk t).view.emb (ix3 0 g r) = ix3 (bOf t) g (rowF t r) := by
  funext a
  apply Fin.ext
  fin_cases a
  · blk_simp [idx4]
    exact congrFun (idx4 t) 0
  · blk_simp [idx4]
    show (cfg0.win 4).index t 1 * 16 + g.val = g.val
    rw [congrFun (idx4 t) 1]
    show 0 * 16 + g.val = g.val
    omega
  · blk_simp [idx4]
    show (cfg0.win 4).index t 2 * 256 + r.val = 256 * (t.val % 16) + r.val
    rw [congrFun (idx4 t) 2]
    show t.val % 16 * 256 + r.val = 256 * (t.val % 16) + r.val
    omega

theorem emb5 (r : Fin 256) (d : Fin 512) :
    ((cfg0.win 5).blk t).view.emb (ix3 0 r d) = ix3 (bOf t) (rowB t r) (col (hOf t) d) := by
  funext a
  apply Fin.ext
  fin_cases a
  · blk_simp [idx5]
    exact congrFun (idx5 t) 0
  · blk_simp [idx5]
    show (cfg0.win 5).index t 1 * 256 + r.val = 256 * (15 - t.val % 16) + r.val
    rw [congrFun (idx5 t) 1]
    show (15 - t.val % 16) * 256 + r.val = 256 * (15 - t.val % 16) + r.val
    omega
  · blk_simp [idx5]
    show (cfg0.win 5).index t 2 * 512 + d.val = 512 * (t.val / 16 % 4) + d.val
    rw [congrFun (idx5 t) 2]
    show t.val / 16 % 4 * 512 + d.val = 512 * (t.val / 16 % 4) + d.val
    omega

theorem emb6 (r : Fin 256) (d : Fin 512) :
    ((cfg0.win 6).blk t).view.emb (ix3 0 d r) = ix3 (bOf t) (col (hOf t) d) (rowB t r) := by
  funext a
  apply Fin.ext
  fin_cases a
  · blk_simp [idx6]
    exact congrFun (idx6 t) 0
  · blk_simp [idx6]
    show (cfg0.win 6).index t 1 * 512 + d.val = 512 * (t.val / 16 % 4) + d.val
    rw [congrFun (idx6 t) 1]
    show t.val / 16 % 4 * 512 + d.val = 512 * (t.val / 16 % 4) + d.val
    omega
  · blk_simp [idx6]
    show (cfg0.win 6).index t 2 * 256 + r.val = 256 * (15 - t.val % 16) + r.val
    rw [congrFun (idx6 t) 2]
    show (15 - t.val % 16) * 256 + r.val = 256 * (15 - t.val % 16) + r.val
    omega

theorem emb7 (r : Fin 256) (d : Fin 512) :
    ((cfg0.win 7).blk t).view.emb (ix3 0 r d) = ix3 (bOf t) (rowB t r) (col (hOf t) d) := by
  funext a
  apply Fin.ext
  fin_cases a
  · blk_simp [idx7]
    exact congrFun (idx7 t) 0
  · blk_simp [idx7]
    show (cfg0.win 7).index t 1 * 256 + r.val = 256 * (15 - t.val % 16) + r.val
    rw [congrFun (idx7 t) 1]
    show (15 - t.val % 16) * 256 + r.val = 256 * (15 - t.val % 16) + r.val
    omega
  · blk_simp [idx7]
    show (cfg0.win 7).index t 2 * 512 + d.val = 512 * (t.val / 16 % 4) + d.val
    rw [congrFun (idx7 t) 2]
    show t.val / 16 % 4 * 512 + d.val = 512 * (t.val / 16 % 4) + d.val
    omega

theorem emb8 (r : Fin 256) (g : Fin 16) :
    ((cfg0.win 8).blk t).view.emb (ix3 0 r g) = ix3 (bOf t) (rowB t r) g := by
  funext a
  apply Fin.ext
  fin_cases a
  · blk_simp [idx8]
    exact congrFun (idx8 t) 0
  · blk_simp [idx8]
    show (cfg0.win 8).index t 1 * 256 + r.val = 256 * (15 - t.val % 16) + r.val
    rw [congrFun (idx8 t) 1]
    show (15 - t.val % 16) * 256 + r.val = 256 * (15 - t.val % 16) + r.val
    omega
  · blk_simp [idx8]
    show (cfg0.win 8).index t 2 * 16 + g.val = g.val
    rw [congrFun (idx8 t) 2]
    show 0 * 16 + g.val = g.val
    omega

theorem emb9 (r : Fin 256) (g : Fin 16) :
    ((cfg0.win 9).blk t).view.emb (ix3 0 g r) = ix3 (bOf t) g (rowB t r) := by
  funext a
  apply Fin.ext
  fin_cases a
  · blk_simp [idx9]
    exact congrFun (idx9 t) 0
  · blk_simp [idx9]
    show (cfg0.win 9).index t 1 * 16 + g.val = g.val
    rw [congrFun (idx9 t) 1]
    show 0 * 16 + g.val = g.val
    omega
  · blk_simp [idx9]
    show (cfg0.win 9).index t 2 * 256 + r.val = 256 * (15 - t.val % 16) + r.val
    rw [congrFun (idx9 t) 2]
    show (15 - t.val % 16) * 256 + r.val = 256 * (15 - t.val % 16) + r.val
    omega

theorem emb10 (x : Fin 2) (d e : Fin 512) :
    ((cfg0.win 10).blk t).view.emb (ix5 x 0 0 d e) = ix5 x (bOf t) (hOf t) d e := by
  funext a
  apply Fin.ext
  fin_cases a
  · blk_simp [idx10]
    show (cfg0.win 10).index t 0 * 2 + x.val = x.val
    rw [congrFun (idx10 t) 0]
    show 0 * 2 + x.val = x.val
    omega
  · blk_simp [idx10]
    exact congrFun (idx10 t) 1
  · blk_simp [idx10]
    exact congrFun (idx10 t) 2
  · blk_simp [idx10]
    show (cfg0.win 10).index t 3 * 512 + d.val = d.val
    rw [congrFun (idx10 t) 3]
    show 0 * 512 + d.val = d.val
    omega
  · blk_simp [idx10]
    show (cfg0.win 10).index t 4 * 512 + e.val = e.val
    rw [congrFun (idx10 t) 4]
    show 0 * 512 + e.val = e.val
    omega

theorem emb11 (x : Fin 2) (d : Fin 512) (e : Fin 128) :
    ((cfg0.win 11).blk t).view.emb (ix5 x 0 0 d e) = ix5 x (bOf t) (hOf t) d e := by
  funext a
  apply Fin.ext
  fin_cases a
  · blk_simp [idx11]
    show (cfg0.win 11).index t 0 * 2 + x.val = x.val
    rw [congrFun (idx11 t) 0]
    show 0 * 2 + x.val = x.val
    omega
  · blk_simp [idx11]
    exact congrFun (idx11 t) 1
  · blk_simp [idx11]
    exact congrFun (idx11 t) 2
  · blk_simp [idx11]
    show (cfg0.win 11).index t 3 * 512 + d.val = d.val
    rw [congrFun (idx11 t) 3]
    show 0 * 512 + d.val = d.val
    omega
  · blk_simp [idx11]
    show (cfg0.win 11).index t 4 * 128 + e.val = e.val
    rw [congrFun (idx11 t) 4]
    show 0 * 128 + e.val = e.val
    omega

theorem emb12 (x : Fin 2) (d : Fin 8) (e : Fin 128) :
    ((cfg0.win 12).blk t).view.emb (ix5 x 0 0 d e) = ix5 x (bOf t) (hOf t) d e := by
  funext a
  apply Fin.ext
  fin_cases a
  · blk_simp [idx12]
    show (cfg0.win 12).index t 0 * 2 + x.val = x.val
    rw [congrFun (idx12 t) 0]
    show 0 * 2 + x.val = x.val
    omega
  · blk_simp [idx12]
    exact congrFun (idx12 t) 1
  · blk_simp [idx12]
    exact congrFun (idx12 t) 2
  · blk_simp [idx12]
    show (cfg0.win 12).index t 3 * 8 + d.val = d.val
    rw [congrFun (idx12 t) 3]
    show 0 * 8 + d.val = d.val
    omega
  · blk_simp [idx12]
    show (cfg0.win 12).index t 4 * 128 + e.val = e.val
    rw [congrFun (idx12 t) 4]
    show 0 * 128 + e.val = e.val
    omega

theorem emb13 (r : Fin 256) (d : Fin 512) :
    ((cfg0.win 13).blk t).view.emb (ix3 0 r d) = ix3 (bOf t) (rowF t r) (col (hOf t) d) := by
  funext a
  apply Fin.ext
  fin_cases a
  · blk_simp [idx13]
    exact congrFun (idx13 t) 0
  · blk_simp [idx13]
    show (cfg0.win 13).index t 1 * 256 + r.val = 256 * (t.val % 16) + r.val
    rw [congrFun (idx13 t) 1]
    show t.val % 16 * 256 + r.val = 256 * (t.val % 16) + r.val
    omega
  · blk_simp [idx13]
    show (cfg0.win 13).index t 2 * 512 + d.val = 512 * (t.val / 16 % 4) + d.val
    rw [congrFun (idx13 t) 2]
    show t.val / 16 % 4 * 512 + d.val = 512 * (t.val / 16 % 4) + d.val
    omega

theorem emb14 (r : Fin 256) (d : Fin 512) :
    ((cfg0.win 14).blk t).view.emb (ix3 0 r d) = ix3 (bOf t) (rowB t r) (col (hOf t) d) := by
  funext a
  apply Fin.ext
  fin_cases a
  · blk_simp [idx14]
    exact congrFun (idx14 t) 0
  · blk_simp [idx14]
    show (cfg0.win 14).index t 1 * 256 + r.val = 256 * (15 - t.val % 16) + r.val
    rw [congrFun (idx14 t) 1]
    show (15 - t.val % 16) * 256 + r.val = 256 * (15 - t.val % 16) + r.val
    omega
  · blk_simp [idx14]
    show (cfg0.win 14).index t 2 * 512 + d.val = 512 * (t.val / 16 % 4) + d.val
    rw [congrFun (idx14 t) 2]
    show t.val / 16 % 4 * 512 + d.val = 512 * (t.val / 16 % 4) + d.val
    omega

theorem blk0 (r : Fin 256) (d : Fin 512) : (ldF m c t).q (ix3 0 r d) = (argsOf m c).q (ix3 (bOf t) (rowF t r) (col (hOf t) d)) := by
  show V m c main_arg0 (((cfg0.win 0).blk t).view.emb (ix3 0 r d)) = _
  rw [emb0, V_main_arg0]
  rfl

theorem blk1 (r : Fin 256) (d : Fin 512) : (ldF m c t).kt (ix3 0 d r) = (argsOf m c).k (ix3 (bOf t) (rowF t r) (col (hOf t) d)) := by
  show V m c main_v0 (((cfg0.win 1).blk t).view.emb (ix3 0 d r)) = _
  rw [emb1]
  entry_read
  pointwise []
  rfl

theorem blk2 (r : Fin 256) (d : Fin 512) : (ldF m c t).v (ix3 0 r d) = (argsOf m c).v (ix3 (bOf t) (rowF t r) (col (hOf t) d)) := by
  show V m c main_arg2 (((cfg0.win 2).blk t).view.emb (ix3 0 r d)) = _
  rw [emb2, V_main_arg2]
  rfl

theorem blk3 (r : Fin 256) (g : Fin 16) : (ldF m c t).gt (ix3 0 r g) = (argsOf m c).g (ix3 (bOf t) (rowF t r) g) := by
  show V m c main_arg3 (((cfg0.win 3).blk t).view.emb (ix3 0 r g)) = _
  rw [emb3, V_main_arg3]
  rfl

theorem blk4 (r : Fin 256) (g : Fin 16) : (ldF m c t).gl (ix3 0 g r) = (argsOf m c).g (ix3 (bOf t) (rowF t r) g) := by
  show V m c main_v1 (((cfg0.win 4).blk t).view.emb (ix3 0 g r)) = _
  rw [emb4]
  entry_read
  pointwise []
  rfl

theorem blk5 (r : Fin 256) (d : Fin 512) : (ldB m c t).q (ix3 0 r d) = (argsOf m c).q (ix3 (bOf t) (rowB t r) (col (hOf t) d)) := by
  show V m c main_arg0 (((cfg0.win 5).blk t).view.emb (ix3 0 r d)) = _
  rw [emb5, V_main_arg0]
  rfl

theorem blk6 (r : Fin 256) (d : Fin 512) : (ldB m c t).kt (ix3 0 d r) = (argsOf m c).k (ix3 (bOf t) (rowB t r) (col (hOf t) d)) := by
  show V m c main_v0 (((cfg0.win 6).blk t).view.emb (ix3 0 d r)) = _
  rw [emb6]
  entry_read
  pointwise []
  rfl

theorem blk7 (r : Fin 256) (d : Fin 512) : (ldB m c t).v (ix3 0 r d) = (argsOf m c).v (ix3 (bOf t) (rowB t r) (col (hOf t) d)) := by
  show V m c main_arg2 (((cfg0.win 7).blk t).view.emb (ix3 0 r d)) = _
  rw [emb7, V_main_arg2]
  rfl

theorem blk8 (r : Fin 256) (g : Fin 16) : (ldB m c t).gt (ix3 0 r g) = (argsOf m c).g (ix3 (bOf t) (rowB t r) g) := by
  show V m c main_arg3 (((cfg0.win 8).blk t).view.emb (ix3 0 r g)) = _
  rw [emb8, V_main_arg3]
  rfl

theorem blk9 (r : Fin 256) (g : Fin 16) : (ldB m c t).gl (ix3 0 g r) = (argsOf m c).g (ix3 (bOf t) (rowB t r) g) := by
  show V m c main_v1 (((cfg0.win 9).blk t).view.emb (ix3 0 g r)) = _
  rw [emb9]
  entry_read
  pointwise []
  rfl

theorem blk10 (x : Fin 2) (d e : Fin 512) : iblk m c 10 t (ix5 x 0 0 d e) = (argsOf m c).c (ix5 x (bOf t) (hOf t) d e) := by
  show V m c main_arg4 (((cfg0.win 10).blk t).view.emb (ix5 x 0 0 d e)) = _
  rw [emb10, V_main_arg4]
  rfl

theorem blk11 (x : Fin 2) (d : Fin 512) (e : Fin 128) :
    iblk m c 11 t (ix5 x 0 0 d e) = (argsOf m c).n (ix4 x (bOf t) (hOf t) d) := by
  show V m c main_v3 (((cfg0.win 11).blk t).view.emb (ix5 x 0 0 d e)) = _
  rw [emb11]
  entry_read
  pointwise []
  rfl

theorem blk12 (x : Fin 2) (d : Fin 8) (e : Fin 128) :
    iblk m c 12 t (ix5 x 0 0 d e) = (argsOf m c).m (ix3 x (bOf t) (hOf t)) := by
  show V m c main_v5 (((cfg0.win 12).blk t).view.emb (ix5 x 0 0 d e)) = _
  rw [emb12]
  entry_read
  pointwise []
  rfl

end Cert.Scan
-- ==== Proof.ScanKernel.lean ====
/-
  The kernel's two chains at the values they carry: after each grid point the scratch buffers hold the accumulators of that point's batch
  and head, and the point's blocks of the results hold the rows of its positions.
-/
module

public import proofs.«01_k».proof.Proof.ScanBlocks

@[expose] public section

set_option maxRecDepth 16384

noncomputable section

namespace Cert.Scan

open Idealize.ShloMosaic Cert.KernelIdeal Cert.KernelIdeal.Gen
open Idealize.ShloMosaic.TcCoe
open Idealize.ShloMosaic.Pointwise

theorem mAt_at (x : FVec Ideal S8x128 .f32) : mAt x (ix2 0 0) = x (ix2 0 0) := by
  pointwise [mAt]

/-- A chunk of a chain. -/
theorem chunk {S : Seq} {e : Fin 256 ≃ Fin 256} {p : ℕ} {hd hd4 : Fin 16} {L : Loads} {sg a : BitVec 32} {s : St}
    (h : Reads S e p hd hd4 L) (ho : Order sg e) (ha : a = BitVec.ofNat 32 hd.val) (ha4 : four a = BitVec.ofNat 32 hd4.val)
    (hs : ∃ μ : ℝ, Carries S p s μ) :
    (∃ μ : ℝ, Carries S (p + 256) (L.next sg a s) μ)
      ∧ ∀ r j, L.rows sg a s (ix3 0 r j) = ((S.H (p + (e r).val) j : ℝ) : EReal) := by
  obtain ⟨μ, hs⟩ := hs
  have hm : mAt s.m (ix2 0 0) = (μ : EReal) := (mAt_at s.m).trans (hs.m 0 0)
  unfold Loads.next Loads.rows
  rw [ha4, ha]
  exact ⟨h.carry ho hm hs, h.out_at ho hm hs.cq hs.nq⟩

theorem rowF_pos (t : Fin cfg0.N) (r : Fin 256) :
    pos 0 (256 * (t.val % 16) + ((Equiv.refl (Fin 256)) r).val) = rowF t r :=
  pos_fwd _ (by show 256 * (t.val % 16) + r.val < 4096; omega)

theorem rowB_pos (t : Fin cfg0.N) (r : Fin 256) : pos 1 (256 * (t.val % 16) + (Fin.revPerm r).val) = rowB t r := by
  have e : (Fin.revPerm r).val = 255 - r.val := by show 256 - (r.val + 1) = _; omega
  rw [e, pos_bwd _ (by omega)]
  apply Fin.ext
  show 4095 - (256 * (t.val % 16) + (255 - r.val)) = 256 * (15 - t.val % 16) + r.val
  omega

variable (m : (ℓ : Loc nD τ sig) → Buf (Elt Ideal) ℓ) (c : Dev nD) (R : (argsOf m c).Real)

include R

theorem readsF (t : Fin cfg0.N) : Reads ((argsOf m c).seq 0 (bOf t) (hOf t)) (Equiv.refl _) (256 * (t.val % 16))
    (colI 0 (hOf t)) (colF 0 (hOf t)) (ldF m c t) where
  q r d := by rw [blk0, R.q, ← rowF_pos]; rfl
  kt d r := by rw [blk1, R.k, ← rowF_pos]; rfl
  v r d := by rw [blk2, R.v, ← rowF_pos]; rfl
  ig r := by rw [blk4, R.g, ← rowF_pos]; rfl
  fg r := by rw [blk4, R.g, ← rowF_pos]; rfl
  fgt r := by rw [blk3, R.g, ← rowF_pos]; rfl

theorem readsB (t : Fin cfg0.N) : Reads ((argsOf m c).seq 1 (bOf t) (hOf t)) Fin.revPerm (256 * (t.val % 16))
    (colI 1 (hOf t)) (colF 1 (hOf t)) (ldB m c t) where
  q r d := by rw [blk5, R.q, ← rowB_pos]; rfl
  kt d r := by rw [blk6, R.k, ← rowB_pos]; rfl
  v r d := by rw [blk7, R.v, ← rowB_pos]; rfl
  ig r := by rw [blk9, R.g, ← rowB_pos]; rfl
  fg r := by rw [blk9, R.g, ← rowB_pos]; rfl
  fgt r := by rw [blk8, R.g, ← rowB_pos]; rfl

omit R

theorem hdF_eq (t : Fin cfg0.N) : hdF (grid0.coords t) = BitVec.ofNat 32 (colI 0 (hOf t)).val
    ∧ four (hdF (grid0.coords t)) = BitVec.ofNat 32 (colF 0 (hOf t)).val := by
  unfold hdF
  rw [coord1]
  have : ∀ h : Fin 4, Scalar.addi 0#32 (BitVec.ofNat 32 h.val) = BitVec.ofNat 32 (colI 0 h).val
    ∧ four (Scalar.addi 0#32 (BitVec.ofNat 32 h.val)) = BitVec.ofNat 32 (colF 0 h).val := by decide
  exact this (hOf t)

theorem hdB_eq (t : Fin cfg0.N) : hdB (grid0.coords t) = BitVec.ofNat 32 (colI 1 (hOf t)).val
    ∧ four (hdB (grid0.coords t)) = BitVec.ofNat 32 (colF 1 (hOf t)).val := by
  unfold hdB
  rw [coord1]
  have : ∀ h : Fin 4, Scalar.addi 8#32 (BitVec.ofNat 32 h.val) = BitVec.ofNat 32 (colI 1 h).val
    ∧ four (Scalar.addi 8#32 (BitVec.ofNat 32 h.val)) = BitVec.ofNat 32 (colF 1 h).val := by decide
  exact this (hOf t)

/-! ## The start -/

section start

variable (x : FVec Ideal S2x1x1x512x512 .f32) (y : FVec Ideal S2x1x1x512x128 .f32) (z : FVec Ideal S2x1x1x8x128 .f32)

theorem initF_c (d j : Fin 512) : (initF x y z).c (ix2 d j) = x (ix5 0 0 0 d j) := by
  pointwise [initF, initOf, k0_pay3, k0_pay2]
theorem initF_cq (d j : Fin 512) : (initF x y z).cq (ix2 d j) = x (ix5 0 0 0 d j) := by
  pointwise [initF, initOf, k0_pay4, k0_pay2]
theorem initF_n (d : Fin 512) (j : Fin 128) : (initF x y z).n (ix2 d j) = y (ix5 0 0 0 d j) := by
  pointwise [initF, initOf, k0_pay6, k0_pay5]
theorem initF_nq (d : Fin 512) (j : Fin 128) : (initF x y z).nq (ix2 d j) = y (ix5 0 0 0 d j) := by
  pointwise [initF, initOf, k0_pay7, k0_pay5]
theorem initF_m (d : Fin 8) (j : Fin 128) : (initF x y z).m (ix2 d j) = z (ix5 0 0 0 d j) := by
  pointwise [initF, initOf, k0_pay8]
theorem initB_c (d j : Fin 512) : (initB x y z).c (ix2 d j) = x (ix5 1 0 0 d j) := by
  pointwise [initB, initOf, k0_pay3, k0_pay2]
theorem initB_cq (d j : Fin 512) : (initB x y z).cq (ix2 d j) = x (ix5 1 0 0 d j) := by
  pointwise [initB, initOf, k0_pay4, k0_pay2]
theorem initB_n (d : Fin 512) (j : Fin 128) : (initB x y z).n (ix2 d j) = y (ix5 1 0 0 d j) := by
  pointwise [initB, initOf, k0_pay6, k0_pay5]
theorem initB_nq (d : Fin 512) (j : Fin 128) : (initB x y z).nq (ix2 d j) = y (ix5 1 0 0 d j) := by
  pointwise [initB, initOf, k0_pay7, k0_pay5]
theorem initB_m (d : Fin 8) (j : Fin 128) : (initB x y z).m (ix2 d j) = z (ix5 1 0 0 d j) := by
  pointwise [initB, initOf, k0_pay8]

end start

/-- A chain carries its start at position 0. -/
theorem carries_zero (A : Args) (R : A.Real) (d : Fin 2) (b h : Fin 4) (s : St)
    (hc : ∀ e j, s.c (ix2 e j) = A.c (ix5 d b h e j)) (hcq : ∀ e j, s.cq (ix2 e j) = A.c (ix5 d b h e j))
    (hn : ∀ e j, s.n (ix2 e j) = A.n (ix4 d b h e)) (hnq : ∀ e j, s.nq (ix2 e j) = A.n (ix4 d b h e))
    (hm : ∀ e j, s.m (ix2 e j) = A.m (ix3 d b h)) : ∃ μ : ℝ, Carries (A.seq d b h) 0 s μ := by
  have k (z : ℝ) : Real.exp (-(A.m (ix3 d b h)).toReal) * (Real.exp (A.m (ix3 d b h)).toReal * z) = z := by
    rw [← mul_assoc, ← Real.exp_add, neg_add_cancel, Real.exp_zero, one_mul]
  have kc (e j) : Real.exp (-(A.m (ix3 d b h)).toReal) * (A.seq d b h).C e j 0 = (A.c (ix5 d b h e j)).toReal := k _
  have kn (e) : Real.exp (-(A.m (ix3 d b h)).toReal) * (A.seq d b h).N e 0 = (A.n (ix4 d b h e)).toReal := k _
  exact ⟨(A.m (ix3 d b h)).toReal, fun e j => (hm e j).trans (R.m _), fun e j => by rw [hc, kc]; exact R.c _,
    fun e j => by rw [hcq, kc]; exact R.c _, fun e j => by rw [hn, kn]; exact R.n _, fun e j => by rw [hnq, kn]; exact R.n _⟩

include R

theorem inF_carries (t : Fin cfg0.N) : ∃ μ : ℝ, Carries ((argsOf m c).seq 0 (bOf t) (hOf t)) 0 (inF m c t) μ :=
  carries_zero _ R 0 _ _ _ (fun e j => (initF_c _ _ _ e j).trans (blk10 m c t 0 e j))
    (fun e j => (initF_cq _ _ _ e j).trans (blk10 m c t 0 e j)) (fun e j => (initF_n _ _ _ e j).trans (blk11 m c t 0 e j))
    (fun e j => (initF_nq _ _ _ e j).trans (blk11 m c t 0 e j)) (fun e j => (initF_m _ _ _ e j).trans (blk12 m c t 0 e j))

theorem inB_carries (t : Fin cfg0.N) : ∃ μ : ℝ, Carries ((argsOf m c).seq 1 (bOf t) (hOf t)) 0 (inB m c t) μ :=
  carries_zero _ R 1 _ _ _ (fun e j => (initB_c _ _ _ e j).trans (blk10 m c t 1 e j))
    (fun e j => (initB_cq _ _ _ e j).trans (blk10 m c t 1 e j)) (fun e j => (initB_n _ _ _ e j).trans (blk11 m c t 1 e j))
    (fun e j => (initB_nq _ _ _ e j).trans (blk11 m c t 1 e j)) (fun e j => (initB_m _ _ _ e j).trans (blk12 m c t 1 e j))

/-! ## Point after point -/

/-- What holds after a point: its state and its rows, forwards and backwards. -/
structure After (t : Fin cfg0.N) : Prop where
  stF : ∃ μ : ℝ, Carries ((argsOf m c).seq 0 (bOf t) (hOf t)) (256 * (t.val % 16) + 256) (stF m c t.val t.isLt) μ
  stB : ∃ μ : ℝ, Carries ((argsOf m c).seq 1 (bOf t) (hOf t)) (256 * (t.val % 16) + 256) (stB m c t.val t.isLt) μ
  rowsF : ∀ r j, (outsAt0 m c t.val t.isLt).1 (ix3 0 r j)
    = ((((argsOf m c).seq 0 (bOf t) (hOf t)).H (256 * (t.val % 16) + ((Equiv.refl (Fin 256)) r).val) j : ℝ) : EReal)
  rowsB : ∀ r j, (outsAt0 m c t.val t.isLt).2.1 (ix3 0 r j)
    = ((((argsOf m c).seq 1 (bOf t) (hOf t)).H (256 * (t.val % 16) + (Fin.revPerm r).val) j : ℝ) : EReal)

theorem after_first (t : Fin cfg0.N) (h0 : t.val % 16 = 0) : After m c t := by
  have hf := inF_carries m c R t
  have hb := inB_carries m c R t
  rw [show 0 = 256 * (t.val % 16) by rw [h0]] at hf hb
  have kf := chunk (readsF m c R t) order_fwd (hdF_eq t).1 (hdF_eq t).2 hf
  have kb := chunk (readsB m c R t) order_bwd (hdB_eq t).1 (hdB_eq t).2 hb
  exact ⟨by rw [first_stF m c t h0]; exact kf.1, by rw [first_stB m c t h0]; exact kb.1,
    by rw [first_rowsF m c t h0]; exact kf.2, by rw [first_rowsB m c t h0]; exact kb.2⟩

theorem after_later (t : Fin cfg0.N) (h0 : ¬t.val % 16 = 0) (h1 : t.val - 1 < cfg0.N) (h : After m c ⟨t.val - 1, h1⟩) : After m c t := by
  have eb : bOf ⟨t.val - 1, h1⟩ = bOf t := Fin.ext (by show (t.val - 1) / 64 = t.val / 64; omega)
  have eh : hOf ⟨t.val - 1, h1⟩ = hOf t := Fin.ext (by show (t.val - 1) / 16 % 4 = t.val / 16 % 4; omega)
  have ep : 256 * ((t.val - 1) % 16) + 256 = 256 * (t.val % 16) := by omega
  have hf := h.stF
  have hb := h.stB
  rw [eb, eh] at hf hb
  dsimp only at hf hb
  rw [ep] at hf hb
  have kf := chunk (readsF m c R t) order_fwd (hdF_eq t).1 (hdF_eq t).2 hf
  have kb := chunk (readsB m c R t) order_bwd (hdB_eq t).1 (hdB_eq t).2 hb
  exact ⟨by rw [later_stF m c t h0 h1]; exact kf.1, by rw [later_stB m c t h0 h1]; exact kb.1,
    by rw [later_rowsF m c t h0 h1]; exact kf.2, by rw [later_rowsB m c t h0 h1]; exact kb.2⟩

theorem after_all : ∀ (n : ℕ) (h : n < cfg0.N), After m c ⟨n, h⟩
  | 0, h => after_first m c R ⟨0, h⟩ rfl
  | n + 1, h => by
    by_cases h0 : (n + 1) % 16 = 0
    · exact after_first m c R ⟨n + 1, h⟩ h0
    · exact after_later m c R ⟨n + 1, h⟩ h0 (Nat.lt_of_succ_lt h) (after_all n (Nat.lt_of_succ_lt h))

end Cert.Scan
-- ==== Proof.ScanFinal.lean ====
/-
  The kernel's two results at an index: the rows of the two scans. Every grid point writes its own block of either result, and the
  256 blocks fill both.
-/
module

public import proofs.«01_k».proof.Proof.ScanKernel

@[expose] public section

set_option maxRecDepth 16384

noncomputable section

namespace Cert.Scan

open Idealize.ShloMosaic Cert.KernelIdeal Cert.KernelIdeal.Gen
open Idealize.ShloMosaic.TcCoe
open Idealize.ShloMosaic.Pointwise

variable (m : (ℓ : Loc nD τ sig) → Buf (Elt Ideal) ℓ) (c : Dev nD) (R : (argsOf m c).Real)

/-- The point that writes row `i` of head `h` of batch `b`, forwards. -/
def ptF (b h : Fin 4) (i : Fin 4096) : Fin cfg0.N := ⟨64 * b.val + 16 * h.val + i.val / 256, by have := N_0; show _ < grid0.N; rw [N_0]; omega⟩
/-- The point that writes row `i` of head `h` of batch `b`, backwards. -/
def ptB (b h : Fin 4) (i : Fin 4096) : Fin cfg0.N := ⟨64 * b.val + 16 * h.val + (15 - i.val / 256), by have := N_0; show _ < grid0.N; rw [N_0]; omega⟩

/-- The head of a column. -/
def headOf (y : Fin 2048) : Fin 4 := ⟨y.val / 512, by omega⟩
/-- A column's place in its head. -/
def lane (y : Fin 2048) : Fin 512 := ⟨y.val % 512, by omega⟩

theorem col_head (y : Fin 2048) : col (headOf y) (lane y) = y := Fin.ext (Nat.div_add_mod _ _)
theorem headOf_col (h : Fin 4) (d : Fin 512) : headOf (col h d) = h :=
  Fin.ext (by show (512 * h.val + d.val) / 512 = h.val; omega)
theorem lane_col (h : Fin 4) (d : Fin 512) : lane (col h d) = d :=
  Fin.ext (by show (512 * h.val + d.val) % 512 = d.val; omega)

/-- The forward result. -/
def resF (A : Args) (i : S4x4096x2048.Idx) : EReal := (((A.seq 0 (i 0) (headOf (i 2))).H (i 1).val (lane (i 2)) : ℝ) : EReal)
/-- The backward result. -/
def resB (A : Args) (i : S4x4096x2048.Idx) : EReal :=
  (((A.seq 1 (i 0) (headOf (i 2))).H (4095 - (i 1).val) (lane (i 2)) : ℝ) : EReal)

theorem coverF (b : Fin 4) (i : Fin 4096) (y : Fin 2048) :
    ((cfg0.win 13).blk (ptF b (headOf y) i)).view.emb (ix3 0 ⟨i.val % 256, by omega⟩ (lane y)) = ix3 b i y := by
  rw [emb13]
  have e0 : bOf (ptF b (headOf y) i) = b := Fin.ext (by
    show (64 * b.val + 16 * (y.val / 512) + i.val / 256) / 64 = b.val; omega)
  have e1 : hOf (ptF b (headOf y) i) = headOf y := Fin.ext (by
    show (64 * b.val + 16 * (y.val / 512) + i.val / 256) / 16 % 4 = y.val / 512; omega)
  have e2 : rowF (ptF b (headOf y) i) ⟨i.val % 256, by omega⟩ = i := Fin.ext (by
    show 256 * ((64 * b.val + 16 * (y.val / 512) + i.val / 256) % 16) + i.val % 256 = i.val; omega)
  rw [e0, e1, e2, col_head]

theorem coverB (b : Fin 4) (i : Fin 4096) (y : Fin 2048) :
    ((cfg0.win 14).blk (ptB b (headOf y) i)).view.emb (ix3 0 ⟨i.val % 256, by omega⟩ (lane y)) = ix3 b i y := by
  rw [emb14]
  have e0 : bOf (ptB b (headOf y) i) = b := Fin.ext (by
    show (64 * b.val + 16 * (y.val / 512) + (15 - i.val / 256)) / 64 = b.val; omega)
  have e1 : hOf (ptB b (headOf y) i) = headOf y := Fin.ext (by
    show (64 * b.val + 16 * (y.val / 512) + (15 - i.val / 256)) / 16 % 4 = y.val / 512; omega)
  have e2 : rowB (ptB b (headOf y) i) ⟨i.val % 256, by omega⟩ = i := Fin.ext (by
    show 256 * (15 - (64 * b.val + 16 * (y.val / 512) + (15 - i.val / 256)) % 16) + i.val % 256 = i.val; omega)
  rw [e0, e1, e2, col_head]

include R in
theorem blockF (t : Fin cfg0.N) (y : S1x256x512.Idx) :
    (outsAt0 m c t.val t.isLt).1 y = resF (argsOf m c) (((cfg0.win 13).blk t).view.emb y) := by
  have key (r : Fin 256) (d : Fin 512) : (outsAt0 m c t.val t.isLt).1 (ix3 0 r d)
      = resF (argsOf m c) (((cfg0.win 13).blk t).view.emb (ix3 0 r d)) := by
    have e : 256 * (t.val % 16) + ((Equiv.refl (Fin 256)) r).val = (rowF t r).val := rfl
    rw [(after_all m c R t.val t.isLt).rowsF r d, emb13, e]
    unfold resF
    show _ = (((((argsOf m c).seq 0 (bOf t) (headOf (col (hOf t) d))).H (rowF t r).val (lane (col (hOf t) d)) : ℝ)) : EReal)
    rw [headOf_col, lane_col]
  have h0 : y 0 = (0 : Fin 1) := Subsingleton.elim (α := Fin 1) _ _
  rw [eq_ix3 y, h0]
  exact key (y 1) (y 2)

theorem coveredF (i : S4x4096x2048.Idx) :
    ∃ t : Fin cfg0.N, (cfg0.win 13).flush t = true ∧ i ∈ ((cfg0.win 13).blk t).view.set := by
  refine ⟨ptF (i 0) (headOf (i 2)) (i 1), flush0_13 _, ?_⟩
  have h := ((cfg0.win 13).blk (ptF (i 0) (headOf (i 2)) (i 1))).view.emb_mem_set
    (ix3 (0 : Fin 1) (⟨(i 1).val % 256, Nat.mod_lt _ (by decide)⟩ : Fin 256) (lane (i 2)))
  rw [coverF (i 0) (i 1) (i 2), ← eq_ix3 i] at h
  exact h

include R in
theorem finalF : (dats m 0 c).arrAt 13 cfg0.N = resF (argsOf m c) := by
  funext i
  refine (dats m 0 c).arrAt_forall_of_cover 13 (fun i v => v = resF (argsOf m c) i) (fun t _ y => ?_) coveredF i
  rw [Value.flushed13]
  exact blockF m c R t y

include R in
theorem blockB (t : Fin cfg0.N) (y : S1x256x512.Idx) :
    (outsAt0 m c t.val t.isLt).2.1 y = resB (argsOf m c) (((cfg0.win 14).blk t).view.emb y) := by
  have key (r : Fin 256) (d : Fin 512) : (outsAt0 m c t.val t.isLt).2.1 (ix3 0 r d)
      = resB (argsOf m c) (((cfg0.win 14).blk t).view.emb (ix3 0 r d)) := by
    have e : 256 * (t.val % 16) + (Fin.revPerm r).val = 4095 - (rowB t r).val := by
      show 256 * (t.val % 16) + (256 - (r.val + 1)) = 4095 - (256 * (15 - t.val % 16) + r.val)
      omega
    rw [(after_all m c R t.val t.isLt).rowsB r d, emb14, e]
    unfold resB
    show _ = (((((argsOf m c).seq 1 (bOf t) (headOf (col (hOf t) d))).H (4095 - (rowB t r).val) (lane (col (hOf t) d)) : ℝ)) : EReal)
    rw [headOf_col, lane_col]
  have h0 : y 0 = (0 : Fin 1) := Subsingleton.elim (α := Fin 1) _ _
  rw [eq_ix3 y, h0]
  exact key (y 1) (y 2)

theorem coveredB (i : S4x4096x2048.Idx) :
    ∃ t : Fin cfg0.N, (cfg0.win 14).flush t = true ∧ i ∈ ((cfg0.win 14).blk t).view.set := by
  refine ⟨ptB (i 0) (headOf (i 2)) (i 1), flush0_14 _, ?_⟩
  have h := ((cfg0.win 14).blk (ptB (i 0) (headOf (i 2)) (i 1))).view.emb_mem_set
    (ix3 (0 : Fin 1) (⟨(i 1).val % 256, Nat.mod_lt _ (by decide)⟩ : Fin 256) (lane (i 2)))
  rw [coverB (i 0) (i 1) (i 2), ← eq_ix3 i] at h
  exact h

include R in
theorem finalB : (dats m 0 c).arrAt 14 cfg0.N = resB (argsOf m c) := by
  funext i
  refine (dats m 0 c).arrAt_forall_of_cover 14 (fun i v => v = resB (argsOf m c) i) (fun t _ y => ?_) coveredB i
  rw [Value.flushed14]
  exact blockB m c R t y

end Cert.Scan
-- ==== Proof.ScanRefStep.lean ====
/-
  A trip of the reference's loop at the values its state holds: it goes through 128 positions of the eight stacked batches' four
  heads, stores their rows, and hands on the accumulators shifted by the new stabiliser.
-/
module

public import proofs.«01_k».proof.Proof.ScanStepValue
public import proofs.«01_k».proof.Proof.RefRun
public import Idealize.ShloMosaic.Lib.DynamicIndex
public import Idealize.ShloMosaic.Lib.Pointwise

@[expose] public section

set_option maxRecDepth 16384

noncomputable section

open scoped BigOperators

namespace Cert.ScanRef

open Idealize.ShloMosaic Cert.ReferenceIdeal Cert.ReferenceIdeal.Gen Cert.ReferenceIdeal.Step Cert.Scan
open Idealize.ShloMosaic.Pointwise

/-! ## Slices at the trip's number -/

theorem word_lt {j : ℕ} (hj : j < 32) : (BitVec.ofNat 32 j).toInt = (j : ℤ) := toInt_ofNat_of_lt (by omega)

theorem slice5 (X : FVec Ideal S32x8x4x128x512 .f32) (st : Fin 5 → ℤ) (j : Fin 32) (h0 : st 0 = (j.val : ℤ)) (h1 : st 1 = 0)
    (h2 : st 2 = 0) (h3 : st 3 = 0) (h4 : st 4 = 0) (x : Fin 8) (h : Fin 4) (r : Fin 128) (d : Fin 512) :
    shapeCast S8x4x128x512 (Host.dynamicSlice S1x8x4x128x512 X st sliceFits_S32x8x4x128x512_S1x8x4x128x512)
      shapeCasts_S1x8x4x128x512_S8x4x128x512 (ix4 x h r d) = X (ix5 j x h r d) := by
  have hoff : S32x8x4x128x512.Slices ![j.val, 0, 0, 0, 0] S1x8x4x128x512 := by
    refine ⟨rfl, fun a => ?_⟩
    have := j.isLt
    fin_cases a <;> simp [Shape.size] <;> omega
  rw [Host.dynamicSlice_eq_extractStridedSlice _ _ _ ![j.val, 0, 0, 0, 0] _ hoff (by
    intro a
    match a with
    | ⟨0, _⟩ => exact h0
    | ⟨1, _⟩ => exact h1
    | ⟨2, _⟩ => exact h2
    | ⟨3, _⟩ => exact h3
    | ⟨4, _⟩ => exact h4)]
  pointwise []

theorem slice4 (X : FVec Ideal S32x8x4x128 .f32) (st : Fin 4 → ℤ) (j : Fin 32) (h0 : st 0 = (j.val : ℤ)) (h1 : st 1 = 0)
    (h2 : st 2 = 0) (h3 : st 3 = 0) (x : Fin 8) (h : Fin 4) (r : Fin 128) :
    shapeCast S8x4x128 (Host.dynamicSlice S1x8x4x128 X st sliceFits_S32x8x4x128_S1x8x4x128)
      shapeCasts_S1x8x4x128_S8x4x128 (ix3 x h r) = X (ix4 j x h r) := by
  have hoff : S32x8x4x128.Slices ![j.val, 0, 0, 0] S1x8x4x128 := by
    refine ⟨rfl, fun a => ?_⟩
    have := j.isLt
    fin_cases a <;> simp [Shape.size] <;> omega
  rw [Host.dynamicSlice_eq_extractStridedSlice _ _ _ ![j.val, 0, 0, 0] _ hoff (by
    intro a
    match a with
    | ⟨0, _⟩ => exact h0
    | ⟨1, _⟩ => exact h1
    | ⟨2, _⟩ => exact h2
    | ⟨3, _⟩ => exact h3)]
  pointwise []

theorem update5 (X : FVec Ideal S32x8x4x128x512 .f32) (Y : FVec Ideal S1x8x4x128x512 .f32) (st : Fin 5 → ℤ) (j : Fin 32)
    (h0 : st 0 = (j.val : ℤ)) (h1 : st 1 = 0) (h2 : st 2 = 0) (h3 : st 3 = 0) (h4 : st 4 = 0)
    (i : Fin 32) (x : Fin 8) (h : Fin 4) (r : Fin 128) (d : Fin 512) :
    Host.dynamicUpdateSlice X Y st updateFits_S32x8x4x128x512_S1x8x4x128x512 (ix5 i x h r d)
      = if i = j then Y (ix5 0 x h r d) else X (ix5 i x h r d) := by
  have hoff : S32x8x4x128x512.Slices ![j.val, 0, 0, 0, 0] S1x8x4x128x512 := by
    refine ⟨rfl, fun a => ?_⟩
    have := j.isLt
    fin_cases a <;> simp [Shape.size] <;> omega
  rw [Host.dynamicUpdateSlice_eq_updateSlice _ _ _ _ ![j.val, 0, 0, 0, 0] (by
    intro a
    have := j.isLt
    match a with
    | ⟨0, _⟩ => show (min (max (st 0) 0) ((32 - 1 : ℕ) : ℤ)).toNat = j.val; omega
    | ⟨1, _⟩ => show (min (max (st 1) 0) ((8 - 8 : ℕ) : ℤ)).toNat = 0; omega
    | ⟨2, _⟩ => show (min (max (st 2) 0) ((4 - 4 : ℕ) : ℤ)).toNat = 0; omega
    | ⟨3, _⟩ => show (min (max (st 3) 0) ((128 - 128 : ℕ) : ℤ)).toNat = 0; omega
    | ⟨4, _⟩ => show (min (max (st 4) 0) ((512 - 512 : ℕ) : ℤ)).toNat = 0; omega) hoff]
  unfold updateSlice
  by_cases hij : i = j
  · subst hij
    rw [if_pos rfl, dif_pos (by
      intro a
      match a with
      | ⟨0, _⟩ => exact ⟨le_refl i.val, Nat.lt_succ_self i.val⟩
      | ⟨1, _⟩ => exact ⟨Nat.zero_le _, by show x.val < 0 + 8; omega⟩
      | ⟨2, _⟩ => exact ⟨Nat.zero_le _, by show h.val < 0 + 4; omega⟩
      | ⟨3, _⟩ => exact ⟨Nat.zero_le _, by show r.val < 0 + 128; omega⟩
      | ⟨4, _⟩ => exact ⟨Nat.zero_le _, by show d.val < 0 + 512; omega⟩)]
    congr 1
    funext a
    match a with
    | ⟨0, _⟩ => exact Fin.ext (Nat.sub_self i.val)
    | ⟨1, _⟩ => rfl
    | ⟨2, _⟩ => rfl
    | ⟨3, _⟩ => rfl
    | ⟨4, _⟩ => rfl
  · rw [if_neg hij, dif_neg]
    intro hin
    have h := hin ⟨0, by decide⟩
    have h' : j.val ≤ i.val ∧ i.val < j.val + 1 := h
    exact hij (Fin.ext (by omega))

/-! ## The running sum -/

theorem foldl_add {ι : Type} (g : ι → EReal) (l : List ι) (z : EReal) :
    l.foldl (fun r i => r + g i) z = z + (l.map g).sum := by
  induction l generalizing z with
  | nil => simp
  | cons i l ih => rw [List.foldl_cons, ih, List.map_cons, List.sum_cons, add_assoc]

theorem window_pick (f : Fin 128 → EReal) (r : Fin 128) (g : Fin 128 → EReal)
    (hg : ∀ c : Fin 128, g c = if h : 127 ≤ r.val + c.val then f ⟨r.val + c.val - 127, by omega⟩ else 0) :
    ∑ c, g c = ∑ c : Fin 128, if c.val ≤ r.val then f c else 0 := by
  rw [← Equiv.sum_comp (Equiv.addRight (r + 1)) (fun c => if c.val ≤ r.val then f c else 0)]
  refine Finset.sum_congr rfl fun c _ => ?_
  have hc : (c + (r + 1)).val = (c.val + r.val + 1) % 128 := by
    rw [Fin.val_add, Fin.val_add]
    show (c.val + (r.val + 1) % 128) % 128 = _
    omega
  have := c.isLt
  have := r.isLt
  rw [hg]
  show _ = if (c + (r + 1)).val ≤ r.val then f (c + (r + 1)) else 0
  split
  · rw [if_pos (by omega)]
    congr 1
    exact Fin.ext (by show r.val + c.val - 127 = _; omega)
  · rw [if_neg (by omega)]

theorem cumsum_at (X : FVec Ideal S8x4x128 .f32) (z : FVec Ideal S_ .f32) (hz : ∀ i, z i = (0 : EReal)) (x : Fin 8) (h : Fin 4)
    (r : Fin 128) :
    Host.reduceWindowAdd ![1, 1, 128] ![1, 1, 1] ![0, 0, 127] ![0, 0, 0] X z
        reduceWindows_S8x4x128_S8x4x128_w1s1p0_0_w1s1p0_0_w128s1p127_0 h_S_ (ix3 x h r)
      = ∑ c : Fin 128, if c.val ≤ r.val then X (ix3 x h c) else 0 := by
  unfold Host.reduceWindowAdd
  rw [Ideal.hostReduceWindowAdd_def, hz]
  unfold Ideal.hostReduceWindowAdd Host.reduceWindow
  dsimp only
  rw [foldl_add, zero_add, ← Fin.sum_univ_def]
  refine (Fintype.sum_equiv (Shape.rowMajor ⟨3, ![1, 1, 128]⟩).symm _ (fun w : (⟨3, ![1, 1, 128]⟩ : Shape).Idx =>
    if hin : ∀ a : Fin 3, ![0, 0, 127] a ≤ (ix3 x h r a).val * ![1, 1, 1] a + (w a).val
        ∧ (ix3 x h r a).val * ![1, 1, 1] a + (w a).val - ![0, 0, 127] a < S8x4x128.size a
      then X (fun a => ⟨(ix3 x h r a).val * ![1, 1, 1] a + (w a).val - ![0, 0, 127] a, (hin a).2⟩) else (0 : EReal)) fun i => by
      split <;> rename_i h1 <;> split <;> rename_i h2
      · rfl
      · exact absurd h1 h2
      · exact absurd h2 h1
      · rfl).trans ?_
  rw [sum_idx3]
  simp only [Fin.sum_univ_one]
  refine window_pick (fun c => X (ix3 x h c)) r _ fun c => ?_
  have := r.isLt
  have := c.isLt
  have := x.isLt
  have := h.isLt
  split
  · next hin =>
    have h2 : 127 ≤ r.val * 1 + c.val := (hin 2).1
    rw [dif_pos (by omega)]
    congr 1
    funext a
    match a with
    | ⟨0, _⟩ => exact Fin.ext (by show x.val * 1 + 0 - 0 = x.val; omega)
    | ⟨1, _⟩ => exact Fin.ext (by show h.val * 1 + 0 - 0 = h.val; omega)
    | ⟨2, _⟩ => exact Fin.ext (by show r.val * 1 + c.val - 127 = r.val + c.val - 127; omega)
  · next hin =>
    rw [dif_neg fun hle => hin fun a => by
      match a with
      | ⟨0, _⟩ => show 0 ≤ x.val * 1 + 0 ∧ x.val * 1 + 0 - 0 < 8; omega
      | ⟨1, _⟩ => show 0 ≤ h.val * 1 + 0 ∧ h.val * 1 + 0 - 0 < 4; omega
      | ⟨2, _⟩ => show 127 ≤ r.val * 1 + c.val ∧ r.val * 1 + c.val - 127 < 128; omega]

/-! ## A trip's values -/

section trip

variable (k : Fin 32) (s : State Ideal)

theorem q_at (x : Fin 8) (h : Fin 4) (r : Fin 128) (d : Fin 512) : b5 k s (ix4 x h r d) = s.main_v56_0 (ix5 k x h r d) := by
  unfold b5 b4
  exact slice5 _ _ k (word_lt k.isLt) rfl rfl rfl rfl x h r d

theorem k_at (x : Fin 8) (h : Fin 4) (r : Fin 128) (d : Fin 512) : b11 k s (ix4 x h r d) = s.main_v56_1 (ix5 k x h r d) := by
  unfold b11 b10
  exact slice5 _ _ k (word_lt k.isLt) rfl rfl rfl rfl x h r d

theorem v_at (x : Fin 8) (h : Fin 4) (r : Fin 128) (d : Fin 512) : b17 k s (ix4 x h r d) = s.main_v56_2 (ix5 k x h r d) := by
  unfold b17 b16
  exact slice5 _ _ k (word_lt k.isLt) rfl rfl rfl rfl x h r d

theorem ig_at (x : Fin 8) (h : Fin 4) (r : Fin 128) : b22 k s (ix3 x h r) = s.main_v56_3 (ix4 k x h r) := by
  unfold b22 b21
  exact slice4 _ _ k (word_lt k.isLt) rfl rfl rfl x h r

theorem lf_at (x : Fin 8) (h : Fin 4) (r : Fin 128) : b27 k s (ix3 x h r) = s.main_v56_4 (ix4 k x h r) := by
  unfold b27 b26
  exact slice4 _ _ k (word_lt k.isLt) rfl rfl rfl x h r

theorem b_at (x : Fin 8) (h : Fin 4) (r : Fin 128) :
    b30 k s (ix3 x h r) = ∑ c : Fin 128, if c.val ≤ r.val then s.main_v56_4 (ix4 k x h c) else 0 := by
  unfold b30
  rw [cumsum_at _ _ (fun i => by pointwise [b29, b28])]
  simp only [lf_at]

theorem tri_at (r c : Fin 128) : b41 k s (ix2 r c) = BitVec.ofBool (decide (c.val ≤ r.val)) := by
  have e : b41 k s (ix2 r c) = Scalar.select (IntOp.cmpi CmpIPredicate.sge (IntOp.addi (BitVec.ofNat 32 r.val) 0#32)
      (BitVec.ofNat 32 c.val)) 1#1 0#1 := by
    pointwise [b41, b40, b39, b38, b37, b36, b35, b34, b33, b32, b31]
  have h : IntOp.cmpi CmpIPredicate.sge (IntOp.addi (BitVec.ofNat 32 r.val) 0#32) (BitVec.ofNat 32 c.val)
      = BitVec.ofBool (decide (c.val ≤ r.val)) := by
    simp only [IntOp.cmpi, IntOp.addi, BitVec.add_zero, BitVec.sle, toInt_ofNat_of_lt (show r.val < 2 ^ 31 by omega),
      toInt_ofNat_of_lt (show c.val < 2 ^ 31 by omega)]
    congr 1
    simp
  rw [e, h]
  by_cases hc : c.val ≤ r.val <;> simp [Scalar.select, hc]

theorem neg_inf : Ideal.ofBits FTy.f32 0xFF800000#32 = ⊥ := by decide +kernel

theorem ld_at (x : Fin 8) (h : Fin 4) (r c : Fin 128) :
    b54 k s (ix4 x h r c)
      = if c.val ≤ r.val then b30 k s (ix3 x h r) - b30 k s (ix3 x h c) + b22 k s (ix3 x h c) else (⊥ : EReal) := by
  have e : b54 k s (ix4 x h r c) = Scalar.select (b41 k s (ix2 r c))
      (b30 k s (ix3 x h r) - b30 k s (ix3 x h c) + b22 k s (ix3 x h c)) (Ideal.ofBits FTy.f32 0xFF800000#32) := by
    pointwise [b54, b53, b52, b51, b50, b49, b48, b47, b46, b45, b44, b43, b42]
  rw [e, sel_true _ _ (tri_at k s r c), neg_inf]

theorem mi_at (x : Fin 8) (h : Fin 4) (r : Fin 128) :
    b57 k s (ix3 x h r) = b30 k s (ix3 x h r) + s.main_v56_8 (ix2 x h) := by
  pointwise [b57, b56, b55]

theorem mt_at (x : Fin 8) (h : Fin 4) (r : Fin 128) :
    b60 k s (ix3 x h r) = max (b57 k s (ix3 x h r)) (Finset.univ.fold max (⊥ : EReal) fun c => b54 k s (ix4 x h r c)) := by
  rw [← neg_inf]
  pointwise [b60, b59, b58]

theorem dmat_at (x : Fin 8) (h : Fin 4) (r c : Fin 128) :
    b64 k s (ix4 x h r c) = Ideal.exp (b54 k s (ix4 x h r c) - b60 k s (ix3 x h r)) := by
  pointwise [b64, b63, b62, b61]

theorem inter_at (x : Fin 8) (h : Fin 4) (r : Fin 128) :
    b66 k s (ix3 x h r) = Ideal.exp (b57 k s (ix3 x h r) - b60 k s (ix3 x h r)) := by
  pointwise [b66, b65]

theorem s_at (x : Fin 8) (h : Fin 4) (r c : Fin 128) :
    b68 k s (ix4 x h r c) = (∑ d, b5 k s (ix4 x h r d) * b11 k s (ix4 x h c d)) * b64 k s (ix4 x h r c) := by
  pointwise [b68, b67]

theorem num_at (x : Fin 8) (h : Fin 4) (r : Fin 128) (j : Fin 512) :
    b74 k s (ix4 x h r j) = ∑ c, b68 k s (ix4 x h r c) * b17 k s (ix4 x h c j)
      + b66 k s (ix3 x h r) * ∑ d, b5 k s (ix4 x h r d) * s.main_v56_6 (ix4 x h d j) := by
  pointwise [b74, b73, b72, b71, b70, b69]

theorem den_at (x : Fin 8) (h : Fin 4) (r : Fin 128) :
    b79 k s (ix3 x h r) = ∑ c, b68 k s (ix4 x h r c)
      + b66 k s (ix3 x h r) * ∑ d, b5 k s (ix4 x h r d) * s.main_v56_7 (ix3 x h d) := by
  pointwise [b79, b78, b77, b76, b75]

theorem out_at (x : Fin 8) (h : Fin 4) (r : Fin 128) (j : Fin 512) :
    b86 k s (ix4 x h r j) = Ideal.div (b74 k s (ix4 x h r j))
      (max (max (b79 k s (ix3 x h r)) (-b79 k s (ix3 x h r))) (Ideal.exp (-b60 k s (ix3 x h r)))) := by
  pointwise [b86, b85, b84, b83, b82, b81, b80]
  rfl

theorem bl_at (x : Fin 8) (h : Fin 4) : b88 k s (ix2 x h) = b30 k s (ix3 x h 127) := by
  pointwise [b88, b87]

theorem lw_at (x : Fin 8) (h : Fin 4) (c : Fin 128) :
    b92 k s (ix3 x h c) = b88 k s (ix2 x h) - b30 k s (ix3 x h c) + b22 k s (ix3 x h c) := by
  pointwise [b92, b91, b90, b89]

theorem mn_at (x : Fin 8) (h : Fin 4) :
    b96 k s (ix2 x h) = max (b88 k s (ix2 x h) + s.main_v56_8 (ix2 x h))
      (Finset.univ.fold max (⊥ : EReal) fun c => b92 k s (ix3 x h c)) := by
  rw [← neg_inf]
  pointwise [b96, b95, b94, b93]

theorem dec_at (x : Fin 8) (h : Fin 4) :
    b99 k s (ix2 x h) = Ideal.exp (b88 k s (ix2 x h) + s.main_v56_8 (ix2 x h) - b96 k s (ix2 x h)) := by
  pointwise [b99, b98, b97]

theorem kw_at (x : Fin 8) (h : Fin 4) (c : Fin 128) (d : Fin 512) :
    b106 k s (ix4 x h c d) = b11 k s (ix4 x h c d) * Ideal.exp (b92 k s (ix3 x h c) - b96 k s (ix2 x h)) := by
  pointwise [b106, b105, b104, b103, b102, b101, b100]

theorem c_at (x : Fin 8) (h : Fin 4) (d j : Fin 512) :
    b111 k s (ix4 x h d j) = b99 k s (ix2 x h) * s.main_v56_6 (ix4 x h d j)
      + ∑ c, b106 k s (ix4 x h c d) * b17 k s (ix4 x h c j) := by
  pointwise [b111, b110, b109, b108, b107]

theorem n_at (x : Fin 8) (h : Fin 4) (d : Fin 512) :
    b117 k s (ix3 x h d) = b99 k s (ix2 x h) * s.main_v56_7 (ix3 x h d) + ∑ c, b106 k s (ix4 x h c d) := by
  pointwise [b117, b116, b115, b114, b113, b112]

theorem store_at (i : Fin 32) (x : Fin 8) (h : Fin 4) (r : Fin 128) (d : Fin 512) :
    b123 k s (ix5 i x h r d) = if i = k then b86 k s (ix4 x h r d) else s.main_v56_9 (ix5 i x h r d) := by
  have e : b118 k s (ix5 0 x h r d) = b86 k s (ix4 x h r d) := by pointwise [b118]
  rw [← e]
  unfold b123
  exact update5 _ _ _ k (word_lt k.isLt) rfl rfl rfl rfl i x h r d

end trip

end Cert.ScanRef
-- ==== Proof.ScanRef.lean ====
/-
  The reference's loop at the values its state holds, trip after trip: the eight stacked batches' four heads each go through their
  sequence, 128 positions a trip.
-/
module

public import proofs.«01_k».proof.Proof.ScanRefStep

@[expose] public section

set_option maxRecDepth 16384

noncomputable section

open scoped BigOperators

namespace Cert.ScanRef

open Idealize.ShloMosaic Cert.ReferenceIdeal Cert.ReferenceIdeal.Gen Cert.ReferenceIdeal.Step Cert.Scan
open Idealize.ShloMosaic.Pointwise

/-! ## The invariant -/

/-- The reference's state before trip `p`: the inputs hold the sequences, the accumulators hold theirs at position `128 * p`, shifted by
    some stabiliser, and the rows before that position are stored. -/
structure Inv (S : Fin 8 → Fin 4 → Seq) (p : ℕ) (s : State Ideal) : Prop where
  q : ∀ j x h r d, s.main_v56_0 (ix5 j x h r d) = ((S x h).q (128 * j.val + r.val) d : EReal)
  k : ∀ j x h r d, s.main_v56_1 (ix5 j x h r d) = ((S x h).k (128 * j.val + r.val) d : EReal)
  v : ∀ j x h r d, s.main_v56_2 (ix5 j x h r d) = ((S x h).v (128 * j.val + r.val) d : EReal)
  ig : ∀ j x h r, s.main_v56_3 (ix4 j x h r) = ((S x h).ig (128 * j.val + r.val) : EReal)
  lf : ∀ j x h r, s.main_v56_4 (ix4 j x h r) = ((S x h).lf (128 * j.val + r.val) : EReal)
  st : ∀ x h, ∃ μ : ℝ, s.main_v56_8 (ix2 x h) = (μ : EReal)
    ∧ (∀ d j, s.main_v56_6 (ix4 x h d j) = ((Real.exp (-μ) * (S x h).C d j (128 * p) : ℝ) : EReal))
    ∧ ∀ d, s.main_v56_7 (ix3 x h d) = ((Real.exp (-μ) * (S x h).N d (128 * p) : ℝ) : EReal)
  out : ∀ j x h r d, j.val < p → s.main_v56_9 (ix5 j x h r d) = ((S x h).H (128 * j.val + r.val) d : EReal)

section invariant

variable {S : Fin 8 → Fin 4 → Seq} {k : Fin 32} {s : State Ideal} (I : Inv S k s) (x : Fin 8) (h : Fin 4)

include I

theorem Inv.b (r : Fin 128) : b30 k s (ix3 x h r) = ((run (S x h).lf (128 * k.val) (r.val + 1) : ℝ) : EReal) := by
  rw [b_at]
  simp only [I.lf]
  refine (sum_rows_le (Equiv.refl (Fin 128)) (fun i => (((S x h).lf (128 * k.val + i) : ℝ) : EReal)) r).trans ?_
  rw [← coe_sum]
  rfl

theorem Inv.lw (c : Fin 128) : b92 k s (ix3 x h c) = (((S x h).lw (Equiv.refl (Fin 128)) (128 * k.val) c : ℝ) : EReal) := by
  rw [lw_at, bl_at, I.b, I.b, ig_at, I.ig]
  rfl

theorem Inv.row (r : Fin 128) (j : Fin 512) : b86 k s (ix4 x h r j) = (((S x h).H (128 * k.val + r.val) j : ℝ) : EReal) := by
  obtain ⟨μ, h8, h6, h7⟩ := I.st x h
  rw [out_at]
  simp only [num_at, den_at, s_at, dmat_at, inter_at]
  exact (S x h).row (Equiv.refl (Fin 128)) (128 * k.val) r μ (fun c => b54 k s (ix4 x h r c)) (b57 k s (ix3 x h r)) (b60 k s (ix3 x h r))
    (fun d => b5 k s (ix4 x h r d)) (fun c d => b11 k s (ix4 x h c d)) (fun c => b17 k s (ix4 x h c j))
    (fun d => s.main_v56_6 (ix4 x h d j)) (fun d => s.main_v56_7 (ix3 x h d)) j
    (fun c => by rw [ld_at, I.b, I.b, ig_at, I.ig]; rfl)
    (by rw [mi_at, I.b, h8]; rfl) (mt_at k s x h r)
    (fun d => by rw [q_at, I.q]; rfl) (fun c d => by rw [k_at, I.k]; rfl) (fun c => by rw [v_at, I.v]; rfl)
    (fun d => h6 d j) h7

theorem Inv.state : ∃ μ : ℝ, b96 k s (ix2 x h) = (μ : EReal)
    ∧ (∀ d j, b111 k s (ix4 x h d j) = ((Real.exp (-μ) * (S x h).C d j (128 * (k.val + 1)) : ℝ) : EReal))
    ∧ ∀ d, b117 k s (ix3 x h d) = ((Real.exp (-μ) * (S x h).N d (128 * (k.val + 1)) : ℝ) : EReal) := by
  obtain ⟨μ, h8, h6, h7⟩ := I.st x h
  have hbl : b88 k s (ix2 x h) = ((run (S x h).lf (128 * k.val) 128 : ℝ) : EReal) := by rw [bl_at, I.b]; rfl
  obtain ⟨M, hM⟩ := (S x h).stab (Equiv.refl (Fin 128)) (128 * k.val) μ _ (b96 k s (ix2 x h)) (fun c => b92 k s (ix3 x h c)) hbl (I.lw x h)
    (by rw [mn_at, h8])
  refine ⟨M, hM, fun d j => ?_, fun d => ?_⟩
  · have := (S x h).finish (Equiv.refl (Fin 128)) (128 * k.val) (fun i => (S x h).k i d) (fun i => (S x h).v i j) ((S x h).c0 d j) μ M _ _
      (fun c => b11 k s (ix4 x h c d)) (fun c => b17 k s (ix4 x h c j)) _ hbl (I.lw x h)
      (fun c => by rw [k_at, I.k]; rfl) (fun c => by rw [v_at, I.v]; rfl) (h6 d j)
    rw [c_at, dec_at, hM, h8]
    simp only [kw_at, hM]
    exact this
  · have := (S x h).finish (Equiv.refl (Fin 128)) (128 * k.val) (fun i => (S x h).k i d) (fun _ => 1) ((S x h).n0 d) μ M _ _
      (fun c => b11 k s (ix4 x h c d)) (fun _ => ((1 : ℝ) : EReal)) _ hbl (I.lw x h)
      (fun c => by rw [k_at, I.k]; rfl) (fun _ => rfl) (h7 d)
    rw [n_at, dec_at, hM, h8]
    simp only [kw_at, hM]
    simp only [EReal.coe_one, mul_one] at this
    refine this.trans ?_
    unfold Seq.N
    simp only [mul_one]
    rfl

/-- One trip. -/
theorem Inv.next : Inv S (k.val + 1) (step k s) where
  q := I.q
  k := I.k
  v := I.v
  ig := I.ig
  lf := I.lf
  st x h := I.state x h
  out j x h r d hj := by
    show b123 k s (ix5 j x h r d) = _
    rw [store_at]
    split
    · next e => rw [e]; exact I.row x h r d
    · next e => exact I.out j x h r d (by have : j.val ≠ k.val := fun h => e (Fin.ext h); omega)

end invariant

/-- All 32 trips. -/
theorem Inv.all {S : Fin 8 → Fin 4 → Seq} {m : (ℓ : Loc nD τ sig) → Buf (Elt Ideal) ℓ} {c : Dev nD}
    (I : Inv S 0 (RefRun.start m c)) : ∀ k, k ≤ 32 → Inv S k (RefRun.iter m c k)
  | 0, _ => I
  | k + 1, hk => (Inv.all I k (by omega)).next (k := ⟨k, by omega⟩)

end Cert.ScanRef
-- ==== Proof.ScanRefInit.lean ====
/-
  What the reference lays out before its loop: the heads of both directions stacked on the batches, cut into chunks of 128 positions.
-/
module

public import proofs.«01_k».proof.Proof.ScanRef
public import proofs.«01_k».proof.Proof.ScanArgs

@[expose] public section

set_option maxRecDepth 16384

noncomputable section

namespace Cert.ScanRef

open Idealize.ShloMosaic Cert.ReferenceIdeal Cert.ReferenceIdeal.Gen Cert.ReferenceIdeal.Step Cert.Scan
open Idealize.ShloMosaic.Pointwise

/-! ## The layouts -/

/-- Row `r` of chunk `j`. -/
def at128 (j : Fin 32) (r : Fin 128) : Fin 4096 := ⟨128 * j.val + r.val, by omega⟩

theorem chunks5 (X : FVec Ideal S8x4x4096x512 .f32) (j : Fin 32) (x : Fin 8) (h : Fin 4) (r : Fin 128) (d : Fin 512) :
    transpose S32x8x4x128x512 [2, 0, 1, 3, 4] (shapeCast _ X shapeCasts_S8x4x4096x512_S8x4x32x128x512)
      transposes_S8x4x32x128x512_S32x8x4x128x512_2_0_1_3_4 (ix5 j x h r d) = X (ix4 x h (at128 j r) d) := by
  have e : at128 j r = ⟨j.val * 128 + r.val, by omega⟩ := Fin.ext (by show 128 * j.val + r.val = j.val * 128 + r.val; omega)
  rw [e]
  pointwise []

theorem chunks4 (X : FVec Ideal S8x4x4096 .f32) (j : Fin 32) (x : Fin 8) (h : Fin 4) (r : Fin 128) :
    transpose S32x8x4x128 [2, 0, 1, 3] (shapeCast _ X shapeCasts_S8x4x4096_S8x4x32x128)
      transposes_S8x4x32x128_S32x8x4x128_2_0_1_3 (ix4 j x h r) = X (ix3 x h (at128 j r)) := by
  have e : at128 j r = ⟨j.val * 128 + r.val, by omega⟩ := Fin.ext (by show 128 * j.val + r.val = j.val * 128 + r.val; omega)
  rw [e]
  pointwise []

theorem heads_at (X : FVec Ideal S4x4096x2048 .bf16) (b h : Fin 4) (i : Fin 4096) (d : Fin 512) :
    (extf .f32 (transpose S4x4x4096x512 [0, 2, 1, 3] (shapeCast _ X shapeCasts_S4x4096x2048_S4x4096x4x512)
      transposes_S4x4096x4x512_S4x4x4096x512_0_2_1_3) bitsLt_bf16_f32 : FVec Ideal S4x4x4096x512 .f32) (ix4 b h i d)
      = X (ix3 b i (col h d)) := by
  have e : col h d = ⟨h.val * 512 + d.val, by omega⟩ := Fin.ext (by show 512 * h.val + d.val = h.val * 512 + d.val; omega)
  rw [e]
  pointwise []

theorem stack5 (f : FVec Ideal S4x4x4096x512 .f32) (x : Fin 8) (h : Fin 4) (i : Fin 4096) (d : Fin 512) :
    concatenate S8x4x4096x512 0 [⟨S4x4x4096x512, f⟩, ⟨S4x4x4096x512, Host.reverse [2] f⟩]
      concatenates_S4x4x4096x512_S4x4x4096x512_S8x4x4096x512_d0 (ix4 x h i d)
      = if hx : x.val < 4 then f (ix4 ⟨x.val, hx⟩ h i d) else f (ix4 ⟨x.val - 4, by omega⟩ h i.rev d) := by
  pointwise []
  simp

theorem stack4 (f g : FVec Ideal S4x4x4096 .f32) (x : Fin 8) (h : Fin 4) (i : Fin 4096) :
    concatenate S8x4x4096 0 [⟨S4x4x4096, f⟩, ⟨S4x4x4096, Host.reverse [2] g⟩]
      concatenates_S4x4x4096_S4x4x4096_S8x4x4096_d0 (ix3 x h i)
      = if hx : x.val < 4 then f (ix3 ⟨x.val, hx⟩ h i) else g (ix3 ⟨x.val - 4, by omega⟩ h i.rev) := by
  pointwise []
  simp

def dir (x : Fin 8) : Fin 2 := ⟨x.val / 4, by omega⟩
def bat (x : Fin 8) : Fin 4 := ⟨x.val % 4, by omega⟩

theorem pick {α : Type} (f : Fin 2 → Fin 4 → Fin 4096 → α) (x : Fin 8) (i : Fin 4096) :
    (if hx : x.val < 4 then f 0 ⟨x.val, hx⟩ i else f 1 ⟨x.val - 4, by omega⟩ i.rev) = f (dir x) (bat x) (pos (dir x) i.val) := by
  split
  · next hx =>
    have h1 : dir x = 0 := Fin.ext (by show x.val / 4 = 0; omega)
    have h2 : bat x = ⟨x.val, hx⟩ := Fin.ext (by show x.val % 4 = x.val; omega)
    rw [h1, h2, pos_fwd _ i.isLt]
  · next hx =>
    have h1 : dir x = 1 := Fin.ext (by show x.val / 4 = 1; omega)
    have h2 : bat x = ⟨x.val - 4, by omega⟩ := Fin.ext (by show x.val % 4 = x.val - 4; omega)
    have h3 : i.rev = ⟨4095 - i.val, by omega⟩ := Fin.ext (by rw [Fin.val_rev]; show 4096 - (i.val + 1) = 4095 - i.val; omega)
    rw [h1, h2, pos_bwd _ i.isLt, h3]

theorem lsig_host (x : ℝ) :
    (-(max (-(x : EReal)) 0 + Ideal.log1p (Ideal.exp (-(FloatOps.absf (F := Ideal) (φ := .f32) (x : EReal)))))) = ((lsig x : ℝ) : EReal) := by
  have h0 : (0 : EReal) = ((0 : ℝ) : EReal) := rfl
  show (-(max (-(x : EReal)) 0 + Ideal.log1p (Ideal.exp (-(max (x : EReal) (-(x : EReal))))))) = _
  rw [coe_abs, h0, ← EReal.coe_neg, ← EReal.coe_neg, exp_coe, log1p_coe _ (by positivity), ← coe_max, ← EReal.coe_add, ← EReal.coe_neg]
  congr 1

/-! ## The state before the first trip -/

variable (A : Args)

theorem in_q (j : Fin 32) (x : Fin 8) (h : Fin 4) (r : Fin 128) (d : Fin 512) :
    A_main_v46 (F := Ideal) A.q A.k A.v A.g A.c A.n A.m (ix5 j x h r d)
      = A.q (ix3 (bat x) (pos (dir x) (128 * j.val + r.val)) (col h d)) := by
  refine (chunks5 _ j x h r d).trans ((stack5 _ x h _ d).trans ?_)
  refine Eq.trans ?_ (pick (fun _ b i => A.q (ix3 b i (col h d))) x (at128 j r))
  split
  · exact heads_at A.q _ _ _ _
  · exact heads_at A.q _ _ _ _

theorem in_k (j : Fin 32) (x : Fin 8) (h : Fin 4) (r : Fin 128) (d : Fin 512) :
    A_main_v48 (F := Ideal) A.q A.k A.v A.g A.c A.n A.m (ix5 j x h r d)
      = A.k (ix3 (bat x) (pos (dir x) (128 * j.val + r.val)) (col h d)) := by
  refine (chunks5 _ j x h r d).trans ((stack5 _ x h _ d).trans ?_)
  refine Eq.trans ?_ (pick (fun _ b i => A.k (ix3 b i (col h d))) x (at128 j r))
  split
  · exact heads_at A.k _ _ _ _
  · exact heads_at A.k _ _ _ _

theorem in_v (j : Fin 32) (x : Fin 8) (h : Fin 4) (r : Fin 128) (d : Fin 512) :
    A_main_v50 (F := Ideal) A.q A.k A.v A.g A.c A.n A.m (ix5 j x h r d)
      = A.v (ix3 (bat x) (pos (dir x) (128 * j.val + r.val)) (col h d)) := by
  refine (chunks5 _ j x h r d).trans ((stack5 _ x h _ d).trans ?_)
  refine Eq.trans ?_ (pick (fun _ b i => A.v (ix3 b i (col h d))) x (at128 j r))
  split
  · exact heads_at A.v _ _ _ _
  · exact heads_at A.v _ _ _ _

theorem in_ig (j : Fin 32) (x : Fin 8) (h : Fin 4) (r : Fin 128) :
    A_main_v52 (F := Ideal) A.q A.k A.v A.g A.c A.n A.m (ix4 j x h r)
      = A.g (ix3 (bat x) (pos (dir x) (128 * j.val + r.val)) (colI (dir x) h)) := by
  refine (chunks4 _ j x h r).trans ((stack4 _ _ x h _).trans ?_)
  refine Eq.trans ?_ (pick (fun d b i => A.g (ix3 b i (colI d h))) x (at128 j r))
  have e0 : colI 0 h = ⟨0 + h.val, by omega⟩ := Fin.ext (by simp [colI])
  have e1 : colI 1 h = ⟨8 + h.val, by omega⟩ := Fin.ext (by simp [colI])
  split
  · rw [e0]; pointwise [A_main_v1, A_main_v0]
  · rw [e1]; pointwise [A_main_v3, A_main_v0]

theorem lf_f (b h : Fin 4) (i : Fin 4096) : A_main_v33 (F := Ideal) A.q A.k A.v A.g A.c A.n A.m (ix3 b h i)
    = -(max (-A.g (ix3 b i (colF 0 h))) 0 + Ideal.log1p (Ideal.exp (-(FloatOps.absf (F := Ideal) (φ := .f32) (A.g (ix3 b i (colF 0 h))))))) := by
  have e0 : colF 0 h = ⟨4 + h.val, by omega⟩ := Fin.ext (by simp [colF])
  rw [e0]
  pointwise [A_main_v33, A_main_v32, A_main_v31, A_main_v30, A_main_v29, A_main_v28, A_main_v27, K_main_v26, K_main_cst, A_main_v25,
    A_main_v2, A_main_v0]

theorem lf_b (b h : Fin 4) (i : Fin 4096) : A_main_v42 (F := Ideal) A.q A.k A.v A.g A.c A.n A.m (ix3 b h i)
    = -(max (-A.g (ix3 b i (colF 1 h))) 0 + Ideal.log1p (Ideal.exp (-(FloatOps.absf (F := Ideal) (φ := .f32) (A.g (ix3 b i (colF 1 h))))))) := by
  have e1 : colF 1 h = ⟨12 + h.val, by omega⟩ := Fin.ext (by simp [colF])
  rw [e1]
  pointwise [A_main_v42, A_main_v41, A_main_v40, A_main_v39, A_main_v38, A_main_v37, A_main_v36, K_main_v35, K_main_cst_0, A_main_v34,
    A_main_v4, A_main_v0]

theorem in_lf (R : A.Real) (j : Fin 32) (x : Fin 8) (h : Fin 4) (r : Fin 128) :
    A_main_v54 (F := Ideal) A.q A.k A.v A.g A.c A.n A.m (ix4 j x h r)
      = ((lsig (A.g (ix3 (bat x) (pos (dir x) (128 * j.val + r.val)) (colF (dir x) h))).toReal : ℝ) : EReal) := by
  refine (chunks4 _ j x h r).trans ((stack4 _ _ x h _).trans ?_)
  have := pick (fun d b i => ((lsig (A.g (ix3 b i (colF d h))).toReal : ℝ) : EReal)) x (at128 j r)
  refine Eq.trans ?_ this
  split
  · rw [lf_f, R.g, lsig_host]; rfl
  · rw [lf_b, R.g, lsig_host]; rfl

theorem in_c (x : Fin 8) (h : Fin 4) (e d : Fin 512) :
    A_main_v14 (F := Ideal) A.q A.k A.v A.g A.c A.n A.m (ix4 x h e d) = A.c (ix5 (dir x) (bat x) h e d) := by
  pointwise [A_main_v14]
  rfl

theorem in_n (x : Fin 8) (h : Fin 4) (e : Fin 512) :
    A_main_v15 (F := Ideal) A.q A.k A.v A.g A.c A.n A.m (ix3 x h e) = A.n (ix4 (dir x) (bat x) h e) := by
  pointwise [A_main_v15]
  rfl

theorem in_m (x : Fin 8) (h : Fin 4) :
    A_main_v16 (F := Ideal) A.q A.k A.v A.g A.c A.n A.m (ix2 x h) = A.m (ix3 (dir x) (bat x) h) := by
  pointwise [A_main_v16]
  rfl

end Cert.ScanRef

end
-- ==== Proof.ScanRefEnd.lean ====
/-
  The reference's two results at an index: the rows of the two scans.
-/
module

public import proofs.«01_k».proof.Proof.ScanRefInit

@[expose] public section

set_option maxRecDepth 16384

noncomputable section

namespace Cert.ScanRef

open Idealize.ShloMosaic Cert.ReferenceIdeal Cert.ReferenceIdeal.Gen Cert.ReferenceIdeal.Step Cert.Scan
open Idealize.ShloMosaic.TcCoe
open Idealize.ShloMosaic.Pointwise

variable (m : (ℓ : Loc nD τ sig) → Buf (Elt Ideal) ℓ) (c : Dev nD)

/-- The reference's arguments. -/
def argsOf : Args where
  q := m ((c : Thread nD τ).loc main_arg0)
  k := m ((c : Thread nD τ).loc main_arg1)
  v := m ((c : Thread nD τ).loc main_arg2)
  g := m ((c : Thread nD τ).loc main_arg3)
  c := m ((c : Thread nD τ).loc main_arg4)
  n := m ((c : Thread nD τ).loc main_arg5)
  m := m ((c : Thread nD τ).loc main_arg6)

/-- The sequences of the eight stacked batches. -/
def seqs (A : Args) (x : Fin 8) (h : Fin 4) : Seq := A.seq (dir x) (bat x) h

theorem inv_start (R : (argsOf m c).Real) : Inv (seqs (argsOf m c)) 0 (RefRun.start m c) where
  q j x h r d := (in_q (argsOf m c) j x h r d).trans (R.q _)
  k j x h r d := (in_k (argsOf m c) j x h r d).trans (R.k _)
  v j x h r d := (in_v (argsOf m c) j x h r d).trans (R.v _)
  ig j x h r := (in_ig (argsOf m c) j x h r).trans (R.g _)
  lf j x h r := in_lf (argsOf m c) R j x h r
  st x h := by
    have k (z : ℝ) : Real.exp (-((argsOf m c).m (ix3 (dir x) (bat x) h)).toReal)
        * (Real.exp ((argsOf m c).m (ix3 (dir x) (bat x) h)).toReal * z) = z := by
      rw [← mul_assoc, ← Real.exp_add, neg_add_cancel, Real.exp_zero, one_mul]
    have kc (e j) : Real.exp (-((argsOf m c).m (ix3 (dir x) (bat x) h)).toReal) * (seqs (argsOf m c) x h).C e j (128 * 0)
        = ((argsOf m c).c (ix5 (dir x) (bat x) h e j)).toReal := k _
    have kn (e) : Real.exp (-((argsOf m c).m (ix3 (dir x) (bat x) h)).toReal) * (seqs (argsOf m c) x h).N e (128 * 0)
        = ((argsOf m c).n (ix4 (dir x) (bat x) h e)).toReal := k _
    refine ⟨((argsOf m c).m (ix3 (dir x) (bat x) h)).toReal, (in_m (argsOf m c) x h).trans (R.m _), fun d j => ?_, fun d => ?_⟩
    · rw [kc]; exact (in_c (argsOf m c) x h d j).trans (R.c _)
    · rw [kn]; exact (in_n (argsOf m c) x h d).trans (R.n _)
  out j x h r d hj := absurd hj (Nat.not_lt_zero _)

/-- The head of a column. -/
def headOf (y : Fin 2048) : Fin 4 := ⟨y.val / 512, by omega⟩
/-- A column's place in its head. -/
def lane (y : Fin 2048) : Fin 512 := ⟨y.val % 512, by omega⟩

theorem fwd (R : (argsOf m c).Real) (b : Fin 4) (i : Fin 4096) (y : Fin 2048) :
    R_main_v62 (RefRun.iter m c 32) (ix3 b i y) = ((((argsOf m c).seq 0 b (headOf y)).H i.val (lane y) : ℝ) : EReal) := by
  have h : R_main_v62 (RefRun.iter m c 32) (ix3 b i y) = (RefRun.iter m c 32).main_v56_9
      (ix5 ⟨i.val / 128, by omega⟩ ⟨0 + b.val, by omega⟩ (headOf y) ⟨i.val % 128, by omega⟩ (lane y)) := by
    pointwise [R_main_v62]
    rfl
  rw [h, ((inv_start m c R).all 32 le_rfl).out _ _ _ _ _ (by show i.val / 128 < 32; omega)]
  have e0 : dir ⟨0 + b.val, by omega⟩ = 0 := Fin.ext (by show (0 + b.val) / 4 = 0; omega)
  have e1 : bat ⟨0 + b.val, by omega⟩ = b := Fin.ext (by show (0 + b.val) % 4 = b.val; omega)
  have e2 : 128 * (i.val / 128) + i.val % 128 = i.val := Nat.div_add_mod _ _
  unfold seqs
  rw [e0, e1]
  dsimp only
  rw [e2]

theorem bwd (R : (argsOf m c).Real) (b : Fin 4) (i : Fin 4096) (y : Fin 2048) :
    R_main_v67 (RefRun.iter m c 32) (ix3 b i y) = ((((argsOf m c).seq 1 b (headOf y)).H (4095 - i.val) (lane y) : ℝ) : EReal) := by
  have h : R_main_v67 (RefRun.iter m c 32) (ix3 b i y) = (RefRun.iter m c 32).main_v56_9
      (ix5 ⟨i.rev.val / 128, by omega⟩ ⟨4 + b.val, by omega⟩ (headOf y) ⟨i.rev.val % 128, by omega⟩ (lane y)) := by
    pointwise [R_main_v67]
    simp
    rfl
  rw [h, ((inv_start m c R).all 32 le_rfl).out _ _ _ _ _ (by show i.rev.val / 128 < 32; omega)]
  have e0 : dir ⟨4 + b.val, by omega⟩ = 1 := Fin.ext (by show (4 + b.val) / 4 = 1; omega)
  have e1 : bat ⟨4 + b.val, by omega⟩ = b := Fin.ext (by show (4 + b.val) % 4 = b.val; omega)
  have e2 : 128 * (i.rev.val / 128) + i.rev.val % 128 = 4095 - i.val := by
    rw [Nat.div_add_mod]
    show 4096 - (i.val + 1) = 4095 - i.val
    omega
  unfold seqs
  rw [e0, e1]
  dsimp only
  rw [e2]

end Cert.ScanRef
-- ==== Proof.ScanPre.lean ====
/-
  What the precondition says: every entry of every argument is a real number.
-/
module

public import proofs.«01_k».proof.Proof.ScanBlocks
public import proofs.«01_k».proof.Proof.Gen.Pre_finite
public import proofs.«01_k».proof.Defs
public import Idealize.ShloMosaic.Lib.ReduceAll
public import Idealize.ShloMosaic.Lib.Pointwise.Select

@[expose] public section

noncomputable section

namespace Cert.Scan

open Idealize.ShloMosaic

/-- A number whose absolute value is below +∞ is real. -/
theorem real_of_lt (x : EReal) (h : Ideal.cmp .olt (max x (-x)) (Ideal.ofBits .f32 0x7F800000#32) = 1#1) :
    x = (x.toReal : EReal) := by
  have htop : Ideal.ofBits .f32 0x7F800000#32 = ⊤ := by simp [Ideal.ofBits, Ideal.ieee]
  rw [htop] at h
  have h := (Ideal.cmp_olt_eq_one _ _).1 h
  induction x with
  | bot => simp at h
  | coe r => rfl
  | top => simp at h

/-- An array all of whose absolute values are below +∞ is real. -/
theorem all_real {s : Shape} {axes : List (Fin s.rank)} (x : FVec Ideal s .f32) (hb : Cert.Pre_finite.S_.BroadcastsInDim s ![])
    (h : s.ReducesTo axes Cert.Pre_finite.S_) (hu : 0 < Cert.Pre_finite.S_.numel) (j : Cert.Pre_finite.S_.Idx)
    (e : Host.reduce IntOp.andi (cmpf .olt (Host.absf x) (broadcastInDim s ![] hb (constant Cert.Pre_finite.S_ .f32 0x7F800000#32)))
      (constantI Cert.Pre_finite.S_ 1 1#1) h hu j = 1#1) (i : s.Idx) : x i = ((x i : EReal).toReal : EReal) := by
  haveI : Subsingleton Cert.Pre_finite.S_.Idx := ⟨fun a b => funext fun k => k.elim0⟩
  exact real_of_lt _ (Host.reduce_andi_all _ _ h hu j e i)

theorem real_of_pre (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    (argsOf m c).Real := by
  have e := congrFun (h c) (fun k => k.elim0)
  dsimp only [Cert.Pre_finite.fn, Cert.Pre_finite.fn_part1, Cert.Pre_finite.fn_part2] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨all_real _ _ _ _ _ e0, all_real _ _ _ _ _ e1, all_real _ _ _ _ _ e2, all_real _ _ _ _ _ e3, all_real _ _ _ _ _ e4,
    all_real _ _ _ _ _ e5, all_real _ _ _ _ _ e6⟩

end Cert.Scan
-- ==== Proof.FfnMath.lean ====
/-
  The feed-forward part of one row, over the extended reals: the row's root mean square norm, its modulation, the gated
  product with the two weights, and the sum over the inner dimension in one piece or in two halves.
-/
module

public import Idealize.ShloMosaic.Lib.Pointwise

@[expose] public section

noncomputable section

open scoped BigOperators
open Idealize.ShloMosaic

namespace Cert.Ffn

/-- A row divided by the root of its mean square. -/
def rms (x : Fin 1024 → EReal) (d : Fin 1024) : EReal :=
  x d * Ideal.rsqrt (Ideal.div (∑ e, x e * x e) (Ideal.ofBits .f32 0x44800000#32) + Ideal.ofBits .f32 0x358637BD#32)

/-- A row normalised, scaled by the learned gain and modulated. -/
def pre (x g scale shift : Fin 1024 → EReal) (d : Fin 1024) : EReal :=
  rms x d * g d * (1 + scale d) + shift d

/-- A row times a column of a weight. -/
def dot {n : ℕ} (h : Fin 1024 → EReal) (w : Fin 1024 → Fin n → EReal) (j : Fin n) : EReal := ∑ d, h d * w d j

/-- The gated unit of a gate and an up projection. -/
def gated (g u : EReal) : EReal := g * Ideal.logistic g * u

/-- Entry `j` of the gated hidden row: column `j` of the weight is the gate's, column `2816 + j` the other factor's. -/
def act (h : Fin 1024 → EReal) (w : Fin 1024 → Fin 5632 → EReal) (j : Fin 2816) : EReal :=
  gated (dot h w ⟨j.val, by omega⟩) (dot h w ⟨2816 + j.val, by omega⟩)

/-- The feed-forward part of a row: the gated hidden row times the second weight. -/
def ffn (h : Fin 1024 → EReal) (w : Fin 1024 → Fin 5632 → EReal) (w2 : Fin 2816 → Fin 1024 → EReal) (d : Fin 1024) : EReal :=
  ∑ j, act h w j * w2 j d

/-- A row with half its gated feed-forward part added. -/
def add (x gate : Fin 1024 → EReal) (f : Fin 1024 → EReal) (d : Fin 1024) : EReal :=
  x d + Ideal.ofBits .f32 0x3F000000#32 * gate d * f d

/-- A sum over the inner dimension is the sum over its two halves. -/
theorem sum_halves (f : Fin 2816 → EReal) :
    ∑ j, f j = ∑ j : Fin 1408, f ⟨j.val, by omega⟩ + ∑ j : Fin 1408, f ⟨1408 + j.val, by omega⟩ :=
  Fin.sum_univ_add (a := 1408) (b := 1408) f

/-- The feed-forward part with the inner dimension taken in two halves. -/
theorem ffn_halves (h : Fin 1024 → EReal) (w : Fin 1024 → Fin 5632 → EReal) (w2 : Fin 2816 → Fin 1024 → EReal) (d : Fin 1024) :
    ffn h w w2 d
      = ∑ j : Fin 1408, gated (dot h (fun e (j : Fin 1408) => w e ⟨j.val, by omega⟩) j) (dot h (fun e (j : Fin 1408) => w e ⟨2816 + j.val, by omega⟩) j)
            * w2 ⟨j.val, by omega⟩ d
        + ∑ j : Fin 1408, gated (dot h (fun e (j : Fin 1408) => w e ⟨1408 + j.val, by omega⟩) j)
            (dot h (fun e (j : Fin 1408) => w e ⟨4224 + j.val, by omega⟩) j) * w2 ⟨1408 + j.val, by omega⟩ d := by
  have e (j : Fin 1408) : act h w ⟨1408 + j.val, by omega⟩
      = gated (dot h w ⟨1408 + j.val, by omega⟩) (dot h w ⟨4224 + j.val, by omega⟩) := by
    unfold act
    refine congrArg (fun x => gated (dot h w ⟨1408 + j.val, by omega⟩) (dot h w x)) (Fin.ext ?_)
    show 2816 + (1408 + j.val) = 4224 + j.val
    omega
  unfold ffn
  rw [sum_halves]
  simp only [e]
  simp only [act, dot]

/-- Entry `d` of row `i` of batch `b` after the second feed-forward part and the last norm: `x` is the stream, `m` holds a batch's
    modulations, shift, scale and gate its columns from 6144, 7168 and 8192 on. -/
def part (x : (⟨3, ![4, 4096, 1024]⟩ : Shape).Idx → EReal) (m : (⟨2, ![8, 9216]⟩ : Shape).Idx → EReal) (g : (⟨2, ![3, 1024]⟩ : Shape).Idx → EReal)
    (w : (⟨2, ![1024, 5632]⟩ : Shape).Idx → EReal) (w2 : (⟨2, ![2816, 1024]⟩ : Shape).Idx → EReal) (g2 : (⟨1, ![1024]⟩ : Shape).Idx → EReal)
    (b : Fin 4) (i : Fin 4096) (d : Fin 1024) : EReal :=
  rms (add (fun e => x (ix3 b i e)) (fun e => m (ix2 ⟨b.val, by omega⟩ ⟨8192 + e.val, by omega⟩))
    (ffn (pre (fun e => x (ix3 b i e)) (fun e => g (ix2 2 e)) (fun e => m (ix2 ⟨b.val, by omega⟩ ⟨7168 + e.val, by omega⟩))
        (fun e => m (ix2 ⟨b.val, by omega⟩ ⟨6144 + e.val, by omega⟩)))
      (fun e j => w (ix2 e j)) (fun j e => w2 (ix2 j e)))) d * g2 (ix1 d)

/-- Entry `d` of row `i` of batch `b` after the first feed-forward part: `x` is the stream before the position embedding, `p` the
    table of the embeddings; shift, scale and gate are the columns of `m` from 0, 1024 and 2048 on. -/
def first (x : (⟨3, ![4, 4096, 1024]⟩ : Shape).Idx → EReal) (p : (⟨2, ![4096, 1024]⟩ : Shape).Idx → EReal) (m : (⟨2, ![8, 9216]⟩ : Shape).Idx → EReal)
    (g : (⟨2, ![3, 1024]⟩ : Shape).Idx → EReal) (w : (⟨2, ![1024, 5632]⟩ : Shape).Idx → EReal) (w2 : (⟨2, ![2816, 1024]⟩ : Shape).Idx → EReal)
    (b : Fin 4) (i : Fin 4096) (d : Fin 1024) : EReal :=
  add (fun e => x (ix3 b i e) + p (ix2 i e)) (fun e => m (ix2 ⟨b.val, by omega⟩ ⟨2048 + e.val, by omega⟩))
    (ffn (pre (fun e => x (ix3 b i e) + p (ix2 i e)) (fun e => g (ix2 0 e)) (fun e => m (ix2 ⟨b.val, by omega⟩ ⟨1024 + e.val, by omega⟩))
        (fun e => m (ix2 ⟨b.val, by omega⟩ ⟨e.val, by omega⟩)))
      (fun e j => w (ix2 e j)) (fun j e => w2 (ix2 j e))) d

/-- Entry `j` of row `i` of batch `b` of the projections: the row normalised with the second gain, modulated with the shift and scale of
    `m`'s columns from 3072 and 4096 on, times the weight. -/
def proj (x : (⟨3, ![4, 4096, 1024]⟩ : Shape).Idx → EReal) (m : (⟨2, ![8, 9216]⟩ : Shape).Idx → EReal) (g : (⟨2, ![3, 1024]⟩ : Shape).Idx → EReal)
    (w : (⟨2, ![1024, 9216]⟩ : Shape).Idx → EReal) (b : Fin 4) (i : Fin 4096) (j : Fin 9216) : EReal :=
  dot (pre (fun e => x (ix3 b i e)) (fun e => g (ix2 1 e)) (fun e => m (ix2 ⟨b.val, by omega⟩ ⟨4096 + e.val, by omega⟩))
      (fun e => m (ix2 ⟨b.val, by omega⟩ ⟨3072 + e.val, by omega⟩))) (fun e j => w (ix2 e j)) j

/-- The columns of the first result of the projections. -/
def colA (j : Fin 2048) : Fin 9216 := ⟨j.val, by omega⟩
/-- The columns of the second. -/
def colZ (j : Fin 2048) : Fin 9216 := ⟨2048 + j.val, by omega⟩
/-- The columns of the third. -/
def colB (j : Fin 3072) : Fin 9216 := ⟨4096 + j.val, by omega⟩
/-- The columns of the fourth. -/
def colG (j : Fin 2048) : Fin 9216 := ⟨7168 + j.val, by omega⟩

end Cert.Ffn

end
-- ==== Proof.FfnRef.lean ====
/-
  The second feed-forward part as the reference computes it, read at an index.
-/
module

public import proofs.«01_k».proof.Proof.FfnMath
public import proofs.«01_k».proof.Proof.Gen.Reference2Ideal.Run

@[expose] public section

noncomputable section

open scoped BigOperators

namespace Cert.Reference2Ideal.Ffn

open Cert.Ffn
open Cert.Reference2Ideal Cert.Reference2Ideal.Gen Cert.Reference2Ideal.Value Idealize.ShloMosaic Idealize.ShloMosaic.TcCoe

/-- Rows divided by the root of their mean squares. -/
def norm (x : FVec Ideal S4x4096x1024 .f32) : FVec Ideal S4x4096x1024 .f32 :=
  mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))

/-- The modulations of the four batches. -/
def mods (a1 : FVec Ideal S8x9216 .f32) : FVec Ideal S4x9216 .f32 := extractStridedSlice S4x9216 ![0, 0] a1 slices_S8x9216_S4x9216_0_0

/-- Rows normalised, scaled and modulated. -/
def pre (x : FVec Ideal S4x4096x1024 .f32) (a1 : FVec Ideal S8x9216 .f32) (a2 : FVec Ideal S3x1024 .f32) : FVec Ideal S4x4096x1024 .f32 :=
  addf (mulf (mulf (norm x) (broadcastInDim S4x4096x1024 ![0, 1, 2] bcast_S1x1x1024_S4x4096x1024_0_1_2 (broadcastInDim S1x1x1024 ![2] bcast_S1024_S1x1x1024_2 (shapeCast _ (extractStridedSlice S1x1024 ![2, 0] a2 slices_S3x1024_S1x1024_2_0) shapeCasts_S1x1024_S1024)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 7168] (mods a1) slices_S4x9216_S4x1024_0_7168))))) (broadcastInDim S4x4096x1024 ![0, 1, 2] bcast_S4x1x1024_S4x4096x1024_0_1_2 (broadcastInDim S4x1x1024 ![0, 2] bcast_S4x1024_S4x1x1024_0_2 (extractStridedSlice S4x1024 ![0, 6144] (mods a1) slices_S4x9216_S4x1024_0_6144)))

/-- The first product. -/
def up (h : FVec Ideal S4x4096x1024 .f32) (a3 : FVec Ideal S1024x5632 .f32) : FVec Ideal S4x4096x5632 .f32 :=
  Host.dotGeneral (F := Ideal) dot_S4x4096x1024_S1024x5632_S4x4096x5632_2_0_01_1_n_n none h a3

/-- The gated hidden rows. -/
def act (u : FVec Ideal S4x4096x5632 .f32) : FVec Ideal S4x4096x2816 .f32 :=
  mulf (mulf (extractStridedSlice S4x4096x2816 ![0, 0, 0] u slices_S4x4096x5632_S4x4096x2816_0_0_0) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 0] u slices_S4x4096x5632_S4x4096x2816_0_0_0)))))) (extractStridedSlice S4x4096x2816 ![0, 0, 2816] u slices_S4x4096x5632_S4x4096x2816_0_0_2816)

/-- The second product. -/
def down (a : FVec Ideal S4x4096x2816 .f32) (a4 : FVec Ideal S2816x1024 .f32) : FVec Ideal S4x4096x1024 .f32 :=
  Host.dotGeneral (F := Ideal) dot_S4x4096x2816_S2816x1024_S4x4096x1024_2_0_01_1_n_n none a a4

/-- The rows with half their gated feed-forward part added. -/
def sum (x : FVec Ideal S4x4096x1024 .f32) (a1 : FVec Ideal S8x9216 .f32) (f : FVec Ideal S4x4096x1024 .f32) : FVec Ideal S4x4096x1024 .f32 :=
  addf x (mulf (broadcastInDim S4x4096x1024 ![0, 1, 2] bcast_S4x1x1024_S4x4096x1024_0_1_2 (mulf (broadcastInDim S4x1x1024 ![] bcast_S_S4x1x1024 (constant S_ .f32 0x3F000000#32)) (broadcastInDim S4x1x1024 ![0, 2] bcast_S4x1024_S4x1x1024_0_2 (extractStridedSlice S4x1024 ![0, 8192] (mods a1) slices_S4x9216_S4x1024_0_8192)))) f)

/-- The rows after the last norm. -/
def last (y : FVec Ideal S4x4096x1024 .f32) (a5 : FVec Ideal S1024 .f32) : FVec Ideal S4x4096x1024 .f32 :=
  mulf (norm y) (broadcastInDim S4x4096x1024 ![0, 1, 2] bcast_S1x1x1024_S4x4096x1024_0_1_2 (broadcastInDim S1x1x1024 ![2] bcast_S1024_S1x1x1024_2 a5))

theorem norm_at (x : FVec Ideal S4x4096x1024 .f32) (b : Fin 4) (i : Fin 4096) (d : Fin 1024) :
    norm x (ix3 b i d) = rms (fun e => x (ix3 b i e)) d := by
  pointwise [norm]
  rfl

theorem pre_at (x : FVec Ideal S4x4096x1024 .f32) (a1 : FVec Ideal S8x9216 .f32) (a2 : FVec Ideal S3x1024 .f32) (b : Fin 4) (i : Fin 4096) (d : Fin 1024) :
    pre x a1 a2 (ix3 b i d) = Cert.Ffn.pre (fun e => x (ix3 b i e)) (fun e => a2 (ix2 2 e))
      (fun e => a1 (ix2 ⟨b.val, by omega⟩ ⟨7168 + e.val, by omega⟩)) (fun e => a1 (ix2 ⟨b.val, by omega⟩ ⟨6144 + e.val, by omega⟩)) d := by
  pointwise [pre, mods]
  rw [norm_at]
  rfl

theorem up_at (h : FVec Ideal S4x4096x1024 .f32) (a3 : FVec Ideal S1024x5632 .f32) (b : Fin 4) (i : Fin 4096) (j : Fin 5632) :
    up h a3 (ix3 b i j) = dot (fun e => h (ix3 b i e)) (fun e j => a3 (ix2 e j)) j := by
  pointwise [up]
  rfl

theorem act_at (u : FVec Ideal S4x4096x5632 .f32) (b : Fin 4) (i : Fin 4096) (j : Fin 2816) :
    act u (ix3 b i j) = gated (u (ix3 b i ⟨j.val, by omega⟩)) (u (ix3 b i ⟨2816 + j.val, by omega⟩)) := by
  pointwise [act]
  rfl

theorem down_at (a : FVec Ideal S4x4096x2816 .f32) (a4 : FVec Ideal S2816x1024 .f32) (b : Fin 4) (i : Fin 4096) (d : Fin 1024) :
    down a a4 (ix3 b i d) = ∑ j, a (ix3 b i j) * a4 (ix2 j d) := by
  pointwise [down]

theorem sum_at (x : FVec Ideal S4x4096x1024 .f32) (a1 : FVec Ideal S8x9216 .f32) (f : FVec Ideal S4x4096x1024 .f32) (b : Fin 4) (i : Fin 4096) (d : Fin 1024) :
    sum x a1 f (ix3 b i d) = add (fun e => x (ix3 b i e)) (fun e => a1 (ix2 ⟨b.val, by omega⟩ ⟨8192 + e.val, by omega⟩)) (fun e => f (ix3 b i e)) d := by
  pointwise [sum, mods]
  rfl

theorem last_at (y : FVec Ideal S4x4096x1024 .f32) (a5 : FVec Ideal S1024 .f32) (b : Fin 4) (i : Fin 4096) (d : Fin 1024) :
    last y a5 (ix3 b i d) = rms (fun e => y (ix3 b i e)) d * a5 (ix1 d) := by
  pointwise [last]
  rw [norm_at]

section result

variable (m : (ℓ : Loc nD τ sig) → Buf (Elt Ideal) ℓ) (c : Dev nD)

/-- The stream entering the part. -/
def argX : FVec Ideal S4x4096x1024 .f32 := m ((c.tc : Thread nD τ).loc main_arg0)
/-- The modulations. -/
def argM : FVec Ideal S8x9216 .f32 := m ((c.tc : Thread nD τ).loc main_arg1)
/-- The gains of the layer's norms. -/
def argG : FVec Ideal S3x1024 .f32 := m ((c.tc : Thread nD τ).loc main_arg2)
/-- The first weight. -/
def argU : FVec Ideal S1024x5632 .f32 := m ((c.tc : Thread nD τ).loc main_arg3)
/-- The second weight. -/
def argD : FVec Ideal S2816x1024 .f32 := m ((c.tc : Thread nD τ).loc main_arg4)
/-- The gain of the last norm. -/
def argF : FVec Ideal S1024 .f32 := m ((c.tc : Thread nD τ).loc main_arg5)

theorem res_eq : res_main_v57 m c = last (sum (argX m c) (argM m c) (down (act (up (pre (argX m c) (argM m c) (argG m c)) (argU m c))) (argD m c))) (argF m c) := by
  unfold res_main_v57
  rfl

/-- The reference's result at an index. -/
theorem res_at (b : Fin 4) (i : Fin 4096) (d : Fin 1024) :
    res_main_v57 m c (ix3 b i d) = part (argX m c) (argM m c) (argG m c) (argU m c) (argD m c) (argF m c) b i d := by
  have h1 : ∀ e, pre (argX m c) (argM m c) (argG m c) (ix3 b i e) = _ := fun e => pre_at (argX m c) (argM m c) (argG m c) b i e
  rw [res_eq, last_at]
  simp only [sum_at, down_at, act_at, up_at, h1]
  rfl

end result

end Cert.Reference2Ideal.Ffn

end
-- ==== Proof.FfnKernel.lean ====
/-
  The second feed-forward part as the kernel computes it: a grid point's block as a function of the blocks it loads, these blocks in
  terms of the arguments, and the array the grid leaves.
-/
module

public import proofs.«01_k».proof.Proof.FfnMath
public import proofs.«01_k».proof.Proof.Gen.Kernel2Ideal.Value
public import Idealize.ShloMosaic.Lib.Pipeline.ValueKit
public import Idealize.ShloMosaic.Lib.Pipeline.ReadBack
public import Idealize.ShloMosaic.Lib.Claim

@[expose] public section

set_option maxRecDepth 16384

noncomputable section

open scoped BigOperators

namespace Cert.Kernel2Ideal.Ffn

open Cert.Ffn
open Cert.Kernel2Ideal Cert.Kernel2Ideal.Gen Idealize.ShloMosaic Idealize.ShloMosaic.TcCoe
open Idealize.ShloMosaic.Pointwise

/-! ## What a point computes -/

theorem pay4_at (v0 : FVec Ideal S1x512x1024 .f32) (v2 v4 : FVec Ideal S1x1x1024 .f32) (v8 : FVec Ideal S1x1024 .f32) (r : Fin 512) (d : Fin 1024) :
    k0_pay4 (F := Ideal) v0 v2 v4 v8 (ix2 r d) = pre (fun e => v0 (ix3 0 r e)) (fun e => v8 (ix2 0 e)) (fun e => v4 (ix3 0 0 e)) (fun e => v2 (ix3 0 0 e)) d := by
  pointwise [k0_pay4, k0_pay2]
  rfl

theorem pay6_at (v0 : FVec Ideal S1x512x1024 .f32) (v2 v4 : FVec Ideal S1x1x1024 .f32) (v8 : FVec Ideal S1x1024 .f32) (v29 : FVec Ideal S1024x1408 .bf16)
    (r : Fin 512) (j : Fin 1408) :
    k0_pay6 (F := Ideal) v0 v2 v4 v8 v29 (ix2 r j) = dot (fun e => k0_pay4 (F := Ideal) v0 v2 v4 v8 (ix2 r e)) (fun e j => v29 (ix2 e j)) j := by
  pointwise [k0_pay6]
  rfl

theorem pay8_at (v1 : FVec Ideal S512x1024 .f32) (v7 : FVec Ideal S1x1024 .f32) (v27 : FVec Ideal S512x1024 .bf16) (v28 : FVec Ideal S512x1024 .f32)
    (v31 : FVec Ideal S512x1408 .f32) (v33 : FVec Ideal S1024x1408 .bf16) (v39 : FVec Ideal S1408x1024 .bf16) (v43 v46 : FVec Ideal S1024x1408 .bf16)
    (v53 : FVec Ideal S1408x1024 .bf16) (r : Fin 512) (d : Fin 1024) :
    k0_pay8 (F := Ideal) v1 v7 v27 v28 v31 v33 v39 v43 v46 v53 (ix2 r d)
      = rms (add (fun e => v1 (ix2 r e)) (fun e => v7 (ix2 0 e)) (fun e => v28 (ix2 r e)
          + ∑ j, gated (v31 (ix2 r j)) (dot (fun e => v27 (ix2 r e)) (fun e j => v33 (ix2 e j)) j) * v39 (ix2 j e)
          + ∑ j, gated (dot (fun e => v27 (ix2 r e)) (fun e j => v43 (ix2 e j)) j) (dot (fun e => v27 (ix2 r e)) (fun e j => v46 (ix2 e j)) j) * v53 (ix2 j e))) d := by
  pointwise [k0_pay8]
  rfl

/-! ## The loads of parts of a block -/

theorem ld1 (x : Vec Ideal S1x9x1024 .f32) (j : Fin 1024) : View.ld (Val := Elt Ideal) (e' := .f32) x r0_1 (ix3 0 0 j) = x (ix3 0 6 j) := by
  refine congrArg x (funext fun a => Fin.ext ?_)
  fin_cases a
  · rfl
  · rfl
  · show 0 + 1 * j.val = j.val
    omega

theorem ld2 (x : Vec Ideal S1x9x1024 .f32) (j : Fin 1024) : View.ld (Val := Elt Ideal) (e' := .f32) x r0_2 (ix3 0 0 j) = x (ix3 0 7 j) := by
  refine congrArg x (funext fun a => Fin.ext ?_)
  fin_cases a
  · rfl
  · rfl
  · show 0 + 1 * j.val = j.val
    omega

theorem ld3 (x : Vec Ideal S1x9x1024 .f32) (j : Fin 1024) : View.ld (Val := Elt Ideal) (e' := .f32) x r0_3 (ix3 0 0 j) = x (ix3 0 8 j) := by
  refine congrArg x (funext fun a => Fin.ext ?_)
  fin_cases a
  · rfl
  · rfl
  · show 0 + 1 * j.val = j.val
    omega

theorem ld4 (x : Vec Ideal S3x1024 .f32) (j : Fin 1024) : View.ld (Val := Elt Ideal) (e' := .f32) x r0_4 (ix2 0 j) = x (ix2 2 j) := by
  refine congrArg x (funext fun a => Fin.ext ?_)
  fin_cases a
  · rfl
  · show 0 + 1 * j.val = j.val
    omega

theorem ld5 (x : Vec Ideal S1024x5632 .bf16) (e : Fin 1024) (j : Fin 1408) : View.ld (Val := Elt Ideal) (e' := .bf16) x r0_5 (ix2 e j) = x (ix2 e ⟨j.val, by omega⟩) := by
  refine congrArg x (funext fun a => Fin.ext ?_)
  fin_cases a
  · show 0 + 1 * e.val = e.val
    omega
  · show 0 + 1 * j.val = j.val
    omega

theorem ld6 (x : Vec Ideal S1024x5632 .bf16) (e : Fin 1024) (j : Fin 1408) : View.ld (Val := Elt Ideal) (e' := .bf16) x r0_6 (ix2 e j) = x (ix2 e ⟨2816 + j.val, by omega⟩) := by
  refine congrArg x (funext fun a => Fin.ext ?_)
  fin_cases a
  · show 0 + 1 * e.val = e.val
    omega
  · show 2816 + 1 * j.val = 2816 + j.val
    omega

theorem ld8 (x : Vec Ideal S1024x5632 .bf16) (e : Fin 1024) (j : Fin 1408) : View.ld (Val := Elt Ideal) (e' := .bf16) x r0_8 (ix2 e j) = x (ix2 e ⟨1408 + j.val, by omega⟩) := by
  refine congrArg x (funext fun a => Fin.ext ?_)
  fin_cases a
  · show 0 + 1 * e.val = e.val
    omega
  · show 1408 + 1 * j.val = 1408 + j.val
    omega

theorem ld9 (x : Vec Ideal S1024x5632 .bf16) (e : Fin 1024) (j : Fin 1408) : View.ld (Val := Elt Ideal) (e' := .bf16) x r0_9 (ix2 e j) = x (ix2 e ⟨4224 + j.val, by omega⟩) := by
  refine congrArg x (funext fun a => Fin.ext ?_)
  fin_cases a
  · show 0 + 1 * e.val = e.val
    omega
  · show 4224 + 1 * j.val = 4224 + j.val
    omega

theorem ld7 (x : Vec Ideal S2816x1024 .bf16) (e : Fin 1408) (j : Fin 1024) : View.ld (Val := Elt Ideal) (e' := .bf16) x r0_7 (ix2 e j) = x (ix2 ⟨e.val, by omega⟩ j) := by
  refine congrArg x (funext fun a => Fin.ext ?_)
  fin_cases a
  · show 0 + 1 * e.val = e.val
    omega
  · show 0 + 1 * j.val = j.val
    omega

theorem ld10 (x : Vec Ideal S2816x1024 .bf16) (e : Fin 1408) (j : Fin 1024) : View.ld (Val := Elt Ideal) (e' := .bf16) x r0_10 (ix2 e j) = x (ix2 ⟨1408 + e.val, by omega⟩ j) := by
  refine congrArg x (funext fun a => Fin.ext ?_)
  fin_cases a
  · show 1408 + 1 * e.val = 1408 + e.val
    omega
  · show 0 + 1 * j.val = j.val
    omega

/-- A point's block at an index, of the values it loads: `h0` … `h11` say which values these are. -/
theorem pay_at (P0 : FVec Ideal S1x512x1024 .f32) (P1 P2 P3 : FVec Ideal S1x1x1024 .f32) (P4 : FVec Ideal S1x1024 .f32)
    (P5 P6 P8 P9 : FVec Ideal S1024x1408 .bf16) (P7 P10 : FVec Ideal S1408x1024 .bf16) (P11 : FVec Ideal S1x1024 .f32) (r : Fin 512) (d : Fin 1024)
    (x shift scale gate g : Fin 1024 → EReal) (w : Fin 1024 → Fin 5632 → EReal) (w2 : Fin 2816 → Fin 1024 → EReal) (g2 : Fin 1024 → EReal)
    (h0 : ∀ e, P0 (ix3 0 r e) = x e) (h1 : ∀ e, P1 (ix3 0 0 e) = shift e) (h2 : ∀ e, P2 (ix3 0 0 e) = scale e) (h3 : ∀ e, P3 (ix3 0 0 e) = gate e)
    (h4 : ∀ e, P4 (ix2 0 e) = g e)
    (h5 : ∀ e (j : Fin 1408), P5 (ix2 e j) = w e ⟨j.val, by omega⟩) (h6 : ∀ e (j : Fin 1408), P6 (ix2 e j) = w e ⟨2816 + j.val, by omega⟩)
    (h8 : ∀ e (j : Fin 1408), P8 (ix2 e j) = w e ⟨1408 + j.val, by omega⟩) (h9 : ∀ e (j : Fin 1408), P9 (ix2 e j) = w e ⟨4224 + j.val, by omega⟩)
    (h7 : ∀ (j : Fin 1408) e, P7 (ix2 j e) = w2 ⟨j.val, by omega⟩ e) (h10 : ∀ (j : Fin 1408) e, P10 (ix2 j e) = w2 ⟨1408 + j.val, by omega⟩ e)
    (h11 : ∀ e, P11 (ix2 0 e) = g2 e) :
    k0_pay1 (F := Ideal) (k0_pay8 (k0_pay2 P0) (k0_pay3 P3) (k0_pay4 P0 P1 P2 P4) k0_pay5 (k0_pay6 P0 P1 P2 P4 P5) (k0_pay7 P6) P7 P8 P9 P10) (k0_pay9 P11) (ix3 0 r d)
      = rms (add x gate (ffn (pre x g scale shift) w w2)) d * g2 d := by
  pointwise [k0_pay1, k0_pay9, k0_pay2, k0_pay3, k0_pay5, k0_pay7, pay8_at, pay6_at, pay4_at]
  simp only [h0, h1, h2, h3, h4, h5, h6, h7, h8, h9, h10, h11, ← ffn_halves]

/-- A point's block at an index, of the blocks it loads. -/
theorem out_at (x0 : FVec Ideal S1x512x1024 .f32) (x1 : FVec Ideal S1x9x1024 .f32) (x2 : FVec Ideal S3x1024 .f32) (x3 : FVec Ideal S1024x5632 .bf16)
    (x4 : FVec Ideal S2816x1024 .bf16) (x5 : FVec Ideal S1x1024 .f32) (r : Fin 512) (d : Fin 1024) :
    out0_6 (F := Ideal) x0 x1 x2 x3 x4 x5 (ix3 0 r d)
      = rms (add (fun e => x0 (ix3 0 r e)) (fun e => x1 (ix3 0 8 e))
          (ffn (pre (fun e => x0 (ix3 0 r e)) (fun e => x2 (ix2 2 e)) (fun e => x1 (ix3 0 7 e)) (fun e => x1 (ix3 0 6 e)))
            (fun e j => x3 (ix2 e j)) (fun j e => x4 (ix2 j e)))) d * x5 (ix2 0 d) := by
  frame_out
  exact pay_at _ _ _ _ _ _ _ _ _ _ _ _ r d (fun e => x0 (ix3 0 r e)) (fun e => x1 (ix3 0 6 e)) (fun e => x1 (ix3 0 7 e)) (fun e => x1 (ix3 0 8 e))
    (fun e => x2 (ix2 2 e)) (fun e j => x3 (ix2 e j)) (fun j e => x4 (ix2 j e)) (fun e => x5 (ix2 0 e))
    (fun _ => rfl) (ld1 x1) (ld2 x1) (ld3 x1) (ld4 x2) (ld5 x3) (ld6 x3) (ld8 x3) (ld9 x3) (ld7 x4) (ld10 x4) (fun _ => rfl)

/-! ## The blocks of a point, in terms of the arguments -/

section blocks

variable (m : (ℓ : Loc nD τ sig) → Buf (Elt Ideal) ℓ) (c : Dev nD) (t : Fin cfg0.N)

theorem lt32 : t.val < 32 := lt_of_lt_of_eq t.isLt N_0

/-- A point's batch. -/
def bOf : Fin 4 := ⟨t.val / 8, by have := lt32 t; omega⟩
/-- A point's row `r` of the arrays. -/
def rowOf (r : Fin 512) : Fin 4096 := ⟨512 * (t.val % 8) + r.val, by omega⟩

theorem idx0 : ∀ t : Fin cfg0.N, (cfg0.win 0).index t = ![t.val / 8, t.val % 8, 0] := by decide +kernel
theorem idx1 : ∀ t : Fin cfg0.N, (cfg0.win 1).index t = ![t.val / 8, 0, 0] := by decide +kernel
theorem idx2 : ∀ t : Fin cfg0.N, (cfg0.win 2).index t = ![0, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![t.val / 8, t.val % 8, 0] := by decide +kernel

theorem emb0 (r : Fin 512) (d : Fin 1024) : ((cfg0.win 0).blk t).view.emb (ix3 0 r d) = ix3 (bOf t) (rowOf t r) d := by
  funext a
  apply Fin.ext
  fin_cases a
  · blk_simp [idx0]
    exact congrFun (idx0 t) 0
  · blk_simp [idx0]
    show (cfg0.win 0).index t 1 * 512 + r.val = 512 * (t.val % 8) + r.val
    rw [congrFun (idx0 t) 1]
    show t.val % 8 * 512 + r.val = 512 * (t.val % 8) + r.val
    omega
  · blk_simp [idx0]
    show (cfg0.win 0).index t 2 * 1024 + d.val = d.val
    rw [congrFun (idx0 t) 2]
    show 0 * 1024 + d.val = d.val
    omega

theorem emb1 (k : Fin 9) (d : Fin 1024) : ((cfg0.win 1).blk t).view.emb (ix3 0 k d) = ix3 ⟨(bOf t).val, by omega⟩ k d := by
  funext a
  apply Fin.ext
  fin_cases a
  · blk_simp [idx1]
    exact congrFun (idx1 t) 0
  · blk_simp [idx1]
    show (cfg0.win 1).index t 1 * 9 + k.val = k.val
    rw [congrFun (idx1 t) 1]
    show 0 * 9 + k.val = k.val
    omega
  · blk_simp [idx1]
    show (cfg0.win 1).index t 2 * 1024 + d.val = d.val
    rw [congrFun (idx1 t) 2]
    show 0 * 1024 + d.val = d.val
    omega

theorem emb2 (k : Fin 3) (d : Fin 1024) : ((cfg0.win 2).blk t).view.emb (ix2 k d) = ix2 k d := by
  funext a
  apply Fin.ext
  fin_cases a
  · blk_simp [idx2]
    show (cfg0.win 2).index t 0 * 3 + k.val = k.val
    rw [congrFun (idx2 t) 0]
    show 0 * 3 + k.val = k.val
    omega
  · blk_simp [idx2]
    show (cfg0.win 2).index t 1 * 1024 + d.val = d.val
    rw [congrFun (idx2 t) 1]
    show 0 * 1024 + d.val = d.val
    omega

theorem emb3 (k : Fin 1024) (d : Fin 5632) : ((cfg0.win 3).blk t).view.emb (ix2 k d) = ix2 k d := by
  funext a
  apply Fin.ext
  fin_cases a
  · blk_simp [idx3]
    show (cfg0.win 3).index t 0 * 1024 + k.val = k.val
    rw [congrFun (idx3 t) 0]
    show 0 * 1024 + k.val = k.val
    omega
  · blk_simp [idx3]
    show (cfg0.win 3).index t 1 * 5632 + d.val = d.val
    rw [congrFun (idx3 t) 1]
    show 0 * 5632 + d.val = d.val
    omega

theorem emb4 (k : Fin 2816) (d : Fin 1024) : ((cfg0.win 4).blk t).view.emb (ix2 k d) = ix2 k d := by
  funext a
  apply Fin.ext
  fin_cases a
  · blk_simp [idx4]
    show (cfg0.win 4).index t 0 * 2816 + k.val = k.val
    rw [congrFun (idx4 t) 0]
    show 0 * 2816 + k.val = k.val
    omega
  · blk_simp [idx4]
    show (cfg0.win 4).index t 1 * 1024 + d.val = d.val
    rw [congrFun (idx4 t) 1]
    show 0 * 1024 + d.val = d.val
    omega

theorem emb5 (d : Fin 1024) : ((cfg0.win 5).blk t).view.emb (ix2 0 d) = ix2 0 d := by
  funext a
  apply Fin.ext
  fin_cases a
  · blk_simp [idx5]
    exact congrFun (idx5 t) 0
  · blk_simp [idx5]
    show (cfg0.win 5).index t 1 * 1024 + d.val = d.val
    rw [congrFun (idx5 t) 1]
    show 0 * 1024 + d.val = d.val
    omega

theorem emb6 (r : Fin 512) (d : Fin 1024) : ((cfg0.win 6).blk t).view.emb (ix3 0 r d) = ix3 (bOf t) (rowOf t r) d := by
  funext a
  apply Fin.ext
  fin_cases a
  · blk_simp [idx6]
    exact congrFun (idx6 t) 0
  · blk_simp [idx6]
    show (cfg0.win 6).index t 1 * 512 + r.val = 512 * (t.val % 8) + r.val
    rw [congrFun (idx6 t) 1]
    show t.val % 8 * 512 + r.val = 512 * (t.val % 8) + r.val
    omega
  · blk_simp [idx6]
    show (cfg0.win 6).index t 2 * 1024 + d.val = d.val
    rw [congrFun (idx6 t) 2]
    show 0 * 1024 + d.val = d.val
    omega

/-- The stream entering the part. -/
def argX : FVec Ideal S4x4096x1024 .f32 := m ((c.tc : Thread nD τ).loc main_arg0)
/-- The modulations. -/
def argM : FVec Ideal S8x9216 .f32 := m ((c.tc : Thread nD τ).loc main_arg1)
/-- The gains of the layer's norms. -/
def argG : FVec Ideal S3x1024 .f32 := m ((c.tc : Thread nD τ).loc main_arg2)
/-- The first weight. -/
def argU : FVec Ideal S1024x5632 .f32 := m ((c.tc : Thread nD τ).loc main_arg3)
/-- The second weight. -/
def argD : FVec Ideal S2816x1024 .f32 := m ((c.tc : Thread nD τ).loc main_arg4)
/-- The gain of the last norm. -/
def argF : FVec Ideal S1024 .f32 := m ((c.tc : Thread nD τ).loc main_arg5)

theorem blk0 (r : Fin 512) (d : Fin 1024) : iblk m c 0 t (ix3 0 r d) = argX m c (ix3 (bOf t) (rowOf t r) d) := by
  show V m c main_arg0 (((cfg0.win 0).blk t).view.emb (ix3 0 r d)) = _
  rw [emb0, V_main_arg0]
  rfl

theorem blk1 (k : Fin 9) (d : Fin 1024) :
    iblk m c 1 t (ix3 0 k d) = argM m c (ix2 ⟨(bOf t).val, by omega⟩ ⟨k.val * 1024 + d.val, by omega⟩) := by
  show V m c main_v0 (((cfg0.win 1).blk t).view.emb (ix3 0 k d)) = _
  rw [emb1]
  entry_read
  pointwise []
  rfl

theorem blk_shift (d : Fin 1024) : iblk m c 1 t (ix3 0 6 d) = argM m c (ix2 ⟨(bOf t).val, by omega⟩ ⟨6144 + d.val, by omega⟩) :=
  (blk1 m c t 6 d).trans (congrArg (fun x => argM m c (ix2 ⟨(bOf t).val, by omega⟩ x)) (Fin.ext (by show 6 * 1024 + d.val = 6144 + d.val; omega)))

theorem blk_scale (d : Fin 1024) : iblk m c 1 t (ix3 0 7 d) = argM m c (ix2 ⟨(bOf t).val, by omega⟩ ⟨7168 + d.val, by omega⟩) :=
  (blk1 m c t 7 d).trans (congrArg (fun x => argM m c (ix2 ⟨(bOf t).val, by omega⟩ x)) (Fin.ext (by show 7 * 1024 + d.val = 7168 + d.val; omega)))

theorem blk_gate (d : Fin 1024) : iblk m c 1 t (ix3 0 8 d) = argM m c (ix2 ⟨(bOf t).val, by omega⟩ ⟨8192 + d.val, by omega⟩) :=
  (blk1 m c t 8 d).trans (congrArg (fun x => argM m c (ix2 ⟨(bOf t).val, by omega⟩ x)) (Fin.ext (by show 8 * 1024 + d.val = 8192 + d.val; omega)))

theorem blk2 (k : Fin 3) (d : Fin 1024) : iblk m c 2 t (ix2 k d) = argG m c (ix2 k d) := by
  show V m c main_arg2 (((cfg0.win 2).blk t).view.emb (ix2 k d)) = _
  rw [emb2, V_main_arg2]
  rfl

theorem blk3 (k : Fin 1024) (d : Fin 5632) : iblk m c 3 t (ix2 k d) = argU m c (ix2 k d) := by
  show V m c main_v1 (((cfg0.win 3).blk t).view.emb (ix2 k d)) = _
  rw [emb3]
  entry_read
  pointwise []
  rfl

theorem blk4 (k : Fin 2816) (d : Fin 1024) : iblk m c 4 t (ix2 k d) = argD m c (ix2 k d) := by
  show V m c main_v2 (((cfg0.win 4).blk t).view.emb (ix2 k d)) = _
  rw [emb4]
  entry_read
  pointwise []
  rfl

theorem blk5 (d : Fin 1024) : iblk m c 5 t (ix2 0 d) = argF m c (ix1 d) := by
  show V m c main_v3 (((cfg0.win 5).blk t).view.emb (ix2 0 d)) = _
  rw [emb5]
  entry_read
  pointwise []
  rfl

/-! ## The array the grid leaves -/

/-- The part's result, as an array. -/
def res : FVec Ideal S4x4096x1024 .f32 := fun i => part (argX m c) (argM m c) (argG m c) (argU m c) (argD m c) (argF m c) (i 0) (i 1) (i 2)

theorem block (y : S1x512x1024.Idx) :
    out0_6 (F := Ideal) (iblk m c 0 t) (iblk m c 1 t) (iblk m c 2 t) (iblk m c 3 t) (iblk m c 4 t) (iblk m c 5 t) y
      = res m c (((cfg0.win 6).blk t).view.emb y) := by
  have key (r : Fin 512) (d : Fin 1024) :
      out0_6 (F := Ideal) (iblk m c 0 t) (iblk m c 1 t) (iblk m c 2 t) (iblk m c 3 t) (iblk m c 4 t) (iblk m c 5 t) (ix3 0 r d)
        = res m c (((cfg0.win 6).blk t).view.emb (ix3 0 r d)) := by
    rw [out_at, emb6]
    simp only [blk0, blk_shift, blk_scale, blk_gate, blk2, blk3, blk4, blk5]
    rfl
  have h0 : y 0 = (0 : Fin 1) := Subsingleton.elim (α := Fin 1) _ _
  rw [eq_ix3 y, h0]
  exact key (y 1) (y 2)

/-- The point that writes row `i` of batch `b`. -/
def ptOf (b : Fin 4) (i : Fin 4096) : Fin cfg0.N := ⟨8 * b.val + i.val / 512, by
  show _ < grid0.N
  rw [N_0]
  omega⟩

theorem cover (b : Fin 4) (i : Fin 4096) (d : Fin 1024) :
    ((cfg0.win 6).blk (ptOf b i)).view.emb (ix3 0 (⟨i.val % 512, Nat.mod_lt _ (by decide)⟩ : Fin 512) d) = ix3 b i d := by
  rw [emb6]
  have hb : bOf (ptOf b i) = b := Fin.ext (by show (8 * b.val + i.val / 512) / 8 = b.val; omega)
  have hr : rowOf (ptOf b i) ⟨i.val % 512, Nat.mod_lt _ (by decide)⟩ = i :=
    Fin.ext (by show 512 * ((8 * b.val + i.val / 512) % 8) + i.val % 512 = i.val; omega)
  rw [hb, hr]

theorem covered (i : S4x4096x1024.Idx) : ∃ t : Fin cfg0.N, (cfg0.win 6).flush t = true ∧ i ∈ ((cfg0.win 6).blk t).view.set := by
  refine ⟨ptOf (i 0) (i 1), flush0_6 _, ?_⟩
  have h := ((cfg0.win 6).blk (ptOf (i 0) (i 1))).view.emb_mem_set (ix3 (0 : Fin 1) (⟨(i 1).val % 512, Nat.mod_lt _ (by decide)⟩ : Fin 512) (i 2))
  rw [cover (i 0) (i 1) (i 2), ← eq_ix3 i] at h
  exact h

end blocks

end Cert.Kernel2Ideal.Ffn

end
-- ==== Proof.FfnFinal.lean ====
/-
  The array the kernel's grid leaves is the second feed-forward part's result.
-/
module

public import proofs.«01_k».proof.Proof.FfnKernel

@[expose] public section

set_option maxRecDepth 16384

noncomputable section

namespace Cert.Kernel2Ideal.Ffn

open Cert.Ffn
open Cert.Kernel2Ideal Cert.Kernel2Ideal.Gen Idealize.ShloMosaic Idealize.ShloMosaic.TcCoe
open Idealize.ShloMosaic.Pointwise

variable (m : (ℓ : Loc nD τ sig) → Buf (Elt Ideal) ℓ) (c : Dev nD)

theorem cut_at (t : Fin cfg0.N) (X : FVec Ideal S1x512x1024 .f32) (y : S1x512x1024.Idx) : (cfg0.win 6).cut (grid0.coords t) X y = X y := rfl

theorem flushed_at (t : Fin cfg0.N) (y : S1x512x1024.Idx) :
    (dats m 0 c).flushed 6 t y = res m c (((cfg0.win 6).blk t).view.emb y) := by
  rw [Value.flushed6]
  exact (cut_at t _ y).trans (block m c t y)

theorem final : (dats m 0 c).arrAt 6 cfg0.N = res m c := by
  funext i
  exact (dats m 0 c).arrAt_forall_of_cover 6 (fun i v => v = res m c i) (fun t _ y => flushed_at m c t y) covered i

end Cert.Kernel2Ideal.Ffn

end
-- ==== Proof.FirstRef.lean ====
/-
  The first feed-forward part as the reference computes it, read at an index.
-/
module

public import proofs.«01_k».proof.Proof.FfnMath
public import proofs.«01_k».proof.Proof.Gen.Reference3Ideal.Run

@[expose] public section

noncomputable section

open scoped BigOperators

namespace Cert.Reference3Ideal.First

open Cert.Ffn
open Cert.Reference3Ideal Cert.Reference3Ideal.Gen Cert.Reference3Ideal.Value Idealize.ShloMosaic Idealize.ShloMosaic.TcCoe

/-- Rows divided by the root of their mean squares. -/
def norm (x : FVec Ideal S4x4096x1024 .f32) : FVec Ideal S4x4096x1024 .f32 :=
  mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))

/-- The modulations of the four batches. -/
def mods (a1 : FVec Ideal S8x9216 .f32) : FVec Ideal S4x9216 .f32 := extractStridedSlice S4x9216 ![0, 0] a1 slices_S8x9216_S4x9216_0_0

/-- Rows normalised, scaled and modulated. -/
def pre (x : FVec Ideal S4x4096x1024 .f32) (a1 : FVec Ideal S8x9216 .f32) (a2 : FVec Ideal S3x1024 .f32) : FVec Ideal S4x4096x1024 .f32 :=
  addf (mulf (mulf (norm x) (broadcastInDim S4x4096x1024 ![0, 1, 2] bcast_S1x1x1024_S4x4096x1024_0_1_2 (broadcastInDim S1x1x1024 ![2] bcast_S1024_S1x1x1024_2 (shapeCast _ (extractStridedSlice S1x1024 ![0, 0] a2 slices_S3x1024_S1x1024_0_0) shapeCasts_S1x1024_S1024)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] (mods a1) slices_S4x9216_S4x1024_0_1024))))) (broadcastInDim S4x4096x1024 ![0, 1, 2] bcast_S4x1x1024_S4x4096x1024_0_1_2 (broadcastInDim S4x1x1024 ![0, 2] bcast_S4x1024_S4x1x1024_0_2 (extractStridedSlice S4x1024 ![0, 0] (mods a1) slices_S4x9216_S4x1024_0_0)))

/-- The first product. -/
def up (h : FVec Ideal S4x4096x1024 .f32) (a3 : FVec Ideal S1024x5632 .f32) : FVec Ideal S4x4096x5632 .f32 :=
  Host.dotGeneral (F := Ideal) dot_S4x4096x1024_S1024x5632_S4x4096x5632_2_0_01_1_n_n none h a3

/-- The gated hidden rows. -/
def act (u : FVec Ideal S4x4096x5632 .f32) : FVec Ideal S4x4096x2816 .f32 :=
  mulf (mulf (extractStridedSlice S4x4096x2816 ![0, 0, 0] u slices_S4x4096x5632_S4x4096x2816_0_0_0) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 0] u slices_S4x4096x5632_S4x4096x2816_0_0_0)))))) (extractStridedSlice S4x4096x2816 ![0, 0, 2816] u slices_S4x4096x5632_S4x4096x2816_0_0_2816)

/-- The second product. -/
def down (a : FVec Ideal S4x4096x2816 .f32) (a4 : FVec Ideal S2816x1024 .f32) : FVec Ideal S4x4096x1024 .f32 :=
  Host.dotGeneral (F := Ideal) dot_S4x4096x2816_S2816x1024_S4x4096x1024_2_0_01_1_n_n none a a4

/-- The rows with half their gated feed-forward part added. -/
def sum (x : FVec Ideal S4x4096x1024 .f32) (a1 : FVec Ideal S8x9216 .f32) (f : FVec Ideal S4x4096x1024 .f32) : FVec Ideal S4x4096x1024 .f32 :=
  addf x (mulf (broadcastInDim S4x4096x1024 ![0, 1, 2] bcast_S4x1x1024_S4x4096x1024_0_1_2 (mulf (broadcastInDim S4x1x1024 ![] bcast_S_S4x1x1024 (constant S_ .f32 0x3F000000#32)) (broadcastInDim S4x1x1024 ![0, 2] bcast_S4x1024_S4x1x1024_0_2 (extractStridedSlice S4x1024 ![0, 2048] (mods a1) slices_S4x9216_S4x1024_0_2048)))) f)

/-- The stream with the position embedding added. -/
def stream (x : FVec Ideal S4x4096x1024 .f32) (p : FVec Ideal S4096x1024 .f32) : FVec Ideal S4x4096x1024 .f32 :=
  addf x (broadcastInDim S4x4096x1024 ![0, 1, 2] bcast_S1x4096x1024_S4x4096x1024_0_1_2 (broadcastInDim S1x4096x1024 ![1, 2] bcast_S4096x1024_S1x4096x1024_1_2 p))

theorem norm_at (x : FVec Ideal S4x4096x1024 .f32) (b : Fin 4) (i : Fin 4096) (d : Fin 1024) :
    norm x (ix3 b i d) = rms (fun e => x (ix3 b i e)) d := by
  pointwise [norm]
  rfl

theorem pre_at (x : FVec Ideal S4x4096x1024 .f32) (a1 : FVec Ideal S8x9216 .f32) (a2 : FVec Ideal S3x1024 .f32) (b : Fin 4) (i : Fin 4096) (d : Fin 1024) :
    pre x a1 a2 (ix3 b i d) = Cert.Ffn.pre (fun e => x (ix3 b i e)) (fun e => a2 (ix2 0 e))
      (fun e => a1 (ix2 ⟨b.val, by omega⟩ ⟨1024 + e.val, by omega⟩)) (fun e => a1 (ix2 ⟨b.val, by omega⟩ ⟨e.val, by omega⟩)) d := by
  pointwise [pre, mods]
  rw [norm_at]
  rfl

theorem up_at (h : FVec Ideal S4x4096x1024 .f32) (a3 : FVec Ideal S1024x5632 .f32) (b : Fin 4) (i : Fin 4096) (j : Fin 5632) :
    up h a3 (ix3 b i j) = dot (fun e => h (ix3 b i e)) (fun e j => a3 (ix2 e j)) j := by
  pointwise [up]
  rfl

theorem act_at (u : FVec Ideal S4x4096x5632 .f32) (b : Fin 4) (i : Fin 4096) (j : Fin 2816) :
    act u (ix3 b i j) = gated (u (ix3 b i ⟨j.val, by omega⟩)) (u (ix3 b i ⟨2816 + j.val, by omega⟩)) := by
  pointwise [act]
  rfl

theorem down_at (a : FVec Ideal S4x4096x2816 .f32) (a4 : FVec Ideal S2816x1024 .f32) (b : Fin 4) (i : Fin 4096) (d : Fin 1024) :
    down a a4 (ix3 b i d) = ∑ j, a (ix3 b i j) * a4 (ix2 j d) := by
  pointwise [down]

theorem sum_at (x : FVec Ideal S4x4096x1024 .f32) (a1 : FVec Ideal S8x9216 .f32) (f : FVec Ideal S4x4096x1024 .f32) (b : Fin 4) (i : Fin 4096) (d : Fin 1024) :
    sum x a1 f (ix3 b i d) = add (fun e => x (ix3 b i e)) (fun e => a1 (ix2 ⟨b.val, by omega⟩ ⟨2048 + e.val, by omega⟩)) (fun e => f (ix3 b i e)) d := by
  pointwise [sum, mods]
  rfl

theorem stream_at (x : FVec Ideal S4x4096x1024 .f32) (p : FVec Ideal S4096x1024 .f32) (b : Fin 4) (i : Fin 4096) (d : Fin 1024) :
    stream x p (ix3 b i d) = x (ix3 b i d) + p (ix2 i d) := by
  pointwise [stream]

section result

variable (m : (ℓ : Loc nD τ sig) → Buf (Elt Ideal) ℓ) (c : Dev nD)

/-- The stream before the position embedding. -/
def argX : FVec Ideal S4x4096x1024 .f32 := m ((c.tc : Thread nD τ).loc main_arg0)
/-- The table of position embeddings. -/
def argP : FVec Ideal S4096x1024 .f32 := m ((c.tc : Thread nD τ).loc main_arg1)
/-- The modulations. -/
def argM : FVec Ideal S8x9216 .f32 := m ((c.tc : Thread nD τ).loc main_arg2)
/-- The gains of the layer's norms. -/
def argG : FVec Ideal S3x1024 .f32 := m ((c.tc : Thread nD τ).loc main_arg3)
/-- The first weight. -/
def argU : FVec Ideal S1024x5632 .f32 := m ((c.tc : Thread nD τ).loc main_arg4)
/-- The second weight. -/
def argD : FVec Ideal S2816x1024 .f32 := m ((c.tc : Thread nD τ).loc main_arg5)

theorem res_eq : res_main_v47 m c = sum (stream (argX m c) (argP m c)) (argM m c)
    (down (act (up (pre (stream (argX m c) (argP m c)) (argM m c) (argG m c)) (argU m c))) (argD m c)) := by
  unfold res_main_v47
  rfl

/-- The reference's result at an index. -/
theorem res_at (b : Fin 4) (i : Fin 4096) (d : Fin 1024) :
    res_main_v47 m c (ix3 b i d) = first (argX m c) (argP m c) (argM m c) (argG m c) (argU m c) (argD m c) b i d := by
  have h1 : ∀ e, pre (stream (argX m c) (argP m c)) (argM m c) (argG m c) (ix3 b i e) = _ :=
    fun e => pre_at (stream (argX m c) (argP m c)) (argM m c) (argG m c) b i e
  rw [res_eq, sum_at]
  simp only [down_at, act_at, up_at, h1, stream_at]
  rfl

end result

end Cert.Reference3Ideal.First

end
-- ==== Proof.FirstKernel.lean ====
/-
  The first feed-forward part as the kernel computes it: a grid point's block as a function of the blocks it loads, these blocks in
  terms of the arguments, and the array the grid leaves.
-/
module

public import proofs.«01_k».proof.Proof.FfnMath
public import proofs.«01_k».proof.Proof.Gen.Kernel3Ideal.Value
public import Idealize.ShloMosaic.Lib.Pipeline.ValueKit
public import Idealize.ShloMosaic.Lib.Pipeline.ReadBack
public import Idealize.ShloMosaic.Lib.Claim

@[expose] public section

set_option maxRecDepth 16384

noncomputable section

open scoped BigOperators

namespace Cert.Kernel3Ideal.First

open Cert.Ffn
open Cert.Kernel3Ideal Cert.Kernel3Ideal.Gen Idealize.ShloMosaic Idealize.ShloMosaic.TcCoe
open Idealize.ShloMosaic.Pointwise

/-! ## What a point computes -/

theorem pay2_at (v0 : FVec Ideal S1x512x1024 .f32) (v2 : FVec Ideal S512x1024 .f32) (r : Fin 512) (d : Fin 1024) :
    k0_pay2 (F := Ideal) v0 v2 (ix2 r d) = v0 (ix3 0 r d) + v2 (ix2 r d) := by
  pointwise [k0_pay2]

theorem pay4_at (v0 : FVec Ideal S1x512x1024 .f32) (v2 : FVec Ideal S512x1024 .f32) (v4 v6 : FVec Ideal S1x1x1024 .f32) (v10 : FVec Ideal S1x1024 .f32)
    (r : Fin 512) (d : Fin 1024) :
    k0_pay4 (F := Ideal) v0 v2 v4 v6 v10 (ix2 r d)
      = pre (fun e => v0 (ix3 0 r e) + v2 (ix2 r e)) (fun e => v10 (ix2 0 e)) (fun e => v6 (ix3 0 0 e)) (fun e => v4 (ix3 0 0 e)) d := by
  pointwise [k0_pay4, k0_pay2]
  rfl

theorem pay6_at (v0 : FVec Ideal S1x512x1024 .f32) (v2 : FVec Ideal S512x1024 .f32) (v4 v6 : FVec Ideal S1x1x1024 .f32) (v10 : FVec Ideal S1x1024 .f32)
    (v31 : FVec Ideal S1024x1408 .bf16) (r : Fin 512) (j : Fin 1408) :
    k0_pay6 (F := Ideal) v0 v2 v4 v6 v10 v31 (ix2 r j) = dot (fun e => k0_pay4 (F := Ideal) v0 v2 v4 v6 v10 (ix2 r e)) (fun e j => v31 (ix2 e j)) j := by
  pointwise [k0_pay6]
  rfl

theorem pay1_at (v3 : FVec Ideal S512x1024 .f32) (v9 : FVec Ideal S1x1024 .f32) (v29 : FVec Ideal S512x1024 .bf16) (v30 : FVec Ideal S512x1024 .f32)
    (v33 : FVec Ideal S512x1408 .f32) (v34 : FVec Ideal S1024x1408 .bf16) (v41 : FVec Ideal S1408x1024 .bf16) (v45 v48 : FVec Ideal S1024x1408 .bf16)
    (v55 : FVec Ideal S1408x1024 .bf16) (r : Fin 512) (d : Fin 1024) :
    k0_pay1 (F := Ideal) v3 v9 v29 v30 v33 v34 v41 v45 v48 v55 (ix3 0 r d)
      = add (fun e => v3 (ix2 r e)) (fun e => v9 (ix2 0 e)) (fun e => v30 (ix2 r e)
          + ∑ j, gated (v33 (ix2 r j)) (dot (fun e => v29 (ix2 r e)) (fun e j => v34 (ix2 e j)) j) * v41 (ix2 j e)
          + ∑ j, gated (dot (fun e => v29 (ix2 r e)) (fun e j => v45 (ix2 e j)) j) (dot (fun e => v29 (ix2 r e)) (fun e j => v48 (ix2 e j)) j) * v55 (ix2 j e)) d := by
  pointwise [k0_pay1]
  rfl

/-! ## The loads of parts of a block -/

theorem ld2 (x : Vec Ideal S1x9x1024 .f32) (j : Fin 1024) : View.ld (Val := Elt Ideal) (e' := .f32) x r0_2 (ix3 0 0 j) = x (ix3 0 0 j) := by
  refine congrArg x (funext fun a => Fin.ext ?_)
  fin_cases a
  · rfl
  · rfl
  · show 0 + 1 * j.val = j.val
    omega

theorem ld3 (x : Vec Ideal S1x9x1024 .f32) (j : Fin 1024) : View.ld (Val := Elt Ideal) (e' := .f32) x r0_3 (ix3 0 0 j) = x (ix3 0 1 j) := by
  refine congrArg x (funext fun a => Fin.ext ?_)
  fin_cases a
  · rfl
  · rfl
  · show 0 + 1 * j.val = j.val
    omega

theorem ld4 (x : Vec Ideal S1x9x1024 .f32) (j : Fin 1024) : View.ld (Val := Elt Ideal) (e' := .f32) x r0_4 (ix3 0 0 j) = x (ix3 0 2 j) := by
  refine congrArg x (funext fun a => Fin.ext ?_)
  fin_cases a
  · rfl
  · rfl
  · show 0 + 1 * j.val = j.val
    omega

theorem ld5 (x : Vec Ideal S3x1024 .f32) (j : Fin 1024) : View.ld (Val := Elt Ideal) (e' := .f32) x r0_5 (ix2 0 j) = x (ix2 0 j) := by
  refine congrArg x (funext fun a => Fin.ext ?_)
  fin_cases a
  · rfl
  · show 0 + 1 * j.val = j.val
    omega

theorem ld6 (x : Vec Ideal S1024x5632 .bf16) (e : Fin 1024) (j : Fin 1408) : View.ld (Val := Elt Ideal) (e' := .bf16) x r0_6 (ix2 e j) = x (ix2 e ⟨j.val, by omega⟩) := by
  refine congrArg x (funext fun a => Fin.ext ?_)
  fin_cases a
  · show 0 + 1 * e.val = e.val
    omega
  · show 0 + 1 * j.val = j.val
    omega

theorem ld7 (x : Vec Ideal S1024x5632 .bf16) (e : Fin 1024) (j : Fin 1408) : View.ld (Val := Elt Ideal) (e' := .bf16) x r0_7 (ix2 e j) = x (ix2 e ⟨2816 + j.val, by omega⟩) := by
  refine congrArg x (funext fun a => Fin.ext ?_)
  fin_cases a
  · show 0 + 1 * e.val = e.val
    omega
  · show 2816 + 1 * j.val = 2816 + j.val
    omega

theorem ld9 (x : Vec Ideal S1024x5632 .bf16) (e : Fin 1024) (j : Fin 1408) : View.ld (Val := Elt Ideal) (e' := .bf16) x r0_9 (ix2 e j) = x (ix2 e ⟨1408 + j.val, by omega⟩) := by
  refine congrArg x (funext fun a => Fin.ext ?_)
  fin_cases a
  · show 0 + 1 * e.val = e.val
    omega
  · show 1408 + 1 * j.val = 1408 + j.val
    omega

theorem ld10 (x : Vec Ideal S1024x5632 .bf16) (e : Fin 1024) (j : Fin 1408) : View.ld (Val := Elt Ideal) (e' := .bf16) x r0_10 (ix2 e j) = x (ix2 e ⟨4224 + j.val, by omega⟩) := by
  refine congrArg x (funext fun a => Fin.ext ?_)
  fin_cases a
  · show 0 + 1 * e.val = e.val
    omega
  · show 4224 + 1 * j.val = 4224 + j.val
    omega

theorem ld8 (x : Vec Ideal S2816x1024 .bf16) (e : Fin 1408) (j : Fin 1024) : View.ld (Val := Elt Ideal) (e' := .bf16) x r0_8 (ix2 e j) = x (ix2 ⟨e.val, by omega⟩ j) := by
  refine congrArg x (funext fun a => Fin.ext ?_)
  fin_cases a
  · show 0 + 1 * e.val = e.val
    omega
  · show 0 + 1 * j.val = j.val
    omega

theorem ld11 (x : Vec Ideal S2816x1024 .bf16) (e : Fin 1408) (j : Fin 1024) : View.ld (Val := Elt Ideal) (e' := .bf16) x r0_11 (ix2 e j) = x (ix2 ⟨1408 + e.val, by omega⟩ j) := by
  refine congrArg x (funext fun a => Fin.ext ?_)
  fin_cases a
  · show 1408 + 1 * e.val = 1408 + e.val
    omega
  · show 0 + 1 * j.val = j.val
    omega

/-- A point's block at an index, of the values it loads: `h0` … `h11` say which values these are. -/
theorem pay_at (P0 : FVec Ideal S1x512x1024 .f32) (P1 : FVec Ideal S512x1024 .f32) (P2 P3 P4 : FVec Ideal S1x1x1024 .f32) (P5 : FVec Ideal S1x1024 .f32)
    (P6 P7 P9 P10 : FVec Ideal S1024x1408 .bf16) (P8 P11 : FVec Ideal S1408x1024 .bf16) (r : Fin 512) (d : Fin 1024)
    (x shift scale gate g : Fin 1024 → EReal) (w : Fin 1024 → Fin 5632 → EReal) (w2 : Fin 2816 → Fin 1024 → EReal)
    (h0 : ∀ e, P0 (ix3 0 r e) + P1 (ix2 r e) = x e) (h2 : ∀ e, P2 (ix3 0 0 e) = shift e) (h3 : ∀ e, P3 (ix3 0 0 e) = scale e)
    (h4 : ∀ e, P4 (ix3 0 0 e) = gate e) (h5 : ∀ e, P5 (ix2 0 e) = g e)
    (h6 : ∀ e (j : Fin 1408), P6 (ix2 e j) = w e ⟨j.val, by omega⟩) (h7 : ∀ e (j : Fin 1408), P7 (ix2 e j) = w e ⟨2816 + j.val, by omega⟩)
    (h9 : ∀ e (j : Fin 1408), P9 (ix2 e j) = w e ⟨1408 + j.val, by omega⟩) (h10 : ∀ e (j : Fin 1408), P10 (ix2 e j) = w e ⟨4224 + j.val, by omega⟩)
    (h8 : ∀ (j : Fin 1408) e, P8 (ix2 j e) = w2 ⟨j.val, by omega⟩ e) (h11 : ∀ (j : Fin 1408) e, P11 (ix2 j e) = w2 ⟨1408 + j.val, by omega⟩ e) :
    k0_pay1 (F := Ideal) (k0_pay2 P0 P1) (k0_pay3 P4) (k0_pay4 P0 P1 P2 P3 P5) k0_pay5 (k0_pay6 P0 P1 P2 P3 P5 P6) P7 P8 P9 P10 P11 (ix3 0 r d)
      = add x gate (ffn (pre x g scale shift) w w2) d := by
  rw [pay1_at]
  pointwise [k0_pay3, k0_pay5, pay2_at, pay6_at, pay4_at]
  simp only [h0, h2, h3, h4, h5, h6, h7, h8, h9, h10, h11, ← ffn_halves]

/-- A point's block at an index, of the blocks it loads. -/
theorem out_at (x0 : FVec Ideal S1x512x1024 .f32) (x1 : FVec Ideal S512x1024 .f32) (x2 : FVec Ideal S1x9x1024 .f32) (x3 : FVec Ideal S3x1024 .f32)
    (x4 : FVec Ideal S1024x5632 .bf16) (x5 : FVec Ideal S2816x1024 .bf16) (r : Fin 512) (d : Fin 1024) :
    out0_6 (F := Ideal) x0 x1 x2 x3 x4 x5 (ix3 0 r d)
      = add (fun e => x0 (ix3 0 r e) + x1 (ix2 r e)) (fun e => x2 (ix3 0 2 e))
          (ffn (pre (fun e => x0 (ix3 0 r e) + x1 (ix2 r e)) (fun e => x3 (ix2 0 e)) (fun e => x2 (ix3 0 1 e)) (fun e => x2 (ix3 0 0 e)))
            (fun e j => x4 (ix2 e j)) (fun j e => x5 (ix2 j e))) d := by
  frame_out
  exact pay_at _ _ _ _ _ _ _ _ _ _ _ _ r d (fun e => x0 (ix3 0 r e) + x1 (ix2 r e)) (fun e => x2 (ix3 0 0 e)) (fun e => x2 (ix3 0 1 e)) (fun e => x2 (ix3 0 2 e))
    (fun e => x3 (ix2 0 e)) (fun e j => x4 (ix2 e j)) (fun j e => x5 (ix2 j e))
    (fun _ => rfl) (ld2 x2) (ld3 x2) (ld4 x2) (ld5 x3) (ld6 x4) (ld7 x4) (ld9 x4) (ld10 x4) (ld8 x5) (ld11 x5)

/-! ## The blocks of a point, in terms of the arguments -/

section blocks

variable (m : (ℓ : Loc nD τ sig) → Buf (Elt Ideal) ℓ) (c : Dev nD) (t : Fin cfg0.N)

theorem lt32 : t.val < 32 := lt_of_lt_of_eq t.isLt N_0

/-- A point's batch. -/
def bOf : Fin 4 := ⟨t.val / 8, by have := lt32 t; omega⟩
/-- A point's row `r` of the arrays. -/
def rowOf (r : Fin 512) : Fin 4096 := ⟨512 * (t.val % 8) + r.val, by omega⟩

theorem idx0 : ∀ t : Fin cfg0.N, (cfg0.win 0).index t = ![t.val / 8, t.val % 8, 0] := by decide +kernel
theorem idx1 : ∀ t : Fin cfg0.N, (cfg0.win 1).index t = ![t.val % 8, 0] := by decide +kernel
theorem idx2 : ∀ t : Fin cfg0.N, (cfg0.win 2).index t = ![t.val / 8, 0, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![t.val / 8, t.val % 8, 0] := by decide +kernel

theorem emb0 (r : Fin 512) (d : Fin 1024) : ((cfg0.win 0).blk t).view.emb (ix3 0 r d) = ix3 (bOf t) (rowOf t r) d := by
  funext a
  apply Fin.ext
  fin_cases a
  · blk_simp [idx0]
    exact congrFun (idx0 t) 0
  · blk_simp [idx0]
    show (cfg0.win 0).index t 1 * 512 + r.val = 512 * (t.val % 8) + r.val
    rw [congrFun (idx0 t) 1]
    show t.val % 8 * 512 + r.val = 512 * (t.val % 8) + r.val
    omega
  · blk_simp [idx0]
    show (cfg0.win 0).index t 2 * 1024 + d.val = d.val
    rw [congrFun (idx0 t) 2]
    show 0 * 1024 + d.val = d.val
    omega

theorem emb1 (r : Fin 512) (d : Fin 1024) : ((cfg0.win 1).blk t).view.emb (ix2 r d) = ix2 (rowOf t r) d := by
  funext a
  apply Fin.ext
  fin_cases a
  · blk_simp [idx1]
    show (cfg0.win 1).index t 0 * 512 + r.val = 512 * (t.val % 8) + r.val
    rw [congrFun (idx1 t) 0]
    show t.val % 8 * 512 + r.val = 512 * (t.val % 8) + r.val
    omega
  · blk_simp [idx1]
    show (cfg0.win 1).index t 1 * 1024 + d.val = d.val
    rw [congrFun (idx1 t) 1]
    show 0 * 1024 + d.val = d.val
    omega

theorem emb2 (k : Fin 9) (d : Fin 1024) : ((cfg0.win 2).blk t).view.emb (ix3 0 k d) = ix3 ⟨(bOf t).val, by omega⟩ k d := by
  funext a
  apply Fin.ext
  fin_cases a
  · blk_simp [idx2]
    exact congrFun (idx2 t) 0
  · blk_simp [idx2]
    show (cfg0.win 2).index t 1 * 9 + k.val = k.val
    rw [congrFun (idx2 t) 1]
    show 0 * 9 + k.val = k.val
    omega
  · blk_simp [idx2]
    show (cfg0.win 2).index t 2 * 1024 + d.val = d.val
    rw [congrFun (idx2 t) 2]
    show 0 * 1024 + d.val = d.val
    omega

theorem emb3 (k : Fin 3) (d : Fin 1024) : ((cfg0.win 3).blk t).view.emb (ix2 k d) = ix2 k d := by
  funext a
  apply Fin.ext
  fin_cases a
  · blk_simp [idx3]
    show (cfg0.win 3).index t 0 * 3 + k.val = k.val
    rw [congrFun (idx3 t) 0]
    show 0 * 3 + k.val = k.val
    omega
  · blk_simp [idx3]
    show (cfg0.win 3).index t 1 * 1024 + d.val = d.val
    rw [congrFun (idx3 t) 1]
    show 0 * 1024 + d.val = d.val
    omega

theorem emb4 (k : Fin 1024) (d : Fin 5632) : ((cfg0.win 4).blk t).view.emb (ix2 k d) = ix2 k d := by
  funext a
  apply Fin.ext
  fin_cases a
  · blk_simp [idx4]
    show (cfg0.win 4).index t 0 * 1024 + k.val = k.val
    rw [congrFun (idx4 t) 0]
    show 0 * 1024 + k.val = k.val
    omega
  · blk_simp [idx4]
    show (cfg0.win 4).index t 1 * 5632 + d.val = d.val
    rw [congrFun (idx4 t) 1]
    show 0 * 5632 + d.val = d.val
    omega

theorem emb5 (k : Fin 2816) (d : Fin 1024) : ((cfg0.win 5).blk t).view.emb (ix2 k d) = ix2 k d := by
  funext a
  apply Fin.ext
  fin_cases a
  · blk_simp [idx5]
    show (cfg0.win 5).index t 0 * 2816 + k.val = k.val
    rw [congrFun (idx5 t) 0]
    show 0 * 2816 + k.val = k.val
    omega
  · blk_simp [idx5]
    show (cfg0.win 5).index t 1 * 1024 + d.val = d.val
    rw [congrFun (idx5 t) 1]
    show 0 * 1024 + d.val = d.val
    omega

theorem emb6 (r : Fin 512) (d : Fin 1024) : ((cfg0.win 6).blk t).view.emb (ix3 0 r d) = ix3 (bOf t) (rowOf t r) d := by
  funext a
  apply Fin.ext
  fin_cases a
  · blk_simp [idx6]
    exact congrFun (idx6 t) 0
  · blk_simp [idx6]
    show (cfg0.win 6).index t 1 * 512 + r.val = 512 * (t.val % 8) + r.val
    rw [congrFun (idx6 t) 1]
    show t.val % 8 * 512 + r.val = 512 * (t.val % 8) + r.val
    omega
  · blk_simp [idx6]
    show (cfg0.win 6).index t 2 * 1024 + d.val = d.val
    rw [congrFun (idx6 t) 2]
    show 0 * 1024 + d.val = d.val
    omega

/-- The stream before the position embedding. -/
def argX : FVec Ideal S4x4096x1024 .f32 := m ((c.tc : Thread nD τ).loc main_arg0)
/-- The table of position embeddings. -/
def argP : FVec Ideal S4096x1024 .f32 := m ((c.tc : Thread nD τ).loc main_arg1)
/-- The modulations. -/
def argM : FVec Ideal S8x9216 .f32 := m ((c.tc : Thread nD τ).loc main_arg2)
/-- The gains of the layer's norms. -/
def argG : FVec Ideal S3x1024 .f32 := m ((c.tc : Thread nD τ).loc main_arg3)
/-- The first weight. -/
def argU : FVec Ideal S1024x5632 .f32 := m ((c.tc : Thread nD τ).loc main_arg4)
/-- The second weight. -/
def argD : FVec Ideal S2816x1024 .f32 := m ((c.tc : Thread nD τ).loc main_arg5)

theorem blk0 (r : Fin 512) (d : Fin 1024) : iblk m c 0 t (ix3 0 r d) = argX m c (ix3 (bOf t) (rowOf t r) d) := by
  show V m c main_arg0 (((cfg0.win 0).blk t).view.emb (ix3 0 r d)) = _
  rw [emb0, V_main_arg0]
  rfl

theorem blk1 (r : Fin 512) (d : Fin 1024) : iblk m c 1 t (ix2 r d) = argP m c (ix2 (rowOf t r) d) := by
  show V m c main_arg1 (((cfg0.win 1).blk t).view.emb (ix2 r d)) = _
  rw [emb1, V_main_arg1]
  rfl

theorem blk2 (k : Fin 9) (d : Fin 1024) :
    iblk m c 2 t (ix3 0 k d) = argM m c (ix2 ⟨(bOf t).val, by omega⟩ ⟨k.val * 1024 + d.val, by omega⟩) := by
  show V m c main_v0 (((cfg0.win 2).blk t).view.emb (ix3 0 k d)) = _
  rw [emb2]
  entry_read
  pointwise []
  rfl

theorem blk_shift (d : Fin 1024) : iblk m c 2 t (ix3 0 0 d) = argM m c (ix2 ⟨(bOf t).val, by omega⟩ ⟨d.val, by omega⟩) :=
  (blk2 m c t 0 d).trans (congrArg (fun x => argM m c (ix2 ⟨(bOf t).val, by omega⟩ x)) (Fin.ext (by show 0 * 1024 + d.val = d.val; omega)))

theorem blk_scale (d : Fin 1024) : iblk m c 2 t (ix3 0 1 d) = argM m c (ix2 ⟨(bOf t).val, by omega⟩ ⟨1024 + d.val, by omega⟩) :=
  (blk2 m c t 1 d).trans (congrArg (fun x => argM m c (ix2 ⟨(bOf t).val, by omega⟩ x)) (Fin.ext (by show 1 * 1024 + d.val = 1024 + d.val; omega)))

theorem blk_gate (d : Fin 1024) : iblk m c 2 t (ix3 0 2 d) = argM m c (ix2 ⟨(bOf t).val, by omega⟩ ⟨2048 + d.val, by omega⟩) :=
  (blk2 m c t 2 d).trans (congrArg (fun x => argM m c (ix2 ⟨(bOf t).val, by omega⟩ x)) (Fin.ext (by show 2 * 1024 + d.val = 2048 + d.val; omega)))

theorem blk3 (k : Fin 3) (d : Fin 1024) : iblk m c 3 t (ix2 k d) = argG m c (ix2 k d) := by
  show V m c main_arg3 (((cfg0.win 3).blk t).view.emb (ix2 k d)) = _
  rw [emb3, V_main_arg3]
  rfl

theorem blk4 (k : Fin 1024) (d : Fin 5632) : iblk m c 4 t (ix2 k d) = argU m c (ix2 k d) := by
  show V m c main_v1 (((cfg0.win 4).blk t).view.emb (ix2 k d)) = _
  rw [emb4]
  entry_read
  pointwise []
  rfl

theorem blk5 (k : Fin 2816) (d : Fin 1024) : iblk m c 5 t (ix2 k d) = argD m c (ix2 k d) := by
  show V m c main_v2 (((cfg0.win 5).blk t).view.emb (ix2 k d)) = _
  rw [emb5]
  entry_read
  pointwise []
  rfl

/-! ## The array the grid leaves -/

/-- The part's result, as an array. -/
def res : FVec Ideal S4x4096x1024 .f32 := fun i => first (argX m c) (argP m c) (argM m c) (argG m c) (argU m c) (argD m c) (i 0) (i 1) (i 2)

theorem block (y : S1x512x1024.Idx) :
    out0_6 (F := Ideal) (iblk m c 0 t) (iblk m c 1 t) (iblk m c 2 t) (iblk m c 3 t) (iblk m c 4 t) (iblk m c 5 t) y
      = res m c (((cfg0.win 6).blk t).view.emb y) := by
  have key (r : Fin 512) (d : Fin 1024) :
      out0_6 (F := Ideal) (iblk m c 0 t) (iblk m c 1 t) (iblk m c 2 t) (iblk m c 3 t) (iblk m c 4 t) (iblk m c 5 t) (ix3 0 r d)
        = res m c (((cfg0.win 6).blk t).view.emb (ix3 0 r d)) := by
    rw [out_at, emb6]
    simp only [blk0, blk1, blk_shift, blk_scale, blk_gate, blk3, blk4, blk5]
    rfl
  have h0 : y 0 = (0 : Fin 1) := Subsingleton.elim (α := Fin 1) _ _
  rw [eq_ix3 y, h0]
  exact key (y 1) (y 2)

/-- The point that writes row `i` of batch `b`. -/
def ptOf (b : Fin 4) (i : Fin 4096) : Fin cfg0.N := ⟨8 * b.val + i.val / 512, by
  show _ < grid0.N
  rw [N_0]
  omega⟩

theorem cover (b : Fin 4) (i : Fin 4096) (d : Fin 1024) :
    ((cfg0.win 6).blk (ptOf b i)).view.emb (ix3 0 (⟨i.val % 512, Nat.mod_lt _ (by decide)⟩ : Fin 512) d) = ix3 b i d := by
  rw [emb6]
  have hb : bOf (ptOf b i) = b := Fin.ext (by show (8 * b.val + i.val / 512) / 8 = b.val; omega)
  have hr : rowOf (ptOf b i) ⟨i.val % 512, Nat.mod_lt _ (by decide)⟩ = i :=
    Fin.ext (by show 512 * ((8 * b.val + i.val / 512) % 8) + i.val % 512 = i.val; omega)
  rw [hb, hr]

theorem covered (i : S4x4096x1024.Idx) : ∃ t : Fin cfg0.N, (cfg0.win 6).flush t = true ∧ i ∈ ((cfg0.win 6).blk t).view.set := by
  refine ⟨ptOf (i 0) (i 1), flush0_6 _, ?_⟩
  have h := ((cfg0.win 6).blk (ptOf (i 0) (i 1))).view.emb_mem_set (ix3 (0 : Fin 1) (⟨(i 1).val % 512, Nat.mod_lt _ (by decide)⟩ : Fin 512) (i 2))
  rw [cover (i 0) (i 1) (i 2), ← eq_ix3 i] at h
  exact h

end blocks

end Cert.Kernel3Ideal.First

end
-- ==== Proof.FirstFinal.lean ====
/-
  The array the kernel's grid leaves is the first feed-forward part's result.
-/
module

public import proofs.«01_k».proof.Proof.FirstKernel

@[expose] public section

set_option maxRecDepth 16384

noncomputable section

namespace Cert.Kernel3Ideal.First

open Cert.Ffn
open Cert.Kernel3Ideal Cert.Kernel3Ideal.Gen Idealize.ShloMosaic Idealize.ShloMosaic.TcCoe
open Idealize.ShloMosaic.Pointwise

variable (m : (ℓ : Loc nD τ sig) → Buf (Elt Ideal) ℓ) (c : Dev nD)

theorem cut_at (t : Fin cfg0.N) (X : FVec Ideal S1x512x1024 .f32) (y : S1x512x1024.Idx) : (cfg0.win 6).cut (grid0.coords t) X y = X y := rfl

theorem flushed_at (t : Fin cfg0.N) (y : S1x512x1024.Idx) :
    (dats m 0 c).flushed 6 t y = res m c (((cfg0.win 6).blk t).view.emb y) := by
  rw [Value.flushed6]
  exact (cut_at t _ y).trans (block m c t y)

theorem final : (dats m 0 c).arrAt 6 cfg0.N = res m c := by
  funext i
  exact (dats m 0 c).arrAt_forall_of_cover 6 (fun i v => v = res m c i) (fun t _ y => flushed_at m c t y) covered i

end Cert.Kernel3Ideal.First

end
-- ==== Proof.ProjRef.lean ====
/-
  The projections as the reference computes it, read at an index.
-/
module

public import proofs.«01_k».proof.Proof.FfnMath
public import proofs.«01_k».proof.Proof.Gen.Reference4Ideal.Run

@[expose] public section

noncomputable section

open scoped BigOperators
open Idealize.SL.Sem

namespace Cert.Reference4Ideal.Proj

open Cert.Ffn
open Cert.Reference4Ideal Cert.Reference4Ideal.Gen Cert.Reference4Ideal.Value Idealize.ShloMosaic Idealize.ShloMosaic.TcCoe

/-- Rows divided by the root of their mean squares. -/
def norm (x : FVec Ideal S4x4096x1024 .f32) : FVec Ideal S4x4096x1024 .f32 :=
  mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))

/-- The modulations of the four batches. -/
def mods (a1 : FVec Ideal S8x9216 .f32) : FVec Ideal S4x9216 .f32 := extractStridedSlice S4x9216 ![0, 0] a1 slices_S8x9216_S4x9216_0_0

/-- Rows normalised, scaled and modulated. -/
def pre (x : FVec Ideal S4x4096x1024 .f32) (a1 : FVec Ideal S8x9216 .f32) (a2 : FVec Ideal S3x1024 .f32) : FVec Ideal S4x4096x1024 .f32 :=
  addf (mulf (mulf (norm x) (broadcastInDim S4x4096x1024 ![0, 1, 2] bcast_S1x1x1024_S4x4096x1024_0_1_2 (broadcastInDim S1x1x1024 ![2] bcast_S1024_S1x1x1024_2 (shapeCast _ (extractStridedSlice S1x1024 ![1, 0] a2 slices_S3x1024_S1x1024_1_0) shapeCasts_S1x1024_S1024)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 4096] (mods a1) slices_S4x9216_S4x1024_0_4096))))) (broadcastInDim S4x4096x1024 ![0, 1, 2] bcast_S4x1x1024_S4x4096x1024_0_1_2 (broadcastInDim S4x1x1024 ![0, 2] bcast_S4x1024_S4x1x1024_0_2 (extractStridedSlice S4x1024 ![0, 3072] (mods a1) slices_S4x9216_S4x1024_0_3072)))

/-- The product. -/
def up (h : FVec Ideal S4x4096x1024 .f32) (a3 : FVec Ideal S1024x9216 .f32) : FVec Ideal S4x4096x9216 .f32 :=
  Host.dotGeneral (F := Ideal) dot_S4x4096x1024_S1024x9216_S4x4096x9216_2_0_01_1_n_n none h a3

/-- The product's columns from 0 on. -/
def cutA (u : FVec Ideal S4x4096x9216 .f32) : FVec Ideal S4x4096x2048 .bf16 :=
  truncf .bf16 (extractStridedSlice S4x4096x2048 ![0, 0, 0] u slices_S4x4096x9216_S4x4096x2048_0_0_0) bitsLt_bf16_f32

/-- The product's columns from 2048 on. -/
def cutZ (u : FVec Ideal S4x4096x9216 .f32) : FVec Ideal S4x4096x2048 .bf16 :=
  truncf .bf16 (extractStridedSlice S4x4096x2048 ![0, 0, 2048] u slices_S4x4096x9216_S4x4096x2048_0_0_2048) bitsLt_bf16_f32

/-- The product's columns from 4096 on. -/
def cutB (u : FVec Ideal S4x4096x9216 .f32) : FVec Ideal S4x4096x3072 .bf16 :=
  truncf .bf16 (extractStridedSlice S4x4096x3072 ![0, 0, 4096] u slices_S4x4096x9216_S4x4096x3072_0_0_4096) bitsLt_bf16_f32

/-- The product's columns from 7168 on. -/
def cutG (u : FVec Ideal S4x4096x9216 .f32) : FVec Ideal S4x4096x2048 .bf16 :=
  truncf .bf16 (extractStridedSlice S4x4096x2048 ![0, 0, 7168] u slices_S4x4096x9216_S4x4096x2048_0_0_7168) bitsLt_bf16_f32

theorem norm_at (x : FVec Ideal S4x4096x1024 .f32) (b : Fin 4) (i : Fin 4096) (d : Fin 1024) :
    norm x (ix3 b i d) = rms (fun e => x (ix3 b i e)) d := by
  pointwise [norm]
  rfl

theorem pre_at (x : FVec Ideal S4x4096x1024 .f32) (a1 : FVec Ideal S8x9216 .f32) (a2 : FVec Ideal S3x1024 .f32) (b : Fin 4) (i : Fin 4096) (d : Fin 1024) :
    pre x a1 a2 (ix3 b i d) = Cert.Ffn.pre (fun e => x (ix3 b i e)) (fun e => a2 (ix2 1 e))
      (fun e => a1 (ix2 ⟨b.val, by omega⟩ ⟨4096 + e.val, by omega⟩)) (fun e => a1 (ix2 ⟨b.val, by omega⟩ ⟨3072 + e.val, by omega⟩)) d := by
  pointwise [pre, mods]
  rw [norm_at]
  rfl

theorem up_at (h : FVec Ideal S4x4096x1024 .f32) (a3 : FVec Ideal S1024x9216 .f32) (b : Fin 4) (i : Fin 4096) (j : Fin 9216) :
    up h a3 (ix3 b i j) = dot (fun e => h (ix3 b i e)) (fun e j => a3 (ix2 e j)) j := by
  pointwise [up]
  rfl

theorem cutA_at (u : FVec Ideal S4x4096x9216 .f32) (b : Fin 4) (i : Fin 4096) (j : Fin 2048) : cutA u (ix3 b i j) = u (ix3 b i (colA j)) := by
  pointwise [cutA]
  rfl

theorem cutZ_at (u : FVec Ideal S4x4096x9216 .f32) (b : Fin 4) (i : Fin 4096) (j : Fin 2048) : cutZ u (ix3 b i j) = u (ix3 b i (colZ j)) := by
  pointwise [cutZ]
  rfl

theorem cutB_at (u : FVec Ideal S4x4096x9216 .f32) (b : Fin 4) (i : Fin 4096) (j : Fin 3072) : cutB u (ix3 b i j) = u (ix3 b i (colB j)) := by
  pointwise [cutB]
  rfl

theorem cutG_at (u : FVec Ideal S4x4096x9216 .f32) (b : Fin 4) (i : Fin 4096) (j : Fin 2048) : cutG u (ix3 b i j) = u (ix3 b i (colG j)) := by
  pointwise [cutG]
  rfl

section result

variable (m : (ℓ : Loc nD τ sig) → Buf (Elt Ideal) ℓ) (c : Dev nD)

/-- The stream entering the part. -/
def argX : FVec Ideal S4x4096x1024 .f32 := m ((c.tc : Thread nD τ).loc main_arg0)
/-- The modulations. -/
def argM : FVec Ideal S8x9216 .f32 := m ((c.tc : Thread nD τ).loc main_arg1)
/-- The gains of the layer's norms. -/
def argG : FVec Ideal S3x1024 .f32 := m ((c.tc : Thread nD τ).loc main_arg2)
/-- The weight. -/
def argW : FVec Ideal S1024x9216 .f32 := m ((c.tc : Thread nD τ).loc main_arg3)

/-- The whole product at an index. -/
theorem all_at (b : Fin 4) (i : Fin 4096) (j : Fin 9216) :
    up (pre (argX m c) (argM m c) (argG m c)) (argW m c) (ix3 b i j) = proj (argX m c) (argM m c) (argG m c) (argW m c) b i j := by
  have h1 : ∀ e, pre (argX m c) (argM m c) (argG m c) (ix3 b i e) = _ := fun e => pre_at (argX m c) (argM m c) (argG m c) b i e
  rw [up_at]
  simp only [h1]
  rfl

/-- The reference ends with the product's four parts and its arguments unchanged. -/
theorem run_at (ρ : Dev nD → PrngReg) :
    θ_run defs (onTc (τ := τ) (main (F := Ideal))) ⟨m, fun _ => 0, ρ⟩ fun r => ∀ c : Dev nD,
      r.2.mem ((c.tc : Thread nD τ).loc main_v38) = cutA (up (pre (argX m c) (argM m c) (argG m c)) (argW m c))
      ∧ r.2.mem ((c.tc : Thread nD τ).loc main_v39) = cutZ (up (pre (argX m c) (argM m c) (argG m c)) (argW m c))
      ∧ r.2.mem ((c.tc : Thread nD τ).loc main_v40) = cutB (up (pre (argX m c) (argM m c) (argG m c)) (argW m c))
      ∧ r.2.mem ((c.tc : Thread nD τ).loc main_v41) = cutG (up (pre (argX m c) (argM m c) (argG m c)) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end result

end Cert.Reference4Ideal.Proj

end
-- ==== Proof.ProjKernel.lean ====
/-
  The projections as the kernel computes it: a grid point's blocks as functions of the blocks it loads, these blocks in
  terms of the arguments, and the arrays the grid leaves.
-/
module

public import proofs.«01_k».proof.Proof.FfnMath
public import proofs.«01_k».proof.Proof.Gen.Kernel4Ideal.Value
public import Idealize.ShloMosaic.Lib.Pipeline.ValueKit
public import Idealize.ShloMosaic.Lib.Pipeline.ReadBack
public import Idealize.ShloMosaic.Lib.Claim

@[expose] public section

set_option maxRecDepth 16384

noncomputable section

open scoped BigOperators

namespace Cert.Kernel4Ideal.Proj

open Cert.Ffn
open Cert.Kernel4Ideal Cert.Kernel4Ideal.Gen Idealize.ShloMosaic Idealize.ShloMosaic.TcCoe
open Idealize.ShloMosaic.Pointwise

/-! ## What a point computes -/

theorem pay4_at (v0 : FVec Ideal S1x256x1024 .f32) (v2 v4 : FVec Ideal S1x1x1024 .f32) (v6 : FVec Ideal S1x1024 .f32) (r : Fin 256) (d : Fin 1024) :
    k0_pay4 (F := Ideal) v0 v2 v4 v6 (ix2 r d) = pre (fun e => v0 (ix3 0 r e)) (fun e => v6 (ix2 0 e)) (fun e => v4 (ix3 0 0 e)) (fun e => v2 (ix3 0 0 e)) d := by
  pointwise [k0_pay4]
  rfl

theorem pay5_at (v0 : FVec Ideal S1x256x1024 .f32) (v2 v4 : FVec Ideal S1x1x1024 .f32) (v6 : FVec Ideal S1x1024 .f32) (v26 : FVec Ideal S1024x2048 .bf16)
    (r : Fin 256) (j : Fin 2048) :
    k0_pay5 (F := Ideal) v0 v2 v4 v6 v26 (ix3 0 r j) = dot (fun e => k0_pay4 (F := Ideal) v0 v2 v4 v6 (ix2 r e)) (fun e j => v26 (ix2 e j)) j := by
  pointwise [k0_pay5]
  rfl

theorem pay1_at (v25 : FVec Ideal S256x1024 .bf16) (w : FVec Ideal S1024x2048 .bf16) (r : Fin 256) (j : Fin 2048) :
    k0_pay1 (F := Ideal) v25 w (ix3 0 r j) = dot (fun e => v25 (ix2 r e)) (fun e j => w (ix2 e j)) j := by
  pointwise [k0_pay1]
  rfl

theorem pay2_at (v25 : FVec Ideal S256x1024 .bf16) (w : FVec Ideal S1024x3072 .bf16) (r : Fin 256) (j : Fin 3072) :
    k0_pay2 (F := Ideal) v25 w (ix3 0 r j) = dot (fun e => v25 (ix2 r e)) (fun e j => w (ix2 e j)) j := by
  pointwise [k0_pay2]
  rfl

theorem pay3_at (v25 : FVec Ideal S256x1024 .bf16) (w : FVec Ideal S1024x2048 .bf16) (r : Fin 256) (j : Fin 2048) :
    k0_pay3 (F := Ideal) v25 w (ix3 0 r j) = dot (fun e => v25 (ix2 r e)) (fun e j => w (ix2 e j)) j := by
  pointwise [k0_pay3]
  rfl

/-! ## The loads of parts of a block -/

theorem ld0 (x : Vec Ideal S1x256x1024 .f32) (r : Fin 256) (e : Fin 1024) : View.ld (Val := Elt Ideal) (e' := .f32) x r0_0 (ix3 0 r e) = x (ix3 0 r e) := by
  refine congrArg x (funext fun a => Fin.ext ?_)
  fin_cases a
  · rfl
  · show 0 + 1 * r.val = r.val
    omega
  · show 0 + 1 * e.val = e.val
    omega

theorem ld1 (x : Vec Ideal S1x9x1024 .f32) (j : Fin 1024) : View.ld (Val := Elt Ideal) (e' := .f32) x r0_1 (ix3 0 0 j) = x (ix3 0 3 j) := by
  refine congrArg x (funext fun a => Fin.ext ?_)
  fin_cases a
  · rfl
  · rfl
  · show 0 + 1 * j.val = j.val
    omega

theorem ld2 (x : Vec Ideal S1x9x1024 .f32) (j : Fin 1024) : View.ld (Val := Elt Ideal) (e' := .f32) x r0_2 (ix3 0 0 j) = x (ix3 0 4 j) := by
  refine congrArg x (funext fun a => Fin.ext ?_)
  fin_cases a
  · rfl
  · rfl
  · show 0 + 1 * j.val = j.val
    omega

theorem ld3 (x : Vec Ideal S3x1024 .f32) (j : Fin 1024) : View.ld (Val := Elt Ideal) (e' := .f32) x r0_3 (ix2 0 j) = x (ix2 1 j) := by
  refine congrArg x (funext fun a => Fin.ext ?_)
  fin_cases a
  · rfl
  · show 0 + 1 * j.val = j.val
    omega

theorem ld4 (x : Vec Ideal S1024x9216 .bf16) (e : Fin 1024) (j : Fin 2048) : View.ld (Val := Elt Ideal) (e' := .bf16) x r0_4 (ix2 e j) = x (ix2 e (colA j)) := by
  refine congrArg x (funext fun a => Fin.ext ?_)
  fin_cases a
  · show 0 + 1 * e.val = e.val
    omega
  · show 0 + 1 * j.val = j.val
    omega

theorem ld6 (x : Vec Ideal S1024x9216 .bf16) (e : Fin 1024) (j : Fin 2048) : View.ld (Val := Elt Ideal) (e' := .bf16) x r0_6 (ix2 e j) = x (ix2 e (colZ j)) := by
  refine congrArg x (funext fun a => Fin.ext ?_)
  fin_cases a
  · show 0 + 1 * e.val = e.val
    omega
  · show 2048 + 1 * j.val = 2048 + j.val
    omega

theorem ld7 (x : Vec Ideal S1024x9216 .bf16) (e : Fin 1024) (j : Fin 3072) : View.ld (Val := Elt Ideal) (e' := .bf16) x r0_7 (ix2 e j) = x (ix2 e (colB j)) := by
  refine congrArg x (funext fun a => Fin.ext ?_)
  fin_cases a
  · show 0 + 1 * e.val = e.val
    omega
  · show 4096 + 1 * j.val = 4096 + j.val
    omega

theorem ld9 (x : Vec Ideal S1024x9216 .bf16) (e : Fin 1024) (j : Fin 2048) : View.ld (Val := Elt Ideal) (e' := .bf16) x r0_9 (ix2 e j) = x (ix2 e (colG j)) := by
  refine congrArg x (funext fun a => Fin.ext ?_)
  fin_cases a
  · show 0 + 1 * e.val = e.val
    omega
  · show 7168 + 1 * j.val = 7168 + j.val
    omega

/-- A point's block of result A at an index, of the values it loads. -/
theorem loadA (P0 : FVec Ideal S1x256x1024 .f32) (P1 P2 : FVec Ideal S1x1x1024 .f32) (P3 : FVec Ideal S1x1024 .f32) (W : FVec Ideal S1024x2048 .bf16) (r : Fin 256) (j : Fin 2048)
    (x shift scale g : Fin 1024 → EReal) (h0 : ∀ e, P0 (ix3 0 r e) = x e) (h1 : ∀ e, P1 (ix3 0 0 e) = shift e) (h2 : ∀ e, P2 (ix3 0 0 e) = scale e) (h3 : ∀ e, P3 (ix2 0 e) = g e)
    (w : Fin 1024 → Fin 9216 → EReal) (h4 : ∀ e j, W (ix2 e j) = w e (colA j)) :
    k0_pay5 (F := Ideal) P0 P1 P2 P3 W (ix3 0 r j) = dot (pre x g scale shift) w (colA j) := by
  rw [pay5_at]
  simp only [pay4_at, h0, h1, h2, h3, dot, h4]

/-- A point's block of result A at an index, of the blocks it loads. -/
theorem outA_at (x0 : FVec Ideal S1x256x1024 .f32) (x1 : FVec Ideal S1x9x1024 .f32) (x2 : FVec Ideal S3x1024 .f32) (x3 : FVec Ideal S1024x9216 .bf16)
    (r : Fin 256) (j : Fin 2048) :
    out0_4 (F := Ideal) x0 x1 x2 x3 (ix3 0 r j)
      = dot (pre (fun e => x0 (ix3 0 r e)) (fun e => x2 (ix2 1 e)) (fun e => x1 (ix3 0 4 e)) (fun e => x1 (ix3 0 3 e))) (fun e j => x3 (ix2 e j)) (colA j) := by
  frame_out
  exact loadA x0 (View.ld (Val := Elt Ideal) (e' := .f32) x1 r0_1) (View.ld (Val := Elt Ideal) (e' := .f32) x1 r0_2)
    (View.ld (Val := Elt Ideal) (e' := .f32) x2 r0_3) (View.ld (Val := Elt Ideal) (e' := .bf16) x3 r0_4) r j (fun e => x0 (ix3 0 r e)) (fun e => x1 (ix3 0 3 e)) (fun e => x1 (ix3 0 4 e)) (fun e => x2 (ix2 1 e))
    (fun _ => rfl) (ld1 x1) (ld2 x1) (ld3 x2) (fun e j => x3 (ix2 e j)) (ld4 x3)

/-- A point's block of result Z at an index, of the values it loads. -/
theorem loadZ (P0 : FVec Ideal S1x256x1024 .f32) (P1 P2 : FVec Ideal S1x1x1024 .f32) (P3 : FVec Ideal S1x1024 .f32) (W : FVec Ideal S1024x2048 .bf16) (r : Fin 256) (j : Fin 2048)
    (x shift scale g : Fin 1024 → EReal) (h0 : ∀ e, P0 (ix3 0 r e) = x e) (h1 : ∀ e, P1 (ix3 0 0 e) = shift e) (h2 : ∀ e, P2 (ix3 0 0 e) = scale e) (h3 : ∀ e, P3 (ix2 0 e) = g e)
    (w : Fin 1024 → Fin 9216 → EReal) (h4 : ∀ e j, W (ix2 e j) = w e (colZ j)) :
    k0_pay1 (F := Ideal) (k0_pay4 P0 P1 P2 P3) W (ix3 0 r j) = dot (pre x g scale shift) w (colZ j) := by
  rw [pay1_at]
  simp only [pay4_at, h0, h1, h2, h3, dot, h4]

/-- A point's block of result Z at an index, of the blocks it loads. -/
theorem outZ_at (x0 : FVec Ideal S1x256x1024 .f32) (x1 : FVec Ideal S1x9x1024 .f32) (x2 : FVec Ideal S3x1024 .f32) (x3 : FVec Ideal S1024x9216 .bf16)
    (r : Fin 256) (j : Fin 2048) :
    out0_5 (F := Ideal) x0 x1 x2 x3 (ix3 0 r j)
      = dot (pre (fun e => x0 (ix3 0 r e)) (fun e => x2 (ix2 1 e)) (fun e => x1 (ix3 0 4 e)) (fun e => x1 (ix3 0 3 e))) (fun e j => x3 (ix2 e j)) (colZ j) := by
  frame_out
  unfold k0_pay6
  exact loadZ (View.ld (Val := Elt Ideal) (e' := .f32) x0 r0_0) (View.ld (Val := Elt Ideal) (e' := .f32) x1 r0_1) (View.ld (Val := Elt Ideal) (e' := .f32) x1 r0_2)
    (View.ld (Val := Elt Ideal) (e' := .f32) x2 r0_3) (View.ld (Val := Elt Ideal) (e' := .bf16) x3 r0_6) r j (fun e => x0 (ix3 0 r e)) (fun e => x1 (ix3 0 3 e)) (fun e => x1 (ix3 0 4 e)) (fun e => x2 (ix2 1 e))
    (ld0 x0 r) (ld1 x1) (ld2 x1) (ld3 x2) (fun e j => x3 (ix2 e j)) (ld6 x3)

/-- A point's block of result B at an index, of the values it loads. -/
theorem loadB (P0 : FVec Ideal S1x256x1024 .f32) (P1 P2 : FVec Ideal S1x1x1024 .f32) (P3 : FVec Ideal S1x1024 .f32) (W : FVec Ideal S1024x3072 .bf16) (r : Fin 256) (j : Fin 3072)
    (x shift scale g : Fin 1024 → EReal) (h0 : ∀ e, P0 (ix3 0 r e) = x e) (h1 : ∀ e, P1 (ix3 0 0 e) = shift e) (h2 : ∀ e, P2 (ix3 0 0 e) = scale e) (h3 : ∀ e, P3 (ix2 0 e) = g e)
    (w : Fin 1024 → Fin 9216 → EReal) (h4 : ∀ e j, W (ix2 e j) = w e (colB j)) :
    k0_pay2 (F := Ideal) (k0_pay4 P0 P1 P2 P3) W (ix3 0 r j) = dot (pre x g scale shift) w (colB j) := by
  rw [pay2_at]
  simp only [pay4_at, h0, h1, h2, h3, dot, h4]

/-- A point's block of result B at an index, of the blocks it loads. -/
theorem outB_at (x0 : FVec Ideal S1x256x1024 .f32) (x1 : FVec Ideal S1x9x1024 .f32) (x2 : FVec Ideal S3x1024 .f32) (x3 : FVec Ideal S1024x9216 .bf16)
    (r : Fin 256) (j : Fin 3072) :
    out0_6 (F := Ideal) x0 x1 x2 x3 (ix3 0 r j)
      = dot (pre (fun e => x0 (ix3 0 r e)) (fun e => x2 (ix2 1 e)) (fun e => x1 (ix3 0 4 e)) (fun e => x1 (ix3 0 3 e))) (fun e j => x3 (ix2 e j)) (colB j) := by
  frame_out
  unfold k0_pay6
  exact loadB (View.ld (Val := Elt Ideal) (e' := .f32) x0 r0_0) (View.ld (Val := Elt Ideal) (e' := .f32) x1 r0_1) (View.ld (Val := Elt Ideal) (e' := .f32) x1 r0_2)
    (View.ld (Val := Elt Ideal) (e' := .f32) x2 r0_3) (View.ld (Val := Elt Ideal) (e' := .bf16) x3 r0_7) r j (fun e => x0 (ix3 0 r e)) (fun e => x1 (ix3 0 3 e)) (fun e => x1 (ix3 0 4 e)) (fun e => x2 (ix2 1 e))
    (ld0 x0 r) (ld1 x1) (ld2 x1) (ld3 x2) (fun e j => x3 (ix2 e j)) (ld7 x3)

/-- A point's block of result G at an index, of the values it loads. -/
theorem loadG (P0 : FVec Ideal S1x256x1024 .f32) (P1 P2 : FVec Ideal S1x1x1024 .f32) (P3 : FVec Ideal S1x1024 .f32) (W : FVec Ideal S1024x2048 .bf16) (r : Fin 256) (j : Fin 2048)
    (x shift scale g : Fin 1024 → EReal) (h0 : ∀ e, P0 (ix3 0 r e) = x e) (h1 : ∀ e, P1 (ix3 0 0 e) = shift e) (h2 : ∀ e, P2 (ix3 0 0 e) = scale e) (h3 : ∀ e, P3 (ix2 0 e) = g e)
    (w : Fin 1024 → Fin 9216 → EReal) (h4 : ∀ e j, W (ix2 e j) = w e (colG j)) :
    k0_pay3 (F := Ideal) (k0_pay4 P0 P1 P2 P3) W (ix3 0 r j) = dot (pre x g scale shift) w (colG j) := by
  rw [pay3_at]
  simp only [pay4_at, h0, h1, h2, h3, dot, h4]

/-- A point's block of result G at an index, of the blocks it loads. -/
theorem outG_at (x0 : FVec Ideal S1x256x1024 .f32) (x1 : FVec Ideal S1x9x1024 .f32) (x2 : FVec Ideal S3x1024 .f32) (x3 : FVec Ideal S1024x9216 .bf16)
    (r : Fin 256) (j : Fin 2048) :
    out0_7 (F := Ideal) x0 x1 x2 x3 (ix3 0 r j)
      = dot (pre (fun e => x0 (ix3 0 r e)) (fun e => x2 (ix2 1 e)) (fun e => x1 (ix3 0 4 e)) (fun e => x1 (ix3 0 3 e))) (fun e j => x3 (ix2 e j)) (colG j) := by
  frame_out
  unfold k0_pay6
  exact loadG (View.ld (Val := Elt Ideal) (e' := .f32) x0 r0_0) (View.ld (Val := Elt Ideal) (e' := .f32) x1 r0_1) (View.ld (Val := Elt Ideal) (e' := .f32) x1 r0_2)
    (View.ld (Val := Elt Ideal) (e' := .f32) x2 r0_3) (View.ld (Val := Elt Ideal) (e' := .bf16) x3 r0_9) r j (fun e => x0 (ix3 0 r e)) (fun e => x1 (ix3 0 3 e)) (fun e => x1 (ix3 0 4 e)) (fun e => x2 (ix2 1 e))
    (ld0 x0 r) (ld1 x1) (ld2 x1) (ld3 x2) (fun e j => x3 (ix2 e j)) (ld9 x3)

/-! ## The blocks of a point, in terms of the arguments -/

section blocks

variable (m : (ℓ : Loc nD τ sig) → Buf (Elt Ideal) ℓ) (c : Dev nD) (t : Fin cfg0.N)

theorem lt64 : t.val < 64 := lt_of_lt_of_eq t.isLt N_0

/-- A point's batch. -/
def bOf : Fin 4 := ⟨t.val / 16, by have := lt64 t; omega⟩
/-- A point's row `r` of the arrays. -/
def rowOf (r : Fin 256) : Fin 4096 := ⟨256 * (t.val % 16) + r.val, by omega⟩

theorem idx0 : ∀ t : Fin cfg0.N, (cfg0.win 0).index t = ![t.val / 16, t.val % 16, 0] := by decide +kernel
theorem idx1 : ∀ t : Fin cfg0.N, (cfg0.win 1).index t = ![t.val / 16, 0, 0] := by decide +kernel
theorem idx2 : ∀ t : Fin cfg0.N, (cfg0.win 2).index t = ![0, 0] := by decide +kernel
theorem idx3 : ∀ t : Fin cfg0.N, (cfg0.win 3).index t = ![0, 0] := by decide +kernel
theorem idx4 : ∀ t : Fin cfg0.N, (cfg0.win 4).index t = ![t.val / 16, t.val % 16, 0] := by decide +kernel
theorem idx5 : ∀ t : Fin cfg0.N, (cfg0.win 5).index t = ![t.val / 16, t.val % 16, 0] := by decide +kernel
theorem idx6 : ∀ t : Fin cfg0.N, (cfg0.win 6).index t = ![t.val / 16, t.val % 16, 0] := by decide +kernel
theorem idx7 : ∀ t : Fin cfg0.N, (cfg0.win 7).index t = ![t.val / 16, t.val % 16, 0] := by decide +kernel

theorem emb0 (r : Fin 256) (d : Fin 1024) : ((cfg0.win 0).blk t).view.emb (ix3 0 r d) = ix3 (bOf t) (rowOf t r) d := by
  funext a
  apply Fin.ext
  fin_cases a
  · blk_simp [idx0]
    exact congrFun (idx0 t) 0
  · blk_simp [idx0]
    show (cfg0.win 0).index t 1 * 256 + r.val = 256 * (t.val % 16) + r.val
    rw [congrFun (idx0 t) 1]
    show t.val % 16 * 256 + r.val = 256 * (t.val % 16) + r.val
    omega
  · blk_simp [idx0]
    show (cfg0.win 0).index t 2 * 1024 + d.val = d.val
    rw [congrFun (idx0 t) 2]
    show 0 * 1024 + d.val = d.val
    omega

theorem emb1 (k : Fin 9) (d : Fin 1024) : ((cfg0.win 1).blk t).view.emb (ix3 0 k d) = ix3 ⟨(bOf t).val, by omega⟩ k d := by
  funext a
  apply Fin.ext
  fin_cases a
  · blk_simp [idx1]
    exact congrFun (idx1 t) 0
  · blk_simp [idx1]
    show (cfg0.win 1).index t 1 * 9 + k.val = k.val
    rw [congrFun (idx1 t) 1]
    show 0 * 9 + k.val = k.val
    omega
  · blk_simp [idx1]
    show (cfg0.win 1).index t 2 * 1024 + d.val = d.val
    rw [congrFun (idx1 t) 2]
    show 0 * 1024 + d.val = d.val
    omega

theorem emb2 (k : Fin 3) (d : Fin 1024) : ((cfg0.win 2).blk t).view.emb (ix2 k d) = ix2 k d := by
  funext a
  apply Fin.ext
  fin_cases a
  · blk_simp [idx2]
    show (cfg0.win 2).index t 0 * 3 + k.val = k.val
    rw [congrFun (idx2 t) 0]
    show 0 * 3 + k.val = k.val
    omega
  · blk_simp [idx2]
    show (cfg0.win 2).index t 1 * 1024 + d.val = d.val
    rw [congrFun (idx2 t) 1]
    show 0 * 1024 + d.val = d.val
    omega

theorem emb3 (k : Fin 1024) (d : Fin 9216) : ((cfg0.win 3).blk t).view.emb (ix2 k d) = ix2 k d := by
  funext a
  apply Fin.ext
  fin_cases a
  · blk_simp [idx3]
    show (cfg0.win 3).index t 0 * 1024 + k.val = k.val
    rw [congrFun (idx3 t) 0]
    show 0 * 1024 + k.val = k.val
    omega
  · blk_simp [idx3]
    show (cfg0.win 3).index t 1 * 9216 + d.val = d.val
    rw [congrFun (idx3 t) 1]
    show 0 * 9216 + d.val = d.val
    omega

theorem emb4 (r : Fin 256) (d : Fin 2048) : ((cfg0.win 4).blk t).view.emb (ix3 0 r d) = ix3 (bOf t) (rowOf t r) d := by
  funext a
  apply Fin.ext
  fin_cases a
  · blk_simp [idx4]
    exact congrFun (idx4 t) 0
  · blk_simp [idx4]
    show (cfg0.win 4).index t 1 * 256 + r.val = 256 * (t.val % 16) + r.val
    rw [congrFun (idx4 t) 1]
    show t.val % 16 * 256 + r.val = 256 * (t.val % 16) + r.val
    omega
  · blk_simp [idx4]
    show (cfg0.win 4).index t 2 * 2048 + d.val = d.val
    rw [congrFun (idx4 t) 2]
    show 0 * 2048 + d.val = d.val
    omega

theorem emb5 (r : Fin 256) (d : Fin 2048) : ((cfg0.win 5).blk t).view.emb (ix3 0 r d) = ix3 (bOf t) (rowOf t r) d := by
  funext a
  apply Fin.ext
  fin_cases a
  · blk_simp [idx5]
    exact congrFun (idx5 t) 0
  · blk_simp [idx5]
    show (cfg0.win 5).index t 1 * 256 + r.val = 256 * (t.val % 16) + r.val
    rw [congrFun (idx5 t) 1]
    show t.val % 16 * 256 + r.val = 256 * (t.val % 16) + r.val
    omega
  · blk_simp [idx5]
    show (cfg0.win 5).index t 2 * 2048 + d.val = d.val
    rw [congrFun (idx5 t) 2]
    show 0 * 2048 + d.val = d.val
    omega

theorem emb6 (r : Fin 256) (d : Fin 3072) : ((cfg0.win 6).blk t).view.emb (ix3 0 r d) = ix3 (bOf t) (rowOf t r) d := by
  funext a
  apply Fin.ext
  fin_cases a
  · blk_simp [idx6]
    exact congrFun (idx6 t) 0
  · blk_simp [idx6]
    show (cfg0.win 6).index t 1 * 256 + r.val = 256 * (t.val % 16) + r.val
    rw [congrFun (idx6 t) 1]
    show t.val % 16 * 256 + r.val = 256 * (t.val % 16) + r.val
    omega
  · blk_simp [idx6]
    show (cfg0.win 6).index t 2 * 3072 + d.val = d.val
    rw [congrFun (idx6 t) 2]
    show 0 * 3072 + d.val = d.val
    omega

theorem emb7 (r : Fin 256) (d : Fin 2048) : ((cfg0.win 7).blk t).view.emb (ix3 0 r d) = ix3 (bOf t) (rowOf t r) d := by
  funext a
  apply Fin.ext
  fin_cases a
  · blk_simp [idx7]
    exact congrFun (idx7 t) 0
  · blk_simp [idx7]
    show (cfg0.win 7).index t 1 * 256 + r.val = 256 * (t.val % 16) + r.val
    rw [congrFun (idx7 t) 1]
    show t.val % 16 * 256 + r.val = 256 * (t.val % 16) + r.val
    omega
  · blk_simp [idx7]
    show (cfg0.win 7).index t 2 * 2048 + d.val = d.val
    rw [congrFun (idx7 t) 2]
    show 0 * 2048 + d.val = d.val
    omega

/-- The stream. -/
def argX : FVec Ideal S4x4096x1024 .f32 := m ((c.tc : Thread nD τ).loc main_arg0)
/-- The modulations. -/
def argM : FVec Ideal S8x9216 .f32 := m ((c.tc : Thread nD τ).loc main_arg1)
/-- The gains of the layer's norms. -/
def argG : FVec Ideal S3x1024 .f32 := m ((c.tc : Thread nD τ).loc main_arg2)
/-- The weight. -/
def argW : FVec Ideal S1024x9216 .f32 := m ((c.tc : Thread nD τ).loc main_arg3)

theorem blk0 (r : Fin 256) (d : Fin 1024) : iblk m c 0 t (ix3 0 r d) = argX m c (ix3 (bOf t) (rowOf t r) d) := by
  show V m c main_arg0 (((cfg0.win 0).blk t).view.emb (ix3 0 r d)) = _
  rw [emb0, V_main_arg0]
  rfl

theorem blk1 (k : Fin 9) (d : Fin 1024) :
    iblk m c 1 t (ix3 0 k d) = argM m c (ix2 ⟨(bOf t).val, by omega⟩ ⟨k.val * 1024 + d.val, by omega⟩) := by
  show V m c main_v0 (((cfg0.win 1).blk t).view.emb (ix3 0 k d)) = _
  rw [emb1]
  entry_read
  pointwise []
  rfl

theorem blk_shift (d : Fin 1024) : iblk m c 1 t (ix3 0 3 d) = argM m c (ix2 ⟨(bOf t).val, by omega⟩ ⟨3072 + d.val, by omega⟩) :=
  (blk1 m c t 3 d).trans (congrArg (fun x => argM m c (ix2 ⟨(bOf t).val, by omega⟩ x)) (Fin.ext (by show 3 * 1024 + d.val = 3072 + d.val; omega)))

theorem blk_scale (d : Fin 1024) : iblk m c 1 t (ix3 0 4 d) = argM m c (ix2 ⟨(bOf t).val, by omega⟩ ⟨4096 + d.val, by omega⟩) :=
  (blk1 m c t 4 d).trans (congrArg (fun x => argM m c (ix2 ⟨(bOf t).val, by omega⟩ x)) (Fin.ext (by show 4 * 1024 + d.val = 4096 + d.val; omega)))

theorem blk2 (k : Fin 3) (d : Fin 1024) : iblk m c 2 t (ix2 k d) = argG m c (ix2 k d) := by
  show V m c main_arg2 (((cfg0.win 2).blk t).view.emb (ix2 k d)) = _
  rw [emb2, V_main_arg2]
  rfl

theorem blk3 (k : Fin 1024) (d : Fin 9216) : iblk m c 3 t (ix2 k d) = argW m c (ix2 k d) := by
  show V m c main_v1 (((cfg0.win 3).blk t).view.emb (ix2 k d)) = _
  rw [emb3]
  entry_read
  pointwise []
  rfl

/-! ## The arrays the grid leaves -/

/-- The point that writes row `i` of batch `b`. -/
def ptOf (b : Fin 4) (i : Fin 4096) : Fin cfg0.N := ⟨16 * b.val + i.val / 256, by
  show _ < grid0.N
  rw [N_0]
  omega⟩

theorem bOf_ptOf (b : Fin 4) (i : Fin 4096) : bOf (ptOf b i) = b := Fin.ext (by show (16 * b.val + i.val / 256) / 16 = b.val; omega)

theorem rowOf_ptOf (b : Fin 4) (i : Fin 4096) : rowOf (ptOf b i) ⟨i.val % 256, Nat.mod_lt _ (by decide)⟩ = i :=
  Fin.ext (by show 256 * ((16 * b.val + i.val / 256) % 16) + i.val % 256 = i.val; omega)

/-- Result A, as an array. -/
def resA : FVec Ideal S4x4096x2048 .bf16 := fun i => proj (argX m c) (argM m c) (argG m c) (argW m c) (i 0) (i 1) (colA (i 2))

theorem blockA (y : S1x256x2048.Idx) :
    out0_4 (F := Ideal) (iblk m c 0 t) (iblk m c 1 t) (iblk m c 2 t) (iblk m c 3 t) y = resA m c (((cfg0.win 4).blk t).view.emb y) := by
  have key (r : Fin 256) (d : Fin 2048) :
      out0_4 (F := Ideal) (iblk m c 0 t) (iblk m c 1 t) (iblk m c 2 t) (iblk m c 3 t) (ix3 0 r d) = resA m c (((cfg0.win 4).blk t).view.emb (ix3 0 r d)) := by
    rw [outA_at, emb4]
    simp only [blk0, blk_shift, blk_scale, blk2, blk3]
    rfl
  have h0 : y 0 = (0 : Fin 1) := Subsingleton.elim (α := Fin 1) _ _
  rw [eq_ix3 y, h0]
  exact key (y 1) (y 2)

theorem coveredA (i : S4x4096x2048.Idx) : ∃ t : Fin cfg0.N, (cfg0.win 4).flush t = true ∧ i ∈ ((cfg0.win 4).blk t).view.set := by
  refine ⟨ptOf (i 0) (i 1), flush0_4 _, ?_⟩
  have key (b : Fin 4) (k : Fin 4096) (d : Fin 2048) :
      ((cfg0.win 4).blk (ptOf b k)).view.emb (ix3 0 (⟨k.val % 256, Nat.mod_lt _ (by decide)⟩ : Fin 256) d) = ix3 b k d := by
    rw [emb4, bOf_ptOf, rowOf_ptOf]
  have h := ((cfg0.win 4).blk (ptOf (i 0) (i 1))).view.emb_mem_set (ix3 (0 : Fin 1) (⟨(i 1).val % 256, Nat.mod_lt _ (by decide)⟩ : Fin 256) (i 2))
  rw [key (i 0) (i 1) (i 2), ← eq_ix3 i] at h
  exact h

/-- Result Z, as an array. -/
def resZ : FVec Ideal S4x4096x2048 .bf16 := fun i => proj (argX m c) (argM m c) (argG m c) (argW m c) (i 0) (i 1) (colZ (i 2))

theorem blockZ (y : S1x256x2048.Idx) :
    out0_5 (F := Ideal) (iblk m c 0 t) (iblk m c 1 t) (iblk m c 2 t) (iblk m c 3 t) y = resZ m c (((cfg0.win 5).blk t).view.emb y) := by
  have key (r : Fin 256) (d : Fin 2048) :
      out0_5 (F := Ideal) (iblk m c 0 t) (iblk m c 1 t) (iblk m c 2 t) (iblk m c 3 t) (ix3 0 r d) = resZ m c (((cfg0.win 5).blk t).view.emb (ix3 0 r d)) := by
    rw [outZ_at, emb5]
    simp only [blk0, blk_shift, blk_scale, blk2, blk3]
    rfl
  have h0 : y 0 = (0 : Fin 1) := Subsingleton.elim (α := Fin 1) _ _
  rw [eq_ix3 y, h0]
  exact key (y 1) (y 2)

theorem coveredZ (i : S4x4096x2048.Idx) : ∃ t : Fin cfg0.N, (cfg0.win 5).flush t = true ∧ i ∈ ((cfg0.win 5).blk t).view.set := by
  refine ⟨ptOf (i 0) (i 1), flush0_5 _, ?_⟩
  have key (b : Fin 4) (k : Fin 4096) (d : Fin 2048) :
      ((cfg0.win 5).blk (ptOf b k)).view.emb (ix3 0 (⟨k.val % 256, Nat.mod_lt _ (by decide)⟩ : Fin 256) d) = ix3 b k d := by
    rw [emb5, bOf_ptOf, rowOf_ptOf]
  have h := ((cfg0.win 5).blk (ptOf (i 0) (i 1))).view.emb_mem_set (ix3 (0 : Fin 1) (⟨(i 1).val % 256, Nat.mod_lt _ (by decide)⟩ : Fin 256) (i 2))
  rw [key (i 0) (i 1) (i 2), ← eq_ix3 i] at h
  exact h

/-- Result B, as an array. -/
def resB : FVec Ideal S4x4096x3072 .bf16 := fun i => proj (argX m c) (argM m c) (argG m c) (argW m c) (i 0) (i 1) (colB (i 2))

theorem blockB (y : S1x256x3072.Idx) :
    out0_6 (F := Ideal) (iblk m c 0 t) (iblk m c 1 t) (iblk m c 2 t) (iblk m c 3 t) y = resB m c (((cfg0.win 6).blk t).view.emb y) := by
  have key (r : Fin 256) (d : Fin 3072) :
      out0_6 (F := Ideal) (iblk m c 0 t) (iblk m c 1 t) (iblk m c 2 t) (iblk m c 3 t) (ix3 0 r d) = resB m c (((cfg0.win 6).blk t).view.emb (ix3 0 r d)) := by
    rw [outB_at, emb6]
    simp only [blk0, blk_shift, blk_scale, blk2, blk3]
    rfl
  have h0 : y 0 = (0 : Fin 1) := Subsingleton.elim (α := Fin 1) _ _
  rw [eq_ix3 y, h0]
  exact key (y 1) (y 2)

theorem coveredB (i : S4x4096x3072.Idx) : ∃ t : Fin cfg0.N, (cfg0.win 6).flush t = true ∧ i ∈ ((cfg0.win 6).blk t).view.set := by
  refine ⟨ptOf (i 0) (i 1), flush0_6 _, ?_⟩
  have key (b : Fin 4) (k : Fin 4096) (d : Fin 3072) :
      ((cfg0.win 6).blk (ptOf b k)).view.emb (ix3 0 (⟨k.val % 256, Nat.mod_lt _ (by decide)⟩ : Fin 256) d) = ix3 b k d := by
    rw [emb6, bOf_ptOf, rowOf_ptOf]
  have h := ((cfg0.win 6).blk (ptOf (i 0) (i 1))).view.emb_mem_set (ix3 (0 : Fin 1) (⟨(i 1).val % 256, Nat.mod_lt _ (by decide)⟩ : Fin 256) (i 2))
  rw [key (i 0) (i 1) (i 2), ← eq_ix3 i] at h
  exact h

/-- Result G, as an array. -/
def resG : FVec Ideal S4x4096x2048 .bf16 := fun i => proj (argX m c) (argM m c) (argG m c) (argW m c) (i 0) (i 1) (colG (i 2))

theorem blockG (y : S1x256x2048.Idx) :
    out0_7 (F := Ideal) (iblk m c 0 t) (iblk m c 1 t) (iblk m c 2 t) (iblk m c 3 t) y = resG m c (((cfg0.win 7).blk t).view.emb y) := by
  have key (r : Fin 256) (d : Fin 2048) :
      out0_7 (F := Ideal) (iblk m c 0 t) (iblk m c 1 t) (iblk m c 2 t) (iblk m c 3 t) (ix3 0 r d) = resG m c (((cfg0.win 7).blk t).view.emb (ix3 0 r d)) := by
    rw [outG_at, emb7]
    simp only [blk0, blk_shift, blk_scale, blk2, blk3]
    rfl
  have h0 : y 0 = (0 : Fin 1) := Subsingleton.elim (α := Fin 1) _ _
  rw [eq_ix3 y, h0]
  exact key (y 1) (y 2)

theorem coveredG (i : S4x4096x2048.Idx) : ∃ t : Fin cfg0.N, (cfg0.win 7).flush t = true ∧ i ∈ ((cfg0.win 7).blk t).view.set := by
  refine ⟨ptOf (i 0) (i 1), flush0_7 _, ?_⟩
  have key (b : Fin 4) (k : Fin 4096) (d : Fin 2048) :
      ((cfg0.win 7).blk (ptOf b k)).view.emb (ix3 0 (⟨k.val % 256, Nat.mod_lt _ (by decide)⟩ : Fin 256) d) = ix3 b k d := by
    rw [emb7, bOf_ptOf, rowOf_ptOf]
  have h := ((cfg0.win 7).blk (ptOf (i 0) (i 1))).view.emb_mem_set (ix3 (0 : Fin 1) (⟨(i 1).val % 256, Nat.mod_lt _ (by decide)⟩ : Fin 256) (i 2))
  rw [key (i 0) (i 1) (i 2), ← eq_ix3 i] at h
  exact h

end blocks

end Cert.Kernel4Ideal.Proj

end
-- ==== Proof.ProjFinal.lean ====
/-
  The arrays the kernel's grid leaves are the projections.
-/
module

public import proofs.«01_k».proof.Proof.ProjKernel

@[expose] public section

set_option maxRecDepth 16384

noncomputable section

namespace Cert.Kernel4Ideal.Proj

open Cert.Ffn
open Cert.Kernel4Ideal Cert.Kernel4Ideal.Gen Idealize.ShloMosaic Idealize.ShloMosaic.TcCoe
open Idealize.ShloMosaic.Pointwise

variable (m : (ℓ : Loc nD τ sig) → Buf (Elt Ideal) ℓ) (c : Dev nD)

theorem cutA_at (t : Fin cfg0.N) (X : FVec Ideal S1x256x2048 .bf16) (y : S1x256x2048.Idx) : (cfg0.win 4).cut (grid0.coords t) X y = X y := rfl

theorem flushedA_at (t : Fin cfg0.N) (y : S1x256x2048.Idx) :
    (dats m 0 c).flushed 4 t y = resA m c (((cfg0.win 4).blk t).view.emb y) := by
  rw [Value.flushed4]
  exact (cutA_at t _ y).trans (blockA m c t y)

theorem finalA : (dats m 0 c).arrAt 4 cfg0.N = resA m c := by
  funext i
  exact (dats m 0 c).arrAt_forall_of_cover 4 (fun i v => v = resA m c i) (fun t _ y => flushedA_at m c t y) coveredA i

theorem cutZ_at (t : Fin cfg0.N) (X : FVec Ideal S1x256x2048 .bf16) (y : S1x256x2048.Idx) : (cfg0.win 5).cut (grid0.coords t) X y = X y := rfl

theorem flushedZ_at (t : Fin cfg0.N) (y : S1x256x2048.Idx) :
    (dats m 0 c).flushed 5 t y = resZ m c (((cfg0.win 5).blk t).view.emb y) := by
  rw [Value.flushed5]
  exact (cutZ_at t _ y).trans (blockZ m c t y)

theorem finalZ : (dats m 0 c).arrAt 5 cfg0.N = resZ m c := by
  funext i
  exact (dats m 0 c).arrAt_forall_of_cover 5 (fun i v => v = resZ m c i) (fun t _ y => flushedZ_at m c t y) coveredZ i

theorem cutB_at (t : Fin cfg0.N) (X : FVec Ideal S1x256x3072 .bf16) (y : S1x256x3072.Idx) : (cfg0.win 6).cut (grid0.coords t) X y = X y := rfl

theorem flushedB_at (t : Fin cfg0.N) (y : S1x256x3072.Idx) :
    (dats m 0 c).flushed 6 t y = resB m c (((cfg0.win 6).blk t).view.emb y) := by
  rw [Value.flushed6]
  exact (cutB_at t _ y).trans (blockB m c t y)

theorem finalB : (dats m 0 c).arrAt 6 cfg0.N = resB m c := by
  funext i
  exact (dats m 0 c).arrAt_forall_of_cover 6 (fun i v => v = resB m c i) (fun t _ y => flushedB_at m c t y) coveredB i

theorem cutG_at (t : Fin cfg0.N) (X : FVec Ideal S1x256x2048 .bf16) (y : S1x256x2048.Idx) : (cfg0.win 7).cut (grid0.coords t) X y = X y := rfl

theorem flushedG_at (t : Fin cfg0.N) (y : S1x256x2048.Idx) :
    (dats m 0 c).flushed 7 t y = resG m c (((cfg0.win 7).blk t).view.emb y) := by
  rw [Value.flushed7]
  exact (cutG_at t _ y).trans (blockG m c t y)

theorem finalG : (dats m 0 c).arrAt 7 cfg0.N = resG m c := by
  funext i
  exact (dats m 0 c).arrAt_forall_of_cover 7 (fun i v => v = resG m c i) (fun t _ y => flushedG_at m c t y) coveredG i

end Cert.Kernel4Ideal.Proj

end
-- ==== Proof.MergeMath.lean ====
/-
  The merge of the two branches for one row, over the extended reals: the norm of each head's entries, the mLSTM branch's end, the two
  output projections under their gates, the common one, and the stream.
-/
module

public import Idealize.ShloMosaic.Lib.Pointwise

@[expose] public section

noncomputable section

open scoped BigOperators
open Idealize.ShloMosaic

namespace Cert.Merge

/-- Entry `k` of the head that column `j` lies in. -/
def col (j : Fin 2048) (k : Fin 512) : Fin 2048 := ⟨j.val / 512 * 512 + k.val, by omega⟩

/-- What a row's head is divided by: the root of its mean square, its reciprocal. -/
def scale (h : Fin 512 → EReal) : EReal :=
  Ideal.rsqrt (Ideal.div (∑ k, h k * h k) (Ideal.ofBits .f32 0x44000000#32) + Ideal.ofBits .f32 0x358637BD#32)

/-- A row's entry after its head's norm, the gain and the skip connection. -/
def entry (h g s x : Fin 2048 → EReal) (j : Fin 2048) : EReal := h j * scale (fun k => h (col j k)) * g j + s j * x j

/-- The same within a head. -/
def piece (h g s x : Fin 512 → EReal) (e : Fin 512) : EReal := h e * scale h * g e + s e * x e

/-- A head's entries are the row's: `o` is the head's first column. -/
theorem piece_eq (h g s x : Fin 2048 → EReal) (o : Fin 512 → Fin 2048) (n : ℕ) (ho : ∀ e, (o e).val = n * 512 + e.val) (e : Fin 512) :
    piece (fun k => h (o k)) (fun k => g (o k)) (fun k => s (o k)) (fun k => x (o k)) e = entry h g s x (o e) := by
  have c : (fun k => h (col (o e) k)) = fun k => h (o k) := funext fun k => congrArg h (Fin.ext (by
    show (o e).val / 512 * 512 + k.val = (o k).val
    rw [ho, ho]
    omega))
  unfold piece entry
  rw [c]

/-- The two branches' output projections under their gates. -/
def mix (ya : Fin 2048 → EReal) (wa : Fin 2048 → Fin 1024 → EReal) (yb : Fin 1024 → EReal) (wb : Fin 1024 → Fin 1024 → EReal)
    (ga gb : Fin 1024 → EReal) (d : Fin 1024) : EReal :=
  Ideal.logistic (ga d) * ∑ j, ya j * wa j d + Ideal.logistic (gb d) * ∑ j, yb j * wb j d

/-- The stream with the mixed branches' common projection added. -/
def out (x gate : Fin 1024 → EReal) (mx : Fin 1024 → EReal) (wo : Fin 1024 → Fin 1024 → EReal) (d : Fin 1024) : EReal :=
  x d + gate d * ∑ e, mx e * wo e d

/-- Entry `d` of row `i` of batch `b` after the merge: `hf` and `hb` are the scans' rows, `xc` the mLSTM branch's skip connection, `z` its
    gate, `yb` the other branch, `gab` the two branches' gates, `x` the stream; the stream's gate is the columns of `m` from 5120 on. -/
def merge (hf hb xc z : (⟨3, ![4, 4096, 2048]⟩ : Shape).Idx → EReal) (yb : (⟨3, ![4, 4096, 1024]⟩ : Shape).Idx → EReal)
    (gab : (⟨3, ![4, 4096, 2048]⟩ : Shape).Idx → EReal) (x : (⟨3, ![4, 4096, 1024]⟩ : Shape).Idx → EReal) (m : (⟨2, ![8, 9216]⟩ : Shape).Idx → EReal)
    (g s : (⟨1, ![2048]⟩ : Shape).Idx → EReal) (wa : (⟨2, ![2048, 1024]⟩ : Shape).Idx → EReal) (wb wo : (⟨2, ![1024, 1024]⟩ : Shape).Idx → EReal)
    (b : Fin 4) (i : Fin 4096) (d : Fin 1024) : EReal :=
  out (fun e => x (ix3 b i e)) (fun e => m (ix2 ⟨b.val, by omega⟩ ⟨5120 + e.val, by omega⟩))
    (mix (fun j => Ideal.logistic (z (ix3 b i j))
        * entry (fun j => hf (ix3 b i j) + hb (ix3 b i j)) (fun j => g (ix1 j)) (fun j => s (ix1 j)) (fun j => xc (ix3 b i j)) j)
      (fun j e => wa (ix2 j e)) (fun e => yb (ix3 b i e)) (fun e k => wb (ix2 e k))
      (fun e => gab (ix3 b i ⟨e.val, by omega⟩)) (fun e => gab (ix3 b i ⟨1024 + e.val, by omega⟩)))
    (fun e k => wo (ix2 e k)) d

end Cert.Merge

end
-- ==== Proof.MergeRef.lean ====
/-
  The merge as the reference computes it, read at an index.
-/
module

public import proofs.«01_k».proof.Proof.MergeMath
public import proofs.«01_k».proof.Proof.Gen.Reference5Ideal.Run

@[expose] public section

noncomputable section

open scoped BigOperators
open Idealize.SL.Sem

namespace Cert.Reference5Ideal.Merge

open Cert.Merge
open Cert.Reference5Ideal Cert.Reference5Ideal.Gen Cert.Reference5Ideal.Value Idealize.ShloMosaic Idealize.ShloMosaic.TcCoe

/-- The two scans' rows added. -/
def sum (a0 a1 : FVec Ideal S4x4096x2048 .bf16) : FVec Ideal S4x4096x2048 .f32 := addf (extf .f32 a0 bitsLt_bf16_f32) (extf .f32 a1 bitsLt_bf16_f32)

/-- The rows by heads. -/
def split (h : FVec Ideal S4x4096x2048 .f32) : FVec Ideal S4x4096x4x512 .f32 := shapeCast _ h shapeCasts_S4x4096x2048_S4x4096x4x512

/-- The heads divided by the roots of their mean squares. -/
def norm (h : FVec Ideal S4x4096x4x512 .f32) : FVec Ideal S4x4096x4x512 .f32 :=
  mulf h (broadcastInDim S4x4096x4x512 ![0, 1, 2, 3] bcast_S4x4096x4x1_S4x4096x4x512_0_1_2_3 (Host.rsqrt (addf (Host.divf (broadcastInDim S4x4096x4x1 ![0, 1, 2] bcast_S4x4096x4_S4x4096x4x1_0_1_2 (Host.reduceAdd (mulf h h) (constant S_ .f32 0x00000000#32) reducesTo_S4x4096x4x512_S4x4096x4_d3 h_S_)) (broadcastInDim S4x4096x4x1 ![] bcast_S_S4x4096x4x1 (constant S_ .f32 0x44000000#32))) (broadcastInDim S4x4096x4x1 ![] bcast_S_S4x4096x4x1 (constant S_ .f32 0x358637BD#32)))))

/-- The heads in one row again. -/
def join (h : FVec Ideal S4x4096x4x512 .f32) : FVec Ideal S4x4096x2048 .f32 := shapeCast _ h shapeCasts_S4x4096x4x512_S4x4096x2048

/-- The mLSTM branch's rows from the normalised heads. -/
def rows (n : FVec Ideal S4x4096x2048 .f32) (a2 a3 : FVec Ideal S4x4096x2048 .bf16) (a8 a9 : FVec Ideal S2048 .f32) : FVec Ideal S4x4096x2048 .f32 :=
  mulf (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf (extf .f32 a3 bitsLt_bf16_f32))))) (addf (mulf n (broadcastInDim S4x4096x2048 ![0, 1, 2] bcast_S1x1x2048_S4x4096x2048_0_1_2 (broadcastInDim S1x1x2048 ![2] bcast_S2048_S1x1x2048_2 a8))) (mulf (broadcastInDim S4x4096x2048 ![0, 1, 2] bcast_S1x1x2048_S4x4096x2048_0_1_2 (broadcastInDim S1x1x2048 ![2] bcast_S2048_S1x1x2048_2 a9)) (extf .f32 a2 bitsLt_bf16_f32)))

/-- The two branches mixed. -/
def mixed (ya : FVec Ideal S4x4096x2048 .f32) (a4 : FVec Ideal S4x4096x1024 .bf16) (a5 : FVec Ideal S4x4096x2048 .bf16) (a10 : FVec Ideal S2048x1024 .f32)
    (a11 : FVec Ideal S1024x1024 .f32) : FVec Ideal S4x4096x1024 .f32 :=
  addf (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 0] (extf .f32 a5 bitsLt_bf16_f32) slices_S4x4096x2048_S4x4096x1024_0_0_0))))) (Host.dotGeneral (F := Ideal) dot_S4x4096x2048_S2048x1024_S4x4096x1024_2_0_01_1_n_n none ya a10)) (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 1024] (extf .f32 a5 bitsLt_bf16_f32) slices_S4x4096x2048_S4x4096x1024_0_0_1024))))) (Host.dotGeneral (F := Ideal) dot_S4x4096x1024_S1024x1024_S4x4096x1024_2_0_01_1_n_n none (extf .f32 a4 bitsLt_bf16_f32 : FVec Ideal S4x4096x1024 .f32) a11))

/-- The stream with the mixed branches' projection added. -/
def last (x : FVec Ideal S4x4096x1024 .f32) (a7 : FVec Ideal S8x9216 .f32) (y : FVec Ideal S4x4096x1024 .f32) (a12 : FVec Ideal S1024x1024 .f32) : FVec Ideal S4x4096x1024 .f32 :=
  addf x (mulf (broadcastInDim S4x4096x1024 ![0, 1, 2] bcast_S4x1x1024_S4x4096x1024_0_1_2 (broadcastInDim S4x1x1024 ![0, 2] bcast_S4x1024_S4x1x1024_0_2 (extractStridedSlice S4x1024 ![0, 5120] (extractStridedSlice S4x9216 ![0, 0] a7 slices_S8x9216_S4x9216_0_0) slices_S4x9216_S4x1024_0_5120))) (Host.dotGeneral (F := Ideal) dot_S4x4096x1024_S1024x1024_S4x4096x1024_2_0_01_1_n_n none y a12))

theorem sum_at (a0 a1 : FVec Ideal S4x4096x2048 .bf16) (b : Fin 4) (i : Fin 4096) (j : Fin 2048) : sum a0 a1 (ix3 b i j) = a0 (ix3 b i j) + a1 (ix3 b i j) := by
  pointwise [sum]

theorem split_at (h : FVec Ideal S4x4096x2048 .f32) (b : Fin 4) (i : Fin 4096) (n : Fin 4) (e : Fin 512) :
    split h (ix4 b i n e) = h (ix3 b i ⟨n.val * 512 + e.val, by omega⟩) := by
  pointwise [split]

theorem norm_at (h : FVec Ideal S4x4096x4x512 .f32) (b : Fin 4) (i : Fin 4096) (n : Fin 4) (e : Fin 512) :
    norm h (ix4 b i n e) = h (ix4 b i n e) * scale (fun k => h (ix4 b i n k)) := by
  pointwise [norm]
  rfl

theorem join_at (h : FVec Ideal S4x4096x4x512 .f32) (b : Fin 4) (i : Fin 4096) (j : Fin 2048) :
    join h (ix3 b i j) = h (ix4 b i ⟨j.val / 512, by omega⟩ ⟨j.val % 512, Nat.mod_lt _ (by decide)⟩) := by
  pointwise [join]

/-- The normalised heads in one row. -/
theorem heads_at (h : FVec Ideal S4x4096x2048 .f32) (b : Fin 4) (i : Fin 4096) (j : Fin 2048) :
    join (norm (split h)) (ix3 b i j) = h (ix3 b i j) * scale (fun k => h (ix3 b i (col j k))) := by
  have e : (⟨j.val / 512 * 512 + j.val % 512, by omega⟩ : Fin 2048) = j := Fin.ext (by show j.val / 512 * 512 + j.val % 512 = j.val; omega)
  rw [join_at, norm_at]
  simp only [split_at]
  rw [e]
  rfl

theorem rows_at (n : FVec Ideal S4x4096x2048 .f32) (a2 a3 : FVec Ideal S4x4096x2048 .bf16) (a8 a9 : FVec Ideal S2048 .f32) (b : Fin 4) (i : Fin 4096) (j : Fin 2048) :
    rows n a2 a3 a8 a9 (ix3 b i j) = Ideal.logistic (a3 (ix3 b i j)) * (n (ix3 b i j) * a8 (ix1 j) + a9 (ix1 j) * a2 (ix3 b i j)) := by
  pointwise [rows]
  rfl

theorem mixed_at (ya : FVec Ideal S4x4096x2048 .f32) (a4 : FVec Ideal S4x4096x1024 .bf16) (a5 : FVec Ideal S4x4096x2048 .bf16) (a10 : FVec Ideal S2048x1024 .f32)
    (a11 : FVec Ideal S1024x1024 .f32) (b : Fin 4) (i : Fin 4096) (d : Fin 1024) :
    mixed ya a4 a5 a10 a11 (ix3 b i d) = mix (fun j => ya (ix3 b i j)) (fun j e => a10 (ix2 j e)) (fun e => a4 (ix3 b i e)) (fun e k => a11 (ix2 e k))
      (fun e => a5 (ix3 b i ⟨e.val, by omega⟩)) (fun e => a5 (ix3 b i ⟨1024 + e.val, by omega⟩)) d := by
  pointwise [mixed]
  rfl

theorem last_at (x : FVec Ideal S4x4096x1024 .f32) (a7 : FVec Ideal S8x9216 .f32) (y : FVec Ideal S4x4096x1024 .f32) (a12 : FVec Ideal S1024x1024 .f32)
    (b : Fin 4) (i : Fin 4096) (d : Fin 1024) :
    last x a7 y a12 (ix3 b i d) = out (fun e => x (ix3 b i e)) (fun e => a7 (ix2 ⟨b.val, by omega⟩ ⟨5120 + e.val, by omega⟩)) (fun e => y (ix3 b i e))
      (fun e k => a12 (ix2 e k)) d := by
  pointwise [last]
  rfl

section result

variable (m : (ℓ : Loc nD τ sig) → Buf (Elt Ideal) ℓ) (c : Dev nD)

/-- The forward scan's rows. -/
def argF : FVec Ideal S4x4096x2048 .bf16 := m ((c.tc : Thread nD τ).loc main_arg0)
/-- The backward scan's rows. -/
def argR : FVec Ideal S4x4096x2048 .bf16 := m ((c.tc : Thread nD τ).loc main_arg1)
/-- The mLSTM branch's skip connection. -/
def argC : FVec Ideal S4x4096x2048 .bf16 := m ((c.tc : Thread nD τ).loc main_arg2)
/-- The mLSTM branch's gate. -/
def argZ : FVec Ideal S4x4096x2048 .bf16 := m ((c.tc : Thread nD τ).loc main_arg3)
/-- The other branch's rows. -/
def argY : FVec Ideal S4x4096x1024 .bf16 := m ((c.tc : Thread nD τ).loc main_arg4)
/-- The two branches' gates. -/
def argA : FVec Ideal S4x4096x2048 .bf16 := m ((c.tc : Thread nD τ).loc main_arg5)
/-- The stream. -/
def argX : FVec Ideal S4x4096x1024 .f32 := m ((c.tc : Thread nD τ).loc main_arg6)
/-- The modulations. -/
def argM : FVec Ideal S8x9216 .f32 := m ((c.tc : Thread nD τ).loc main_arg7)
/-- The gain of the heads' norm. -/
def argG : FVec Ideal S2048 .f32 := m ((c.tc : Thread nD τ).loc main_arg8)
/-- The skip connection's weight. -/
def argS : FVec Ideal S2048 .f32 := m ((c.tc : Thread nD τ).loc main_arg9)
/-- The mLSTM branch's output weight. -/
def argP : FVec Ideal S2048x1024 .f32 := m ((c.tc : Thread nD τ).loc main_arg10)
/-- The other branch's output weight. -/
def argQ : FVec Ideal S1024x1024 .f32 := m ((c.tc : Thread nD τ).loc main_arg11)
/-- The common output weight. -/
def argO : FVec Ideal S1024x1024 .f32 := m ((c.tc : Thread nD τ).loc main_arg12)

/-- The reference's result. -/
def res : FVec Ideal S4x4096x1024 .f32 :=
  last (argX m c) (argM m c) (mixed (rows (join (norm (split (sum (argF m c) (argR m c))))) (argC m c) (argZ m c) (argG m c) (argS m c))
    (argY m c) (argA m c) (argP m c) (argQ m c)) (argO m c)

/-- The reference's result at an index. -/
theorem res_at (b : Fin 4) (i : Fin 4096) (d : Fin 1024) :
    res m c (ix3 b i d) = merge (argF m c) (argR m c) (argC m c) (argZ m c) (argY m c) (argA m c) (argX m c) (argM m c) (argG m c) (argS m c)
      (argP m c) (argQ m c) (argO m c) b i d := by
  unfold res
  rw [last_at]
  simp only [mixed_at, rows_at, heads_at, sum_at]
  rfl

/-- The reference ends with this result and its arguments unchanged. -/
theorem run_at (ρ : Dev nD → PrngReg) :
    θ_run defs (onTc (τ := τ) (main (F := Ideal))) ⟨m, fun _ => 0, ρ⟩ fun r => ∀ c : Dev nD,
      r.2.mem ((c.tc : Thread nD τ).loc main_v66) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  run (F := Ideal) m ρ

end result

end Cert.Reference5Ideal.Merge

end
-- ==== Proof.MergeKernel.lean ====
/-
  The merge as the kernel computes it: a grid point's block as a function of the blocks it loads, these blocks in
  terms of the arguments, and the array the grid leaves.
-/
module

public import proofs.«01_k».proof.Proof.MergeMath
public import proofs.«01_k».proof.Proof.Gen.Kernel5Ideal.Value
public import Idealize.ShloMosaic.Lib.Pipeline.ValueKit
public import Idealize.ShloMosaic.Lib.Pipeline.ReadBack
public import Idealize.ShloMosaic.Lib.Claim

@[expose] public section

set_option maxRecDepth 16384

noncomputable section

open scoped BigOperators

namespace Cert.Kernel5Ideal.Merge

open Cert.Merge
open Cert.Kernel5Ideal Cert.Kernel5Ideal.Gen Idealize.ShloMosaic Idealize.ShloMosaic.TcCoe
open Idealize.ShloMosaic.Pointwise

/-! ## What a point computes -/

theorem pay1_at (v122 : FVec Ideal S512x1024 .f32) (v123 : FVec Ideal S1x512x1024 .f32) (v125 : FVec Ideal S1x1x1024 .f32) (r : Fin 512) (d : Fin 1024) :
    k0_pay1 (F := Ideal) v122 v123 v125 (ix3 0 r d) = v123 (ix3 0 r d) + v125 (ix3 0 0 d) * v122 (ix2 r d) := by
  pointwise [k0_pay1]

theorem pay2_at (v0 v3 : FVec Ideal S1x512x2048 .bf16) (r : Fin 512) (j : Fin 2048) :
    k0_pay2 (F := Ideal) v0 v3 (ix2 r j) = v0 (ix3 0 r j) + v3 (ix3 0 r j) := by
  pointwise [k0_pay2]

theorem pay3_at (v7 : FVec Ideal S1x512x2048 .bf16) (r : Fin 512) (j : Fin 2048) : k0_pay3 (F := Ideal) v7 (ix2 r j) = v7 (ix3 0 r j) := by
  pointwise [k0_pay3]

/-- Column `e` of the first head. -/
def c0 (e : Fin 512) : Fin 2048 := ⟨e.val, by omega⟩
/-- Column `e` of the second head. -/
def c1 (e : Fin 512) : Fin 2048 := ⟨512 + e.val, by omega⟩
/-- Column `e` of the third head. -/
def c2 (e : Fin 512) : Fin 2048 := ⟨1024 + e.val, by omega⟩
/-- Column `e` of the fourth head. -/
def c3 (e : Fin 512) : Fin 2048 := ⟨1536 + e.val, by omega⟩

theorem pay4_at (v0 v3 v7 : FVec Ideal S1x512x2048 .bf16) (v21 v25 : FVec Ideal S1x512 .f32) (r e : Fin 512) :
    k0_pay4 (F := Ideal) v0 v3 v7 v21 v25 (ix2 r e)
      = piece (fun k => k0_pay2 (F := Ideal) v0 v3 (ix2 r (c0 k))) (fun k => v21 (ix2 0 k)) (fun k => v25 (ix2 0 k)) (fun k => k0_pay3 (F := Ideal) v7 (ix2 r (c0 k))) e := by
  pointwise [k0_pay4]
  rfl

theorem pay5_at (v0 v3 : FVec Ideal S1x512x2048 .bf16) (r e : Fin 512) : k0_pay5 (F := Ideal) v0 v3 (ix2 r e) = k0_pay2 (F := Ideal) v0 v3 (ix2 r (c1 e)) := by
  pointwise [k0_pay5]
  rfl

theorem pay7_at (v0 v3 : FVec Ideal S1x512x2048 .bf16) (v9 : FVec Ideal S512x2048 .f32) (v42 v46 : FVec Ideal S1x512 .f32) (r e : Fin 512) :
    k0_pay7 (F := Ideal) v9 (k0_pay5 v0 v3) (k0_pay6 v0 v3) v42 v46 (ix2 r e)
      = piece (fun k => k0_pay2 (F := Ideal) v0 v3 (ix2 r (c1 k))) (fun k => v42 (ix2 0 k)) (fun k => v46 (ix2 0 k)) (fun k => v9 (ix2 r (c1 k))) e := by
  pointwise [k0_pay7, k0_pay6, pay5_at]
  rfl

theorem pay8_at (v6 v9 : FVec Ideal S512x2048 .f32) (v63 v67 : FVec Ideal S1x512 .f32) (r e : Fin 512) :
    k0_pay8 (F := Ideal) v6 v9 v63 v67 (ix2 r e)
      = piece (fun k => v6 (ix2 r (c2 k))) (fun k => v63 (ix2 0 k)) (fun k => v67 (ix2 0 k)) (fun k => v9 (ix2 r (c2 k))) e := by
  pointwise [k0_pay8]
  rfl

/-- The fourth head's entries. -/
def fourth (v9 : FVec Ideal S512x2048 .f32) (v83 : FVec Ideal S512x512 .f32) (v84 v88 : FVec Ideal S1x512 .f32) : FVec Ideal S512x512 .f32 :=
  addf (mulf v83 (broadcastTo S512x512 (shapeCast S1x512 v84 shapeCasts_S1x512_S1x512) broadcasts_S1x512_S512x512))
    (mulf (broadcastTo S512x512 (shapeCast S1x512 v88 shapeCasts_S1x512_S1x512) broadcasts_S1x512_S512x512)
      (extractStridedSlice S512x512 ![0, 1536] v9 slices_S512x2048_o0_1536_S512x512))

theorem fourth_at (v6 v9 : FVec Ideal S512x2048 .f32) (v84 v88 : FVec Ideal S1x512 .f32) (r e : Fin 512) :
    fourth v9 (k0_pay9 (F := Ideal) v6) v84 v88 (ix2 r e)
      = piece (fun k => v6 (ix2 r (c3 k))) (fun k => v84 (ix2 0 k)) (fun k => v88 (ix2 0 k)) (fun k => v9 (ix2 r (c3 k))) e := by
  pointwise [fourth, k0_pay9]
  rfl

/-- The four heads side by side. -/
def heads (a b c d : FVec Ideal S512x512 .f32) : FVec Ideal S512x2048 .f32 :=
  concatenate S512x2048 1 [⟨S512x512, a⟩, ⟨S512x512, b⟩, ⟨S512x512, c⟩, ⟨S512x512, d⟩] concatenates_S512x512_S512x512_S512x512_S512x512_S512x2048_d1

theorem heads_at (a b c d : FVec Ideal S512x512 .f32) (r : Fin 512) (f : Fin 2048 → EReal) (ha : ∀ e, a (ix2 r e) = f (c0 e)) (hb : ∀ e, b (ix2 r e) = f (c1 e))
    (hc : ∀ e, c (ix2 r e) = f (c2 e)) (hd : ∀ e, d (ix2 r e) = f (c3 e)) (j : Fin 2048) : heads a b c d (ix2 r j) = f j := by
  pointwise [heads]
  simp only [ha, hb, hc, hd]
  split_ifs <;> exact congrArg f (Fin.ext (by simp only [c0, c1, c2, c3] <;> omega))

/-- What follows the heads: the gate, the branches' projections, their mixture and the common projection. -/
def tail (y : FVec Ideal S512x2048 .f32) (v94 v100 : FVec Ideal S1x512x2048 .bf16) (v106 : FVec Ideal S2048x1024 .bf16) (v112 : FVec Ideal S1x512x1024 .bf16)
    (v114 v120 : FVec Ideal S1024x1024 .bf16) : FVec Ideal S512x1024 .f32 :=
  matmul dot_S512x1024_S1024x1024_S512x1024_1_0_0_1_n_n none
    (truncf .bf16 (addf
      (mulf (logistic (extractStridedSlice S512x1024 ![0, 0] (extf .f32 (shapeCast S512x2048 v100 shapeCasts_S1x512x2048_S512x2048) bitsLt_bf16_f32 : FVec Ideal S512x2048 .f32) slices_S512x2048_o0_0_S512x1024))
        (matmul dot_S512x2048_S2048x1024_S512x1024_1_0_0_1_n_n none
          (truncf .bf16 (mulf (logistic (extf .f32 (shapeCast S512x2048 v94 shapeCasts_S1x512x2048_S512x2048) bitsLt_bf16_f32 : FVec Ideal S512x2048 .f32)) y) bitsLt_bf16_f32)
          (shapeCast S2048x1024 v106 shapeCasts_S2048x1024_S2048x1024) (constant S512x1024 .f32 0x00000000#32)))
      (mulf (logistic (extractStridedSlice S512x1024 ![0, 1024] (extf .f32 (shapeCast S512x2048 v100 shapeCasts_S1x512x2048_S512x2048) bitsLt_bf16_f32 : FVec Ideal S512x2048 .f32) slices_S512x2048_o0_1024_S512x1024))
        (matmul dot_S512x1024_S1024x1024_S512x1024_1_0_0_1_n_n none (shapeCast S512x1024 v112 shapeCasts_S1x512x1024_S512x1024)
          (shapeCast S1024x1024 v114 shapeCasts_S1024x1024_S1024x1024) (constant S512x1024 .f32 0x00000000#32)))) bitsLt_bf16_f32)
    (shapeCast S1024x1024 v120 shapeCasts_S1024x1024_S1024x1024) (constant S512x1024 .f32 0x00000000#32)

theorem tail_at (y : FVec Ideal S512x2048 .f32) (v94 v100 : FVec Ideal S1x512x2048 .bf16) (v106 : FVec Ideal S2048x1024 .bf16) (v112 : FVec Ideal S1x512x1024 .bf16)
    (v114 v120 : FVec Ideal S1024x1024 .bf16) (r : Fin 512) (d : Fin 1024) :
    tail y v94 v100 v106 v112 v114 v120 (ix2 r d)
      = ∑ e, mix (fun j => Ideal.logistic (v94 (ix3 0 r j)) * y (ix2 r j)) (fun j e => v106 (ix2 j e)) (fun e => v112 (ix3 0 r e)) (fun e k => v114 (ix2 e k))
          (fun e => v100 (ix3 0 r ⟨e.val, by omega⟩)) (fun e => v100 (ix3 0 r ⟨1024 + e.val, by omega⟩)) e * v120 (ix2 e d) := by
  pointwise [tail]
  rfl

theorem pay10_eq (v9 : FVec Ideal S512x2048 .f32) (v30 v51 v72 v83 : FVec Ideal S512x512 .f32) (v84 v88 : FVec Ideal S1x512 .f32) (v94 v100 : FVec Ideal S1x512x2048 .bf16)
    (v106 : FVec Ideal S2048x1024 .bf16) (v112 : FVec Ideal S1x512x1024 .bf16) (v114 v120 : FVec Ideal S1024x1024 .bf16) :
    k0_pay10 (F := Ideal) v9 v30 v51 v72 v83 v84 v88 v94 v100 v106 v112 v114 v120
      = tail (heads v30 v51 v72 (fourth v9 v83 v84 v88)) v94 v100 v106 v112 v114 v120 := rfl

/-! ## The loads of parts of a block -/

theorem ld0 (x : Vec Ideal S1x512x2048 .bf16) (r : Fin 512) (e : Fin 2048) : View.ld (Val := Elt Ideal) (e' := .bf16) x r0_0 (ix3 0 r e) = x (ix3 0 r e) := by
  refine congrArg x (funext fun a => Fin.ext ?_)
  fin_cases a
  · rfl
  · show 0 + 1 * r.val = r.val
    omega
  · show 0 + 1 * e.val = e.val
    omega

theorem ld1 (x : Vec Ideal S1x2048 .f32) (e : Fin 512) : View.ld (Val := Elt Ideal) (e' := .f32) x r0_1 (ix2 0 e) = x (ix2 0 (c0 e)) := by
  refine congrArg x (funext fun a => Fin.ext ?_)
  fin_cases a
  · rfl
  · show 0 + 1 * e.val = e.val
    omega

theorem ld2 (x : Vec Ideal S1x2048 .f32) (e : Fin 512) : View.ld (Val := Elt Ideal) (e' := .f32) x r0_2 (ix2 0 e) = x (ix2 0 (c1 e)) := by
  refine congrArg x (funext fun a => Fin.ext ?_)
  fin_cases a
  · rfl
  · show 512 + 1 * e.val = 512 + e.val
    omega

theorem ld3 (x : Vec Ideal S1x2048 .f32) (e : Fin 512) : View.ld (Val := Elt Ideal) (e' := .f32) x r0_3 (ix2 0 e) = x (ix2 0 (c2 e)) := by
  refine congrArg x (funext fun a => Fin.ext ?_)
  fin_cases a
  · rfl
  · show 1024 + 1 * e.val = 1024 + e.val
    omega

theorem ld4 (x : Vec Ideal S1x2048 .f32) (e : Fin 512) : View.ld (Val := Elt Ideal) (e' := .f32) x r0_4 (ix2 0 e) = x (ix2 0 (c3 e)) := by
  refine congrArg x (funext fun a => Fin.ext ?_)
  fin_cases a
  · rfl
  · show 1536 + 1 * e.val = 1536 + e.val
    omega

theorem ld8 (x : Vec Ideal S1x9x1024 .f32) (j : Fin 1024) : View.ld (Val := Elt Ideal) (e' := .f32) x r0_8 (ix3 0 0 j) = x (ix3 0 5 j) := by
  refine congrArg x (funext fun a => Fin.ext ?_)
  fin_cases a
  · rfl
  · rfl
  · show 0 + 1 * j.val = j.val
    omega

/-- A point's block at an index, of the values it loads: the hypotheses say which values these are. -/
theorem pay_at (X0 X1 X2 X3 X5 : FVec Ideal S1x512x2048 .bf16) (V6 V9 : FVec Ideal S512x2048 .f32) (X4 : FVec Ideal S1x512x1024 .bf16) (X6 : FVec Ideal S1x512x1024 .f32)
    (M : FVec Ideal S1x1x1024 .f32) (G0 G1 G2 G3 T0 T1 T2 T3 : FVec Ideal S1x512 .f32) (W : FVec Ideal S2048x1024 .bf16) (U O : FVec Ideal S1024x1024 .bf16)
    (r : Fin 512) (d : Fin 1024) (h x g s : Fin 2048 → EReal) (gate : Fin 1024 → EReal)
    (hh : ∀ j, X0 (ix3 0 r j) + X1 (ix3 0 r j) = h j) (hx : ∀ j, X2 (ix3 0 r j) = x j) (h6 : ∀ j, V6 (ix2 r j) = h j) (h9 : ∀ j, V9 (ix2 r j) = x j)
    (hg0 : ∀ e, G0 (ix2 0 e) = g (c0 e)) (hg1 : ∀ e, G1 (ix2 0 e) = g (c1 e)) (hg2 : ∀ e, G2 (ix2 0 e) = g (c2 e)) (hg3 : ∀ e, G3 (ix2 0 e) = g (c3 e))
    (ht0 : ∀ e, T0 (ix2 0 e) = s (c0 e)) (ht1 : ∀ e, T1 (ix2 0 e) = s (c1 e)) (ht2 : ∀ e, T2 (ix2 0 e) = s (c2 e)) (ht3 : ∀ e, T3 (ix2 0 e) = s (c3 e))
    (hm : ∀ e, M (ix3 0 0 e) = gate e) :
    k0_pay1 (F := Ideal) (k0_pay10 V9 (k0_pay4 X0 X1 X2 G0 T0) (k0_pay7 V9 (k0_pay5 X0 X1) (k0_pay6 X0 X1) G1 T1) (k0_pay8 V6 V9 G2 T2) (k0_pay9 V6) G3 T3
        X3 X5 W X4 U O) X6 M (ix3 0 r d)
      = out (fun e => X6 (ix3 0 r e)) gate
          (mix (fun j => Ideal.logistic (X3 (ix3 0 r j)) * entry h g s x j) (fun j e => W (ix2 j e)) (fun e => X4 (ix3 0 r e)) (fun e k => U (ix2 e k))
            (fun e => X5 (ix3 0 r ⟨e.val, by omega⟩)) (fun e => X5 (ix3 0 r ⟨1024 + e.val, by omega⟩)))
          (fun e k => O (ix2 e k)) d := by
  have key : ∀ j, heads (k0_pay4 (F := Ideal) X0 X1 X2 G0 T0) (k0_pay7 V9 (k0_pay5 X0 X1) (k0_pay6 X0 X1) G1 T1) (k0_pay8 V6 V9 G2 T2)
      (fourth V9 (k0_pay9 V6) G3 T3) (ix2 r j) = entry h g s x j := by
    refine heads_at _ _ _ _ r _ (fun e => ?_) (fun e => ?_) (fun e => ?_) (fun e => ?_)
    · rw [pay4_at]
      simp only [pay2_at, pay3_at, hh, hx, hg0, ht0]
      exact piece_eq h g s x c0 0 (fun e => by show e.val = 0 * 512 + e.val; omega) e
    · rw [pay7_at]
      simp only [pay2_at, h9, hh, hg1, ht1]
      exact piece_eq h g s x c1 1 (fun e => by show 512 + e.val = 1 * 512 + e.val; omega) e
    · rw [pay8_at]
      simp only [h6, h9, hg2, ht2]
      exact piece_eq h g s x c2 2 (fun e => by show 1024 + e.val = 2 * 512 + e.val; omega) e
    · rw [fourth_at]
      simp only [h6, h9, hg3, ht3]
      exact piece_eq h g s x c3 3 (fun e => by show 1536 + e.val = 3 * 512 + e.val; omega) e
  rw [pay1_at, pay10_eq, tail_at]
  simp only [key, hm]
  rfl

theorem pay11_at (x0 : FVec Ideal S1x512x2048 .bf16) (x1 : FVec Ideal S1x512x2048 .bf16) (x2 : FVec Ideal S1x512x2048 .bf16) (x3 : FVec Ideal S1x512x2048 .bf16) (x4 : FVec Ideal S1x512x1024 .bf16) (x5 : FVec Ideal S1x512x2048 .bf16) (x6 : FVec Ideal S1x512x1024 .f32) (x7 : FVec Ideal S1x9x1024 .f32) (x8 : FVec Ideal S1x2048 .f32) (x9 : FVec Ideal S1x2048 .f32) (x10 : FVec Ideal S2048x1024 .bf16) (x11 : FVec Ideal S1024x1024 .bf16) (x12 : FVec Ideal S1024x1024 .bf16)
    (r : Fin 512) (j : Fin 2048) : k0_pay11 (F := Ideal) x0 x1 x2 x3 x4 x5 x6 x7 x8 x9 x10 x11 x12 (ix2 r j) = x0 (ix3 0 r j) + x1 (ix3 0 r j) := by
  unfold k0_pay11
  exact (pay2_at (View.ld (Val := Elt Ideal) (e' := .bf16) x0 r0_0) (View.ld (Val := Elt Ideal) (e' := .bf16) x1 r0_0) r j).trans
    (congrArg₂ (fun a b : EReal => a + b) (ld0 x0 r j) (ld0 x1 r j))

theorem pay12_at (x0 : FVec Ideal S1x512x2048 .bf16) (x1 : FVec Ideal S1x512x2048 .bf16) (x2 : FVec Ideal S1x512x2048 .bf16) (x3 : FVec Ideal S1x512x2048 .bf16) (x4 : FVec Ideal S1x512x1024 .bf16) (x5 : FVec Ideal S1x512x2048 .bf16) (x6 : FVec Ideal S1x512x1024 .f32) (x7 : FVec Ideal S1x9x1024 .f32) (x8 : FVec Ideal S1x2048 .f32) (x9 : FVec Ideal S1x2048 .f32) (x10 : FVec Ideal S2048x1024 .bf16) (x11 : FVec Ideal S1024x1024 .bf16) (x12 : FVec Ideal S1024x1024 .bf16)
    (r : Fin 512) (j : Fin 2048) : k0_pay12 (F := Ideal) x0 x1 x2 x3 x4 x5 x6 x7 x8 x9 x10 x11 x12 (ix2 r j) = x2 (ix3 0 r j) := by
  unfold k0_pay12
  exact (pay3_at (View.ld (Val := Elt Ideal) (e' := .bf16) x2 r0_0) r j).trans (ld0 x2 r j)

/-- A point's block at an index, of the blocks it loads. -/
theorem out_at (x0 : FVec Ideal S1x512x2048 .bf16) (x1 : FVec Ideal S1x512x2048 .bf16) (x2 : FVec Ideal S1x512x2048 .bf16) (x3 : FVec Ideal S1x512x2048 .bf16) (x4 : FVec Ideal S1x512x1024 .bf16) (x5 : FVec Ideal S1x512x2048 .bf16) (x6 : FVec Ideal S1x512x1024 .f32) (x7 : FVec Ideal S1x9x1024 .f32) (x8 : FVec Ideal S1x2048 .f32) (x9 : FVec Ideal S1x2048 .f32) (x10 : FVec Ideal S2048x1024 .bf16) (x11 : FVec Ideal S1024x1024 .bf16) (x12 : FVec Ideal S1024x1024 .bf16)
    (r : Fin 512) (d : Fin 1024) :
    out0_13 (F := Ideal) x0 x1 x2 x3 x4 x5 x6 x7 x8 x9 x10 x11 x12 (ix3 0 r d)
      = out (fun e => x6 (ix3 0 r e)) (fun e => x7 (ix3 0 5 e))
          (mix (fun j => Ideal.logistic (x3 (ix3 0 r j)) * entry (fun j => x0 (ix3 0 r j) + x1 (ix3 0 r j)) (fun j => x8 (ix2 0 j)) (fun j => x9 (ix2 0 j)) (fun j => x2 (ix3 0 r j)) j)
            (fun j e => x10 (ix2 j e)) (fun e => x4 (ix3 0 r e)) (fun e k => x11 (ix2 e k))
            (fun e => x5 (ix3 0 r ⟨e.val, by omega⟩)) (fun e => x5 (ix3 0 r ⟨1024 + e.val, by omega⟩)))
          (fun e k => x12 (ix2 e k)) d := by
  frame_out
  exact pay_at x0 x1 x2 x3 x5 (k0_pay11 (F := Ideal) x0 x1 x2 x3 x4 x5 x6 x7 x8 x9 x10 x11 x12) (k0_pay12 (F := Ideal) x0 x1 x2 x3 x4 x5 x6 x7 x8 x9 x10 x11 x12) x4 x6 (View.ld (Val := Elt Ideal) (e' := .f32) x7 r0_8)
    (View.ld (Val := Elt Ideal) (e' := .f32) x8 r0_1) (View.ld (Val := Elt Ideal) (e' := .f32) x8 r0_2) (View.ld (Val := Elt Ideal) (e' := .f32) x8 r0_3) (View.ld (Val := Elt Ideal) (e' := .f32) x8 r0_4)
    (View.ld (Val := Elt Ideal) (e' := .f32) x9 r0_1) (View.ld (Val := Elt Ideal) (e' := .f32) x9 r0_2) (View.ld (Val := Elt Ideal) (e' := .f32) x9 r0_3) (View.ld (Val := Elt Ideal) (e' := .f32) x9 r0_4)
    x10 x11 x12 r d (fun j => x0 (ix3 0 r j) + x1 (ix3 0 r j)) (fun j => x2 (ix3 0 r j)) (fun j => x8 (ix2 0 j)) (fun j => x9 (ix2 0 j)) (fun e => x7 (ix3 0 5 e))
    (fun _ => rfl) (fun _ => rfl) (pay11_at x0 x1 x2 x3 x4 x5 x6 x7 x8 x9 x10 x11 x12 r) (pay12_at x0 x1 x2 x3 x4 x5 x6 x7 x8 x9 x10 x11 x12 r)
    (ld1 x8) (ld2 x8) (ld3 x8) (ld4 x8) (ld1 x9) (ld2 x9) (ld3 x9) (ld4 x9) (ld8 x7)

/-! ## The blocks of a point, in terms of the arguments -/

section blocks

variable (m : (ℓ : Loc nD τ sig) → Buf (Elt Ideal) ℓ) (c : Dev nD) (t : Fin cfg0.N)

theorem lt32 : t.val < 32 := lt_of_lt_of_eq t.isLt N_0

/-- A point's batch. -/
def bOf : Fin 4 := ⟨t.val / 8, by have := lt32 t; omega⟩
/-- A point's row `r` of the arrays. -/
def rowOf (r : Fin 512) : Fin 4096 := ⟨512 * (t.val % 8) + r.val, by omega⟩

theorem idx0 : ∀ t : Fin cfg0.N, (cfg0.win 0).index t = ![t.val / 8, t.val % 8, 0] := by decide +kernel
theorem idx1 : ∀ t : Fin cfg0.N, (cfg0.win 1).index t = ![t.val / 8, t.val % 8, 0] := by decide +kernel
theorem idx2 : ∀ t : Fin cfg0.N, (cfg0.win 2).index t = ![t.val / 8, t.val % 8, 0] := by decide +kernel
theorem idx3 : ∀ t : Fin cfg0.N, (cfg0.win 3).index t = ![t.val / 8, t.val % 8, 0] := by decide +kernel
theorem idx4 : ∀ t : Fin cfg0.N, (cfg0.win 4).index t = ![t.val / 8, t.val % 8, 0] := by decide +kernel
theorem idx5 : ∀ t : Fin cfg0.N, (cfg0.win 5).index t = ![t.val / 8, t.val % 8, 0] := by decide +kernel
theorem idx6 : ∀ t : Fin cfg0.N, (cfg0.win 6).index t = ![t.val / 8, t.val % 8, 0] := by decide +kernel
theorem idx7 : ∀ t : Fin cfg0.N, (cfg0.win 7).index t = ![t.val / 8, 0, 0] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![0, 0] := by decide +kernel
theorem idx11 : ∀ t : Fin cfg0.N, (cfg0.win 11).index t = ![0, 0] := by decide +kernel
theorem idx12 : ∀ t : Fin cfg0.N, (cfg0.win 12).index t = ![0, 0] := by decide +kernel
theorem idx13 : ∀ t : Fin cfg0.N, (cfg0.win 13).index t = ![t.val / 8, t.val % 8, 0] := by decide +kernel

theorem emb0 (r : Fin 512) (d : Fin 2048) : ((cfg0.win 0).blk t).view.emb (ix3 0 r d) = ix3 (bOf t) (rowOf t r) d := by
  funext a
  apply Fin.ext
  fin_cases a
  · blk_simp [idx0]
    exact congrFun (idx0 t) 0
  · blk_simp [idx0]
    show (cfg0.win 0).index t 1 * 512 + r.val = 512 * (t.val % 8) + r.val
    rw [congrFun (idx0 t) 1]
    show t.val % 8 * 512 + r.val = 512 * (t.val % 8) + r.val
    omega
  · blk_simp [idx0]
    show (cfg0.win 0).index t 2 * 2048 + d.val = d.val
    rw [congrFun (idx0 t) 2]
    show 0 * 2048 + d.val = d.val
    omega

theorem emb1 (r : Fin 512) (d : Fin 2048) : ((cfg0.win 1).blk t).view.emb (ix3 0 r d) = ix3 (bOf t) (rowOf t r) d := by
  funext a
  apply Fin.ext
  fin_cases a
  · blk_simp [idx1]
    exact congrFun (idx1 t) 0
  · blk_simp [idx1]
    show (cfg0.win 1).index t 1 * 512 + r.val = 512 * (t.val % 8) + r.val
    rw [congrFun (idx1 t) 1]
    show t.val % 8 * 512 + r.val = 512 * (t.val % 8) + r.val
    omega
  · blk_simp [idx1]
    show (cfg0.win 1).index t 2 * 2048 + d.val = d.val
    rw [congrFun (idx1 t) 2]
    show 0 * 2048 + d.val = d.val
    omega

theorem emb2 (r : Fin 512) (d : Fin 2048) : ((cfg0.win 2).blk t).view.emb (ix3 0 r d) = ix3 (bOf t) (rowOf t r) d := by
  funext a
  apply Fin.ext
  fin_cases a
  · blk_simp [idx2]
    exact congrFun (idx2 t) 0
  · blk_simp [idx2]
    show (cfg0.win 2).index t 1 * 512 + r.val = 512 * (t.val % 8) + r.val
    rw [congrFun (idx2 t) 1]
    show t.val % 8 * 512 + r.val = 512 * (t.val % 8) + r.val
    omega
  · blk_simp [idx2]
    show (cfg0.win 2).index t 2 * 2048 + d.val = d.val
    rw [congrFun (idx2 t) 2]
    show 0 * 2048 + d.val = d.val
    omega

theorem emb3 (r : Fin 512) (d : Fin 2048) : ((cfg0.win 3).blk t).view.emb (ix3 0 r d) = ix3 (bOf t) (rowOf t r) d := by
  funext a
  apply Fin.ext
  fin_cases a
  · blk_simp [idx3]
    exact congrFun (idx3 t) 0
  · blk_simp [idx3]
    show (cfg0.win 3).index t 1 * 512 + r.val = 512 * (t.val % 8) + r.val
    rw [congrFun (idx3 t) 1]
    show t.val % 8 * 512 + r.val = 512 * (t.val % 8) + r.val
    omega
  · blk_simp [idx3]
    show (cfg0.win 3).index t 2 * 2048 + d.val = d.val
    rw [congrFun (idx3 t) 2]
    show 0 * 2048 + d.val = d.val
    omega

theorem emb5 (r : Fin 512) (d : Fin 2048) : ((cfg0.win 5).blk t).view.emb (ix3 0 r d) = ix3 (bOf t) (rowOf t r) d := by
  funext a
  apply Fin.ext
  fin_cases a
  · blk_simp [idx5]
    exact congrFun (idx5 t) 0
  · blk_simp [idx5]
    show (cfg0.win 5).index t 1 * 512 + r.val = 512 * (t.val % 8) + r.val
    rw [congrFun (idx5 t) 1]
    show t.val % 8 * 512 + r.val = 512 * (t.val % 8) + r.val
    omega
  · blk_simp [idx5]
    show (cfg0.win 5).index t 2 * 2048 + d.val = d.val
    rw [congrFun (idx5 t) 2]
    show 0 * 2048 + d.val = d.val
    omega

theorem emb4 (r : Fin 512) (d : Fin 1024) : ((cfg0.win 4).blk t).view.emb (ix3 0 r d) = ix3 (bOf t) (rowOf t r) d := by
  funext a
  apply Fin.ext
  fin_cases a
  · blk_simp [idx4]
    exact congrFun (idx4 t) 0
  · blk_simp [idx4]
    show (cfg0.win 4).index t 1 * 512 + r.val = 512 * (t.val % 8) + r.val
    rw [congrFun (idx4 t) 1]
    show t.val % 8 * 512 + r.val = 512 * (t.val % 8) + r.val
    omega
  · blk_simp [idx4]
    show (cfg0.win 4).index t 2 * 1024 + d.val = d.val
    rw [congrFun (idx4 t) 2]
    show 0 * 1024 + d.val = d.val
    omega

theorem emb6 (r : Fin 512) (d : Fin 1024) : ((cfg0.win 6).blk t).view.emb (ix3 0 r d) = ix3 (bOf t) (rowOf t r) d := by
  funext a
  apply Fin.ext
  fin_cases a
  · blk_simp [idx6]
    exact congrFun (idx6 t) 0
  · blk_simp [idx6]
    show (cfg0.win 6).index t 1 * 512 + r.val = 512 * (t.val % 8) + r.val
    rw [congrFun (idx6 t) 1]
    show t.val % 8 * 512 + r.val = 512 * (t.val % 8) + r.val
    omega
  · blk_simp [idx6]
    show (cfg0.win 6).index t 2 * 1024 + d.val = d.val
    rw [congrFun (idx6 t) 2]
    show 0 * 1024 + d.val = d.val
    omega

theorem emb13 (r : Fin 512) (d : Fin 1024) : ((cfg0.win 13).blk t).view.emb (ix3 0 r d) = ix3 (bOf t) (rowOf t r) d := by
  funext a
  apply Fin.ext
  fin_cases a
  · blk_simp [idx13]
    exact congrFun (idx13 t) 0
  · blk_simp [idx13]
    show (cfg0.win 13).index t 1 * 512 + r.val = 512 * (t.val % 8) + r.val
    rw [congrFun (idx13 t) 1]
    show t.val % 8 * 512 + r.val = 512 * (t.val % 8) + r.val
    omega
  · blk_simp [idx13]
    show (cfg0.win 13).index t 2 * 1024 + d.val = d.val
    rw [congrFun (idx13 t) 2]
    show 0 * 1024 + d.val = d.val
    omega

theorem emb7 (k : Fin 9) (d : Fin 1024) : ((cfg0.win 7).blk t).view.emb (ix3 0 k d) = ix3 ⟨(bOf t).val, by omega⟩ k d := by
  funext a
  apply Fin.ext
  fin_cases a
  · blk_simp [idx7]
    exact congrFun (idx7 t) 0
  · blk_simp [idx7]
    show (cfg0.win 7).index t 1 * 9 + k.val = k.val
    rw [congrFun (idx7 t) 1]
    show 0 * 9 + k.val = k.val
    omega
  · blk_simp [idx7]
    show (cfg0.win 7).index t 2 * 1024 + d.val = d.val
    rw [congrFun (idx7 t) 2]
    show 0 * 1024 + d.val = d.val
    omega

theorem emb8 (d : Fin 2048) : ((cfg0.win 8).blk t).view.emb (ix2 0 d) = ix2 0 d := by
  funext a
  apply Fin.ext
  fin_cases a
  · blk_simp [idx8]
    exact congrFun (idx8 t) 0
  · blk_simp [idx8]
    show (cfg0.win 8).index t 1 * 2048 + d.val = d.val
    rw [congrFun (idx8 t) 1]
    show 0 * 2048 + d.val = d.val
    omega

theorem emb9 (d : Fin 2048) : ((cfg0.win 9).blk t).view.emb (ix2 0 d) = ix2 0 d := by
  funext a
  apply Fin.ext
  fin_cases a
  · blk_simp [idx9]
    exact congrFun (idx9 t) 0
  · blk_simp [idx9]
    show (cfg0.win 9).index t 1 * 2048 + d.val = d.val
    rw [congrFun (idx9 t) 1]
    show 0 * 2048 + d.val = d.val
    omega

theorem emb10 (k : Fin 2048) (d : Fin 1024) : ((cfg0.win 10).blk t).view.emb (ix2 k d) = ix2 k d := by
  funext a
  apply Fin.ext
  fin_cases a
  · blk_simp [idx10]
    show (cfg0.win 10).index t 0 * 2048 + k.val = k.val
    rw [congrFun (idx10 t) 0]
    show 0 * 2048 + k.val = k.val
    omega
  · blk_simp [idx10]
    show (cfg0.win 10).index t 1 * 1024 + d.val = d.val
    rw [congrFun (idx10 t) 1]
    show 0 * 1024 + d.val = d.val
    omega

theorem emb11 (k : Fin 1024) (d : Fin 1024) : ((cfg0.win 11).blk t).view.emb (ix2 k d) = ix2 k d := by
  funext a
  apply Fin.ext
  fin_cases a
  · blk_simp [idx11]
    show (cfg0.win 11).index t 0 * 1024 + k.val = k.val
    rw [congrFun (idx11 t) 0]
    show 0 * 1024 + k.val = k.val
    omega
  · blk_simp [idx11]
    show (cfg0.win 11).index t 1 * 1024 + d.val = d.val
    rw [congrFun (idx11 t) 1]
    show 0 * 1024 + d.val = d.val
    omega

theorem emb12 (k : Fin 1024) (d : Fin 1024) : ((cfg0.win 12).blk t).view.emb (ix2 k d) = ix2 k d := by
  funext a
  apply Fin.ext
  fin_cases a
  · blk_simp [idx12]
    show (cfg0.win 12).index t 0 * 1024 + k.val = k.val
    rw [congrFun (idx12 t) 0]
    show 0 * 1024 + k.val = k.val
    omega
  · blk_simp [idx12]
    show (cfg0.win 12).index t 1 * 1024 + d.val = d.val
    rw [congrFun (idx12 t) 1]
    show 0 * 1024 + d.val = d.val
    omega

/-- The forward scan's rows. -/
def argF : FVec Ideal S4x4096x2048 .bf16 := m ((c.tc : Thread nD τ).loc main_arg0)
/-- The backward scan's rows. -/
def argR : FVec Ideal S4x4096x2048 .bf16 := m ((c.tc : Thread nD τ).loc main_arg1)
/-- The mLSTM branch's skip connection. -/
def argC : FVec Ideal S4x4096x2048 .bf16 := m ((c.tc : Thread nD τ).loc main_arg2)
/-- The mLSTM branch's gate. -/
def argZ : FVec Ideal S4x4096x2048 .bf16 := m ((c.tc : Thread nD τ).loc main_arg3)
/-- The other branch's rows. -/
def argY : FVec Ideal S4x4096x1024 .bf16 := m ((c.tc : Thread nD τ).loc main_arg4)
/-- The two branches' gates. -/
def argA : FVec Ideal S4x4096x2048 .bf16 := m ((c.tc : Thread nD τ).loc main_arg5)
/-- The stream. -/
def argX : FVec Ideal S4x4096x1024 .f32 := m ((c.tc : Thread nD τ).loc main_arg6)
/-- The modulations. -/
def argM : FVec Ideal S8x9216 .f32 := m ((c.tc : Thread nD τ).loc main_arg7)
/-- The gain of the heads' norm. -/
def argG : FVec Ideal S2048 .f32 := m ((c.tc : Thread nD τ).loc main_arg8)
/-- The skip connection's weight. -/
def argS : FVec Ideal S2048 .f32 := m ((c.tc : Thread nD τ).loc main_arg9)
/-- The mLSTM branch's output weight. -/
def argP : FVec Ideal S2048x1024 .f32 := m ((c.tc : Thread nD τ).loc main_arg10)
/-- The other branch's output weight. -/
def argQ : FVec Ideal S1024x1024 .f32 := m ((c.tc : Thread nD τ).loc main_arg11)
/-- The common output weight. -/
def argO : FVec Ideal S1024x1024 .f32 := m ((c.tc : Thread nD τ).loc main_arg12)

theorem blk0 (r : Fin 512) (d : Fin 2048) : iblk m c 0 t (ix3 0 r d) = argF m c (ix3 (bOf t) (rowOf t r) d) := by
  show V m c main_arg0 (((cfg0.win 0).blk t).view.emb (ix3 0 r d)) = _
  rw [emb0, V_main_arg0]
  rfl

theorem blk1 (r : Fin 512) (d : Fin 2048) : iblk m c 1 t (ix3 0 r d) = argR m c (ix3 (bOf t) (rowOf t r) d) := by
  show V m c main_arg1 (((cfg0.win 1).blk t).view.emb (ix3 0 r d)) = _
  rw [emb1, V_main_arg1]
  rfl

theorem blk2 (r : Fin 512) (d : Fin 2048) : iblk m c 2 t (ix3 0 r d) = argC m c (ix3 (bOf t) (rowOf t r) d) := by
  show V m c main_arg2 (((cfg0.win 2).blk t).view.emb (ix3 0 r d)) = _
  rw [emb2, V_main_arg2]
  rfl

theorem blk3 (r : Fin 512) (d : Fin 2048) : iblk m c 3 t (ix3 0 r d) = argZ m c (ix3 (bOf t) (rowOf t r) d) := by
  show V m c main_arg3 (((cfg0.win 3).blk t).view.emb (ix3 0 r d)) = _
  rw [emb3, V_main_arg3]
  rfl

theorem blk4 (r : Fin 512) (d : Fin 1024) : iblk m c 4 t (ix3 0 r d) = argY m c (ix3 (bOf t) (rowOf t r) d) := by
  show V m c main_arg4 (((cfg0.win 4).blk t).view.emb (ix3 0 r d)) = _
  rw [emb4, V_main_arg4]
  rfl

theorem blk5 (r : Fin 512) (d : Fin 2048) : iblk m c 5 t (ix3 0 r d) = argA m c (ix3 (bOf t) (rowOf t r) d) := by
  show V m c main_arg5 (((cfg0.win 5).blk t).view.emb (ix3 0 r d)) = _
  rw [emb5, V_main_arg5]
  rfl

theorem blk6 (r : Fin 512) (d : Fin 1024) : iblk m c 6 t (ix3 0 r d) = argX m c (ix3 (bOf t) (rowOf t r) d) := by
  show V m c main_arg6 (((cfg0.win 6).blk t).view.emb (ix3 0 r d)) = _
  rw [emb6, V_main_arg6]
  rfl

theorem blk7 (k : Fin 9) (d : Fin 1024) :
    iblk m c 7 t (ix3 0 k d) = argM m c (ix2 ⟨(bOf t).val, by omega⟩ ⟨k.val * 1024 + d.val, by omega⟩) := by
  show V m c main_v0 (((cfg0.win 7).blk t).view.emb (ix3 0 k d)) = _
  rw [emb7]
  entry_read
  pointwise []
  rfl

theorem blk_gate (d : Fin 1024) : iblk m c 7 t (ix3 0 5 d) = argM m c (ix2 ⟨(bOf t).val, by omega⟩ ⟨5120 + d.val, by omega⟩) :=
  (blk7 m c t 5 d).trans (congrArg (fun x => argM m c (ix2 ⟨(bOf t).val, by omega⟩ x)) (Fin.ext (by show 5 * 1024 + d.val = 5120 + d.val; omega)))

theorem blk8 (d : Fin 2048) : iblk m c 8 t (ix2 0 d) = argG m c (ix1 d) := by
  show V m c main_v4 (((cfg0.win 8).blk t).view.emb (ix2 0 d)) = _
  rw [emb8]
  entry_read
  pointwise []
  rfl

theorem blk9 (d : Fin 2048) : iblk m c 9 t (ix2 0 d) = argS m c (ix1 d) := by
  show V m c main_v5 (((cfg0.win 9).blk t).view.emb (ix2 0 d)) = _
  rw [emb9]
  entry_read
  pointwise []
  rfl

theorem blk10 (k : Fin 2048) (d : Fin 1024) : iblk m c 10 t (ix2 k d) = argP m c (ix2 k d) := by
  show V m c main_v1 (((cfg0.win 10).blk t).view.emb (ix2 k d)) = _
  rw [emb10]
  entry_read
  pointwise []
  rfl

theorem blk11 (k : Fin 1024) (d : Fin 1024) : iblk m c 11 t (ix2 k d) = argQ m c (ix2 k d) := by
  show V m c main_v2 (((cfg0.win 11).blk t).view.emb (ix2 k d)) = _
  rw [emb11]
  entry_read
  pointwise []
  rfl

theorem blk12 (k : Fin 1024) (d : Fin 1024) : iblk m c 12 t (ix2 k d) = argO m c (ix2 k d) := by
  show V m c main_v3 (((cfg0.win 12).blk t).view.emb (ix2 k d)) = _
  rw [emb12]
  entry_read
  pointwise []
  rfl

/-! ## The array the grid leaves -/

/-- The merge's result, as an array. -/
def res : FVec Ideal S4x4096x1024 .f32 := fun i => merge (argF m c) (argR m c) (argC m c) (argZ m c) (argY m c) (argA m c) (argX m c) (argM m c) (argG m c) (argS m c)
  (argP m c) (argQ m c) (argO m c) (i 0) (i 1) (i 2)

theorem block (y : S1x512x1024.Idx) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y
      = res m c (((cfg0.win 13).blk t).view.emb y) := by
  have key (r : Fin 512) (d : Fin 1024) :
      out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r d)
        = res m c (((cfg0.win 13).blk t).view.emb (ix3 0 r d)) := by
    rw [out_at, emb13]
    simp only [blk0, blk1, blk2, blk3, blk4, blk5, blk6, blk_gate, blk8, blk9, blk10, blk11, blk12]
    rfl
  have h0 : y 0 = (0 : Fin 1) := Subsingleton.elim (α := Fin 1) _ _
  rw [eq_ix3 y, h0]
  exact key (y 1) (y 2)

/-- The point that writes row `i` of batch `b`. -/
def ptOf (b : Fin 4) (i : Fin 4096) : Fin cfg0.N := ⟨8 * b.val + i.val / 512, by
  show _ < grid0.N
  rw [N_0]
  omega⟩

theorem cover (b : Fin 4) (i : Fin 4096) (d : Fin 1024) :
    ((cfg0.win 13).blk (ptOf b i)).view.emb (ix3 0 (⟨i.val % 512, Nat.mod_lt _ (by decide)⟩ : Fin 512) d) = ix3 b i d := by
  rw [emb13]
  have hb : bOf (ptOf b i) = b := Fin.ext (by show (8 * b.val + i.val / 512) / 8 = b.val; omega)
  have hr : rowOf (ptOf b i) ⟨i.val % 512, Nat.mod_lt _ (by decide)⟩ = i :=
    Fin.ext (by show 512 * ((8 * b.val + i.val / 512) % 8) + i.val % 512 = i.val; omega)
  rw [hb, hr]

theorem covered (i : S4x4096x1024.Idx) : ∃ t : Fin cfg0.N, (cfg0.win 13).flush t = true ∧ i ∈ ((cfg0.win 13).blk t).view.set := by
  refine ⟨ptOf (i 0) (i 1), flush0_13 _, ?_⟩
  have h := ((cfg0.win 13).blk (ptOf (i 0) (i 1))).view.emb_mem_set (ix3 (0 : Fin 1) (⟨(i 1).val % 512, Nat.mod_lt _ (by decide)⟩ : Fin 512) (i 2))
  rw [cover (i 0) (i 1) (i 2), ← eq_ix3 i] at h
  exact h

end blocks

end Cert.Kernel5Ideal.Merge

end
-- ==== Proof.MergeFinal.lean ====
/-
  The array the kernel's grid leaves is the merge's result.
-/
module

public import proofs.«01_k».proof.Proof.MergeKernel

@[expose] public section

set_option maxRecDepth 16384

noncomputable section

namespace Cert.Kernel5Ideal.Merge

open Cert.Merge
open Cert.Kernel5Ideal Cert.Kernel5Ideal.Gen Idealize.ShloMosaic Idealize.ShloMosaic.TcCoe
open Idealize.ShloMosaic.Pointwise

variable (m : (ℓ : Loc nD τ sig) → Buf (Elt Ideal) ℓ) (c : Dev nD)

theorem cut_at (t : Fin cfg0.N) (X : FVec Ideal S1x512x1024 .f32) (y : S1x512x1024.Idx) : (cfg0.win 13).cut (grid0.coords t) X y = X y := rfl

theorem flushed_at (t : Fin cfg0.N) (y : S1x512x1024.Idx) :
    (dats m 0 c).flushed 13 t y = res m c (((cfg0.win 13).blk t).view.emb y) := by
  rw [Value.flushed13]
  exact (cut_at t _ y).trans (block m c t y)

theorem final : (dats m 0 c).arrAt 13 cfg0.N = res m c := by
  funext i
  exact (dats m 0 c).arrAt_forall_of_cover 13 (fun i v => v = res m c i) (fun t _ y => flushed_at m c t y) covered i

end Cert.Kernel5Ideal.Merge

end
-- ==== Proof.CtxMath.lean ====
/-
  The context's first feed-forward part and its projection, row by row.
-/
module

public import proofs.«01_k».proof.Proof.FfnMath

@[expose] public section

noncomputable section

open scoped BigOperators

namespace Cert.Ffn

open Idealize.ShloMosaic Idealize.ShloMosaic.Pointwise

/-- Entry `d` of row `i` of batch `b` of the context after its first feed-forward part: `m`'s fifth row holds the context's modulations, shift,
    scale and gate its columns from 0, 1024 and 2048 on. -/
def firstCtx (x : (⟨3, ![4, 256, 1024]⟩ : Shape).Idx → EReal) (m : (⟨2, ![8, 9216]⟩ : Shape).Idx → EReal)
    (g : (⟨2, ![3, 1024]⟩ : Shape).Idx → EReal) (w : (⟨2, ![1024, 5632]⟩ : Shape).Idx → EReal) (w2 : (⟨2, ![2816, 1024]⟩ : Shape).Idx → EReal)
    (b : Fin 4) (i : Fin 256) (d : Fin 1024) : EReal :=
  add (fun e => x (ix3 b i e)) (fun e => m (ix2 4 ⟨2048 + e.val, by omega⟩))
    (ffn (pre (fun e => x (ix3 b i e)) (fun e => g (ix2 0 e)) (fun e => m (ix2 4 ⟨1024 + e.val, by omega⟩)) (fun e => m (ix2 4 ⟨e.val, by omega⟩)))
      (fun e j => w (ix2 e j)) (fun j e => w2 (ix2 j e))) d

/-- Entry `j` of row `i` of batch `b` of the context's projection: the shift and scale are the columns of `m`'s fifth row from 3072 and 4096
    on. -/
def projCtx (x : (⟨3, ![4, 256, 1024]⟩ : Shape).Idx → EReal) (m : (⟨2, ![8, 9216]⟩ : Shape).Idx → EReal) (g : (⟨2, ![3, 1024]⟩ : Shape).Idx → EReal)
    (w : (⟨2, ![1024, 9216]⟩ : Shape).Idx → EReal) (b : Fin 4) (i : Fin 256) (j : Fin 2048) : EReal :=
  dot (pre (fun e => x (ix3 b i e)) (fun e => g (ix2 1 e)) (fun e => m (ix2 4 ⟨4096 + e.val, by omega⟩)) (fun e => m (ix2 4 ⟨3072 + e.val, by omega⟩)))
    (fun e j => w (ix2 e j)) (colA j)

end Cert.Ffn

end
-- ==== Proof.CtxKernel.lean ====
/-
  The context's first feed-forward part as the kernel computes it: a grid point's block as a function of the blocks it loads, these blocks in
  terms of the arguments, and the array the grid leaves.
-/
module

public import proofs.«01_k».proof.Proof.CtxMath
public import proofs.«01_k».proof.Proof.Gen.Kernel8Ideal.Value
public import Idealize.ShloMosaic.Lib.Pipeline.ValueKit
public import Idealize.ShloMosaic.Lib.Pipeline.ReadBack
public import Idealize.ShloMosaic.Lib.Claim

@[expose] public section

set_option maxRecDepth 16384

noncomputable section

open scoped BigOperators

namespace Cert.Kernel8Ideal.Ctx

open Cert.Ffn
open Cert.Kernel8Ideal Cert.Kernel8Ideal.Gen Idealize.ShloMosaic Idealize.ShloMosaic.TcCoe
open Idealize.ShloMosaic.Pointwise

/-! ## What a point computes -/

theorem pay4_at (v0 : FVec Ideal S1x256x1024 .f32) (v2 v4 : FVec Ideal S1x1x1024 .f32) (v8 : FVec Ideal S1x1024 .f32)
    (r : Fin 256) (d : Fin 1024) :
    k0_pay4 (F := Ideal) v0 v2 v4 v8 (ix2 r d)
      = pre (fun e => v0 (ix3 0 r e)) (fun e => v8 (ix2 0 e)) (fun e => v4 (ix3 0 0 e)) (fun e => v2 (ix3 0 0 e)) d := by
  pointwise [k0_pay4, k0_pay2]
  rfl

theorem pay6_at (v0 : FVec Ideal S1x256x1024 .f32) (v2 v4 : FVec Ideal S1x1x1024 .f32) (v8 : FVec Ideal S1x1024 .f32)
    (v29 : FVec Ideal S1024x1408 .bf16) (r : Fin 256) (j : Fin 1408) :
    k0_pay6 (F := Ideal) v0 v2 v4 v8 v29 (ix2 r j) = dot (fun e => k0_pay4 (F := Ideal) v0 v2 v4 v8 (ix2 r e)) (fun e j => v29 (ix2 e j)) j := by
  pointwise [k0_pay6]
  rfl

theorem pay1_at (v1 : FVec Ideal S256x1024 .f32) (v7 : FVec Ideal S1x1024 .f32) (v27 : FVec Ideal S256x1024 .bf16) (v28 : FVec Ideal S256x1024 .f32)
    (v31 : FVec Ideal S256x1408 .f32) (v33 : FVec Ideal S1024x1408 .bf16) (v39 : FVec Ideal S1408x1024 .bf16) (v43 v46 : FVec Ideal S1024x1408 .bf16)
    (v53 : FVec Ideal S1408x1024 .bf16) (r : Fin 256) (d : Fin 1024) :
    k0_pay1 (F := Ideal) v1 v7 v27 v28 v31 v33 v39 v43 v46 v53 (ix3 0 r d)
      = add (fun e => v1 (ix2 r e)) (fun e => v7 (ix2 0 e)) (fun e => v28 (ix2 r e)
          + ∑ j, gated (v31 (ix2 r j)) (dot (fun e => v27 (ix2 r e)) (fun e j => v33 (ix2 e j)) j) * v39 (ix2 j e)
          + ∑ j, gated (dot (fun e => v27 (ix2 r e)) (fun e j => v43 (ix2 e j)) j) (dot (fun e => v27 (ix2 r e)) (fun e j => v46 (ix2 e j)) j) * v53 (ix2 j e)) d := by
  pointwise [k0_pay1]
  rfl

/-! ## The loads of parts of a block -/

theorem ld1 (x : Vec Ideal S1x9x1024 .f32) (j : Fin 1024) : View.ld (Val := Elt Ideal) (e' := .f32) x r0_1 (ix3 0 0 j) = x (ix3 0 0 j) := by
  refine congrArg x (funext fun a => Fin.ext ?_)
  fin_cases a
  · rfl
  · rfl
  · show 0 + 1 * j.val = j.val
    omega

theorem ld2 (x : Vec Ideal S1x9x1024 .f32) (j : Fin 1024) : View.ld (Val := Elt Ideal) (e' := .f32) x r0_2 (ix3 0 0 j) = x (ix3 0 1 j) := by
  refine congrArg x (funext fun a => Fin.ext ?_)
  fin_cases a
  · rfl
  · rfl
  · show 0 + 1 * j.val = j.val
    omega

theorem ld3 (x : Vec Ideal S1x9x1024 .f32) (j : Fin 1024) : View.ld (Val := Elt Ideal) (e' := .f32) x r0_3 (ix3 0 0 j) = x (ix3 0 2 j) := by
  refine congrArg x (funext fun a => Fin.ext ?_)
  fin_cases a
  · rfl
  · rfl
  · show 0 + 1 * j.val = j.val
    omega

theorem ld4 (x : Vec Ideal S3x1024 .f32) (j : Fin 1024) : View.ld (Val := Elt Ideal) (e' := .f32) x r0_4 (ix2 0 j) = x (ix2 0 j) := by
  refine congrArg x (funext fun a => Fin.ext ?_)
  fin_cases a
  · rfl
  · show 0 + 1 * j.val = j.val
    omega

theorem ld5 (x : Vec Ideal S1024x5632 .bf16) (e : Fin 1024) (j : Fin 1408) : View.ld (Val := Elt Ideal) (e' := .bf16) x r0_5 (ix2 e j) = x (ix2 e ⟨j.val, by omega⟩) := by
  refine congrArg x (funext fun a => Fin.ext ?_)
  fin_cases a
  · show 0 + 1 * e.val = e.val
    omega
  · show 0 + 1 * j.val = j.val
    omega

theorem ld6 (x : Vec Ideal S1024x5632 .bf16) (e : Fin 1024) (j : Fin 1408) : View.ld (Val := Elt Ideal) (e' := .bf16) x r0_6 (ix2 e j) = x (ix2 e ⟨2816 + j.val, by omega⟩) := by
  refine congrArg x (funext fun a => Fin.ext ?_)
  fin_cases a
  · show 0 + 1 * e.val = e.val
    omega
  · show 2816 + 1 * j.val = 2816 + j.val
    omega

theorem ld8 (x : Vec Ideal S1024x5632 .bf16) (e : Fin 1024) (j : Fin 1408) : View.ld (Val := Elt Ideal) (e' := .bf16) x r0_8 (ix2 e j) = x (ix2 e ⟨1408 + j.val, by omega⟩) := by
  refine congrArg x (funext fun a => Fin.ext ?_)
  fin_cases a
  · show 0 + 1 * e.val = e.val
    omega
  · show 1408 + 1 * j.val = 1408 + j.val
    omega

theorem ld9 (x : Vec Ideal S1024x5632 .bf16) (e : Fin 1024) (j : Fin 1408) : View.ld (Val := Elt Ideal) (e' := .bf16) x r0_9 (ix2 e j) = x (ix2 e ⟨4224 + j.val, by omega⟩) := by
  refine congrArg x (funext fun a => Fin.ext ?_)
  fin_cases a
  · show 0 + 1 * e.val = e.val
    omega
  · show 4224 + 1 * j.val = 4224 + j.val
    omega

theorem ld7 (x : Vec Ideal S2816x1024 .bf16) (e : Fin 1408) (j : Fin 1024) : View.ld (Val := Elt Ideal) (e' := .bf16) x r0_7 (ix2 e j) = x (ix2 ⟨e.val, by omega⟩ j) := by
  refine congrArg x (funext fun a => Fin.ext ?_)
  fin_cases a
  · show 0 + 1 * e.val = e.val
    omega
  · show 0 + 1 * j.val = j.val
    omega

theorem ld10 (x : Vec Ideal S2816x1024 .bf16) (e : Fin 1408) (j : Fin 1024) : View.ld (Val := Elt Ideal) (e' := .bf16) x r0_10 (ix2 e j) = x (ix2 ⟨1408 + e.val, by omega⟩ j) := by
  refine congrArg x (funext fun a => Fin.ext ?_)
  fin_cases a
  · show 1408 + 1 * e.val = 1408 + e.val
    omega
  · show 0 + 1 * j.val = j.val
    omega

/-- A point's block at an index, of the values it loads: `h0` … `h10` say which values these are. -/
theorem pay_at (P0 : FVec Ideal S1x256x1024 .f32) (P1 P2 P3 : FVec Ideal S1x1x1024 .f32) (P4 : FVec Ideal S1x1024 .f32)
    (P5 P6 P8 P9 : FVec Ideal S1024x1408 .bf16) (P7 P10 : FVec Ideal S1408x1024 .bf16) (r : Fin 256) (d : Fin 1024)
    (x shift scale gate g : Fin 1024 → EReal) (w : Fin 1024 → Fin 5632 → EReal) (w2 : Fin 2816 → Fin 1024 → EReal)
    (h0 : ∀ e, P0 (ix3 0 r e) = x e) (h1 : ∀ e, P1 (ix3 0 0 e) = shift e) (h2 : ∀ e, P2 (ix3 0 0 e) = scale e)
    (h3 : ∀ e, P3 (ix3 0 0 e) = gate e) (h4 : ∀ e, P4 (ix2 0 e) = g e)
    (h5 : ∀ e (j : Fin 1408), P5 (ix2 e j) = w e ⟨j.val, by omega⟩) (h6 : ∀ e (j : Fin 1408), P6 (ix2 e j) = w e ⟨2816 + j.val, by omega⟩)
    (h8 : ∀ e (j : Fin 1408), P8 (ix2 e j) = w e ⟨1408 + j.val, by omega⟩) (h9 : ∀ e (j : Fin 1408), P9 (ix2 e j) = w e ⟨4224 + j.val, by omega⟩)
    (h7 : ∀ (j : Fin 1408) e, P7 (ix2 j e) = w2 ⟨j.val, by omega⟩ e) (h10 : ∀ (j : Fin 1408) e, P10 (ix2 j e) = w2 ⟨1408 + j.val, by omega⟩ e) :
    k0_pay1 (F := Ideal) (k0_pay2 P0) (k0_pay3 P3) (k0_pay4 P0 P1 P2 P4) k0_pay5 (k0_pay6 P0 P1 P2 P4 P5) (k0_pay7 P6) P7 P8 P9 P10 (ix3 0 r d)
      = add x gate (ffn (pre x g scale shift) w w2) d := by
  rw [pay1_at]
  pointwise [k0_pay2, k0_pay3, k0_pay5, k0_pay7, pay6_at, pay4_at]
  simp only [h0, h1, h2, h3, h4, h5, h6, h7, h8, h9, h10, ← ffn_halves]

/-- A point's block at an index, of the blocks it loads. -/
theorem out_at (x0 : FVec Ideal S1x256x1024 .f32) (x1 : FVec Ideal S1x9x1024 .f32) (x2 : FVec Ideal S3x1024 .f32)
    (x3 : FVec Ideal S1024x5632 .bf16) (x4 : FVec Ideal S2816x1024 .bf16) (r : Fin 256) (d : Fin 1024) :
    out0_5 (F := Ideal) x0 x1 x2 x3 x4 (ix3 0 r d)
      = add (fun e => x0 (ix3 0 r e)) (fun e => x1 (ix3 0 2 e))
          (ffn (pre (fun e => x0 (ix3 0 r e)) (fun e => x2 (ix2 0 e)) (fun e => x1 (ix3 0 1 e)) (fun e => x1 (ix3 0 0 e)))
            (fun e j => x3 (ix2 e j)) (fun j e => x4 (ix2 j e))) d := by
  frame_out
  exact pay_at _ _ _ _ _ _ _ _ _ _ _ r d (fun e => x0 (ix3 0 r e)) (fun e => x1 (ix3 0 0 e)) (fun e => x1 (ix3 0 1 e)) (fun e => x1 (ix3 0 2 e))
    (fun e => x2 (ix2 0 e)) (fun e j => x3 (ix2 e j)) (fun j e => x4 (ix2 j e))
    (fun _ => rfl) (ld1 x1) (ld2 x1) (ld3 x1) (ld4 x2) (ld5 x3) (ld6 x3) (ld8 x3) (ld9 x3) (ld7 x4) (ld10 x4)

/-! ## The blocks of a point, in terms of the arguments -/

section blocks

variable (m : (ℓ : Loc nD τ sig) → Buf (Elt Ideal) ℓ) (c : Dev nD) (t : Fin cfg0.N)

/-- A point's batch. -/
def bOf : Fin 4 := ⟨t.val, lt_of_lt_of_eq t.isLt N_0⟩

theorem idx0 : ∀ t : Fin cfg0.N, (cfg0.win 0).index t = ![t.val, 0, 0] := by decide +kernel
theorem idx1 : ∀ t : Fin cfg0.N, (cfg0.win 1).index t = ![4, 0, 0] := by decide +kernel
theorem idx2 : ∀ t : Fin cfg0.N, (cfg0.win 2).index t = ![0, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![t.val, 0, 0] := by decide +kernel

theorem emb0 (r : Fin 256) (d : Fin 1024) : ((cfg0.win 0).blk t).view.emb (ix3 0 r d) = ix3 (bOf t) r d := by
  funext a
  apply Fin.ext
  fin_cases a
  · blk_simp [idx0]
    exact congrFun (idx0 t) 0
  · blk_simp [idx0]
    show (cfg0.win 0).index t 1 * 256 + r.val = r.val
    rw [congrFun (idx0 t) 1]
    show 0 * 256 + r.val = r.val
    omega
  · blk_simp [idx0]
    show (cfg0.win 0).index t 2 * 1024 + d.val = d.val
    rw [congrFun (idx0 t) 2]
    show 0 * 1024 + d.val = d.val
    omega

theorem emb1 (k : Fin 9) (d : Fin 1024) : ((cfg0.win 1).blk t).view.emb (ix3 0 k d) = ix3 (4 : Fin 8) k d := by
  funext a
  apply Fin.ext
  fin_cases a
  · blk_simp [idx1]
    exact congrFun (idx1 t) 0
  · blk_simp [idx1]
    show (cfg0.win 1).index t 1 * 9 + k.val = k.val
    rw [congrFun (idx1 t) 1]
    show 0 * 9 + k.val = k.val
    omega
  · blk_simp [idx1]
    show (cfg0.win 1).index t 2 * 1024 + d.val = d.val
    rw [congrFun (idx1 t) 2]
    show 0 * 1024 + d.val = d.val
    omega

theorem emb2 (k : Fin 3) (d : Fin 1024) : ((cfg0.win 2).blk t).view.emb (ix2 k d) = ix2 k d := by
  funext a
  apply Fin.ext
  fin_cases a
  · blk_simp [idx2]
    show (cfg0.win 2).index t 0 * 3 + k.val = k.val
    rw [congrFun (idx2 t) 0]
    show 0 * 3 + k.val = k.val
    omega
  · blk_simp [idx2]
    show (cfg0.win 2).index t 1 * 1024 + d.val = d.val
    rw [congrFun (idx2 t) 1]
    show 0 * 1024 + d.val = d.val
    omega

theorem emb3 (k : Fin 1024) (d : Fin 5632) : ((cfg0.win 3).blk t).view.emb (ix2 k d) = ix2 k d := by
  funext a
  apply Fin.ext
  fin_cases a
  · blk_simp [idx3]
    show (cfg0.win 3).index t 0 * 1024 + k.val = k.val
    rw [congrFun (idx3 t) 0]
    show 0 * 1024 + k.val = k.val
    omega
  · blk_simp [idx3]
    show (cfg0.win 3).index t 1 * 5632 + d.val = d.val
    rw [congrFun (idx3 t) 1]
    show 0 * 5632 + d.val = d.val
    omega

theorem emb4 (k : Fin 2816) (d : Fin 1024) : ((cfg0.win 4).blk t).view.emb (ix2 k d) = ix2 k d := by
  funext a
  apply Fin.ext
  fin_cases a
  · blk_simp [idx4]
    show (cfg0.win 4).index t 0 * 2816 + k.val = k.val
    rw [congrFun (idx4 t) 0]
    show 0 * 2816 + k.val = k.val
    omega
  · blk_simp [idx4]
    show (cfg0.win 4).index t 1 * 1024 + d.val = d.val
    rw [congrFun (idx4 t) 1]
    show 0 * 1024 + d.val = d.val
    omega

theorem emb5 (r : Fin 256) (d : Fin 1024) : ((cfg0.win 5).blk t).view.emb (ix3 0 r d) = ix3 (bOf t) r d := by
  funext a
  apply Fin.ext
  fin_cases a
  · blk_simp [idx5]
    exact congrFun (idx5 t) 0
  · blk_simp [idx5]
    show (cfg0.win 5).index t 1 * 256 + r.val = r.val
    rw [congrFun (idx5 t) 1]
    show 0 * 256 + r.val = r.val
    omega
  · blk_simp [idx5]
    show (cfg0.win 5).index t 2 * 1024 + d.val = d.val
    rw [congrFun (idx5 t) 2]
    show 0 * 1024 + d.val = d.val
    omega

/-- The context. -/
def argX : FVec Ideal S4x256x1024 .f32 := m ((c.tc : Thread nD τ).loc main_arg0)
/-- The modulations. -/
def argM : FVec Ideal S8x9216 .f32 := m ((c.tc : Thread nD τ).loc main_arg1)
/-- The gains of the layer's norms. -/
def argG : FVec Ideal S3x1024 .f32 := m ((c.tc : Thread nD τ).loc main_arg2)
/-- The first weight. -/
def argU : FVec Ideal S1024x5632 .f32 := m ((c.tc : Thread nD τ).loc main_arg3)
/-- The second weight. -/
def argD : FVec Ideal S2816x1024 .f32 := m ((c.tc : Thread nD τ).loc main_arg4)

theorem blk0 (r : Fin 256) (d : Fin 1024) : iblk m c 0 t (ix3 0 r d) = argX m c (ix3 (bOf t) r d) := by
  show V m c main_arg0 (((cfg0.win 0).blk t).view.emb (ix3 0 r d)) = _
  rw [emb0, V_main_arg0]
  rfl

theorem blk1 (k : Fin 9) (d : Fin 1024) : iblk m c 1 t (ix3 0 k d) = argM m c (ix2 4 ⟨k.val * 1024 + d.val, by omega⟩) := by
  show V m c main_v0 (((cfg0.win 1).blk t).view.emb (ix3 0 k d)) = _
  rw [emb1]
  entry_read
  pointwise []
  rfl

theorem blk_shift (d : Fin 1024) : iblk m c 1 t (ix3 0 0 d) = argM m c (ix2 4 ⟨d.val, by omega⟩) :=
  (blk1 m c t 0 d).trans (congrArg (fun x => argM m c (ix2 4 x)) (Fin.ext (by show 0 * 1024 + d.val = d.val; omega)))

theorem blk_scale (d : Fin 1024) : iblk m c 1 t (ix3 0 1 d) = argM m c (ix2 4 ⟨1024 + d.val, by omega⟩) :=
  (blk1 m c t 1 d).trans (congrArg (fun x => argM m c (ix2 4 x)) (Fin.ext (by show 1 * 1024 + d.val = 1024 + d.val; omega)))

theorem blk_gate (d : Fin 1024) : iblk m c 1 t (ix3 0 2 d) = argM m c (ix2 4 ⟨2048 + d.val, by omega⟩) :=
  (blk1 m c t 2 d).trans (congrArg (fun x => argM m c (ix2 4 x)) (Fin.ext (by show 2 * 1024 + d.val = 2048 + d.val; omega)))

theorem blk2 (k : Fin 3) (d : Fin 1024) : iblk m c 2 t (ix2 k d) = argG m c (ix2 k d) := by
  show V m c main_arg2 (((cfg0.win 2).blk t).view.emb (ix2 k d)) = _
  rw [emb2, V_main_arg2]
  rfl

theorem blk3 (k : Fin 1024) (d : Fin 5632) : iblk m c 3 t (ix2 k d) = argU m c (ix2 k d) := by
  show V m c main_v1 (((cfg0.win 3).blk t).view.emb (ix2 k d)) = _
  rw [emb3]
  entry_read
  pointwise []
  rfl

theorem blk4 (k : Fin 2816) (d : Fin 1024) : iblk m c 4 t (ix2 k d) = argD m c (ix2 k d) := by
  show V m c main_v2 (((cfg0.win 4).blk t).view.emb (ix2 k d)) = _
  rw [emb4]
  entry_read
  pointwise []
  rfl

/-! ## The array the grid leaves -/

/-- The part's result, as an array. -/
def res : FVec Ideal S4x256x1024 .f32 := fun i => firstCtx (argX m c) (argM m c) (argG m c) (argU m c) (argD m c) (i 0) (i 1) (i 2)

theorem block (y : S1x256x1024.Idx) :
    out0_5 (F := Ideal) (iblk m c 0 t) (iblk m c 1 t) (iblk m c 2 t) (iblk m c 3 t) (iblk m c 4 t) y = res m c (((cfg0.win 5).blk t).view.emb y) := by
  have key (r : Fin 256) (d : Fin 1024) :
      out0_5 (F := Ideal) (iblk m c 0 t) (iblk m c 1 t) (iblk m c 2 t) (iblk m c 3 t) (iblk m c 4 t) (ix3 0 r d) = res m c (((cfg0.win 5).blk t).view.emb (ix3 0 r d)) := by
    rw [out_at, emb5]
    simp only [blk0, blk_shift, blk_scale, blk_gate, blk2, blk3, blk4]
    rfl
  have h0 : y 0 = (0 : Fin 1) := Subsingleton.elim (α := Fin 1) _ _
  rw [eq_ix3 y, h0]
  exact key (y 1) (y 2)

/-- The point that writes batch `b`. -/
def ptOf (b : Fin 4) : Fin cfg0.N := ⟨b.val, by
  show _ < grid0.N
  rw [N_0]
  omega⟩

theorem cover (b : Fin 4) (i : Fin 256) (d : Fin 1024) : ((cfg0.win 5).blk (ptOf b)).view.emb (ix3 0 i d) = ix3 b i d := by
  rw [emb5]
  rfl

theorem covered (i : S4x256x1024.Idx) : ∃ t : Fin cfg0.N, (cfg0.win 5).flush t = true ∧ i ∈ ((cfg0.win 5).blk t).view.set := by
  refine ⟨ptOf (i 0), flush0_5 _, ?_⟩
  have h := ((cfg0.win 5).blk (ptOf (i 0))).view.emb_mem_set (ix3 (0 : Fin 1) (i 1) (i 2))
  rw [cover (i 0) (i 1) (i 2), ← eq_ix3 i] at h
  exact h

theorem cut_at (t : Fin cfg0.N) (X : FVec Ideal S1x256x1024 .f32) (y : S1x256x1024.Idx) : (cfg0.win 5).cut (grid0.coords t) X y = X y := rfl

theorem flushed_at (t : Fin cfg0.N) (y : S1x256x1024.Idx) :
    (dats m 0 c).flushed 5 t y = res m c (((cfg0.win 5).blk t).view.emb y) := by
  rw [Value.flushed5]
  exact (cut_at t _ y).trans (block m c t y)

theorem final : (dats m 0 c).arrAt 5 cfg0.N = res m c := by
  funext i
  exact (dats m 0 c).arrAt_forall_of_cover 5 (fun i v => v = res m c i) (fun t _ y => flushed_at m c t y) covered i

end blocks

end Cert.Kernel8Ideal.Ctx

end
-- ==== Proof.CtxRef.lean ====
/-
  The context's first feed-forward part as the reference computes it, read at an index.
-/
module

public import proofs.«01_k».proof.Proof.CtxMath
public import proofs.«01_k».proof.Proof.Gen.Reference8Ideal.Run

@[expose] public section

noncomputable section

open scoped BigOperators

namespace Cert.Reference8Ideal.Ctx

open Cert.Ffn
open Cert.Reference8Ideal Cert.Reference8Ideal.Gen Cert.Reference8Ideal.Value Idealize.ShloMosaic Idealize.ShloMosaic.TcCoe

/-- Rows divided by the root of their mean squares. -/
def norm (x : FVec Ideal S4x256x1024 .f32) : FVec Ideal S4x256x1024 .f32 :=
  mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))

/-- The context's modulations. -/
def mods (a1 : FVec Ideal S8x9216 .f32) : FVec Ideal S1x9216 .f32 := extractStridedSlice S1x9216 ![4, 0] a1 slices_S8x9216_S1x9216_4_0

/-- Rows normalised, scaled and modulated. -/
def pre (x : FVec Ideal S4x256x1024 .f32) (a1 : FVec Ideal S8x9216 .f32) (a2 : FVec Ideal S3x1024 .f32) : FVec Ideal S4x256x1024 .f32 :=
  addf (mulf (mulf (norm x) (broadcastInDim S4x256x1024 ![0, 1, 2] bcast_S1x1x1024_S4x256x1024_0_1_2 (broadcastInDim S1x1x1024 ![2] bcast_S1024_S1x1x1024_2 (shapeCast _ (extractStridedSlice S1x1024 ![0, 0] a2 slices_S3x1024_S1x1024_0_0) shapeCasts_S1x1024_S1024)))) (broadcastInDim S4x256x1024 ![0, 1, 2] bcast_S1x1x1024_S4x256x1024_0_1_2 (addf (broadcastInDim S1x1x1024 ![] bcast_S_S1x1x1024 (constant S_ .f32 0x3F800000#32)) (broadcastInDim S1x1x1024 ![0, 2] bcast_S1x1024_S1x1x1024_0_2 (extractStridedSlice S1x1024 ![0, 1024] (mods a1) slices_S1x9216_S1x1024_0_1024))))) (broadcastInDim S4x256x1024 ![0, 1, 2] bcast_S1x1x1024_S4x256x1024_0_1_2 (broadcastInDim S1x1x1024 ![0, 2] bcast_S1x1024_S1x1x1024_0_2 (extractStridedSlice S1x1024 ![0, 0] (mods a1) slices_S1x9216_S1x1024_0_0)))

/-- The first product. -/
def up (h : FVec Ideal S4x256x1024 .f32) (a3 : FVec Ideal S1024x5632 .f32) : FVec Ideal S4x256x5632 .f32 :=
  Host.dotGeneral (F := Ideal) dot_S4x256x1024_S1024x5632_S4x256x5632_2_0_01_1_n_n none h a3

/-- The gated hidden rows. -/
def act (u : FVec Ideal S4x256x5632 .f32) : FVec Ideal S4x256x2816 .f32 :=
  mulf (mulf (extractStridedSlice S4x256x2816 ![0, 0, 0] u slices_S4x256x5632_S4x256x2816_0_0_0) (Host.divf (broadcastInDim S4x256x2816 ![] bcast_S_S4x256x2816 (constant S_ .f32 0x3F800000#32)) (addf (broadcastInDim S4x256x2816 ![] bcast_S_S4x256x2816 (constant S_ .f32 0x3F800000#32)) (Host.exp (Host.negf (extractStridedSlice S4x256x2816 ![0, 0, 0] u slices_S4x256x5632_S4x256x2816_0_0_0)))))) (extractStridedSlice S4x256x2816 ![0, 0, 2816] u slices_S4x256x5632_S4x256x2816_0_0_2816)

/-- The second product. -/
def down (a : FVec Ideal S4x256x2816 .f32) (a4 : FVec Ideal S2816x1024 .f32) : FVec Ideal S4x256x1024 .f32 :=
  Host.dotGeneral (F := Ideal) dot_S4x256x2816_S2816x1024_S4x256x1024_2_0_01_1_n_n none a a4

/-- The rows with half their gated feed-forward part added. -/
def sum (x : FVec Ideal S4x256x1024 .f32) (a1 : FVec Ideal S8x9216 .f32) (f : FVec Ideal S4x256x1024 .f32) : FVec Ideal S4x256x1024 .f32 :=
  addf x (mulf (broadcastInDim S4x256x1024 ![0, 1, 2] bcast_S1x1x1024_S4x256x1024_0_1_2 (mulf (broadcastInDim S1x1x1024 ![] bcast_S_S1x1x1024 (constant S_ .f32 0x3F000000#32)) (broadcastInDim S1x1x1024 ![0, 2] bcast_S1x1024_S1x1x1024_0_2 (extractStridedSlice S1x1024 ![0, 2048] (mods a1) slices_S1x9216_S1x1024_0_2048)))) f)

theorem norm_at (x : FVec Ideal S4x256x1024 .f32) (b : Fin 4) (i : Fin 256) (d : Fin 1024) :
    norm x (ix3 b i d) = rms (fun e => x (ix3 b i e)) d := by
  pointwise [norm]
  rfl

theorem pre_at (x : FVec Ideal S4x256x1024 .f32) (a1 : FVec Ideal S8x9216 .f32) (a2 : FVec Ideal S3x1024 .f32) (b : Fin 4) (i : Fin 256) (d : Fin 1024) :
    pre x a1 a2 (ix3 b i d) = Cert.Ffn.pre (fun e => x (ix3 b i e)) (fun e => a2 (ix2 0 e))
      (fun e => a1 (ix2 4 ⟨1024 + e.val, by omega⟩)) (fun e => a1 (ix2 4 ⟨e.val, by omega⟩)) d := by
  pointwise [pre, mods]
  rw [norm_at]
  rfl

theorem up_at (h : FVec Ideal S4x256x1024 .f32) (a3 : FVec Ideal S1024x5632 .f32) (b : Fin 4) (i : Fin 256) (j : Fin 5632) :
    up h a3 (ix3 b i j) = dot (fun e => h (ix3 b i e)) (fun e j => a3 (ix2 e j)) j := by
  pointwise [up]
  rfl

theorem act_at (u : FVec Ideal S4x256x5632 .f32) (b : Fin 4) (i : Fin 256) (j : Fin 2816) :
    act u (ix3 b i j) = gated (u (ix3 b i ⟨j.val, by omega⟩)) (u (ix3 b i ⟨2816 + j.val, by omega⟩)) := by
  pointwise [act]
  rfl

theorem down_at (a : FVec Ideal S4x256x2816 .f32) (a4 : FVec Ideal S2816x1024 .f32) (b : Fin 4) (i : Fin 256) (d : Fin 1024) :
    down a a4 (ix3 b i d) = ∑ j, a (ix3 b i j) * a4 (ix2 j d) := by
  pointwise [down]

theorem sum_at (x : FVec Ideal S4x256x1024 .f32) (a1 : FVec Ideal S8x9216 .f32) (f : FVec Ideal S4x256x1024 .f32) (b : Fin 4) (i : Fin 256) (d : Fin 1024) :
    sum x a1 f (ix3 b i d) = add (fun e => x (ix3 b i e)) (fun e => a1 (ix2 4 ⟨2048 + e.val, by omega⟩)) (fun e => f (ix3 b i e)) d := by
  pointwise [sum, mods]
  rfl

section result

variable (m : (ℓ : Loc nD τ sig) → Buf (Elt Ideal) ℓ) (c : Dev nD)

/-- The context. -/
def argX : FVec Ideal S4x256x1024 .f32 := m ((c.tc : Thread nD τ).loc main_arg0)
/-- The modulations. -/
def argM : FVec Ideal S8x9216 .f32 := m ((c.tc : Thread nD τ).loc main_arg1)
/-- The gains of the layer's norms. -/
def argG : FVec Ideal S3x1024 .f32 := m ((c.tc : Thread nD τ).loc main_arg2)
/-- The first weight. -/
def argU : FVec Ideal S1024x5632 .f32 := m ((c.tc : Thread nD τ).loc main_arg3)
/-- The second weight. -/
def argD : FVec Ideal S2816x1024 .f32 := m ((c.tc : Thread nD τ).loc main_arg4)

theorem res_eq : res_main_v44 m c = sum (argX m c) (argM m c)
    (down (act (up (pre (argX m c) (argM m c) (argG m c)) (argU m c))) (argD m c)) := by
  unfold res_main_v44
  rfl

/-- The reference's result at an index. -/
theorem res_at (b : Fin 4) (i : Fin 256) (d : Fin 1024) :
    res_main_v44 m c (ix3 b i d) = firstCtx (argX m c) (argM m c) (argG m c) (argU m c) (argD m c) b i d := by
  have h1 : ∀ e, pre (argX m c) (argM m c) (argG m c) (ix3 b i e) = _ := fun e => pre_at (argX m c) (argM m c) (argG m c) b i e
  rw [res_eq, sum_at]
  simp only [down_at, act_at, up_at, h1]
  rfl

end result

end Cert.Reference8Ideal.Ctx

end
-- ==== Proof.CtxProjKernel.lean ====
/-
  The context's projection as the kernel computes it: a grid point's block as a function of the blocks it loads, these blocks in
  terms of the arguments, and the array the grid leaves.
-/
module

public import proofs.«01_k».proof.Proof.CtxMath
public import proofs.«01_k».proof.Proof.Gen.Kernel9Ideal.Value
public import Idealize.ShloMosaic.Lib.Pipeline.ValueKit
public import Idealize.ShloMosaic.Lib.Pipeline.ReadBack
public import Idealize.ShloMosaic.Lib.Claim

@[expose] public section

set_option maxRecDepth 16384

noncomputable section

open scoped BigOperators

namespace Cert.Kernel9Ideal.CtxProj

open Cert.Ffn
open Cert.Kernel9Ideal Cert.Kernel9Ideal.Gen Idealize.ShloMosaic Idealize.ShloMosaic.TcCoe
open Idealize.ShloMosaic.Pointwise

/-! ## What a point computes -/

theorem pay1_at (v0 : FVec Ideal S1x256x1024 .f32) (v2 v4 : FVec Ideal S1x1x1024 .f32) (v6 : FVec Ideal S1x1024 .f32) (v26 : FVec Ideal S1024x2048 .bf16)
    (r : Fin 256) (j : Fin 2048) :
    k0_pay1 (F := Ideal) v0 v2 v4 v6 v26 (ix3 0 r j)
      = dot (pre (fun e => v0 (ix3 0 r e)) (fun e => v6 (ix2 0 e)) (fun e => v4 (ix3 0 0 e)) (fun e => v2 (ix3 0 0 e))) (fun e j => v26 (ix2 e j)) j := by
  pointwise [k0_pay1]
  rfl

/-! ## The loads of parts of a block -/

theorem ld1 (x : Vec Ideal S1x9x1024 .f32) (j : Fin 1024) : View.ld (Val := Elt Ideal) (e' := .f32) x r0_1 (ix3 0 0 j) = x (ix3 0 3 j) := by
  refine congrArg x (funext fun a => Fin.ext ?_)
  fin_cases a
  · rfl
  · rfl
  · show 0 + 1 * j.val = j.val
    omega

theorem ld2 (x : Vec Ideal S1x9x1024 .f32) (j : Fin 1024) : View.ld (Val := Elt Ideal) (e' := .f32) x r0_2 (ix3 0 0 j) = x (ix3 0 4 j) := by
  refine congrArg x (funext fun a => Fin.ext ?_)
  fin_cases a
  · rfl
  · rfl
  · show 0 + 1 * j.val = j.val
    omega

theorem ld3 (x : Vec Ideal S3x1024 .f32) (j : Fin 1024) : View.ld (Val := Elt Ideal) (e' := .f32) x r0_3 (ix2 0 j) = x (ix2 1 j) := by
  refine congrArg x (funext fun a => Fin.ext ?_)
  fin_cases a
  · rfl
  · show 0 + 1 * j.val = j.val
    omega

/-- A point's block at an index, of the values it loads. -/
theorem pay_at (P0 : FVec Ideal S1x256x1024 .f32) (P1 P2 : FVec Ideal S1x1x1024 .f32) (P3 : FVec Ideal S1x1024 .f32) (W : FVec Ideal S1024x2048 .bf16)
    (r : Fin 256) (j : Fin 2048) (x shift scale g : Fin 1024 → EReal) (h0 : ∀ e, P0 (ix3 0 r e) = x e) (h1 : ∀ e, P1 (ix3 0 0 e) = shift e)
    (h2 : ∀ e, P2 (ix3 0 0 e) = scale e) (h3 : ∀ e, P3 (ix2 0 e) = g e) :
    k0_pay1 (F := Ideal) P0 P1 P2 P3 W (ix3 0 r j) = dot (pre x g scale shift) (fun e j => W (ix2 e j)) j := by
  rw [pay1_at]
  simp only [h0, h1, h2, h3]

/-- A point's block at an index, of the blocks it loads. -/
theorem out_at (x0 : FVec Ideal S1x256x1024 .f32) (x1 : FVec Ideal S1x9x1024 .f32) (x2 : FVec Ideal S3x1024 .f32) (x3 : FVec Ideal S1024x2048 .bf16)
    (r : Fin 256) (j : Fin 2048) :
    out0_4 (F := Ideal) x0 x1 x2 x3 (ix3 0 r j)
      = dot (pre (fun e => x0 (ix3 0 r e)) (fun e => x2 (ix2 1 e)) (fun e => x1 (ix3 0 4 e)) (fun e => x1 (ix3 0 3 e))) (fun e j => x3 (ix2 e j)) j := by
  frame_out
  exact pay_at _ (View.ld (Val := Elt Ideal) (e' := .f32) x1 r0_1) (View.ld (Val := Elt Ideal) (e' := .f32) x1 r0_2)
    (View.ld (Val := Elt Ideal) (e' := .f32) x2 r0_3) _ r j (fun e => x0 (ix3 0 r e)) (fun e => x1 (ix3 0 3 e)) (fun e => x1 (ix3 0 4 e)) (fun e => x2 (ix2 1 e))
    (fun _ => rfl) (ld1 x1) (ld2 x1) (ld3 x2)

/-! ## The blocks of a point, in terms of the arguments -/

section blocks

variable (m : (ℓ : Loc nD τ sig) → Buf (Elt Ideal) ℓ) (c : Dev nD) (t : Fin cfg0.N)

/-- A point's batch. -/
def bOf : Fin 4 := ⟨t.val, lt_of_lt_of_eq t.isLt N_0⟩

theorem idx0 : ∀ t : Fin cfg0.N, (cfg0.win 0).index t = ![t.val, 0, 0] := by decide +kernel
theorem idx1 : ∀ t : Fin cfg0.N, (cfg0.win 1).index t = ![4, 0, 0] := by decide +kernel
theorem idx2 : ∀ t : Fin cfg0.N, (cfg0.win 2).index t = ![0, 0] := by decide +kernel
theorem idx3 : ∀ t : Fin cfg0.N, (cfg0.win 3).index t = ![0, 0] := by decide +kernel
theorem idx4 : ∀ t : Fin cfg0.N, (cfg0.win 4).index t = ![t.val, 0, 0] := by decide +kernel

theorem emb0 (r : Fin 256) (d : Fin 1024) : ((cfg0.win 0).blk t).view.emb (ix3 0 r d) = ix3 (bOf t) r d := by
  funext a
  apply Fin.ext
  fin_cases a
  · blk_simp [idx0]
    exact congrFun (idx0 t) 0
  · blk_simp [idx0]
    show (cfg0.win 0).index t 1 * 256 + r.val = r.val
    rw [congrFun (idx0 t) 1]
    show 0 * 256 + r.val = r.val
    omega
  · blk_simp [idx0]
    show (cfg0.win 0).index t 2 * 1024 + d.val = d.val
    rw [congrFun (idx0 t) 2]
    show 0 * 1024 + d.val = d.val
    omega

theorem emb1 (k : Fin 9) (d : Fin 1024) : ((cfg0.win 1).blk t).view.emb (ix3 0 k d) = ix3 (4 : Fin 8) k d := by
  funext a
  apply Fin.ext
  fin_cases a
  · blk_simp [idx1]
    exact congrFun (idx1 t) 0
  · blk_simp [idx1]
    show (cfg0.win 1).index t 1 * 9 + k.val = k.val
    rw [congrFun (idx1 t) 1]
    show 0 * 9 + k.val = k.val
    omega
  · blk_simp [idx1]
    show (cfg0.win 1).index t 2 * 1024 + d.val = d.val
    rw [congrFun (idx1 t) 2]
    show 0 * 1024 + d.val = d.val
    omega

theorem emb2 (k : Fin 3) (d : Fin 1024) : ((cfg0.win 2).blk t).view.emb (ix2 k d) = ix2 k d := by
  funext a
  apply Fin.ext
  fin_cases a
  · blk_simp [idx2]
    show (cfg0.win 2).index t 0 * 3 + k.val = k.val
    rw [congrFun (idx2 t) 0]
    show 0 * 3 + k.val = k.val
    omega
  · blk_simp [idx2]
    show (cfg0.win 2).index t 1 * 1024 + d.val = d.val
    rw [congrFun (idx2 t) 1]
    show 0 * 1024 + d.val = d.val
    omega

theorem emb3 (k : Fin 1024) (d : Fin 2048) : ((cfg0.win 3).blk t).view.emb (ix2 k d) = ix2 k d := by
  funext a
  apply Fin.ext
  fin_cases a
  · blk_simp [idx3]
    show (cfg0.win 3).index t 0 * 1024 + k.val = k.val
    rw [congrFun (idx3 t) 0]
    show 0 * 1024 + k.val = k.val
    omega
  · blk_simp [idx3]
    show (cfg0.win 3).index t 1 * 2048 + d.val = d.val
    rw [congrFun (idx3 t) 1]
    show 0 * 2048 + d.val = d.val
    omega

theorem emb4 (r : Fin 256) (d : Fin 2048) : ((cfg0.win 4).blk t).view.emb (ix3 0 r d) = ix3 (bOf t) r d := by
  funext a
  apply Fin.ext
  fin_cases a
  · blk_simp [idx4]
    exact congrFun (idx4 t) 0
  · blk_simp [idx4]
    show (cfg0.win 4).index t 1 * 256 + r.val = r.val
    rw [congrFun (idx4 t) 1]
    show 0 * 256 + r.val = r.val
    omega
  · blk_simp [idx4]
    show (cfg0.win 4).index t 2 * 2048 + d.val = d.val
    rw [congrFun (idx4 t) 2]
    show 0 * 2048 + d.val = d.val
    omega

/-- The context after its feed-forward part. -/
def argX : FVec Ideal S4x256x1024 .f32 := m ((c.tc : Thread nD τ).loc main_arg0)
/-- The modulations. -/
def argM : FVec Ideal S8x9216 .f32 := m ((c.tc : Thread nD τ).loc main_arg1)
/-- The gains of the layer's norms. -/
def argG : FVec Ideal S3x1024 .f32 := m ((c.tc : Thread nD τ).loc main_arg2)
/-- The weight, of which the first 2048 columns are used. -/
def argW : FVec Ideal S1024x9216 .f32 := m ((c.tc : Thread nD τ).loc main_arg3)

theorem blk0 (r : Fin 256) (d : Fin 1024) : iblk m c 0 t (ix3 0 r d) = argX m c (ix3 (bOf t) r d) := by
  show V m c main_arg0 (((cfg0.win 0).blk t).view.emb (ix3 0 r d)) = _
  rw [emb0, V_main_arg0]
  rfl

theorem blk1 (k : Fin 9) (d : Fin 1024) : iblk m c 1 t (ix3 0 k d) = argM m c (ix2 4 ⟨k.val * 1024 + d.val, by omega⟩) := by
  show V m c main_v0 (((cfg0.win 1).blk t).view.emb (ix3 0 k d)) = _
  rw [emb1]
  entry_read
  pointwise []
  rfl

theorem blk_shift (d : Fin 1024) : iblk m c 1 t (ix3 0 3 d) = argM m c (ix2 4 ⟨3072 + d.val, by omega⟩) :=
  (blk1 m c t 3 d).trans (congrArg (fun x => argM m c (ix2 4 x)) (Fin.ext (by show 3 * 1024 + d.val = 3072 + d.val; omega)))

theorem blk_scale (d : Fin 1024) : iblk m c 1 t (ix3 0 4 d) = argM m c (ix2 4 ⟨4096 + d.val, by omega⟩) :=
  (blk1 m c t 4 d).trans (congrArg (fun x => argM m c (ix2 4 x)) (Fin.ext (by show 4 * 1024 + d.val = 4096 + d.val; omega)))

theorem blk2 (k : Fin 3) (d : Fin 1024) : iblk m c 2 t (ix2 k d) = argG m c (ix2 k d) := by
  show V m c main_arg2 (((cfg0.win 2).blk t).view.emb (ix2 k d)) = _
  rw [emb2, V_main_arg2]
  rfl

theorem blk3 (k : Fin 1024) (d : Fin 2048) : iblk m c 3 t (ix2 k d) = argW m c (ix2 k (colA d)) := by
  show V m c main_v2 (((cfg0.win 3).blk t).view.emb (ix2 k d)) = _
  rw [emb3]
  entry_read
  pointwise []
  rfl

/-! ## The array the grid leaves -/

/-- The part's result, as an array. -/
def res : FVec Ideal S4x256x2048 .bf16 := fun i => projCtx (argX m c) (argM m c) (argG m c) (argW m c) (i 0) (i 1) (i 2)

theorem block (y : S1x256x2048.Idx) :
    out0_4 (F := Ideal) (iblk m c 0 t) (iblk m c 1 t) (iblk m c 2 t) (iblk m c 3 t) y = res m c (((cfg0.win 4).blk t).view.emb y) := by
  have key (r : Fin 256) (d : Fin 2048) :
      out0_4 (F := Ideal) (iblk m c 0 t) (iblk m c 1 t) (iblk m c 2 t) (iblk m c 3 t) (ix3 0 r d) = res m c (((cfg0.win 4).blk t).view.emb (ix3 0 r d)) := by
    rw [out_at, emb4]
    simp only [blk0, blk_shift, blk_scale, blk2, blk3]
    rfl
  have h0 : y 0 = (0 : Fin 1) := Subsingleton.elim (α := Fin 1) _ _
  rw [eq_ix3 y, h0]
  exact key (y 1) (y 2)

/-- The point that writes batch `b`. -/
def ptOf (b : Fin 4) : Fin cfg0.N := ⟨b.val, by
  show _ < grid0.N
  rw [N_0]
  omega⟩

theorem cover (b : Fin 4) (i : Fin 256) (d : Fin 2048) : ((cfg0.win 4).blk (ptOf b)).view.emb (ix3 0 i d) = ix3 b i d := by
  rw [emb4]
  rfl

theorem covered (i : S4x256x2048.Idx) : ∃ t : Fin cfg0.N, (cfg0.win 4).flush t = true ∧ i ∈ ((cfg0.win 4).blk t).view.set := by
  refine ⟨ptOf (i 0), flush0_4 _, ?_⟩
  have h := ((cfg0.win 4).blk (ptOf (i 0))).view.emb_mem_set (ix3 (0 : Fin 1) (i 1) (i 2))
  rw [cover (i 0) (i 1) (i 2), ← eq_ix3 i] at h
  exact h

theorem cut_at (t : Fin cfg0.N) (X : FVec Ideal S1x256x2048 .bf16) (y : S1x256x2048.Idx) : (cfg0.win 4).cut (grid0.coords t) X y = X y := rfl

theorem flushed_at (t : Fin cfg0.N) (y : S1x256x2048.Idx) :
    (dats m 0 c).flushed 4 t y = res m c (((cfg0.win 4).blk t).view.emb y) := by
  rw [Value.flushed4]
  exact (cut_at t _ y).trans (block m c t y)

theorem final : (dats m 0 c).arrAt 4 cfg0.N = res m c := by
  funext i
  exact (dats m 0 c).arrAt_forall_of_cover 4 (fun i v => v = res m c i) (fun t _ y => flushed_at m c t y) covered i

end blocks

end Cert.Kernel9Ideal.CtxProj

end
-- ==== Proof.CtxProjRef.lean ====
/-
  The context's projection as the reference computes it, read at an index.
-/
module

public import proofs.«01_k».proof.Proof.CtxMath
public import proofs.«01_k».proof.Proof.Gen.Reference9Ideal.Run

@[expose] public section

noncomputable section

open scoped BigOperators
open Idealize.SL.Sem

namespace Cert.Reference9Ideal.CtxProj

open Cert.Ffn
open Cert.Reference9Ideal Cert.Reference9Ideal.Gen Cert.Reference9Ideal.Value Idealize.ShloMosaic Idealize.ShloMosaic.TcCoe

/-- Rows divided by the root of their mean squares. -/
def norm (x : FVec Ideal S4x256x1024 .f32) : FVec Ideal S4x256x1024 .f32 :=
  mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))

/-- The context's modulations. -/
def mods (a1 : FVec Ideal S8x9216 .f32) : FVec Ideal S1x9216 .f32 := extractStridedSlice S1x9216 ![4, 0] a1 slices_S8x9216_S1x9216_4_0

/-- Rows normalised, scaled and modulated. -/
def pre (x : FVec Ideal S4x256x1024 .f32) (a1 : FVec Ideal S8x9216 .f32) (a2 : FVec Ideal S3x1024 .f32) : FVec Ideal S4x256x1024 .f32 :=
  addf (mulf (mulf (norm x) (broadcastInDim S4x256x1024 ![0, 1, 2] bcast_S1x1x1024_S4x256x1024_0_1_2 (broadcastInDim S1x1x1024 ![2] bcast_S1024_S1x1x1024_2 (shapeCast _ (extractStridedSlice S1x1024 ![1, 0] a2 slices_S3x1024_S1x1024_1_0) shapeCasts_S1x1024_S1024)))) (broadcastInDim S4x256x1024 ![0, 1, 2] bcast_S1x1x1024_S4x256x1024_0_1_2 (addf (broadcastInDim S1x1x1024 ![] bcast_S_S1x1x1024 (constant S_ .f32 0x3F800000#32)) (broadcastInDim S1x1x1024 ![0, 2] bcast_S1x1024_S1x1x1024_0_2 (extractStridedSlice S1x1024 ![0, 4096] (mods a1) slices_S1x9216_S1x1024_0_4096))))) (broadcastInDim S4x256x1024 ![0, 1, 2] bcast_S1x1x1024_S4x256x1024_0_1_2 (broadcastInDim S1x1x1024 ![0, 2] bcast_S1x1024_S1x1x1024_0_2 (extractStridedSlice S1x1024 ![0, 3072] (mods a1) slices_S1x9216_S1x1024_0_3072)))

/-- The product with the weight's first columns. -/
def up (h : FVec Ideal S4x256x1024 .f32) (a3 : FVec Ideal S1024x9216 .f32) : FVec Ideal S4x256x2048 .bf16 :=
  truncf .bf16 (Host.dotGeneral (F := Ideal) dot_S4x256x1024_S1024x2048_S4x256x2048_2_0_01_1_n_n none h
    (extractStridedSlice S1024x2048 ![0, 0] a3 slices_S1024x9216_S1024x2048_0_0)) bitsLt_bf16_f32

theorem norm_at (x : FVec Ideal S4x256x1024 .f32) (b : Fin 4) (i : Fin 256) (d : Fin 1024) :
    norm x (ix3 b i d) = rms (fun e => x (ix3 b i e)) d := by
  pointwise [norm]
  rfl

theorem pre_at (x : FVec Ideal S4x256x1024 .f32) (a1 : FVec Ideal S8x9216 .f32) (a2 : FVec Ideal S3x1024 .f32) (b : Fin 4) (i : Fin 256) (d : Fin 1024) :
    pre x a1 a2 (ix3 b i d) = Cert.Ffn.pre (fun e => x (ix3 b i e)) (fun e => a2 (ix2 1 e))
      (fun e => a1 (ix2 4 ⟨4096 + e.val, by omega⟩)) (fun e => a1 (ix2 4 ⟨3072 + e.val, by omega⟩)) d := by
  pointwise [pre, mods]
  rw [norm_at]
  rfl

theorem up_at (h : FVec Ideal S4x256x1024 .f32) (a3 : FVec Ideal S1024x9216 .f32) (b : Fin 4) (i : Fin 256) (j : Fin 2048) :
    up h a3 (ix3 b i j) = dot (fun e => h (ix3 b i e)) (fun e j => a3 (ix2 e j)) (colA j) := by
  pointwise [up]
  rfl

section result

variable (m : (ℓ : Loc nD τ sig) → Buf (Elt Ideal) ℓ) (c : Dev nD)

/-- The context after its feed-forward part. -/
def argX : FVec Ideal S4x256x1024 .f32 := m ((c.tc : Thread nD τ).loc main_arg0)
/-- The modulations. -/
def argM : FVec Ideal S8x9216 .f32 := m ((c.tc : Thread nD τ).loc main_arg1)
/-- The gains of the layer's norms. -/
def argG : FVec Ideal S3x1024 .f32 := m ((c.tc : Thread nD τ).loc main_arg2)
/-- The weight, of which the first 2048 columns are used. -/
def argW : FVec Ideal S1024x9216 .f32 := m ((c.tc : Thread nD τ).loc main_arg3)

/-- The product at an index. -/
theorem all_at (b : Fin 4) (i : Fin 256) (j : Fin 2048) :
    up (pre (argX m c) (argM m c) (argG m c)) (argW m c) (ix3 b i j) = projCtx (argX m c) (argM m c) (argG m c) (argW m c) b i j := by
  have h1 : ∀ e, pre (argX m c) (argM m c) (argG m c) (ix3 b i e) = _ := fun e => pre_at (argX m c) (argM m c) (argG m c) b i e
  rw [up_at]
  simp only [h1]
  rfl

/-- The reference ends with the product and its arguments unchanged. -/
theorem run_at (ρ : Dev nD → PrngReg) :
    θ_run defs (onTc (τ := τ) (main (F := Ideal))) ⟨m, fun _ => 0, ρ⟩ fun r => ∀ c : Dev nD,
      r.2.mem ((c.tc : Thread nD τ).loc main_v35) = up (pre (argX m c) (argM m c) (argG m c)) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run (F := Ideal) m ρ

end result

end Cert.Reference9Ideal.CtxProj

end
-- ==== Proof.lean ====
/-
  The claims: the kernel and the reference run, end with their arguments unchanged and every semaphore counter at zero; the kernel's
  idealisation keeps its words but for the mask's constant; and from equal arguments, all of them finite, the kernel's idealisation
  and the reference end with equal results — the rows of the two scans, forwards and backwards. The same of the second feed-forward
  part with the last norm, of the first with the position embedding, of the projections, of the merge, of the short convolution with
  the first gate, of the modulations and of the context's first feed-forward part and projection, with no condition on the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.RefRun
public import proofs.«01_k».proof.Proof.Gen.Pre_finite
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.ConvKernel
public import proofs.«01_k».proof.Proof.ConvRef
public import proofs.«01_k».proof.Proof.ModsKernel
public import proofs.«01_k».proof.Proof.ModsRef
public import proofs.«01_k».proof.Proof.ScanFinal
public import proofs.«01_k».proof.Proof.ScanRefEnd
public import proofs.«01_k».proof.Proof.ScanPre
public import proofs.«01_k».proof.Proof.FfnRef
public import proofs.«01_k».proof.Proof.FfnFinal
public import proofs.«01_k».proof.Proof.FirstRef
public import proofs.«01_k».proof.Proof.FirstFinal
public import proofs.«01_k».proof.Proof.ProjRef
public import proofs.«01_k».proof.Proof.ProjFinal
public import proofs.«01_k».proof.Proof.MergeRef
public import proofs.«01_k».proof.Proof.MergeFinal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.CtxKernel
public import proofs.«01_k».proof.Proof.CtxRef
public import proofs.«01_k».proof.Proof.CtxProjKernel
public import proofs.«01_k».proof.Proof.CtxProjRef
public import Idealize.ShloMosaic.Lib.Quiescent
public import Idealize.ShloMosaic.Adequacy
public import Idealize.ShloMosaic.Init

@[expose] public section

noncomputable section

namespace Cert.Proof

open Idealize.ShloMosaic Idealize.SL.Sem
open Idealize.ShloMosaic.Pointwise
open Idealize.ShloMosaic.TcCoe

/-- The reference's frame. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run _ _ _).mono (fun r h => ⟨fun c => (h c).2.2, sem_eq_zero_of_no_sems (by decide) r.2⟩) (Cert.RefRun.run (F := Ideal) m g)

/-- The reference's forward result is the kernel's. -/
theorem reference_forward (m' : (ℓ : Loc Cert.ReferenceIdeal.nD Cert.ReferenceIdeal.τ Cert.ReferenceIdeal.sig) → Buf (Elt Ideal) ℓ)
    (c : Dev Cert.ReferenceIdeal.nD) (A : Cert.Scan.Args) (e : Cert.ScanRef.argsOf m' c = A) (R : A.Real) :
    Cert.ReferenceIdeal.Step.R_main_v62 (Cert.RefRun.iter m' c 32) = Cert.Scan.resF A := by
  subst e
  have key (b : Fin 4) (i : Fin 4096) (y : Fin 2048) :
      Cert.ReferenceIdeal.Step.R_main_v62 (Cert.RefRun.iter m' c 32) (ix3 b i y) = Cert.Scan.resF (Cert.ScanRef.argsOf m' c) (ix3 b i y) :=
    Cert.ScanRef.fwd m' c R b i y
  funext x
  have h := key (x 0) (x 1) (x 2)
  rwa [← eq_ix3 x] at h

/-- The reference's backward result is the kernel's. -/
theorem reference_backward (m' : (ℓ : Loc Cert.ReferenceIdeal.nD Cert.ReferenceIdeal.τ Cert.ReferenceIdeal.sig) → Buf (Elt Ideal) ℓ)
    (c : Dev Cert.ReferenceIdeal.nD) (A : Cert.Scan.Args) (e : Cert.ScanRef.argsOf m' c = A) (R : A.Real) :
    Cert.ReferenceIdeal.Step.R_main_v67 (Cert.RefRun.iter m' c 32) = Cert.Scan.resB A := by
  subst e
  have key (b : Fin 4) (i : Fin 4096) (y : Fin 2048) :
      Cert.ReferenceIdeal.Step.R_main_v67 (Cert.RefRun.iter m' c 32) (ix3 b i y) = Cert.Scan.resB (Cert.ScanRef.argsOf m' c) (ix3 b i y) :=
    Cert.ScanRef.bwd m' c R b i y
  funext x
  have h := key (x 0) (x 1) (x 2)
  rwa [← eq_ix3 x] at h

/-- The kernel's idealisation and the reference agree. -/
theorem agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have R := Cert.Scan.real_of_pre m hpre
  have e (c : Dev Cert.KernelIdeal.nD) : Cert.ScanRef.argsOf m' c = Cert.Scan.argsOf m c := by
    obtain ⟨h0, h1, h2, h3, h4, h5, h6⟩ := hargs c
    unfold Cert.ScanRef.argsOf Cert.Scan.argsOf
    congr 1
  refine ⟨fun c => Cert.Scan.resF (Cert.Scan.argsOf m c), fun c => Cert.Scan.resB (Cert.Scan.argsOf m c), ?_, ?_⟩
  · refine (θ_run _ _ _).mono (fun r h c => ?_) (Cert.KernelIdeal.Value.run_blocks (F := Ideal) m g)
    obtain ⟨h0, h1, h2⟩ := h c
    exact ⟨h0.trans (Cert.Scan.finalF m c (R c)), h1.trans (Cert.Scan.finalB m c (R c)), h2⟩
  · refine (θ_run _ _ _).mono (fun r h c => ?_) (Cert.RefRun.run (F := Ideal) m' g')
    obtain ⟨h0, h1, h2⟩ := h c
    exact ⟨h0.trans (reference_forward m' c _ (e c) (R c)), h1.trans (reference_backward m' c _ (e c) (R c)), h2⟩

/-- The frame of the second feed-forward part's reference. -/
theorem reference2_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run _ _ _).mono (fun r h => ⟨fun c => (h c).2, sem_eq_zero_of_no_sems (by decide) r.2⟩) (Cert.Reference2Ideal.Value.run (F := Ideal) m g)

/-- The second feed-forward part: the kernel's idealisation and the reference agree. -/
theorem agree2 : Cert.algebraic_Kernel2Ideal_Reference2Ideal (hKernel2Ideal := Cert.Kernel2Ideal.Gen.facts)
    (hReference2Ideal := Cert.Reference2Ideal.Gen.facts) := by
  intro m g m' g' _ hargs
  have e (c : Dev Cert.Kernel2Ideal.nD) : Cert.Reference2Ideal.Value.res_main_v57 (F := Ideal) m' c = Cert.Kernel2Ideal.Ffn.res m c := by
    obtain ⟨h0, h1, h2, h3, h4, h5⟩ := hargs c
    have a0 : Cert.Reference2Ideal.Ffn.argX m' c = Cert.Kernel2Ideal.Ffn.argX m c := h0
    have a1 : Cert.Reference2Ideal.Ffn.argM m' c = Cert.Kernel2Ideal.Ffn.argM m c := h1
    have a2 : Cert.Reference2Ideal.Ffn.argG m' c = Cert.Kernel2Ideal.Ffn.argG m c := h2
    have a3 : Cert.Reference2Ideal.Ffn.argU m' c = Cert.Kernel2Ideal.Ffn.argU m c := h3
    have a4 : Cert.Reference2Ideal.Ffn.argD m' c = Cert.Kernel2Ideal.Ffn.argD m c := h4
    have a5 : Cert.Reference2Ideal.Ffn.argF m' c = Cert.Kernel2Ideal.Ffn.argF m c := h5
    funext i
    have h := Cert.Reference2Ideal.Ffn.res_at m' c (i 0) (i 1) (i 2)
    rw [← eq_ix3 i, a0, a1, a2, a3, a4, a5] at h
    exact h
  refine ⟨fun c => Cert.Kernel2Ideal.Ffn.res m c, ?_, ?_⟩
  · refine (θ_run _ _ _).mono (fun r h c => ?_) (Cert.Kernel2Ideal.Value.run_blocks (F := Ideal) m g)
    exact ⟨(h c).1.trans (Cert.Kernel2Ideal.Ffn.final m c), (h c).2⟩
  · refine (θ_run _ _ _).mono (fun r h c => ?_) (Cert.Reference2Ideal.Value.run (F := Ideal) m' g')
    exact ⟨(h c).1.trans (e c), (h c).2⟩

/-- The frame of the first feed-forward part's reference. -/
theorem reference3_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run _ _ _).mono (fun r h => ⟨fun c => (h c).2, sem_eq_zero_of_no_sems (by decide) r.2⟩) (Cert.Reference3Ideal.Value.run (F := Ideal) m g)

/-- The first feed-forward part: the kernel's idealisation and the reference agree. -/
theorem agree3 : Cert.algebraic_Kernel3Ideal_Reference3Ideal (hKernel3Ideal := Cert.Kernel3Ideal.Gen.facts)
    (hReference3Ideal := Cert.Reference3Ideal.Gen.facts) := by
  intro m g m' g' _ hargs
  have e (c : Dev Cert.Kernel3Ideal.nD) : Cert.Reference3Ideal.Value.res_main_v47 (F := Ideal) m' c = Cert.Kernel3Ideal.First.res m c := by
    obtain ⟨h0, h1, h2, h3, h4, h5⟩ := hargs c
    have a0 : Cert.Reference3Ideal.First.argX m' c = Cert.Kernel3Ideal.First.argX m c := h0
    have a1 : Cert.Reference3Ideal.First.argP m' c = Cert.Kernel3Ideal.First.argP m c := h1
    have a2 : Cert.Reference3Ideal.First.argM m' c = Cert.Kernel3Ideal.First.argM m c := h2
    have a3 : Cert.Reference3Ideal.First.argG m' c = Cert.Kernel3Ideal.First.argG m c := h3
    have a4 : Cert.Reference3Ideal.First.argU m' c = Cert.Kernel3Ideal.First.argU m c := h4
    have a5 : Cert.Reference3Ideal.First.argD m' c = Cert.Kernel3Ideal.First.argD m c := h5
    funext i
    have h := Cert.Reference3Ideal.First.res_at m' c (i 0) (i 1) (i 2)
    rw [← eq_ix3 i, a0, a1, a2, a3, a4, a5] at h
    exact h
  refine ⟨fun c => Cert.Kernel3Ideal.First.res m c, ?_, ?_⟩
  · refine (θ_run _ _ _).mono (fun r h c => ?_) (Cert.Kernel3Ideal.Value.run_blocks (F := Ideal) m g)
    exact ⟨(h c).1.trans (Cert.Kernel3Ideal.First.final m c), (h c).2⟩
  · refine (θ_run _ _ _).mono (fun r h c => ?_) (Cert.Reference3Ideal.Value.run (F := Ideal) m' g')
    exact ⟨(h c).1.trans (e c), (h c).2⟩

/-- The frame of the projections' reference. -/
theorem reference4_frame (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0) :=
  (θ_run _ _ _).mono (fun r h => ⟨fun c => (h c).2.2.2.2, sem_eq_zero_of_no_sems (by decide) r.2⟩) (Cert.Reference4Ideal.Proj.run_at m g)

/-- The projections: the kernel's idealisation and the reference agree. -/
theorem agree4 : Cert.algebraic_Kernel4Ideal_Reference4Ideal (hKernel4Ideal := Cert.Kernel4Ideal.Gen.facts)
    (hReference4Ideal := Cert.Reference4Ideal.Gen.facts) := by
  intro m g m' g' _ hargs
  have e (c : Dev Cert.Kernel4Ideal.nD) (b : Fin 4) (i : Fin 4096) (j : Fin 9216) :
      Cert.Reference4Ideal.Proj.up (Cert.Reference4Ideal.Proj.pre (Cert.Reference4Ideal.Proj.argX m' c) (Cert.Reference4Ideal.Proj.argM m' c)
        (Cert.Reference4Ideal.Proj.argG m' c)) (Cert.Reference4Ideal.Proj.argW m' c) (ix3 b i j)
        = Cert.Ffn.proj (Cert.Kernel4Ideal.Proj.argX m c) (Cert.Kernel4Ideal.Proj.argM m c) (Cert.Kernel4Ideal.Proj.argG m c) (Cert.Kernel4Ideal.Proj.argW m c) b i j := by
    obtain ⟨h0, h1, h2, h3⟩ := hargs c
    have a0 : Cert.Reference4Ideal.Proj.argX m' c = Cert.Kernel4Ideal.Proj.argX m c := h0
    have a1 : Cert.Reference4Ideal.Proj.argM m' c = Cert.Kernel4Ideal.Proj.argM m c := h1
    have a2 : Cert.Reference4Ideal.Proj.argG m' c = Cert.Kernel4Ideal.Proj.argG m c := h2
    have a3 : Cert.Reference4Ideal.Proj.argW m' c = Cert.Kernel4Ideal.Proj.argW m c := h3
    have h := Cert.Reference4Ideal.Proj.all_at m' c b i j
    rw [a0, a1, a2, a3] at h
    rw [a0, a1, a2, a3]
    exact h
  have eA (c : Dev Cert.Kernel4Ideal.nD) : Cert.Reference4Ideal.Proj.cutA (Cert.Reference4Ideal.Proj.up (Cert.Reference4Ideal.Proj.pre (Cert.Reference4Ideal.Proj.argX m' c)
      (Cert.Reference4Ideal.Proj.argM m' c) (Cert.Reference4Ideal.Proj.argG m' c)) (Cert.Reference4Ideal.Proj.argW m' c)) = Cert.Kernel4Ideal.Proj.resA m c := by
    funext i
    have h := (Cert.Reference4Ideal.Proj.cutA_at (Cert.Reference4Ideal.Proj.up (Cert.Reference4Ideal.Proj.pre (Cert.Reference4Ideal.Proj.argX m' c)
      (Cert.Reference4Ideal.Proj.argM m' c) (Cert.Reference4Ideal.Proj.argG m' c)) (Cert.Reference4Ideal.Proj.argW m' c)) (i 0) (i 1) (i 2)).trans (e c _ _ _)
    rw [← eq_ix3 i] at h
    exact h
  have eZ (c : Dev Cert.Kernel4Ideal.nD) : Cert.Reference4Ideal.Proj.cutZ (Cert.Reference4Ideal.Proj.up (Cert.Reference4Ideal.Proj.pre (Cert.Reference4Ideal.Proj.argX m' c)
      (Cert.Reference4Ideal.Proj.argM m' c) (Cert.Reference4Ideal.Proj.argG m' c)) (Cert.Reference4Ideal.Proj.argW m' c)) = Cert.Kernel4Ideal.Proj.resZ m c := by
    funext i
    have h := (Cert.Reference4Ideal.Proj.cutZ_at (Cert.Reference4Ideal.Proj.up (Cert.Reference4Ideal.Proj.pre (Cert.Reference4Ideal.Proj.argX m' c)
      (Cert.Reference4Ideal.Proj.argM m' c) (Cert.Reference4Ideal.Proj.argG m' c)) (Cert.Reference4Ideal.Proj.argW m' c)) (i 0) (i 1) (i 2)).trans (e c _ _ _)
    rw [← eq_ix3 i] at h
    exact h
  have eB (c : Dev Cert.Kernel4Ideal.nD) : Cert.Reference4Ideal.Proj.cutB (Cert.Reference4Ideal.Proj.up (Cert.Reference4Ideal.Proj.pre (Cert.Reference4Ideal.Proj.argX m' c)
      (Cert.Reference4Ideal.Proj.argM m' c) (Cert.Reference4Ideal.Proj.argG m' c)) (Cert.Reference4Ideal.Proj.argW m' c)) = Cert.Kernel4Ideal.Proj.resB m c := by
    funext i
    have h := (Cert.Reference4Ideal.Proj.cutB_at (Cert.Reference4Ideal.Proj.up (Cert.Reference4Ideal.Proj.pre (Cert.Reference4Ideal.Proj.argX m' c)
      (Cert.Reference4Ideal.Proj.argM m' c) (Cert.Reference4Ideal.Proj.argG m' c)) (Cert.Reference4Ideal.Proj.argW m' c)) (i 0) (i 1) (i 2)).trans (e c _ _ _)
    rw [← eq_ix3 i] at h
    exact h
  have eG (c : Dev Cert.Kernel4Ideal.nD) : Cert.Reference4Ideal.Proj.cutG (Cert.Reference4Ideal.Proj.up (Cert.Reference4Ideal.Proj.pre (Cert.Reference4Ideal.Proj.argX m' c)
      (Cert.Reference4Ideal.Proj.argM m' c) (Cert.Reference4Ideal.Proj.argG m' c)) (Cert.Reference4Ideal.Proj.argW m' c)) = Cert.Kernel4Ideal.Proj.resG m c := by
    funext i
    have h := (Cert.Reference4Ideal.Proj.cutG_at (Cert.Reference4Ideal.Proj.up (Cert.Reference4Ideal.Proj.pre (Cert.Reference4Ideal.Proj.argX m' c)
      (Cert.Reference4Ideal.Proj.argM m' c) (Cert.Reference4Ideal.Proj.argG m' c)) (Cert.Reference4Ideal.Proj.argW m' c)) (i 0) (i 1) (i 2)).trans (e c _ _ _)
    rw [← eq_ix3 i] at h
    exact h
  refine ⟨fun c => Cert.Kernel4Ideal.Proj.resA m c, fun c => Cert.Kernel4Ideal.Proj.resZ m c, fun c => Cert.Kernel4Ideal.Proj.resB m c,
    fun c => Cert.Kernel4Ideal.Proj.resG m c, ?_, ?_⟩
  · refine (θ_run _ _ _).mono (fun r h c => ?_) (Cert.Kernel4Ideal.Value.run_blocks (F := Ideal) m g)
    obtain ⟨h0, h1, h2, h3, h4⟩ := h c
    exact ⟨h0.trans (Cert.Kernel4Ideal.Proj.finalA m c), h1.trans (Cert.Kernel4Ideal.Proj.finalZ m c), h2.trans (Cert.Kernel4Ideal.Proj.finalB m c),
      h3.trans (Cert.Kernel4Ideal.Proj.finalG m c), h4⟩
  · refine (θ_run _ _ _).mono (fun r h c => ?_) (Cert.Reference4Ideal.Proj.run_at m' g')
    obtain ⟨h0, h1, h2, h3, h4⟩ := h c
    exact ⟨h0.trans (eA c), h1.trans (eZ c), h2.trans (eB c), h3.trans (eG c), h4⟩

/-- The frame of the merge's reference. -/
theorem reference5_frame (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0) :=
  (θ_run _ _ _).mono (fun r h => ⟨fun c => (h c).2, sem_eq_zero_of_no_sems (by decide) r.2⟩) (Cert.Reference5Ideal.Merge.run_at m g)

/-- The merge: the kernel's idealisation and the reference agree. -/
theorem agree5 : Cert.algebraic_Kernel5Ideal_Reference5Ideal (hKernel5Ideal := Cert.Kernel5Ideal.Gen.facts)
    (hReference5Ideal := Cert.Reference5Ideal.Gen.facts) := by
  intro m g m' g' _ hargs
  have e (c : Dev Cert.Kernel5Ideal.nD) : Cert.Reference5Ideal.Merge.res m' c = Cert.Kernel5Ideal.Merge.res m c := by
    obtain ⟨h0, h1, h2, h3, h4, h5, h6, h7, h8, h9, h10, h11, h12⟩ := hargs c
    have a0 : Cert.Reference5Ideal.Merge.argF m' c = Cert.Kernel5Ideal.Merge.argF m c := h0
    have a1 : Cert.Reference5Ideal.Merge.argR m' c = Cert.Kernel5Ideal.Merge.argR m c := h1
    have a2 : Cert.Reference5Ideal.Merge.argC m' c = Cert.Kernel5Ideal.Merge.argC m c := h2
    have a3 : Cert.Reference5Ideal.Merge.argZ m' c = Cert.Kernel5Ideal.Merge.argZ m c := h3
    have a4 : Cert.Reference5Ideal.Merge.argY m' c = Cert.Kernel5Ideal.Merge.argY m c := h4
    have a5 : Cert.Reference5Ideal.Merge.argA m' c = Cert.Kernel5Ideal.Merge.argA m c := h5
    have a6 : Cert.Reference5Ideal.Merge.argX m' c = Cert.Kernel5Ideal.Merge.argX m c := h6
    have a7 : Cert.Reference5Ideal.Merge.argM m' c = Cert.Kernel5Ideal.Merge.argM m c := h7
    have a8 : Cert.Reference5Ideal.Merge.argG m' c = Cert.Kernel5Ideal.Merge.argG m c := h8
    have a9 : Cert.Reference5Ideal.Merge.argS m' c = Cert.Kernel5Ideal.Merge.argS m c := h9
    have a10 : Cert.Reference5Ideal.Merge.argP m' c = Cert.Kernel5Ideal.Merge.argP m c := h10
    have a11 : Cert.Reference5Ideal.Merge.argQ m' c = Cert.Kernel5Ideal.Merge.argQ m c := h11
    have a12 : Cert.Reference5Ideal.Merge.argO m' c = Cert.Kernel5Ideal.Merge.argO m c := h12
    funext i
    have h := Cert.Reference5Ideal.Merge.res_at m' c (i 0) (i 1) (i 2)
    rw [← eq_ix3 i, a0, a1, a2, a3, a4, a5, a6, a7, a8, a9, a10, a11, a12] at h
    exact h
  refine ⟨fun c => Cert.Kernel5Ideal.Merge.res m c, ?_, ?_⟩
  · refine (θ_run _ _ _).mono (fun r h c => ?_) (Cert.Kernel5Ideal.Value.run_blocks (F := Ideal) m g)
    exact ⟨(h c).1.trans (Cert.Kernel5Ideal.Merge.final m c), (h c).2⟩
  · refine (θ_run _ _ _).mono (fun r h c => ?_) (Cert.Reference5Ideal.Merge.run_at m' g')
    exact ⟨(h c).1.trans (e c), (h c).2⟩

/-- The frame of the short convolution's reference. -/
theorem reference6_frame (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run _ _ _).mono (fun r h => ⟨fun c => (h c).2.2, sem_eq_zero_of_no_sems (by decide) r.2⟩) (Cert.Reference6Ideal.Hyena.run_at m g)

/-- The short convolution and the first gate: the kernel's idealisation and the reference agree. -/
theorem agree6 : Cert.algebraic_Kernel6Ideal_Reference6Ideal (hKernel6Ideal := Cert.Kernel6Ideal.Gen.facts)
    (hReference6Ideal := Cert.Reference6Ideal.Gen.facts) := by
  intro m g m' g' _ hargs
  have e (c : Dev Cert.Kernel6Ideal.nD) (b : Fin 4) (l : Fin 4096) (j : Fin 3072) :
      Cert.Reference6Ideal.Hyena.y (Cert.Reference6Ideal.Hyena.argX m' c) (Cert.Reference6Ideal.Hyena.argW m' c) (Cert.Reference6Ideal.Hyena.argB m' c) (ix3 b l j) = Cert.Kernel6Ideal.Hyena.yOf m c b l j := by
    obtain ⟨h0, h1, h2⟩ := hargs c
    have a0 : Cert.Reference6Ideal.Hyena.argX m' c = Cert.Kernel6Ideal.Hyena.argX m c := h0
    have a1 : Cert.Reference6Ideal.Hyena.argW m' c = Cert.Kernel6Ideal.Hyena.argW m c := h1
    have a2 : Cert.Reference6Ideal.Hyena.argB m' c = Cert.Kernel6Ideal.Hyena.argB m c := h2
    rw [a0, a1, a2]
    exact Cert.Reference6Ideal.Hyena.y_at _ _ _ b l j
  have eU (c : Dev Cert.Kernel6Ideal.nD) : Cert.Reference6Ideal.Hyena.gated (Cert.Reference6Ideal.Hyena.y (Cert.Reference6Ideal.Hyena.argX m' c) (Cert.Reference6Ideal.Hyena.argW m' c) (Cert.Reference6Ideal.Hyena.argB m' c)) = Cert.Kernel6Ideal.Hyena.resU m c := by
    funext i
    have h := (Cert.Reference6Ideal.Hyena.gated_at (Cert.Reference6Ideal.Hyena.y (Cert.Reference6Ideal.Hyena.argX m' c) (Cert.Reference6Ideal.Hyena.argW m' c) (Cert.Reference6Ideal.Hyena.argB m' c)) (i 0) (i 1) (i 2)).trans
      (congrArg₂ (· * ·) (e c _ _ _) (e c _ _ _))
    rw [← eq_ix3 i] at h
    exact h
  have eG (c : Dev Cert.Kernel6Ideal.nD) : Cert.Reference6Ideal.Hyena.gate (Cert.Reference6Ideal.Hyena.y (Cert.Reference6Ideal.Hyena.argX m' c) (Cert.Reference6Ideal.Hyena.argW m' c) (Cert.Reference6Ideal.Hyena.argB m' c)) = Cert.Kernel6Ideal.Hyena.resG m c := by
    funext i
    have h := (Cert.Reference6Ideal.Hyena.gate_at (Cert.Reference6Ideal.Hyena.y (Cert.Reference6Ideal.Hyena.argX m' c) (Cert.Reference6Ideal.Hyena.argW m' c) (Cert.Reference6Ideal.Hyena.argB m' c)) (i 0) (i 1) (i 2)).trans (e c _ _ _)
    rw [← eq_ix3 i] at h
    exact h
  refine ⟨fun c => Cert.Kernel6Ideal.Hyena.resU m c, fun c => Cert.Kernel6Ideal.Hyena.resG m c, ?_, ?_⟩
  · refine (θ_run _ _ _).mono (fun r h c => ?_) (Cert.Kernel6Ideal.Value.run_blocks (F := Ideal) m g)
    obtain ⟨h0, h1, h2⟩ := h c
    exact ⟨h0.trans (Cert.Kernel6Ideal.Hyena.finalU m c), h1.trans (Cert.Kernel6Ideal.Hyena.finalG m c), h2⟩
  · refine (θ_run _ _ _).mono (fun r h c => ?_) (Cert.Reference6Ideal.Hyena.run_at m' g')
    obtain ⟨h0, h1, h2⟩ := h c
    exact ⟨h0.trans (eU c), h1.trans (eG c), h2⟩

/-- The frame of the modulations's reference. -/
theorem reference7_frame (m : (ℓ : Loc Cert.Reference7Ideal.nD Cert.Reference7Ideal.τ Cert.Reference7Ideal.sig) → Buf (Elt Ideal) ℓ)
    (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0) :=
  (θ_run _ _ _).mono (fun r h => ⟨fun c => (h c).2, sem_eq_zero_of_no_sems (by decide) r.2⟩) (Cert.Reference7Ideal.Cond.run_at m g)

/-- The modulations: the kernel's idealisation and the reference agree. -/
theorem agree7 : Cert.algebraic_Kernel7Ideal_Reference7Ideal (hKernel7Ideal := Cert.Kernel7Ideal.Gen.facts)
    (hReference7Ideal := Cert.Reference7Ideal.Gen.facts) := by
  intro m g m' g' _ hargs
  have e (c : Dev Cert.Kernel7Ideal.nD) : Cert.Reference7Ideal.Cond.all (Cert.Reference7Ideal.Cond.rows (Cert.Reference7Ideal.Cond.argC m' c) (Cert.Reference7Ideal.Cond.argX m' c)) (Cert.Reference7Ideal.Cond.argW m' c) (Cert.Reference7Ideal.Cond.argB m' c) = Cert.Kernel7Ideal.Cond.res m c := by
    obtain ⟨h0, h1, h2, h3⟩ := hargs c
    have a0 : Cert.Reference7Ideal.Cond.argC m' c = Cert.Kernel7Ideal.Cond.argC m c := h0
    have a1 : Cert.Reference7Ideal.Cond.argX m' c = Cert.Kernel7Ideal.Cond.argX m c := h1
    have a2 : Cert.Reference7Ideal.Cond.argW m' c = Cert.Kernel7Ideal.Cond.argW m c := h2
    have a3 : Cert.Reference7Ideal.Cond.argB m' c = Cert.Kernel7Ideal.Cond.argB m c := h3
    have ar : Cert.Reference7Ideal.Cond.rows (Cert.Kernel7Ideal.Cond.argC m c) (Cert.Kernel7Ideal.Cond.argX m c) = Cert.Kernel7Ideal.Cond.rows (Cert.Kernel7Ideal.Cond.argC m c) (Cert.Kernel7Ideal.Cond.argX m c) := rfl
    funext i
    have h := Cert.Reference7Ideal.Cond.all_at (Cert.Reference7Ideal.Cond.rows (Cert.Reference7Ideal.Cond.argC m' c) (Cert.Reference7Ideal.Cond.argX m' c)) (Cert.Reference7Ideal.Cond.argW m' c) (Cert.Reference7Ideal.Cond.argB m' c) (i 0) (i 1)
    rw [← eq_ix2 i, a0, a1, a2, a3, ar] at h
    rw [a0, a1, a2, a3, ar]
    exact h
  refine ⟨fun c => Cert.Kernel7Ideal.Cond.res m c, ?_, ?_⟩
  · refine (θ_run _ _ _).mono (fun r h c => ?_) (Cert.Kernel7Ideal.Value.run_blocks (F := Ideal) m g)
    exact ⟨(h c).1.trans (Cert.Kernel7Ideal.Cond.final m c), (h c).2⟩
  · refine (θ_run _ _ _).mono (fun r h c => ?_) (Cert.Reference7Ideal.Cond.run_at m' g')
    exact ⟨(h c).1.trans (e c), (h c).2⟩

/-- The frame of the context's feed-forward part's reference. -/
theorem reference8_frame (m : (ℓ : Loc Cert.Reference8Ideal.nD Cert.Reference8Ideal.τ Cert.Reference8Ideal.sig) → Buf (Elt Ideal) ℓ)
    (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0) :=
  (θ_run _ _ _).mono (fun r h => ⟨fun c => (h c).2, sem_eq_zero_of_no_sems (by decide) r.2⟩) (Cert.Reference8Ideal.Value.run (F := Ideal) m g)

/-- The context's first feed-forward part: the kernel's idealisation and the reference agree. -/
theorem agree8 : Cert.algebraic_Kernel8Ideal_Reference8Ideal (hKernel8Ideal := Cert.Kernel8Ideal.Gen.facts)
    (hReference8Ideal := Cert.Reference8Ideal.Gen.facts) := by
  intro m g m' g' _ hargs
  have e (c : Dev Cert.Kernel8Ideal.nD) : Cert.Reference8Ideal.Value.res_main_v44 (F := Ideal) m' c = Cert.Kernel8Ideal.Ctx.res m c := by
    obtain ⟨h0, h1, h2, h3, h4⟩ := hargs c
    have a0 : Cert.Reference8Ideal.Ctx.argX m' c = Cert.Kernel8Ideal.Ctx.argX m c := h0
    have a1 : Cert.Reference8Ideal.Ctx.argM m' c = Cert.Kernel8Ideal.Ctx.argM m c := h1
    have a2 : Cert.Reference8Ideal.Ctx.argG m' c = Cert.Kernel8Ideal.Ctx.argG m c := h2
    have a3 : Cert.Reference8Ideal.Ctx.argU m' c = Cert.Kernel8Ideal.Ctx.argU m c := h3
    have a4 : Cert.Reference8Ideal.Ctx.argD m' c = Cert.Kernel8Ideal.Ctx.argD m c := h4
    funext i
    have h := Cert.Reference8Ideal.Ctx.res_at m' c (i 0) (i 1) (i 2)
    rw [← eq_ix3 i, a0, a1, a2, a3, a4] at h
    exact h
  refine ⟨fun c => Cert.Kernel8Ideal.Ctx.res m c, ?_, ?_⟩
  · refine (θ_run _ _ _).mono (fun r h c => ?_) (Cert.Kernel8Ideal.Value.run_blocks (F := Ideal) m g)
    exact ⟨(h c).1.trans (Cert.Kernel8Ideal.Ctx.final m c), (h c).2⟩
  · refine (θ_run _ _ _).mono (fun r h c => ?_) (Cert.Reference8Ideal.Value.run (F := Ideal) m' g')
    exact ⟨(h c).1.trans (e c), (h c).2⟩

/-- The frame of the context's projection's reference. -/
theorem reference9_frame (m : (ℓ : Loc Cert.Reference9Ideal.nD Cert.Reference9Ideal.τ Cert.Reference9Ideal.sig) → Buf (Elt Ideal) ℓ)
    (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0) :=
  (θ_run _ _ _).mono (fun r h => ⟨fun c => (h c).2, sem_eq_zero_of_no_sems (by decide) r.2⟩) (Cert.Reference9Ideal.CtxProj.run_at m g)

/-- The context's projection: the kernel's idealisation and the reference agree. -/
theorem agree9 : Cert.algebraic_Kernel9Ideal_Reference9Ideal (hKernel9Ideal := Cert.Kernel9Ideal.Gen.facts)
    (hReference9Ideal := Cert.Reference9Ideal.Gen.facts) := by
  intro m g m' g' _ hargs
  have e (c : Dev Cert.Kernel9Ideal.nD) : Cert.Reference9Ideal.CtxProj.up (Cert.Reference9Ideal.CtxProj.pre (Cert.Reference9Ideal.CtxProj.argX m' c) (Cert.Reference9Ideal.CtxProj.argM m' c) (Cert.Reference9Ideal.CtxProj.argG m' c)) (Cert.Reference9Ideal.CtxProj.argW m' c) = Cert.Kernel9Ideal.CtxProj.res m c := by
    obtain ⟨h0, h1, h2, h3⟩ := hargs c
    have a0 : Cert.Reference9Ideal.CtxProj.argX m' c = Cert.Kernel9Ideal.CtxProj.argX m c := h0
    have a1 : Cert.Reference9Ideal.CtxProj.argM m' c = Cert.Kernel9Ideal.CtxProj.argM m c := h1
    have a2 : Cert.Reference9Ideal.CtxProj.argG m' c = Cert.Kernel9Ideal.CtxProj.argG m c := h2
    have a3 : Cert.Reference9Ideal.CtxProj.argW m' c = Cert.Kernel9Ideal.CtxProj.argW m c := h3
    funext i
    have h := Cert.Reference9Ideal.CtxProj.all_at m' c (i 0) (i 1) (i 2)
    rw [← eq_ix3 i, a0, a1, a2, a3] at h
    rw [a0, a1, a2, a3]
    exact h
  refine ⟨fun c => Cert.Kernel9Ideal.CtxProj.res m c, ?_, ?_⟩
  · refine (θ_run _ _ _).mono (fun r h c => ?_) (Cert.Kernel9Ideal.Value.run_blocks (F := Ideal) m g)
    exact ⟨(h c).1.trans (Cert.Kernel9Ideal.CtxProj.final m c), (h c).2⟩
  · refine (θ_run _ _ _).mono (fun r h c => ?_) (Cert.Reference9Ideal.CtxProj.run_at m' g')
    exact ⟨(h c).1.trans (e c), (h c).2⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts, Cert.Kernel9.Gen.facts,
    Cert.Kernel9Ideal.Gen.facts, Cert.Reference9Ideal.Gen.facts,
    Cert.Pre_finite.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.Kernel2.Gen.frame m g,
    fun m g _ => Cert.Kernel2Ideal.Gen.frame m g,
    fun m g _ => reference2_frame m g,
    fun m g _ => Cert.Kernel3.Gen.frame m g,
    fun m g _ => Cert.Kernel3Ideal.Gen.frame m g,
    fun m g _ => reference3_frame m g,
    fun m g _ => Cert.Kernel4.Gen.frame m g,
    fun m g _ => Cert.Kernel4Ideal.Gen.frame m g,
    fun m g _ => reference4_frame m g,
    fun m g _ => Cert.Kernel5.Gen.frame m g,
    fun m g _ => Cert.Kernel5Ideal.Gen.frame m g,
    fun m g _ => reference5_frame m g,
    fun m g _ => Cert.Kernel6.Gen.frame m g,
    fun m g _ => Cert.Kernel6Ideal.Gen.frame m g,
    fun m g _ => reference6_frame m g,
    fun m g _ => Cert.Kernel7.Gen.frame m g,
    fun m g _ => Cert.Kernel7Ideal.Gen.frame m g,
    fun m g _ => reference7_frame m g,
    fun m g _ => Cert.Kernel8.Gen.frame m g,
    fun m g _ => Cert.Kernel8Ideal.Gen.frame m g,
    fun m g _ => reference8_frame m g,
    fun m g _ => Cert.Kernel9.Gen.frame m g,
    fun m g _ => Cert.Kernel9Ideal.Gen.frame m g,
    fun m g _ => reference9_frame m g,
    IdealRules.named_const.statement Cert.KernelIdeal.κ "mask" .f32 0xF149F2CA#32 ⊥ rfl,
    agree,
    trivial,
    agree2,
    trivial,
    agree3,
    trivial,
    agree4,
    trivial,
    agree5,
    trivial,
    agree6,
    trivial,
    agree7,
    trivial,
    agree8,
    trivial,
    agree9⟩

end Cert.Proof

end
